-- ==== Defs.lean ====
def Pre_Mla (m : (ℓ : Loc Cert.Mla.nD Cert.Mla.τ Cert.Mla.sig) → Buf (Elt Bits) ℓ) : Prop :=
  True

def Pre_MlaIdeal (m : (ℓ : Loc Cert.MlaIdeal.nD Cert.MlaIdeal.τ Cert.MlaIdeal.sig) → Buf (Elt Ideal) ℓ) : Prop :=
  True

def Pre_MlaIdeal_mla_slots [hPre_mla_slots : Cert.Pre_mla_slots.Facts] (m : (ℓ : Loc Cert.MlaIdeal.nD Cert.MlaIdeal.τ Cert.MlaIdeal.sig) → Buf (Elt Ideal) ℓ) : Prop :=
  ∀ c : Dev Cert.MlaIdeal.nD,
    (Cert.Pre_mla_slots.fn (F := Ideal) (m ((c.tc : Thread Cert.MlaIdeal.nD Cert.MlaIdeal.τ).loc Cert.MlaIdeal.main_arg0)) (m ((c.tc : Thread Cert.MlaIdeal.nD Cert.MlaIdeal.τ).loc Cert.MlaIdeal.main_arg1)) (m ((c.tc : Thread Cert.MlaIdeal.nD Cert.MlaIdeal.τ).loc Cert.MlaIdeal.main_arg2)) (m ((c.tc : Thread Cert.MlaIdeal.nD Cert.MlaIdeal.τ).loc Cert.MlaIdeal.main_arg3)) (m ((c.tc : Thread Cert.MlaIdeal.nD Cert.MlaIdeal.τ).loc Cert.MlaIdeal.main_arg4)) (m ((c.tc : Thread Cert.MlaIdeal.nD Cert.MlaIdeal.τ).loc Cert.MlaIdeal.main_arg5)) (m ((c.tc : Thread Cert.MlaIdeal.nD Cert.MlaIdeal.τ).loc Cert.MlaIdeal.main_arg6)) (m ((c.tc : Thread Cert.MlaIdeal.nD Cert.MlaIdeal.τ).loc Cert.MlaIdeal.main_arg7))).1 = (fun _ => 1#1)
    ∧ (Cert.Pre_mla_slots.fn (F := Ideal) (m ((c.tc : Thread Cert.MlaIdeal.nD Cert.MlaIdeal.τ).loc Cert.MlaIdeal.main_arg0)) (m ((c.tc : Thread Cert.MlaIdeal.nD Cert.MlaIdeal.τ).loc Cert.MlaIdeal.main_arg1)) (m ((c.tc : Thread Cert.MlaIdeal.nD Cert.MlaIdeal.τ).loc Cert.MlaIdeal.main_arg2)) (m ((c.tc : Thread Cert.MlaIdeal.nD Cert.MlaIdeal.τ).loc Cert.MlaIdeal.main_arg3)) (m ((c.tc : Thread Cert.MlaIdeal.nD Cert.MlaIdeal.τ).loc Cert.MlaIdeal.main_arg4)) (m ((c.tc : Thread Cert.MlaIdeal.nD Cert.MlaIdeal.τ).loc Cert.MlaIdeal.main_arg5)) (m ((c.tc : Thread Cert.MlaIdeal.nD Cert.MlaIdeal.τ).loc Cert.MlaIdeal.main_arg6)) (m ((c.tc : Thread Cert.MlaIdeal.nD Cert.MlaIdeal.τ).loc Cert.MlaIdeal.main_arg7))).2.1 = (fun _ => 1#1)
    ∧ (Cert.Pre_mla_slots.fn (F := Ideal) (m ((c.tc : Thread Cert.MlaIdeal.nD Cert.MlaIdeal.τ).loc Cert.MlaIdeal.main_arg0)) (m ((c.tc : Thread Cert.MlaIdeal.nD Cert.MlaIdeal.τ).loc Cert.MlaIdeal.main_arg1)) (m ((c.tc : Thread Cert.MlaIdeal.nD Cert.MlaIdeal.τ).loc Cert.MlaIdeal.main_arg2)) (m ((c.tc : Thread Cert.MlaIdeal.nD Cert.MlaIdeal.τ).loc Cert.MlaIdeal.main_arg3)) (m ((c.tc : Thread Cert.MlaIdeal.nD Cert.MlaIdeal.τ).loc Cert.MlaIdeal.main_arg4)) (m ((c.tc : Thread Cert.MlaIdeal.nD Cert.MlaIdeal.τ).loc Cert.MlaIdeal.main_arg5)) (m ((c.tc : Thread Cert.MlaIdeal.nD Cert.MlaIdeal.τ).loc Cert.MlaIdeal.main_arg6)) (m ((c.tc : Thread Cert.MlaIdeal.nD Cert.MlaIdeal.τ).loc Cert.MlaIdeal.main_arg7))).2.2.1 = (fun _ => 1#1)
    ∧ (Cert.Pre_mla_slots.fn (F := Ideal) (m ((c.tc : Thread Cert.MlaIdeal.nD Cert.MlaIdeal.τ).loc Cert.MlaIdeal.main_arg0)) (m ((c.tc : Thread Cert.MlaIdeal.nD Cert.MlaIdeal.τ).loc Cert.MlaIdeal.main_arg1)) (m ((c.tc : Thread Cert.MlaIdeal.nD Cert.MlaIdeal.τ).loc Cert.MlaIdeal.main_arg2)) (m ((c.tc : Thread Cert.MlaIdeal.nD Cert.MlaIdeal.τ).loc Cert.MlaIdeal.main_arg3)) (m ((c.tc : Thread Cert.MlaIdeal.nD Cert.MlaIdeal.τ).loc Cert.MlaIdeal.main_arg4)) (m ((c.tc : Thread Cert.MlaIdeal.nD Cert.MlaIdeal.τ).loc Cert.MlaIdeal.main_arg5)) (m ((c.tc : Thread Cert.MlaIdeal.nD Cert.MlaIdeal.τ).loc Cert.MlaIdeal.main_arg6)) (m ((c.tc : Thread Cert.MlaIdeal.nD Cert.MlaIdeal.τ).loc Cert.MlaIdeal.main_arg7))).2.2.2.1 = (fun _ => 1#1)
    ∧ (Cert.Pre_mla_slots.fn (F := Ideal) (m ((c.tc : Thread Cert.MlaIdeal.nD Cert.MlaIdeal.τ).loc Cert.MlaIdeal.main_arg0)) (m ((c.tc : Thread Cert.MlaIdeal.nD Cert.MlaIdeal.τ).loc Cert.MlaIdeal.main_arg1)) (m ((c.tc : Thread Cert.MlaIdeal.nD Cert.MlaIdeal.τ).loc Cert.MlaIdeal.main_arg2)) (m ((c.tc : Thread Cert.MlaIdeal.nD Cert.MlaIdeal.τ).loc Cert.MlaIdeal.main_arg3)) (m ((c.tc : Thread Cert.MlaIdeal.nD Cert.MlaIdeal.τ).loc Cert.MlaIdeal.main_arg4)) (m ((c.tc : Thread Cert.MlaIdeal.nD Cert.MlaIdeal.τ).loc Cert.MlaIdeal.main_arg5)) (m ((c.tc : Thread Cert.MlaIdeal.nD Cert.MlaIdeal.τ).loc Cert.MlaIdeal.main_arg6)) (m ((c.tc : Thread Cert.MlaIdeal.nD Cert.MlaIdeal.τ).loc Cert.MlaIdeal.main_arg7))).2.2.2.2.1 = (fun _ => 1#1)
    ∧ (Cert.Pre_mla_slots.fn (F := Ideal) (m ((c.tc : Thread Cert.MlaIdeal.nD Cert.MlaIdeal.τ).loc Cert.MlaIdeal.main_arg0)) (m ((c.tc : Thread Cert.MlaIdeal.nD Cert.MlaIdeal.τ).loc Cert.MlaIdeal.main_arg1)) (m ((c.tc : Thread Cert.MlaIdeal.nD Cert.MlaIdeal.τ).loc Cert.MlaIdeal.main_arg2)) (m ((c.tc : Thread Cert.MlaIdeal.nD Cert.MlaIdeal.τ).loc Cert.MlaIdeal.main_arg3)) (m ((c.tc : Thread Cert.MlaIdeal.nD Cert.MlaIdeal.τ).loc Cert.MlaIdeal.main_arg4)) (m ((c.tc : Thread Cert.MlaIdeal.nD Cert.MlaIdeal.τ).loc Cert.MlaIdeal.main_arg5)) (m ((c.tc : Thread Cert.MlaIdeal.nD Cert.MlaIdeal.τ).loc Cert.MlaIdeal.main_arg6)) (m ((c.tc : Thread Cert.MlaIdeal.nD Cert.MlaIdeal.τ).loc Cert.MlaIdeal.main_arg7))).2.2.2.2.2.1 = (fun _ => 1#1)
    ∧ (Cert.Pre_mla_slots.fn (F := Ideal) (m ((c.tc : Thread Cert.MlaIdeal.nD Cert.MlaIdeal.τ).loc Cert.MlaIdeal.main_arg0)) (m ((c.tc : Thread Cert.MlaIdeal.nD Cert.MlaIdeal.τ).loc Cert.MlaIdeal.main_arg1)) (m ((c.tc : Thread Cert.MlaIdeal.nD Cert.MlaIdeal.τ).loc Cert.MlaIdeal.main_arg2)) (m ((c.tc : Thread Cert.MlaIdeal.nD Cert.MlaIdeal.τ).loc Cert.MlaIdeal.main_arg3)) (m ((c.tc : Thread Cert.MlaIdeal.nD Cert.MlaIdeal.τ).loc Cert.MlaIdeal.main_arg4)) (m ((c.tc : Thread Cert.MlaIdeal.nD Cert.MlaIdeal.τ).loc Cert.MlaIdeal.main_arg5)) (m ((c.tc : Thread Cert.MlaIdeal.nD Cert.MlaIdeal.τ).loc Cert.MlaIdeal.main_arg6)) (m ((c.tc : Thread Cert.MlaIdeal.nD Cert.MlaIdeal.τ).loc Cert.MlaIdeal.main_arg7))).2.2.2.2.2.2.1 = (fun _ => 1#1)
    ∧ (Cert.Pre_mla_slots.fn (F := Ideal) (m ((c.tc : Thread Cert.MlaIdeal.nD Cert.MlaIdeal.τ).loc Cert.MlaIdeal.main_arg0)) (m ((c.tc : Thread Cert.MlaIdeal.nD Cert.MlaIdeal.τ).loc Cert.MlaIdeal.main_arg1)) (m ((c.tc : Thread Cert.MlaIdeal.nD Cert.MlaIdeal.τ).loc Cert.MlaIdeal.main_arg2)) (m ((c.tc : Thread Cert.MlaIdeal.nD Cert.MlaIdeal.τ).loc Cert.MlaIdeal.main_arg3)) (m ((c.tc : Thread Cert.MlaIdeal.nD Cert.MlaIdeal.τ).loc Cert.MlaIdeal.main_arg4)) (m ((c.tc : Thread Cert.MlaIdeal.nD Cert.MlaIdeal.τ).loc Cert.MlaIdeal.main_arg5)) (m ((c.tc : Thread Cert.MlaIdeal.nD Cert.MlaIdeal.τ).loc Cert.MlaIdeal.main_arg6)) (m ((c.tc : Thread Cert.MlaIdeal.nD Cert.MlaIdeal.τ).loc Cert.MlaIdeal.main_arg7))).2.2.2.2.2.2.2.1 = (fun _ => 1#1)
    ∧ (Cert.Pre_mla_slots.fn (F := Ideal) (m ((c.tc : Thread Cert.MlaIdeal.nD Cert.MlaIdeal.τ).loc Cert.MlaIdeal.main_arg0)) (m ((c.tc : Thread Cert.MlaIdeal.nD Cert.MlaIdeal.τ).loc Cert.MlaIdeal.main_arg1)) (m ((c.tc : Thread Cert.MlaIdeal.nD Cert.MlaIdeal.τ).loc Cert.MlaIdeal.main_arg2)) (m ((c.tc : Thread Cert.MlaIdeal.nD Cert.MlaIdeal.τ).loc Cert.MlaIdeal.main_arg3)) (m ((c.tc : Thread Cert.MlaIdeal.nD Cert.MlaIdeal.τ).loc Cert.MlaIdeal.main_arg4)) (m ((c.tc : Thread Cert.MlaIdeal.nD Cert.MlaIdeal.τ).loc Cert.MlaIdeal.main_arg5)) (m ((c.tc : Thread Cert.MlaIdeal.nD Cert.MlaIdeal.τ).loc Cert.MlaIdeal.main_arg6)) (m ((c.tc : Thread Cert.MlaIdeal.nD Cert.MlaIdeal.τ).loc Cert.MlaIdeal.main_arg7))).2.2.2.2.2.2.2.2.1 = (fun _ => 1#1)
    ∧ (Cert.Pre_mla_slots.fn (F := Ideal) (m ((c.tc : Thread Cert.MlaIdeal.nD Cert.MlaIdeal.τ).loc Cert.MlaIdeal.main_arg0)) (m ((c.tc : Thread Cert.MlaIdeal.nD Cert.MlaIdeal.τ).loc Cert.MlaIdeal.main_arg1)) (m ((c.tc : Thread Cert.MlaIdeal.nD Cert.MlaIdeal.τ).loc Cert.MlaIdeal.main_arg2)) (m ((c.tc : Thread Cert.MlaIdeal.nD Cert.MlaIdeal.τ).loc Cert.MlaIdeal.main_arg3)) (m ((c.tc : Thread Cert.MlaIdeal.nD Cert.MlaIdeal.τ).loc Cert.MlaIdeal.main_arg4)) (m ((c.tc : Thread Cert.MlaIdeal.nD Cert.MlaIdeal.τ).loc Cert.MlaIdeal.main_arg5)) (m ((c.tc : Thread Cert.MlaIdeal.nD Cert.MlaIdeal.τ).loc Cert.MlaIdeal.main_arg6)) (m ((c.tc : Thread Cert.MlaIdeal.nD Cert.MlaIdeal.τ).loc Cert.MlaIdeal.main_arg7))).2.2.2.2.2.2.2.2.2 = (fun _ => 1#1)

def Pre_MlaRefIdeal (m : (ℓ : Loc Cert.MlaRefIdeal.nD Cert.MlaRefIdeal.τ Cert.MlaRefIdeal.sig) → Buf (Elt Ideal) ℓ) : Prop :=
  True

def Pre_MlaRefIdeal_mla_slots [hPre_mla_slots : Cert.Pre_mla_slots.Facts] (m : (ℓ : Loc Cert.MlaRefIdeal.nD Cert.MlaRefIdeal.τ Cert.MlaRefIdeal.sig) → Buf (Elt Ideal) ℓ) : Prop :=
  ∀ c : Dev Cert.MlaRefIdeal.nD,
    (Cert.Pre_mla_slots.fn (F := Ideal) (m ((c.tc : Thread Cert.MlaRefIdeal.nD Cert.MlaRefIdeal.τ).loc Cert.MlaRefIdeal.main_arg0)) (m ((c.tc : Thread Cert.MlaRefIdeal.nD Cert.MlaRefIdeal.τ).loc Cert.MlaRefIdeal.main_arg1)) (m ((c.tc : Thread Cert.MlaRefIdeal.nD Cert.MlaRefIdeal.τ).loc Cert.MlaRefIdeal.main_arg2)) (m ((c.tc : Thread Cert.MlaRefIdeal.nD Cert.MlaRefIdeal.τ).loc Cert.MlaRefIdeal.main_arg3)) (m ((c.tc : Thread Cert.MlaRefIdeal.nD Cert.MlaRefIdeal.τ).loc Cert.MlaRefIdeal.main_arg4)) (m ((c.tc : Thread Cert.MlaRefIdeal.nD Cert.MlaRefIdeal.τ).loc Cert.MlaRefIdeal.main_arg5)) (m ((c.tc : Thread Cert.MlaRefIdeal.nD Cert.MlaRefIdeal.τ).loc Cert.MlaRefIdeal.main_arg6)) (m ((c.tc : Thread Cert.MlaRefIdeal.nD Cert.MlaRefIdeal.τ).loc Cert.MlaRefIdeal.main_arg7))).1 = (fun _ => 1#1)
    ∧ (Cert.Pre_mla_slots.fn (F := Ideal) (m ((c.tc : Thread Cert.MlaRefIdeal.nD Cert.MlaRefIdeal.τ).loc Cert.MlaRefIdeal.main_arg0)) (m ((c.tc : Thread Cert.MlaRefIdeal.nD Cert.MlaRefIdeal.τ).loc Cert.MlaRefIdeal.main_arg1)) (m ((c.tc : Thread Cert.MlaRefIdeal.nD Cert.MlaRefIdeal.τ).loc Cert.MlaRefIdeal.main_arg2)) (m ((c.tc : Thread Cert.MlaRefIdeal.nD Cert.MlaRefIdeal.τ).loc Cert.MlaRefIdeal.main_arg3)) (m ((c.tc : Thread Cert.MlaRefIdeal.nD Cert.MlaRefIdeal.τ).loc Cert.MlaRefIdeal.main_arg4)) (m ((c.tc : Thread Cert.MlaRefIdeal.nD Cert.MlaRefIdeal.τ).loc Cert.MlaRefIdeal.main_arg5)) (m ((c.tc : Thread Cert.MlaRefIdeal.nD Cert.MlaRefIdeal.τ).loc Cert.MlaRefIdeal.main_arg6)) (m ((c.tc : Thread Cert.MlaRefIdeal.nD Cert.MlaRefIdeal.τ).loc Cert.MlaRefIdeal.main_arg7))).2.1 = (fun _ => 1#1)
    ∧ (Cert.Pre_mla_slots.fn (F := Ideal) (m ((c.tc : Thread Cert.MlaRefIdeal.nD Cert.MlaRefIdeal.τ).loc Cert.MlaRefIdeal.main_arg0)) (m ((c.tc : Thread Cert.MlaRefIdeal.nD Cert.MlaRefIdeal.τ).loc Cert.MlaRefIdeal.main_arg1)) (m ((c.tc : Thread Cert.MlaRefIdeal.nD Cert.MlaRefIdeal.τ).loc Cert.MlaRefIdeal.main_arg2)) (m ((c.tc : Thread Cert.MlaRefIdeal.nD Cert.MlaRefIdeal.τ).loc Cert.MlaRefIdeal.main_arg3)) (m ((c.tc : Thread Cert.MlaRefIdeal.nD Cert.MlaRefIdeal.τ).loc Cert.MlaRefIdeal.main_arg4)) (m ((c.tc : Thread Cert.MlaRefIdeal.nD Cert.MlaRefIdeal.τ).loc Cert.MlaRefIdeal.main_arg5)) (m ((c.tc : Thread Cert.MlaRefIdeal.nD Cert.MlaRefIdeal.τ).loc Cert.MlaRefIdeal.main_arg6)) (m ((c.tc : Thread Cert.MlaRefIdeal.nD Cert.MlaRefIdeal.τ).loc Cert.MlaRefIdeal.main_arg7))).2.2.1 = (fun _ => 1#1)
    ∧ (Cert.Pre_mla_slots.fn (F := Ideal) (m ((c.tc : Thread Cert.MlaRefIdeal.nD Cert.MlaRefIdeal.τ).loc Cert.MlaRefIdeal.main_arg0)) (m ((c.tc : Thread Cert.MlaRefIdeal.nD Cert.MlaRefIdeal.τ).loc Cert.MlaRefIdeal.main_arg1)) (m ((c.tc : Thread Cert.MlaRefIdeal.nD Cert.MlaRefIdeal.τ).loc Cert.MlaRefIdeal.main_arg2)) (m ((c.tc : Thread Cert.MlaRefIdeal.nD Cert.MlaRefIdeal.τ).loc Cert.MlaRefIdeal.main_arg3)) (m ((c.tc : Thread Cert.MlaRefIdeal.nD Cert.MlaRefIdeal.τ).loc Cert.MlaRefIdeal.main_arg4)) (m ((c.tc : Thread Cert.MlaRefIdeal.nD Cert.MlaRefIdeal.τ).loc Cert.MlaRefIdeal.main_arg5)) (m ((c.tc : Thread Cert.MlaRefIdeal.nD Cert.MlaRefIdeal.τ).loc Cert.MlaRefIdeal.main_arg6)) (m ((c.tc : Thread Cert.MlaRefIdeal.nD Cert.MlaRefIdeal.τ).loc Cert.MlaRefIdeal.main_arg7))).2.2.2.1 = (fun _ => 1#1)
    ∧ (Cert.Pre_mla_slots.fn (F := Ideal) (m ((c.tc : Thread Cert.MlaRefIdeal.nD Cert.MlaRefIdeal.τ).loc Cert.MlaRefIdeal.main_arg0)) (m ((c.tc : Thread Cert.MlaRefIdeal.nD Cert.MlaRefIdeal.τ).loc Cert.MlaRefIdeal.main_arg1)) (m ((c.tc : Thread Cert.MlaRefIdeal.nD Cert.MlaRefIdeal.τ).loc Cert.MlaRefIdeal.main_arg2)) (m ((c.tc : Thread Cert.MlaRefIdeal.nD Cert.MlaRefIdeal.τ).loc Cert.MlaRefIdeal.main_arg3)) (m ((c.tc : Thread Cert.MlaRefIdeal.nD Cert.MlaRefIdeal.τ).loc Cert.MlaRefIdeal.main_arg4)) (m ((c.tc : Thread Cert.MlaRefIdeal.nD Cert.MlaRefIdeal.τ).loc Cert.MlaRefIdeal.main_arg5)) (m ((c.tc : Thread Cert.MlaRefIdeal.nD Cert.MlaRefIdeal.τ).loc Cert.MlaRefIdeal.main_arg6)) (m ((c.tc : Thread Cert.MlaRefIdeal.nD Cert.MlaRefIdeal.τ).loc Cert.MlaRefIdeal.main_arg7))).2.2.2.2.1 = (fun _ => 1#1)
    ∧ (Cert.Pre_mla_slots.fn (F := Ideal) (m ((c.tc : Thread Cert.MlaRefIdeal.nD Cert.MlaRefIdeal.τ).loc Cert.MlaRefIdeal.main_arg0)) (m ((c.tc : Thread Cert.MlaRefIdeal.nD Cert.MlaRefIdeal.τ).loc Cert.MlaRefIdeal.main_arg1)) (m ((c.tc : Thread Cert.MlaRefIdeal.nD Cert.MlaRefIdeal.τ).loc Cert.MlaRefIdeal.main_arg2)) (m ((c.tc : Thread Cert.MlaRefIdeal.nD Cert.MlaRefIdeal.τ).loc Cert.MlaRefIdeal.main_arg3)) (m ((c.tc : Thread Cert.MlaRefIdeal.nD Cert.MlaRefIdeal.τ).loc Cert.MlaRefIdeal.main_arg4)) (m ((c.tc : Thread Cert.MlaRefIdeal.nD Cert.MlaRefIdeal.τ).loc Cert.MlaRefIdeal.main_arg5)) (m ((c.tc : Thread Cert.MlaRefIdeal.nD Cert.MlaRefIdeal.τ).loc Cert.MlaRefIdeal.main_arg6)) (m ((c.tc : Thread Cert.MlaRefIdeal.nD Cert.MlaRefIdeal.τ).loc Cert.MlaRefIdeal.main_arg7))).2.2.2.2.2.1 = (fun _ => 1#1)
    ∧ (Cert.Pre_mla_slots.fn (F := Ideal) (m ((c.tc : Thread Cert.MlaRefIdeal.nD Cert.MlaRefIdeal.τ).loc Cert.MlaRefIdeal.main_arg0)) (m ((c.tc : Thread Cert.MlaRefIdeal.nD Cert.MlaRefIdeal.τ).loc Cert.MlaRefIdeal.main_arg1)) (m ((c.tc : Thread Cert.MlaRefIdeal.nD Cert.MlaRefIdeal.τ).loc Cert.MlaRefIdeal.main_arg2)) (m ((c.tc : Thread Cert.MlaRefIdeal.nD Cert.MlaRefIdeal.τ).loc Cert.MlaRefIdeal.main_arg3)) (m ((c.tc : Thread Cert.MlaRefIdeal.nD Cert.MlaRefIdeal.τ).loc Cert.MlaRefIdeal.main_arg4)) (m ((c.tc : Thread Cert.MlaRefIdeal.nD Cert.MlaRefIdeal.τ).loc Cert.MlaRefIdeal.main_arg5)) (m ((c.tc : Thread Cert.MlaRefIdeal.nD Cert.MlaRefIdeal.τ).loc Cert.MlaRefIdeal.main_arg6)) (m ((c.tc : Thread Cert.MlaRefIdeal.nD Cert.MlaRefIdeal.τ).loc Cert.MlaRefIdeal.main_arg7))).2.2.2.2.2.2.1 = (fun _ => 1#1)
    ∧ (Cert.Pre_mla_slots.fn (F := Ideal) (m ((c.tc : Thread Cert.MlaRefIdeal.nD Cert.MlaRefIdeal.τ).loc Cert.MlaRefIdeal.main_arg0)) (m ((c.tc : Thread Cert.MlaRefIdeal.nD Cert.MlaRefIdeal.τ).loc Cert.MlaRefIdeal.main_arg1)) (m ((c.tc : Thread Cert.MlaRefIdeal.nD Cert.MlaRefIdeal.τ).loc Cert.MlaRefIdeal.main_arg2)) (m ((c.tc : Thread Cert.MlaRefIdeal.nD Cert.MlaRefIdeal.τ).loc Cert.MlaRefIdeal.main_arg3)) (m ((c.tc : Thread Cert.MlaRefIdeal.nD Cert.MlaRefIdeal.τ).loc Cert.MlaRefIdeal.main_arg4)) (m ((c.tc : Thread Cert.MlaRefIdeal.nD Cert.MlaRefIdeal.τ).loc Cert.MlaRefIdeal.main_arg5)) (m ((c.tc : Thread Cert.MlaRefIdeal.nD Cert.MlaRefIdeal.τ).loc Cert.MlaRefIdeal.main_arg6)) (m ((c.tc : Thread Cert.MlaRefIdeal.nD Cert.MlaRefIdeal.τ).loc Cert.MlaRefIdeal.main_arg7))).2.2.2.2.2.2.2.1 = (fun _ => 1#1)
    ∧ (Cert.Pre_mla_slots.fn (F := Ideal) (m ((c.tc : Thread Cert.MlaRefIdeal.nD Cert.MlaRefIdeal.τ).loc Cert.MlaRefIdeal.main_arg0)) (m ((c.tc : Thread Cert.MlaRefIdeal.nD Cert.MlaRefIdeal.τ).loc Cert.MlaRefIdeal.main_arg1)) (m ((c.tc : Thread Cert.MlaRefIdeal.nD Cert.MlaRefIdeal.τ).loc Cert.MlaRefIdeal.main_arg2)) (m ((c.tc : Thread Cert.MlaRefIdeal.nD Cert.MlaRefIdeal.τ).loc Cert.MlaRefIdeal.main_arg3)) (m ((c.tc : Thread Cert.MlaRefIdeal.nD Cert.MlaRefIdeal.τ).loc Cert.MlaRefIdeal.main_arg4)) (m ((c.tc : Thread Cert.MlaRefIdeal.nD Cert.MlaRefIdeal.τ).loc Cert.MlaRefIdeal.main_arg5)) (m ((c.tc : Thread Cert.MlaRefIdeal.nD Cert.MlaRefIdeal.τ).loc Cert.MlaRefIdeal.main_arg6)) (m ((c.tc : Thread Cert.MlaRefIdeal.nD Cert.MlaRefIdeal.τ).loc Cert.MlaRefIdeal.main_arg7))).2.2.2.2.2.2.2.2.1 = (fun _ => 1#1)
    ∧ (Cert.Pre_mla_slots.fn (F := Ideal) (m ((c.tc : Thread Cert.MlaRefIdeal.nD Cert.MlaRefIdeal.τ).loc Cert.MlaRefIdeal.main_arg0)) (m ((c.tc : Thread Cert.MlaRefIdeal.nD Cert.MlaRefIdeal.τ).loc Cert.MlaRefIdeal.main_arg1)) (m ((c.tc : Thread Cert.MlaRefIdeal.nD Cert.MlaRefIdeal.τ).loc Cert.MlaRefIdeal.main_arg2)) (m ((c.tc : Thread Cert.MlaRefIdeal.nD Cert.MlaRefIdeal.τ).loc Cert.MlaRefIdeal.main_arg3)) (m ((c.tc : Thread Cert.MlaRefIdeal.nD Cert.MlaRefIdeal.τ).loc Cert.MlaRefIdeal.main_arg4)) (m ((c.tc : Thread Cert.MlaRefIdeal.nD Cert.MlaRefIdeal.τ).loc Cert.MlaRefIdeal.main_arg5)) (m ((c.tc : Thread Cert.MlaRefIdeal.nD Cert.MlaRefIdeal.τ).loc Cert.MlaRefIdeal.main_arg6)) (m ((c.tc : Thread Cert.MlaRefIdeal.nD Cert.MlaRefIdeal.τ).loc Cert.MlaRefIdeal.main_arg7))).2.2.2.2.2.2.2.2.2 = (fun _ => 1#1)

def Pre_Gqa (m : (ℓ : Loc Cert.Gqa.nD Cert.Gqa.τ Cert.Gqa.sig) → Buf (Elt Bits) ℓ) : Prop :=
  True

def Pre_GqaIdeal (m : (ℓ : Loc Cert.GqaIdeal.nD Cert.GqaIdeal.τ Cert.GqaIdeal.sig) → Buf (Elt Ideal) ℓ) : Prop :=
  True

def Pre_GqaIdeal_gqa_slots [hPre_gqa_slots : Cert.Pre_gqa_slots.Facts] (m : (ℓ : Loc Cert.GqaIdeal.nD Cert.GqaIdeal.τ Cert.GqaIdeal.sig) → Buf (Elt Ideal) ℓ) : Prop :=
  ∀ c : Dev Cert.GqaIdeal.nD,
    (Cert.Pre_gqa_slots.fn (F := Ideal) (m ((c.tc : Thread Cert.GqaIdeal.nD Cert.GqaIdeal.τ).loc Cert.GqaIdeal.main_arg0)) (m ((c.tc : Thread Cert.GqaIdeal.nD Cert.GqaIdeal.τ).loc Cert.GqaIdeal.main_arg1)) (m ((c.tc : Thread Cert.GqaIdeal.nD Cert.GqaIdeal.τ).loc Cert.GqaIdeal.main_arg2)) (m ((c.tc : Thread Cert.GqaIdeal.nD Cert.GqaIdeal.τ).loc Cert.GqaIdeal.main_arg3)) (m ((c.tc : Thread Cert.GqaIdeal.nD Cert.GqaIdeal.τ).loc Cert.GqaIdeal.main_arg4)) (m ((c.tc : Thread Cert.GqaIdeal.nD Cert.GqaIdeal.τ).loc Cert.GqaIdeal.main_arg5)) (m ((c.tc : Thread Cert.GqaIdeal.nD Cert.GqaIdeal.τ).loc Cert.GqaIdeal.main_arg6)) (m ((c.tc : Thread Cert.GqaIdeal.nD Cert.GqaIdeal.τ).loc Cert.GqaIdeal.main_arg7))).1 = (fun _ => 1#1)
    ∧ (Cert.Pre_gqa_slots.fn (F := Ideal) (m ((c.tc : Thread Cert.GqaIdeal.nD Cert.GqaIdeal.τ).loc Cert.GqaIdeal.main_arg0)) (m ((c.tc : Thread Cert.GqaIdeal.nD Cert.GqaIdeal.τ).loc Cert.GqaIdeal.main_arg1)) (m ((c.tc : Thread Cert.GqaIdeal.nD Cert.GqaIdeal.τ).loc Cert.GqaIdeal.main_arg2)) (m ((c.tc : Thread Cert.GqaIdeal.nD Cert.GqaIdeal.τ).loc Cert.GqaIdeal.main_arg3)) (m ((c.tc : Thread Cert.GqaIdeal.nD Cert.GqaIdeal.τ).loc Cert.GqaIdeal.main_arg4)) (m ((c.tc : Thread Cert.GqaIdeal.nD Cert.GqaIdeal.τ).loc Cert.GqaIdeal.main_arg5)) (m ((c.tc : Thread Cert.GqaIdeal.nD Cert.GqaIdeal.τ).loc Cert.GqaIdeal.main_arg6)) (m ((c.tc : Thread Cert.GqaIdeal.nD Cert.GqaIdeal.τ).loc Cert.GqaIdeal.main_arg7))).2.1 = (fun _ => 1#1)
    ∧ (Cert.Pre_gqa_slots.fn (F := Ideal) (m ((c.tc : Thread Cert.GqaIdeal.nD Cert.GqaIdeal.τ).loc Cert.GqaIdeal.main_arg0)) (m ((c.tc : Thread Cert.GqaIdeal.nD Cert.GqaIdeal.τ).loc Cert.GqaIdeal.main_arg1)) (m ((c.tc : Thread Cert.GqaIdeal.nD Cert.GqaIdeal.τ).loc Cert.GqaIdeal.main_arg2)) (m ((c.tc : Thread Cert.GqaIdeal.nD Cert.GqaIdeal.τ).loc Cert.GqaIdeal.main_arg3)) (m ((c.tc : Thread Cert.GqaIdeal.nD Cert.GqaIdeal.τ).loc Cert.GqaIdeal.main_arg4)) (m ((c.tc : Thread Cert.GqaIdeal.nD Cert.GqaIdeal.τ).loc Cert.GqaIdeal.main_arg5)) (m ((c.tc : Thread Cert.GqaIdeal.nD Cert.GqaIdeal.τ).loc Cert.GqaIdeal.main_arg6)) (m ((c.tc : Thread Cert.GqaIdeal.nD Cert.GqaIdeal.τ).loc Cert.GqaIdeal.main_arg7))).2.2.1 = (fun _ => 1#1)
    ∧ (Cert.Pre_gqa_slots.fn (F := Ideal) (m ((c.tc : Thread Cert.GqaIdeal.nD Cert.GqaIdeal.τ).loc Cert.GqaIdeal.main_arg0)) (m ((c.tc : Thread Cert.GqaIdeal.nD Cert.GqaIdeal.τ).loc Cert.GqaIdeal.main_arg1)) (m ((c.tc : Thread Cert.GqaIdeal.nD Cert.GqaIdeal.τ).loc Cert.GqaIdeal.main_arg2)) (m ((c.tc : Thread Cert.GqaIdeal.nD Cert.GqaIdeal.τ).loc Cert.GqaIdeal.main_arg3)) (m ((c.tc : Thread Cert.GqaIdeal.nD Cert.GqaIdeal.τ).loc Cert.GqaIdeal.main_arg4)) (m ((c.tc : Thread Cert.GqaIdeal.nD Cert.GqaIdeal.τ).loc Cert.GqaIdeal.main_arg5)) (m ((c.tc : Thread Cert.GqaIdeal.nD Cert.GqaIdeal.τ).loc Cert.GqaIdeal.main_arg6)) (m ((c.tc : Thread Cert.GqaIdeal.nD Cert.GqaIdeal.τ).loc Cert.GqaIdeal.main_arg7))).2.2.2.1 = (fun _ => 1#1)
    ∧ (Cert.Pre_gqa_slots.fn (F := Ideal) (m ((c.tc : Thread Cert.GqaIdeal.nD Cert.GqaIdeal.τ).loc Cert.GqaIdeal.main_arg0)) (m ((c.tc : Thread Cert.GqaIdeal.nD Cert.GqaIdeal.τ).loc Cert.GqaIdeal.main_arg1)) (m ((c.tc : Thread Cert.GqaIdeal.nD Cert.GqaIdeal.τ).loc Cert.GqaIdeal.main_arg2)) (m ((c.tc : Thread Cert.GqaIdeal.nD Cert.GqaIdeal.τ).loc Cert.GqaIdeal.main_arg3)) (m ((c.tc : Thread Cert.GqaIdeal.nD Cert.GqaIdeal.τ).loc Cert.GqaIdeal.main_arg4)) (m ((c.tc : Thread Cert.GqaIdeal.nD Cert.GqaIdeal.τ).loc Cert.GqaIdeal.main_arg5)) (m ((c.tc : Thread Cert.GqaIdeal.nD Cert.GqaIdeal.τ).loc Cert.GqaIdeal.main_arg6)) (m ((c.tc : Thread Cert.GqaIdeal.nD Cert.GqaIdeal.τ).loc Cert.GqaIdeal.main_arg7))).2.2.2.2.1 = (fun _ => 1#1)
    ∧ (Cert.Pre_gqa_slots.fn (F := Ideal) (m ((c.tc : Thread Cert.GqaIdeal.nD Cert.GqaIdeal.τ).loc Cert.GqaIdeal.main_arg0)) (m ((c.tc : Thread Cert.GqaIdeal.nD Cert.GqaIdeal.τ).loc Cert.GqaIdeal.main_arg1)) (m ((c.tc : Thread Cert.GqaIdeal.nD Cert.GqaIdeal.τ).loc Cert.GqaIdeal.main_arg2)) (m ((c.tc : Thread Cert.GqaIdeal.nD Cert.GqaIdeal.τ).loc Cert.GqaIdeal.main_arg3)) (m ((c.tc : Thread Cert.GqaIdeal.nD Cert.GqaIdeal.τ).loc Cert.GqaIdeal.main_arg4)) (m ((c.tc : Thread Cert.GqaIdeal.nD Cert.GqaIdeal.τ).loc Cert.GqaIdeal.main_arg5)) (m ((c.tc : Thread Cert.GqaIdeal.nD Cert.GqaIdeal.τ).loc Cert.GqaIdeal.main_arg6)) (m ((c.tc : Thread Cert.GqaIdeal.nD Cert.GqaIdeal.τ).loc Cert.GqaIdeal.main_arg7))).2.2.2.2.2.1 = (fun _ => 1#1)
    ∧ (Cert.Pre_gqa_slots.fn (F := Ideal) (m ((c.tc : Thread Cert.GqaIdeal.nD Cert.GqaIdeal.τ).loc Cert.GqaIdeal.main_arg0)) (m ((c.tc : Thread Cert.GqaIdeal.nD Cert.GqaIdeal.τ).loc Cert.GqaIdeal.main_arg1)) (m ((c.tc : Thread Cert.GqaIdeal.nD Cert.GqaIdeal.τ).loc Cert.GqaIdeal.main_arg2)) (m ((c.tc : Thread Cert.GqaIdeal.nD Cert.GqaIdeal.τ).loc Cert.GqaIdeal.main_arg3)) (m ((c.tc : Thread Cert.GqaIdeal.nD Cert.GqaIdeal.τ).loc Cert.GqaIdeal.main_arg4)) (m ((c.tc : Thread Cert.GqaIdeal.nD Cert.GqaIdeal.τ).loc Cert.GqaIdeal.main_arg5)) (m ((c.tc : Thread Cert.GqaIdeal.nD Cert.GqaIdeal.τ).loc Cert.GqaIdeal.main_arg6)) (m ((c.tc : Thread Cert.GqaIdeal.nD Cert.GqaIdeal.τ).loc Cert.GqaIdeal.main_arg7))).2.2.2.2.2.2.1 = (fun _ => 1#1)
    ∧ (Cert.Pre_gqa_slots.fn (F := Ideal) (m ((c.tc : Thread Cert.GqaIdeal.nD Cert.GqaIdeal.τ).loc Cert.GqaIdeal.main_arg0)) (m ((c.tc : Thread Cert.GqaIdeal.nD Cert.GqaIdeal.τ).loc Cert.GqaIdeal.main_arg1)) (m ((c.tc : Thread Cert.GqaIdeal.nD Cert.GqaIdeal.τ).loc Cert.GqaIdeal.main_arg2)) (m ((c.tc : Thread Cert.GqaIdeal.nD Cert.GqaIdeal.τ).loc Cert.GqaIdeal.main_arg3)) (m ((c.tc : Thread Cert.GqaIdeal.nD Cert.GqaIdeal.τ).loc Cert.GqaIdeal.main_arg4)) (m ((c.tc : Thread Cert.GqaIdeal.nD Cert.GqaIdeal.τ).loc Cert.GqaIdeal.main_arg5)) (m ((c.tc : Thread Cert.GqaIdeal.nD Cert.GqaIdeal.τ).loc Cert.GqaIdeal.main_arg6)) (m ((c.tc : Thread Cert.GqaIdeal.nD Cert.GqaIdeal.τ).loc Cert.GqaIdeal.main_arg7))).2.2.2.2.2.2.2.1 = (fun _ => 1#1)
    ∧ (Cert.Pre_gqa_slots.fn (F := Ideal) (m ((c.tc : Thread Cert.GqaIdeal.nD Cert.GqaIdeal.τ).loc Cert.GqaIdeal.main_arg0)) (m ((c.tc : Thread Cert.GqaIdeal.nD Cert.GqaIdeal.τ).loc Cert.GqaIdeal.main_arg1)) (m ((c.tc : Thread Cert.GqaIdeal.nD Cert.GqaIdeal.τ).loc Cert.GqaIdeal.main_arg2)) (m ((c.tc : Thread Cert.GqaIdeal.nD Cert.GqaIdeal.τ).loc Cert.GqaIdeal.main_arg3)) (m ((c.tc : Thread Cert.GqaIdeal.nD Cert.GqaIdeal.τ).loc Cert.GqaIdeal.main_arg4)) (m ((c.tc : Thread Cert.GqaIdeal.nD Cert.GqaIdeal.τ).loc Cert.GqaIdeal.main_arg5)) (m ((c.tc : Thread Cert.GqaIdeal.nD Cert.GqaIdeal.τ).loc Cert.GqaIdeal.main_arg6)) (m ((c.tc : Thread Cert.GqaIdeal.nD Cert.GqaIdeal.τ).loc Cert.GqaIdeal.main_arg7))).2.2.2.2.2.2.2.2.1 = (fun _ => 1#1)
    ∧ (Cert.Pre_gqa_slots.fn (F := Ideal) (m ((c.tc : Thread Cert.GqaIdeal.nD Cert.GqaIdeal.τ).loc Cert.GqaIdeal.main_arg0)) (m ((c.tc : Thread Cert.GqaIdeal.nD Cert.GqaIdeal.τ).loc Cert.GqaIdeal.main_arg1)) (m ((c.tc : Thread Cert.GqaIdeal.nD Cert.GqaIdeal.τ).loc Cert.GqaIdeal.main_arg2)) (m ((c.tc : Thread Cert.GqaIdeal.nD Cert.GqaIdeal.τ).loc Cert.GqaIdeal.main_arg3)) (m ((c.tc : Thread Cert.GqaIdeal.nD Cert.GqaIdeal.τ).loc Cert.GqaIdeal.main_arg4)) (m ((c.tc : Thread Cert.GqaIdeal.nD Cert.GqaIdeal.τ).loc Cert.GqaIdeal.main_arg5)) (m ((c.tc : Thread Cert.GqaIdeal.nD Cert.GqaIdeal.τ).loc Cert.GqaIdeal.main_arg6)) (m ((c.tc : Thread Cert.GqaIdeal.nD Cert.GqaIdeal.τ).loc Cert.GqaIdeal.main_arg7))).2.2.2.2.2.2.2.2.2 = (fun _ => 1#1)

def Pre_GqaRefIdeal (m : (ℓ : Loc Cert.GqaRefIdeal.nD Cert.GqaRefIdeal.τ Cert.GqaRefIdeal.sig) → Buf (Elt Ideal) ℓ) : Prop :=
  True

def Pre_GqaRefIdeal_gqa_slots [hPre_gqa_slots : Cert.Pre_gqa_slots.Facts] (m : (ℓ : Loc Cert.GqaRefIdeal.nD Cert.GqaRefIdeal.τ Cert.GqaRefIdeal.sig) → Buf (Elt Ideal) ℓ) : Prop :=
  ∀ c : Dev Cert.GqaRefIdeal.nD,
    (Cert.Pre_gqa_slots.fn (F := Ideal) (m ((c.tc : Thread Cert.GqaRefIdeal.nD Cert.GqaRefIdeal.τ).loc Cert.GqaRefIdeal.main_arg0)) (m ((c.tc : Thread Cert.GqaRefIdeal.nD Cert.GqaRefIdeal.τ).loc Cert.GqaRefIdeal.main_arg1)) (m ((c.tc : Thread Cert.GqaRefIdeal.nD Cert.GqaRefIdeal.τ).loc Cert.GqaRefIdeal.main_arg2)) (m ((c.tc : Thread Cert.GqaRefIdeal.nD Cert.GqaRefIdeal.τ).loc Cert.GqaRefIdeal.main_arg3)) (m ((c.tc : Thread Cert.GqaRefIdeal.nD Cert.GqaRefIdeal.τ).loc Cert.GqaRefIdeal.main_arg4)) (m ((c.tc : Thread Cert.GqaRefIdeal.nD Cert.GqaRefIdeal.τ).loc Cert.GqaRefIdeal.main_arg5)) (m ((c.tc : Thread Cert.GqaRefIdeal.nD Cert.GqaRefIdeal.τ).loc Cert.GqaRefIdeal.main_arg6)) (m ((c.tc : Thread Cert.GqaRefIdeal.nD Cert.GqaRefIdeal.τ).loc Cert.GqaRefIdeal.main_arg7))).1 = (fun _ => 1#1)
    ∧ (Cert.Pre_gqa_slots.fn (F := Ideal) (m ((c.tc : Thread Cert.GqaRefIdeal.nD Cert.GqaRefIdeal.τ).loc Cert.GqaRefIdeal.main_arg0)) (m ((c.tc : Thread Cert.GqaRefIdeal.nD Cert.GqaRefIdeal.τ).loc Cert.GqaRefIdeal.main_arg1)) (m ((c.tc : Thread Cert.GqaRefIdeal.nD Cert.GqaRefIdeal.τ).loc Cert.GqaRefIdeal.main_arg2)) (m ((c.tc : Thread Cert.GqaRefIdeal.nD Cert.GqaRefIdeal.τ).loc Cert.GqaRefIdeal.main_arg3)) (m ((c.tc : Thread Cert.GqaRefIdeal.nD Cert.GqaRefIdeal.τ).loc Cert.GqaRefIdeal.main_arg4)) (m ((c.tc : Thread Cert.GqaRefIdeal.nD Cert.GqaRefIdeal.τ).loc Cert.GqaRefIdeal.main_arg5)) (m ((c.tc : Thread Cert.GqaRefIdeal.nD Cert.GqaRefIdeal.τ).loc Cert.GqaRefIdeal.main_arg6)) (m ((c.tc : Thread Cert.GqaRefIdeal.nD Cert.GqaRefIdeal.τ).loc Cert.GqaRefIdeal.main_arg7))).2.1 = (fun _ => 1#1)
    ∧ (Cert.Pre_gqa_slots.fn (F := Ideal) (m ((c.tc : Thread Cert.GqaRefIdeal.nD Cert.GqaRefIdeal.τ).loc Cert.GqaRefIdeal.main_arg0)) (m ((c.tc : Thread Cert.GqaRefIdeal.nD Cert.GqaRefIdeal.τ).loc Cert.GqaRefIdeal.main_arg1)) (m ((c.tc : Thread Cert.GqaRefIdeal.nD Cert.GqaRefIdeal.τ).loc Cert.GqaRefIdeal.main_arg2)) (m ((c.tc : Thread Cert.GqaRefIdeal.nD Cert.GqaRefIdeal.τ).loc Cert.GqaRefIdeal.main_arg3)) (m ((c.tc : Thread Cert.GqaRefIdeal.nD Cert.GqaRefIdeal.τ).loc Cert.GqaRefIdeal.main_arg4)) (m ((c.tc : Thread Cert.GqaRefIdeal.nD Cert.GqaRefIdeal.τ).loc Cert.GqaRefIdeal.main_arg5)) (m ((c.tc : Thread Cert.GqaRefIdeal.nD Cert.GqaRefIdeal.τ).loc Cert.GqaRefIdeal.main_arg6)) (m ((c.tc : Thread Cert.GqaRefIdeal.nD Cert.GqaRefIdeal.τ).loc Cert.GqaRefIdeal.main_arg7))).2.2.1 = (fun _ => 1#1)
    ∧ (Cert.Pre_gqa_slots.fn (F := Ideal) (m ((c.tc : Thread Cert.GqaRefIdeal.nD Cert.GqaRefIdeal.τ).loc Cert.GqaRefIdeal.main_arg0)) (m ((c.tc : Thread Cert.GqaRefIdeal.nD Cert.GqaRefIdeal.τ).loc Cert.GqaRefIdeal.main_arg1)) (m ((c.tc : Thread Cert.GqaRefIdeal.nD Cert.GqaRefIdeal.τ).loc Cert.GqaRefIdeal.main_arg2)) (m ((c.tc : Thread Cert.GqaRefIdeal.nD Cert.GqaRefIdeal.τ).loc Cert.GqaRefIdeal.main_arg3)) (m ((c.tc : Thread Cert.GqaRefIdeal.nD Cert.GqaRefIdeal.τ).loc Cert.GqaRefIdeal.main_arg4)) (m ((c.tc : Thread Cert.GqaRefIdeal.nD Cert.GqaRefIdeal.τ).loc Cert.GqaRefIdeal.main_arg5)) (m ((c.tc : Thread Cert.GqaRefIdeal.nD Cert.GqaRefIdeal.τ).loc Cert.GqaRefIdeal.main_arg6)) (m ((c.tc : Thread Cert.GqaRefIdeal.nD Cert.GqaRefIdeal.τ).loc Cert.GqaRefIdeal.main_arg7))).2.2.2.1 = (fun _ => 1#1)
    ∧ (Cert.Pre_gqa_slots.fn (F := Ideal) (m ((c.tc : Thread Cert.GqaRefIdeal.nD Cert.GqaRefIdeal.τ).loc Cert.GqaRefIdeal.main_arg0)) (m ((c.tc : Thread Cert.GqaRefIdeal.nD Cert.GqaRefIdeal.τ).loc Cert.GqaRefIdeal.main_arg1)) (m ((c.tc : Thread Cert.GqaRefIdeal.nD Cert.GqaRefIdeal.τ).loc Cert.GqaRefIdeal.main_arg2)) (m ((c.tc : Thread Cert.GqaRefIdeal.nD Cert.GqaRefIdeal.τ).loc Cert.GqaRefIdeal.main_arg3)) (m ((c.tc : Thread Cert.GqaRefIdeal.nD Cert.GqaRefIdeal.τ).loc Cert.GqaRefIdeal.main_arg4)) (m ((c.tc : Thread Cert.GqaRefIdeal.nD Cert.GqaRefIdeal.τ).loc Cert.GqaRefIdeal.main_arg5)) (m ((c.tc : Thread Cert.GqaRefIdeal.nD Cert.GqaRefIdeal.τ).loc Cert.GqaRefIdeal.main_arg6)) (m ((c.tc : Thread Cert.GqaRefIdeal.nD Cert.GqaRefIdeal.τ).loc Cert.GqaRefIdeal.main_arg7))).2.2.2.2.1 = (fun _ => 1#1)
    ∧ (Cert.Pre_gqa_slots.fn (F := Ideal) (m ((c.tc : Thread Cert.GqaRefIdeal.nD Cert.GqaRefIdeal.τ).loc Cert.GqaRefIdeal.main_arg0)) (m ((c.tc : Thread Cert.GqaRefIdeal.nD Cert.GqaRefIdeal.τ).loc Cert.GqaRefIdeal.main_arg1)) (m ((c.tc : Thread Cert.GqaRefIdeal.nD Cert.GqaRefIdeal.τ).loc Cert.GqaRefIdeal.main_arg2)) (m ((c.tc : Thread Cert.GqaRefIdeal.nD Cert.GqaRefIdeal.τ).loc Cert.GqaRefIdeal.main_arg3)) (m ((c.tc : Thread Cert.GqaRefIdeal.nD Cert.GqaRefIdeal.τ).loc Cert.GqaRefIdeal.main_arg4)) (m ((c.tc : Thread Cert.GqaRefIdeal.nD Cert.GqaRefIdeal.τ).loc Cert.GqaRefIdeal.main_arg5)) (m ((c.tc : Thread Cert.GqaRefIdeal.nD Cert.GqaRefIdeal.τ).loc Cert.GqaRefIdeal.main_arg6)) (m ((c.tc : Thread Cert.GqaRefIdeal.nD Cert.GqaRefIdeal.τ).loc Cert.GqaRefIdeal.main_arg7))).2.2.2.2.2.1 = (fun _ => 1#1)
    ∧ (Cert.Pre_gqa_slots.fn (F := Ideal) (m ((c.tc : Thread Cert.GqaRefIdeal.nD Cert.GqaRefIdeal.τ).loc Cert.GqaRefIdeal.main_arg0)) (m ((c.tc : Thread Cert.GqaRefIdeal.nD Cert.GqaRefIdeal.τ).loc Cert.GqaRefIdeal.main_arg1)) (m ((c.tc : Thread Cert.GqaRefIdeal.nD Cert.GqaRefIdeal.τ).loc Cert.GqaRefIdeal.main_arg2)) (m ((c.tc : Thread Cert.GqaRefIdeal.nD Cert.GqaRefIdeal.τ).loc Cert.GqaRefIdeal.main_arg3)) (m ((c.tc : Thread Cert.GqaRefIdeal.nD Cert.GqaRefIdeal.τ).loc Cert.GqaRefIdeal.main_arg4)) (m ((c.tc : Thread Cert.GqaRefIdeal.nD Cert.GqaRefIdeal.τ).loc Cert.GqaRefIdeal.main_arg5)) (m ((c.tc : Thread Cert.GqaRefIdeal.nD Cert.GqaRefIdeal.τ).loc Cert.GqaRefIdeal.main_arg6)) (m ((c.tc : Thread Cert.GqaRefIdeal.nD Cert.GqaRefIdeal.τ).loc Cert.GqaRefIdeal.main_arg7))).2.2.2.2.2.2.1 = (fun _ => 1#1)
    ∧ (Cert.Pre_gqa_slots.fn (F := Ideal) (m ((c.tc : Thread Cert.GqaRefIdeal.nD Cert.GqaRefIdeal.τ).loc Cert.GqaRefIdeal.main_arg0)) (m ((c.tc : Thread Cert.GqaRefIdeal.nD Cert.GqaRefIdeal.τ).loc Cert.GqaRefIdeal.main_arg1)) (m ((c.tc : Thread Cert.GqaRefIdeal.nD Cert.GqaRefIdeal.τ).loc Cert.GqaRefIdeal.main_arg2)) (m ((c.tc : Thread Cert.GqaRefIdeal.nD Cert.GqaRefIdeal.τ).loc Cert.GqaRefIdeal.main_arg3)) (m ((c.tc : Thread Cert.GqaRefIdeal.nD Cert.GqaRefIdeal.τ).loc Cert.GqaRefIdeal.main_arg4)) (m ((c.tc : Thread Cert.GqaRefIdeal.nD Cert.GqaRefIdeal.τ).loc Cert.GqaRefIdeal.main_arg5)) (m ((c.tc : Thread Cert.GqaRefIdeal.nD Cert.GqaRefIdeal.τ).loc Cert.GqaRefIdeal.main_arg6)) (m ((c.tc : Thread Cert.GqaRefIdeal.nD Cert.GqaRefIdeal.τ).loc Cert.GqaRefIdeal.main_arg7))).2.2.2.2.2.2.2.1 = (fun _ => 1#1)
    ∧ (Cert.Pre_gqa_slots.fn (F := Ideal) (m ((c.tc : Thread Cert.GqaRefIdeal.nD Cert.GqaRefIdeal.τ).loc Cert.GqaRefIdeal.main_arg0)) (m ((c.tc : Thread Cert.GqaRefIdeal.nD Cert.GqaRefIdeal.τ).loc Cert.GqaRefIdeal.main_arg1)) (m ((c.tc : Thread Cert.GqaRefIdeal.nD Cert.GqaRefIdeal.τ).loc Cert.GqaRefIdeal.main_arg2)) (m ((c.tc : Thread Cert.GqaRefIdeal.nD Cert.GqaRefIdeal.τ).loc Cert.GqaRefIdeal.main_arg3)) (m ((c.tc : Thread Cert.GqaRefIdeal.nD Cert.GqaRefIdeal.τ).loc Cert.GqaRefIdeal.main_arg4)) (m ((c.tc : Thread Cert.GqaRefIdeal.nD Cert.GqaRefIdeal.τ).loc Cert.GqaRefIdeal.main_arg5)) (m ((c.tc : Thread Cert.GqaRefIdeal.nD Cert.GqaRefIdeal.τ).loc Cert.GqaRefIdeal.main_arg6)) (m ((c.tc : Thread Cert.GqaRefIdeal.nD Cert.GqaRefIdeal.τ).loc Cert.GqaRefIdeal.main_arg7))).2.2.2.2.2.2.2.2.1 = (fun _ => 1#1)
    ∧ (Cert.Pre_gqa_slots.fn (F := Ideal) (m ((c.tc : Thread Cert.GqaRefIdeal.nD Cert.GqaRefIdeal.τ).loc Cert.GqaRefIdeal.main_arg0)) (m ((c.tc : Thread Cert.GqaRefIdeal.nD Cert.GqaRefIdeal.τ).loc Cert.GqaRefIdeal.main_arg1)) (m ((c.tc : Thread Cert.GqaRefIdeal.nD Cert.GqaRefIdeal.τ).loc Cert.GqaRefIdeal.main_arg2)) (m ((c.tc : Thread Cert.GqaRefIdeal.nD Cert.GqaRefIdeal.τ).loc Cert.GqaRefIdeal.main_arg3)) (m ((c.tc : Thread Cert.GqaRefIdeal.nD Cert.GqaRefIdeal.τ).loc Cert.GqaRefIdeal.main_arg4)) (m ((c.tc : Thread Cert.GqaRefIdeal.nD Cert.GqaRefIdeal.τ).loc Cert.GqaRefIdeal.main_arg5)) (m ((c.tc : Thread Cert.GqaRefIdeal.nD Cert.GqaRefIdeal.τ).loc Cert.GqaRefIdeal.main_arg6)) (m ((c.tc : Thread Cert.GqaRefIdeal.nD Cert.GqaRefIdeal.τ).loc Cert.GqaRefIdeal.main_arg7))).2.2.2.2.2.2.2.2.2 = (fun _ => 1#1)

def Pre_Inproj (m : (ℓ : Loc Cert.Inproj.nD Cert.Inproj.τ Cert.Inproj.sig) → Buf (Elt Bits) ℓ) : Prop :=
  True

def Pre_InprojIdeal (m : (ℓ : Loc Cert.InprojIdeal.nD Cert.InprojIdeal.τ Cert.InprojIdeal.sig) → Buf (Elt Ideal) ℓ) : Prop :=
  True

def Pre_InprojRefIdeal (m : (ℓ : Loc Cert.InprojRefIdeal.nD Cert.InprojRefIdeal.τ Cert.InprojRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def quiescent_Mla [hMla : Cert.Mla.Facts] : Prop :=
  ∀ (m : (ℓ : Loc Cert.Mla.nD Cert.Mla.τ Cert.Mla.sig) → Buf (Elt Bits) ℓ) (g : Dev Cert.Mla.nD → PrngReg), Pre_Mla m →
    θ_run (Cert.Mla.defs (F := Bits)) (onTc (τ := Cert.Mla.τ) (Cert.Mla.main (F := Bits))) ⟨m, fun _ => 0, g⟩ (fun r => (∀ c : Dev Cert.Mla.nD,
      r.2.mem ((c.tc : Thread Cert.Mla.nD Cert.Mla.τ).loc Cert.Mla.main_arg0) = m ((c.tc : Thread Cert.Mla.nD Cert.Mla.τ).loc Cert.Mla.main_arg0)
      ∧ r.2.mem ((c.tc : Thread Cert.Mla.nD Cert.Mla.τ).loc Cert.Mla.main_arg1) = m ((c.tc : Thread Cert.Mla.nD Cert.Mla.τ).loc Cert.Mla.main_arg1)
      ∧ r.2.mem ((c.tc : Thread Cert.Mla.nD Cert.Mla.τ).loc Cert.Mla.main_arg2) = m ((c.tc : Thread Cert.Mla.nD Cert.Mla.τ).loc Cert.Mla.main_arg2)
      ∧ r.2.mem ((c.tc : Thread Cert.Mla.nD Cert.Mla.τ).loc Cert.Mla.main_arg3) = m ((c.tc : Thread Cert.Mla.nD Cert.Mla.τ).loc Cert.Mla.main_arg3)
      ∧ r.2.mem ((c.tc : Thread Cert.Mla.nD Cert.Mla.τ).loc Cert.Mla.main_arg4) = m ((c.tc : Thread Cert.Mla.nD Cert.Mla.τ).loc Cert.Mla.main_arg4)
      ∧ r.2.mem ((c.tc : Thread Cert.Mla.nD Cert.Mla.τ).loc Cert.Mla.main_arg5) = m ((c.tc : Thread Cert.Mla.nD Cert.Mla.τ).loc Cert.Mla.main_arg5)
      ∧ r.2.mem ((c.tc : Thread Cert.Mla.nD Cert.Mla.τ).loc Cert.Mla.main_arg6) = m ((c.tc : Thread Cert.Mla.nD Cert.Mla.τ).loc Cert.Mla.main_arg6)
      ∧ r.2.mem ((c.tc : Thread Cert.Mla.nD Cert.Mla.τ).loc Cert.Mla.main_arg7) = m ((c.tc : Thread Cert.Mla.nD Cert.Mla.τ).loc Cert.Mla.main_arg7))
      ∧ r.2.sem = fun _ => 0)

def quiescent_MlaIdeal [hMlaIdeal : Cert.MlaIdeal.Facts] : Prop :=
  ∀ (m : (ℓ : Loc Cert.MlaIdeal.nD Cert.MlaIdeal.τ Cert.MlaIdeal.sig) → Buf (Elt Ideal) ℓ) (g : Dev Cert.MlaIdeal.nD → PrngReg), Pre_MlaIdeal m →
    θ_run (Cert.MlaIdeal.defs (F := Ideal)) (onTc (τ := Cert.MlaIdeal.τ) (Cert.MlaIdeal.main (F := Ideal))) ⟨m, fun _ => 0, g⟩ (fun r => (∀ c : Dev Cert.MlaIdeal.nD,
      r.2.mem ((c.tc : Thread Cert.MlaIdeal.nD Cert.MlaIdeal.τ).loc Cert.MlaIdeal.main_arg0) = m ((c.tc : Thread Cert.MlaIdeal.nD Cert.MlaIdeal.τ).loc Cert.MlaIdeal.main_arg0)
      ∧ r.2.mem ((c.tc : Thread Cert.MlaIdeal.nD Cert.MlaIdeal.τ).loc Cert.MlaIdeal.main_arg1) = m ((c.tc : Thread Cert.MlaIdeal.nD Cert.MlaIdeal.τ).loc Cert.MlaIdeal.main_arg1)
      ∧ r.2.mem ((c.tc : Thread Cert.MlaIdeal.nD Cert.MlaIdeal.τ).loc Cert.MlaIdeal.main_arg2) = m ((c.tc : Thread Cert.MlaIdeal.nD Cert.MlaIdeal.τ).loc Cert.MlaIdeal.main_arg2)
      ∧ r.2.mem ((c.tc : Thread Cert.MlaIdeal.nD Cert.MlaIdeal.τ).loc Cert.MlaIdeal.main_arg3) = m ((c.tc : Thread Cert.MlaIdeal.nD Cert.MlaIdeal.τ).loc Cert.MlaIdeal.main_arg3)
      ∧ r.2.mem ((c.tc : Thread Cert.MlaIdeal.nD Cert.MlaIdeal.τ).loc Cert.MlaIdeal.main_arg4) = m ((c.tc : Thread Cert.MlaIdeal.nD Cert.MlaIdeal.τ).loc Cert.MlaIdeal.main_arg4)
      ∧ r.2.mem ((c.tc : Thread Cert.MlaIdeal.nD Cert.MlaIdeal.τ).loc Cert.MlaIdeal.main_arg5) = m ((c.tc : Thread Cert.MlaIdeal.nD Cert.MlaIdeal.τ).loc Cert.MlaIdeal.main_arg5)
      ∧ r.2.mem ((c.tc : Thread Cert.MlaIdeal.nD Cert.MlaIdeal.τ).loc Cert.MlaIdeal.main_arg6) = m ((c.tc : Thread Cert.MlaIdeal.nD Cert.MlaIdeal.τ).loc Cert.MlaIdeal.main_arg6)
      ∧ r.2.mem ((c.tc : Thread Cert.MlaIdeal.nD Cert.MlaIdeal.τ).loc Cert.MlaIdeal.main_arg7) = m ((c.tc : Thread Cert.MlaIdeal.nD Cert.MlaIdeal.τ).loc Cert.MlaIdeal.main_arg7))
      ∧ r.2.sem = fun _ => 0)

def quiescent_MlaIdeal_pre_mla_slots [hMlaIdeal : Cert.MlaIdeal.Facts] [hPre_mla_slots : Cert.Pre_mla_slots.Facts] : Prop :=
  ∀ (m : (ℓ : Loc Cert.MlaIdeal.nD Cert.MlaIdeal.τ Cert.MlaIdeal.sig) → Buf (Elt Ideal) ℓ) (g : Dev Cert.MlaIdeal.nD → PrngReg), Pre_MlaIdeal_mla_slots m →
    θ_run (Cert.MlaIdeal.defs (F := Ideal)) (onTc (τ := Cert.MlaIdeal.τ) (Cert.MlaIdeal.main (F := Ideal))) ⟨m, fun _ => 0, g⟩ (fun r => (∀ c : Dev Cert.MlaIdeal.nD,
      r.2.mem ((c.tc : Thread Cert.MlaIdeal.nD Cert.MlaIdeal.τ).loc Cert.MlaIdeal.main_arg0) = m ((c.tc : Thread Cert.MlaIdeal.nD Cert.MlaIdeal.τ).loc Cert.MlaIdeal.main_arg0)
      ∧ r.2.mem ((c.tc : Thread Cert.MlaIdeal.nD Cert.MlaIdeal.τ).loc Cert.MlaIdeal.main_arg1) = m ((c.tc : Thread Cert.MlaIdeal.nD Cert.MlaIdeal.τ).loc Cert.MlaIdeal.main_arg1)
      ∧ r.2.mem ((c.tc : Thread Cert.MlaIdeal.nD Cert.MlaIdeal.τ).loc Cert.MlaIdeal.main_arg2) = m ((c.tc : Thread Cert.MlaIdeal.nD Cert.MlaIdeal.τ).loc Cert.MlaIdeal.main_arg2)
      ∧ r.2.mem ((c.tc : Thread Cert.MlaIdeal.nD Cert.MlaIdeal.τ).loc Cert.MlaIdeal.main_arg3) = m ((c.tc : Thread Cert.MlaIdeal.nD Cert.MlaIdeal.τ).loc Cert.MlaIdeal.main_arg3)
      ∧ r.2.mem ((c.tc : Thread Cert.MlaIdeal.nD Cert.MlaIdeal.τ).loc Cert.MlaIdeal.main_arg4) = m ((c.tc : Thread Cert.MlaIdeal.nD Cert.MlaIdeal.τ).loc Cert.MlaIdeal.main_arg4)
      ∧ r.2.mem ((c.tc : Thread Cert.MlaIdeal.nD Cert.MlaIdeal.τ).loc Cert.MlaIdeal.main_arg5) = m ((c.tc : Thread Cert.MlaIdeal.nD Cert.MlaIdeal.τ).loc Cert.MlaIdeal.main_arg5)
      ∧ r.2.mem ((c.tc : Thread Cert.MlaIdeal.nD Cert.MlaIdeal.τ).loc Cert.MlaIdeal.main_arg6) = m ((c.tc : Thread Cert.MlaIdeal.nD Cert.MlaIdeal.τ).loc Cert.MlaIdeal.main_arg6)
      ∧ r.2.mem ((c.tc : Thread Cert.MlaIdeal.nD Cert.MlaIdeal.τ).loc Cert.MlaIdeal.main_arg7) = m ((c.tc : Thread Cert.MlaIdeal.nD Cert.MlaIdeal.τ).loc Cert.MlaIdeal.main_arg7))
      ∧ r.2.sem = fun _ => 0)

def quiescent_MlaRefIdeal [hMlaRefIdeal : Cert.MlaRefIdeal.Facts] : Prop :=
  ∀ (m : (ℓ : Loc Cert.MlaRefIdeal.nD Cert.MlaRefIdeal.τ Cert.MlaRefIdeal.sig) → Buf (Elt Ideal) ℓ) (g : Dev Cert.MlaRefIdeal.nD → PrngReg), Pre_MlaRefIdeal m →
    θ_run (Cert.MlaRefIdeal.defs (F := Ideal)) (onTc (τ := Cert.MlaRefIdeal.τ) (Cert.MlaRefIdeal.main (F := Ideal))) ⟨m, fun _ => 0, g⟩ (fun r => (∀ c : Dev Cert.MlaRefIdeal.nD,
      r.2.mem ((c.tc : Thread Cert.MlaRefIdeal.nD Cert.MlaRefIdeal.τ).loc Cert.MlaRefIdeal.main_arg0) = m ((c.tc : Thread Cert.MlaRefIdeal.nD Cert.MlaRefIdeal.τ).loc Cert.MlaRefIdeal.main_arg0)
      ∧ r.2.mem ((c.tc : Thread Cert.MlaRefIdeal.nD Cert.MlaRefIdeal.τ).loc Cert.MlaRefIdeal.main_arg1) = m ((c.tc : Thread Cert.MlaRefIdeal.nD Cert.MlaRefIdeal.τ).loc Cert.MlaRefIdeal.main_arg1)
      ∧ r.2.mem ((c.tc : Thread Cert.MlaRefIdeal.nD Cert.MlaRefIdeal.τ).loc Cert.MlaRefIdeal.main_arg2) = m ((c.tc : Thread Cert.MlaRefIdeal.nD Cert.MlaRefIdeal.τ).loc Cert.MlaRefIdeal.main_arg2)
      ∧ r.2.mem ((c.tc : Thread Cert.MlaRefIdeal.nD Cert.MlaRefIdeal.τ).loc Cert.MlaRefIdeal.main_arg3) = m ((c.tc : Thread Cert.MlaRefIdeal.nD Cert.MlaRefIdeal.τ).loc Cert.MlaRefIdeal.main_arg3)
      ∧ r.2.mem ((c.tc : Thread Cert.MlaRefIdeal.nD Cert.MlaRefIdeal.τ).loc Cert.MlaRefIdeal.main_arg4) = m ((c.tc : Thread Cert.MlaRefIdeal.nD Cert.MlaRefIdeal.τ).loc Cert.MlaRefIdeal.main_arg4)
      ∧ r.2.mem ((c.tc : Thread Cert.MlaRefIdeal.nD Cert.MlaRefIdeal.τ).loc Cert.MlaRefIdeal.main_arg5) = m ((c.tc : Thread Cert.MlaRefIdeal.nD Cert.MlaRefIdeal.τ).loc Cert.MlaRefIdeal.main_arg5)
      ∧ r.2.mem ((c.tc : Thread Cert.MlaRefIdeal.nD Cert.MlaRefIdeal.τ).loc Cert.MlaRefIdeal.main_arg6) = m ((c.tc : Thread Cert.MlaRefIdeal.nD Cert.MlaRefIdeal.τ).loc Cert.MlaRefIdeal.main_arg6)
      ∧ r.2.mem ((c.tc : Thread Cert.MlaRefIdeal.nD Cert.MlaRefIdeal.τ).loc Cert.MlaRefIdeal.main_arg7) = m ((c.tc : Thread Cert.MlaRefIdeal.nD Cert.MlaRefIdeal.τ).loc Cert.MlaRefIdeal.main_arg7))
      ∧ r.2.sem = fun _ => 0)

def quiescent_MlaRefIdeal_pre_mla_slots [hMlaRefIdeal : Cert.MlaRefIdeal.Facts] [hPre_mla_slots : Cert.Pre_mla_slots.Facts] : Prop :=
  ∀ (m : (ℓ : Loc Cert.MlaRefIdeal.nD Cert.MlaRefIdeal.τ Cert.MlaRefIdeal.sig) → Buf (Elt Ideal) ℓ) (g : Dev Cert.MlaRefIdeal.nD → PrngReg), Pre_MlaRefIdeal_mla_slots m →
    θ_run (Cert.MlaRefIdeal.defs (F := Ideal)) (onTc (τ := Cert.MlaRefIdeal.τ) (Cert.MlaRefIdeal.main (F := Ideal))) ⟨m, fun _ => 0, g⟩ (fun r => (∀ c : Dev Cert.MlaRefIdeal.nD,
      r.2.mem ((c.tc : Thread Cert.MlaRefIdeal.nD Cert.MlaRefIdeal.τ).loc Cert.MlaRefIdeal.main_arg0) = m ((c.tc : Thread Cert.MlaRefIdeal.nD Cert.MlaRefIdeal.τ).loc Cert.MlaRefIdeal.main_arg0)
      ∧ r.2.mem ((c.tc : Thread Cert.MlaRefIdeal.nD Cert.MlaRefIdeal.τ).loc Cert.MlaRefIdeal.main_arg1) = m ((c.tc : Thread Cert.MlaRefIdeal.nD Cert.MlaRefIdeal.τ).loc Cert.MlaRefIdeal.main_arg1)
      ∧ r.2.mem ((c.tc : Thread Cert.MlaRefIdeal.nD Cert.MlaRefIdeal.τ).loc Cert.MlaRefIdeal.main_arg2) = m ((c.tc : Thread Cert.MlaRefIdeal.nD Cert.MlaRefIdeal.τ).loc Cert.MlaRefIdeal.main_arg2)
      ∧ r.2.mem ((c.tc : Thread Cert.MlaRefIdeal.nD Cert.MlaRefIdeal.τ).loc Cert.MlaRefIdeal.main_arg3) = m ((c.tc : Thread Cert.MlaRefIdeal.nD Cert.MlaRefIdeal.τ).loc Cert.MlaRefIdeal.main_arg3)
      ∧ r.2.mem ((c.tc : Thread Cert.MlaRefIdeal.nD Cert.MlaRefIdeal.τ).loc Cert.MlaRefIdeal.main_arg4) = m ((c.tc : Thread Cert.MlaRefIdeal.nD Cert.MlaRefIdeal.τ).loc Cert.MlaRefIdeal.main_arg4)
      ∧ r.2.mem ((c.tc : Thread Cert.MlaRefIdeal.nD Cert.MlaRefIdeal.τ).loc Cert.MlaRefIdeal.main_arg5) = m ((c.tc : Thread Cert.MlaRefIdeal.nD Cert.MlaRefIdeal.τ).loc Cert.MlaRefIdeal.main_arg5)
      ∧ r.2.mem ((c.tc : Thread Cert.MlaRefIdeal.nD Cert.MlaRefIdeal.τ).loc Cert.MlaRefIdeal.main_arg6) = m ((c.tc : Thread Cert.MlaRefIdeal.nD Cert.MlaRefIdeal.τ).loc Cert.MlaRefIdeal.main_arg6)
      ∧ r.2.mem ((c.tc : Thread Cert.MlaRefIdeal.nD Cert.MlaRefIdeal.τ).loc Cert.MlaRefIdeal.main_arg7) = m ((c.tc : Thread Cert.MlaRefIdeal.nD Cert.MlaRefIdeal.τ).loc Cert.MlaRefIdeal.main_arg7))
      ∧ r.2.sem = fun _ => 0)

def quiescent_Gqa [hGqa : Cert.Gqa.Facts] : Prop :=
  ∀ (m : (ℓ : Loc Cert.Gqa.nD Cert.Gqa.τ Cert.Gqa.sig) → Buf (Elt Bits) ℓ) (g : Dev Cert.Gqa.nD → PrngReg), Pre_Gqa m →
    θ_run (Cert.Gqa.defs (F := Bits)) (onTc (τ := Cert.Gqa.τ) (Cert.Gqa.main (F := Bits))) ⟨m, fun _ => 0, g⟩ (fun r => (∀ c : Dev Cert.Gqa.nD,
      r.2.mem ((c.tc : Thread Cert.Gqa.nD Cert.Gqa.τ).loc Cert.Gqa.main_arg0) = m ((c.tc : Thread Cert.Gqa.nD Cert.Gqa.τ).loc Cert.Gqa.main_arg0)
      ∧ r.2.mem ((c.tc : Thread Cert.Gqa.nD Cert.Gqa.τ).loc Cert.Gqa.main_arg1) = m ((c.tc : Thread Cert.Gqa.nD Cert.Gqa.τ).loc Cert.Gqa.main_arg1)
      ∧ r.2.mem ((c.tc : Thread Cert.Gqa.nD Cert.Gqa.τ).loc Cert.Gqa.main_arg2) = m ((c.tc : Thread Cert.Gqa.nD Cert.Gqa.τ).loc Cert.Gqa.main_arg2)
      ∧ r.2.mem ((c.tc : Thread Cert.Gqa.nD Cert.Gqa.τ).loc Cert.Gqa.main_arg3) = m ((c.tc : Thread Cert.Gqa.nD Cert.Gqa.τ).loc Cert.Gqa.main_arg3)
      ∧ r.2.mem ((c.tc : Thread Cert.Gqa.nD Cert.Gqa.τ).loc Cert.Gqa.main_arg4) = m ((c.tc : Thread Cert.Gqa.nD Cert.Gqa.τ).loc Cert.Gqa.main_arg4)
      ∧ r.2.mem ((c.tc : Thread Cert.Gqa.nD Cert.Gqa.τ).loc Cert.Gqa.main_arg5) = m ((c.tc : Thread Cert.Gqa.nD Cert.Gqa.τ).loc Cert.Gqa.main_arg5)
      ∧ r.2.mem ((c.tc : Thread Cert.Gqa.nD Cert.Gqa.τ).loc Cert.Gqa.main_arg6) = m ((c.tc : Thread Cert.Gqa.nD Cert.Gqa.τ).loc Cert.Gqa.main_arg6)
      ∧ r.2.mem ((c.tc : Thread Cert.Gqa.nD Cert.Gqa.τ).loc Cert.Gqa.main_arg7) = m ((c.tc : Thread Cert.Gqa.nD Cert.Gqa.τ).loc Cert.Gqa.main_arg7))
      ∧ r.2.sem = fun _ => 0)

def quiescent_GqaIdeal [hGqaIdeal : Cert.GqaIdeal.Facts] : Prop :=
  ∀ (m : (ℓ : Loc Cert.GqaIdeal.nD Cert.GqaIdeal.τ Cert.GqaIdeal.sig) → Buf (Elt Ideal) ℓ) (g : Dev Cert.GqaIdeal.nD → PrngReg), Pre_GqaIdeal m →
    θ_run (Cert.GqaIdeal.defs (F := Ideal)) (onTc (τ := Cert.GqaIdeal.τ) (Cert.GqaIdeal.main (F := Ideal))) ⟨m, fun _ => 0, g⟩ (fun r => (∀ c : Dev Cert.GqaIdeal.nD,
      r.2.mem ((c.tc : Thread Cert.GqaIdeal.nD Cert.GqaIdeal.τ).loc Cert.GqaIdeal.main_arg0) = m ((c.tc : Thread Cert.GqaIdeal.nD Cert.GqaIdeal.τ).loc Cert.GqaIdeal.main_arg0)
      ∧ r.2.mem ((c.tc : Thread Cert.GqaIdeal.nD Cert.GqaIdeal.τ).loc Cert.GqaIdeal.main_arg1) = m ((c.tc : Thread Cert.GqaIdeal.nD Cert.GqaIdeal.τ).loc Cert.GqaIdeal.main_arg1)
      ∧ r.2.mem ((c.tc : Thread Cert.GqaIdeal.nD Cert.GqaIdeal.τ).loc Cert.GqaIdeal.main_arg2) = m ((c.tc : Thread Cert.GqaIdeal.nD Cert.GqaIdeal.τ).loc Cert.GqaIdeal.main_arg2)
      ∧ r.2.mem ((c.tc : Thread Cert.GqaIdeal.nD Cert.GqaIdeal.τ).loc Cert.GqaIdeal.main_arg3) = m ((c.tc : Thread Cert.GqaIdeal.nD Cert.GqaIdeal.τ).loc Cert.GqaIdeal.main_arg3)
      ∧ r.2.mem ((c.tc : Thread Cert.GqaIdeal.nD Cert.GqaIdeal.τ).loc Cert.GqaIdeal.main_arg4) = m ((c.tc : Thread Cert.GqaIdeal.nD Cert.GqaIdeal.τ).loc Cert.GqaIdeal.main_arg4)
      ∧ r.2.mem ((c.tc : Thread Cert.GqaIdeal.nD Cert.GqaIdeal.τ).loc Cert.GqaIdeal.main_arg5) = m ((c.tc : Thread Cert.GqaIdeal.nD Cert.GqaIdeal.τ).loc Cert.GqaIdeal.main_arg5)
      ∧ r.2.mem ((c.tc : Thread Cert.GqaIdeal.nD Cert.GqaIdeal.τ).loc Cert.GqaIdeal.main_arg6) = m ((c.tc : Thread Cert.GqaIdeal.nD Cert.GqaIdeal.τ).loc Cert.GqaIdeal.main_arg6)
      ∧ r.2.mem ((c.tc : Thread Cert.GqaIdeal.nD Cert.GqaIdeal.τ).loc Cert.GqaIdeal.main_arg7) = m ((c.tc : Thread Cert.GqaIdeal.nD Cert.GqaIdeal.τ).loc Cert.GqaIdeal.main_arg7))
      ∧ r.2.sem = fun _ => 0)

def quiescent_GqaIdeal_pre_gqa_slots [hGqaIdeal : Cert.GqaIdeal.Facts] [hPre_gqa_slots : Cert.Pre_gqa_slots.Facts] : Prop :=
  ∀ (m : (ℓ : Loc Cert.GqaIdeal.nD Cert.GqaIdeal.τ Cert.GqaIdeal.sig) → Buf (Elt Ideal) ℓ) (g : Dev Cert.GqaIdeal.nD → PrngReg), Pre_GqaIdeal_gqa_slots m →
    θ_run (Cert.GqaIdeal.defs (F := Ideal)) (onTc (τ := Cert.GqaIdeal.τ) (Cert.GqaIdeal.main (F := Ideal))) ⟨m, fun _ => 0, g⟩ (fun r => (∀ c : Dev Cert.GqaIdeal.nD,
      r.2.mem ((c.tc : Thread Cert.GqaIdeal.nD Cert.GqaIdeal.τ).loc Cert.GqaIdeal.main_arg0) = m ((c.tc : Thread Cert.GqaIdeal.nD Cert.GqaIdeal.τ).loc Cert.GqaIdeal.main_arg0)
      ∧ r.2.mem ((c.tc : Thread Cert.GqaIdeal.nD Cert.GqaIdeal.τ).loc Cert.GqaIdeal.main_arg1) = m ((c.tc : Thread Cert.GqaIdeal.nD Cert.GqaIdeal.τ).loc Cert.GqaIdeal.main_arg1)
      ∧ r.2.mem ((c.tc : Thread Cert.GqaIdeal.nD Cert.GqaIdeal.τ).loc Cert.GqaIdeal.main_arg2) = m ((c.tc : Thread Cert.GqaIdeal.nD Cert.GqaIdeal.τ).loc Cert.GqaIdeal.main_arg2)
      ∧ r.2.mem ((c.tc : Thread Cert.GqaIdeal.nD Cert.GqaIdeal.τ).loc Cert.GqaIdeal.main_arg3) = m ((c.tc : Thread Cert.GqaIdeal.nD Cert.GqaIdeal.τ).loc Cert.GqaIdeal.main_arg3)
      ∧ r.2.mem ((c.tc : Thread Cert.GqaIdeal.nD Cert.GqaIdeal.τ).loc Cert.GqaIdeal.main_arg4) = m ((c.tc : Thread Cert.GqaIdeal.nD Cert.GqaIdeal.τ).loc Cert.GqaIdeal.main_arg4)
      ∧ r.2.mem ((c.tc : Thread Cert.GqaIdeal.nD Cert.GqaIdeal.τ).loc Cert.GqaIdeal.main_arg5) = m ((c.tc : Thread Cert.GqaIdeal.nD Cert.GqaIdeal.τ).loc Cert.GqaIdeal.main_arg5)
      ∧ r.2.mem ((c.tc : Thread Cert.GqaIdeal.nD Cert.GqaIdeal.τ).loc Cert.GqaIdeal.main_arg6) = m ((c.tc : Thread Cert.GqaIdeal.nD Cert.GqaIdeal.τ).loc Cert.GqaIdeal.main_arg6)
      ∧ r.2.mem ((c.tc : Thread Cert.GqaIdeal.nD Cert.GqaIdeal.τ).loc Cert.GqaIdeal.main_arg7) = m ((c.tc : Thread Cert.GqaIdeal.nD Cert.GqaIdeal.τ).loc Cert.GqaIdeal.main_arg7))
      ∧ r.2.sem = fun _ => 0)

def quiescent_GqaRefIdeal [hGqaRefIdeal : Cert.GqaRefIdeal.Facts] : Prop :=
  ∀ (m : (ℓ : Loc Cert.GqaRefIdeal.nD Cert.GqaRefIdeal.τ Cert.GqaRefIdeal.sig) → Buf (Elt Ideal) ℓ) (g : Dev Cert.GqaRefIdeal.nD → PrngReg), Pre_GqaRefIdeal m →
    θ_run (Cert.GqaRefIdeal.defs (F := Ideal)) (onTc (τ := Cert.GqaRefIdeal.τ) (Cert.GqaRefIdeal.main (F := Ideal))) ⟨m, fun _ => 0, g⟩ (fun r => (∀ c : Dev Cert.GqaRefIdeal.nD,
      r.2.mem ((c.tc : Thread Cert.GqaRefIdeal.nD Cert.GqaRefIdeal.τ).loc Cert.GqaRefIdeal.main_arg0) = m ((c.tc : Thread Cert.GqaRefIdeal.nD Cert.GqaRefIdeal.τ).loc Cert.GqaRefIdeal.main_arg0)
      ∧ r.2.mem ((c.tc : Thread Cert.GqaRefIdeal.nD Cert.GqaRefIdeal.τ).loc Cert.GqaRefIdeal.main_arg1) = m ((c.tc : Thread Cert.GqaRefIdeal.nD Cert.GqaRefIdeal.τ).loc Cert.GqaRefIdeal.main_arg1)
      ∧ r.2.mem ((c.tc : Thread Cert.GqaRefIdeal.nD Cert.GqaRefIdeal.τ).loc Cert.GqaRefIdeal.main_arg2) = m ((c.tc : Thread Cert.GqaRefIdeal.nD Cert.GqaRefIdeal.τ).loc Cert.GqaRefIdeal.main_arg2)
      ∧ r.2.mem ((c.tc : Thread Cert.GqaRefIdeal.nD Cert.GqaRefIdeal.τ).loc Cert.GqaRefIdeal.main_arg3) = m ((c.tc : Thread Cert.GqaRefIdeal.nD Cert.GqaRefIdeal.τ).loc Cert.GqaRefIdeal.main_arg3)
      ∧ r.2.mem ((c.tc : Thread Cert.GqaRefIdeal.nD Cert.GqaRefIdeal.τ).loc Cert.GqaRefIdeal.main_arg4) = m ((c.tc : Thread Cert.GqaRefIdeal.nD Cert.GqaRefIdeal.τ).loc Cert.GqaRefIdeal.main_arg4)
      ∧ r.2.mem ((c.tc : Thread Cert.GqaRefIdeal.nD Cert.GqaRefIdeal.τ).loc Cert.GqaRefIdeal.main_arg5) = m ((c.tc : Thread Cert.GqaRefIdeal.nD Cert.GqaRefIdeal.τ).loc Cert.GqaRefIdeal.main_arg5)
      ∧ r.2.mem ((c.tc : Thread Cert.GqaRefIdeal.nD Cert.GqaRefIdeal.τ).loc Cert.GqaRefIdeal.main_arg6) = m ((c.tc : Thread Cert.GqaRefIdeal.nD Cert.GqaRefIdeal.τ).loc Cert.GqaRefIdeal.main_arg6)
      ∧ r.2.mem ((c.tc : Thread Cert.GqaRefIdeal.nD Cert.GqaRefIdeal.τ).loc Cert.GqaRefIdeal.main_arg7) = m ((c.tc : Thread Cert.GqaRefIdeal.nD Cert.GqaRefIdeal.τ).loc Cert.GqaRefIdeal.main_arg7))
      ∧ r.2.sem = fun _ => 0)

def quiescent_GqaRefIdeal_pre_gqa_slots [hGqaRefIdeal : Cert.GqaRefIdeal.Facts] [hPre_gqa_slots : Cert.Pre_gqa_slots.Facts] : Prop :=
  ∀ (m : (ℓ : Loc Cert.GqaRefIdeal.nD Cert.GqaRefIdeal.τ Cert.GqaRefIdeal.sig) → Buf (Elt Ideal) ℓ) (g : Dev Cert.GqaRefIdeal.nD → PrngReg), Pre_GqaRefIdeal_gqa_slots m →
    θ_run (Cert.GqaRefIdeal.defs (F := Ideal)) (onTc (τ := Cert.GqaRefIdeal.τ) (Cert.GqaRefIdeal.main (F := Ideal))) ⟨m, fun _ => 0, g⟩ (fun r => (∀ c : Dev Cert.GqaRefIdeal.nD,
      r.2.mem ((c.tc : Thread Cert.GqaRefIdeal.nD Cert.GqaRefIdeal.τ).loc Cert.GqaRefIdeal.main_arg0) = m ((c.tc : Thread Cert.GqaRefIdeal.nD Cert.GqaRefIdeal.τ).loc Cert.GqaRefIdeal.main_arg0)
      ∧ r.2.mem ((c.tc : Thread Cert.GqaRefIdeal.nD Cert.GqaRefIdeal.τ).loc Cert.GqaRefIdeal.main_arg1) = m ((c.tc : Thread Cert.GqaRefIdeal.nD Cert.GqaRefIdeal.τ).loc Cert.GqaRefIdeal.main_arg1)
      ∧ r.2.mem ((c.tc : Thread Cert.GqaRefIdeal.nD Cert.GqaRefIdeal.τ).loc Cert.GqaRefIdeal.main_arg2) = m ((c.tc : Thread Cert.GqaRefIdeal.nD Cert.GqaRefIdeal.τ).loc Cert.GqaRefIdeal.main_arg2)
      ∧ r.2.mem ((c.tc : Thread Cert.GqaRefIdeal.nD Cert.GqaRefIdeal.τ).loc Cert.GqaRefIdeal.main_arg3) = m ((c.tc : Thread Cert.GqaRefIdeal.nD Cert.GqaRefIdeal.τ).loc Cert.GqaRefIdeal.main_arg3)
      ∧ r.2.mem ((c.tc : Thread Cert.GqaRefIdeal.nD Cert.GqaRefIdeal.τ).loc Cert.GqaRefIdeal.main_arg4) = m ((c.tc : Thread Cert.GqaRefIdeal.nD Cert.GqaRefIdeal.τ).loc Cert.GqaRefIdeal.main_arg4)
      ∧ r.2.mem ((c.tc : Thread Cert.GqaRefIdeal.nD Cert.GqaRefIdeal.τ).loc Cert.GqaRefIdeal.main_arg5) = m ((c.tc : Thread Cert.GqaRefIdeal.nD Cert.GqaRefIdeal.τ).loc Cert.GqaRefIdeal.main_arg5)
      ∧ r.2.mem ((c.tc : Thread Cert.GqaRefIdeal.nD Cert.GqaRefIdeal.τ).loc Cert.GqaRefIdeal.main_arg6) = m ((c.tc : Thread Cert.GqaRefIdeal.nD Cert.GqaRefIdeal.τ).loc Cert.GqaRefIdeal.main_arg6)
      ∧ r.2.mem ((c.tc : Thread Cert.GqaRefIdeal.nD Cert.GqaRefIdeal.τ).loc Cert.GqaRefIdeal.main_arg7) = m ((c.tc : Thread Cert.GqaRefIdeal.nD Cert.GqaRefIdeal.τ).loc Cert.GqaRefIdeal.main_arg7))
      ∧ r.2.sem = fun _ => 0)

def quiescent_Inproj [hInproj : Cert.Inproj.Facts] : Prop :=
  ∀ (m : (ℓ : Loc Cert.Inproj.nD Cert.Inproj.τ Cert.Inproj.sig) → Buf (Elt Bits) ℓ) (g : Dev Cert.Inproj.nD → PrngReg), Pre_Inproj m →
    θ_run (Cert.Inproj.defs (F := Bits)) (onTc (τ := Cert.Inproj.τ) (Cert.Inproj.main (F := Bits))) ⟨m, fun _ => 0, g⟩ (fun r => (∀ c : Dev Cert.Inproj.nD,
      r.2.mem ((c.tc : Thread Cert.Inproj.nD Cert.Inproj.τ).loc Cert.Inproj.main_arg0) = m ((c.tc : Thread Cert.Inproj.nD Cert.Inproj.τ).loc Cert.Inproj.main_arg0)
      ∧ r.2.mem ((c.tc : Thread Cert.Inproj.nD Cert.Inproj.τ).loc Cert.Inproj.main_arg1) = m ((c.tc : Thread Cert.Inproj.nD Cert.Inproj.τ).loc Cert.Inproj.main_arg1)
      ∧ r.2.mem ((c.tc : Thread Cert.Inproj.nD Cert.Inproj.τ).loc Cert.Inproj.main_arg2) = m ((c.tc : Thread Cert.Inproj.nD Cert.Inproj.τ).loc Cert.Inproj.main_arg2)
      ∧ r.2.mem ((c.tc : Thread Cert.Inproj.nD Cert.Inproj.τ).loc Cert.Inproj.main_arg3) = m ((c.tc : Thread Cert.Inproj.nD Cert.Inproj.τ).loc Cert.Inproj.main_arg3)
      ∧ r.2.mem ((c.tc : Thread Cert.Inproj.nD Cert.Inproj.τ).loc Cert.Inproj.main_arg4) = m ((c.tc : Thread Cert.Inproj.nD Cert.Inproj.τ).loc Cert.Inproj.main_arg4)
      ∧ r.2.mem ((c.tc : Thread Cert.Inproj.nD Cert.Inproj.τ).loc Cert.Inproj.main_arg5) = m ((c.tc : Thread Cert.Inproj.nD Cert.Inproj.τ).loc Cert.Inproj.main_arg5)
      ∧ r.2.mem ((c.tc : Thread Cert.Inproj.nD Cert.Inproj.τ).loc Cert.Inproj.main_arg6) = m ((c.tc : Thread Cert.Inproj.nD Cert.Inproj.τ).loc Cert.Inproj.main_arg6)
      ∧ r.2.mem ((c.tc : Thread Cert.Inproj.nD Cert.Inproj.τ).loc Cert.Inproj.main_arg7) = m ((c.tc : Thread Cert.Inproj.nD Cert.Inproj.τ).loc Cert.Inproj.main_arg7)
      ∧ r.2.mem ((c.tc : Thread Cert.Inproj.nD Cert.Inproj.τ).loc Cert.Inproj.main_arg8) = m ((c.tc : Thread Cert.Inproj.nD Cert.Inproj.τ).loc Cert.Inproj.main_arg8)
      ∧ r.2.mem ((c.tc : Thread Cert.Inproj.nD Cert.Inproj.τ).loc Cert.Inproj.main_arg9) = m ((c.tc : Thread Cert.Inproj.nD Cert.Inproj.τ).loc Cert.Inproj.main_arg9)
      ∧ r.2.mem ((c.tc : Thread Cert.Inproj.nD Cert.Inproj.τ).loc Cert.Inproj.main_arg10) = m ((c.tc : Thread Cert.Inproj.nD Cert.Inproj.τ).loc Cert.Inproj.main_arg10)
      ∧ r.2.mem ((c.tc : Thread Cert.Inproj.nD Cert.Inproj.τ).loc Cert.Inproj.main_arg11) = m ((c.tc : Thread Cert.Inproj.nD Cert.Inproj.τ).loc Cert.Inproj.main_arg11)
      ∧ r.2.mem ((c.tc : Thread Cert.Inproj.nD Cert.Inproj.τ).loc Cert.Inproj.main_arg12) = m ((c.tc : Thread Cert.Inproj.nD Cert.Inproj.τ).loc Cert.Inproj.main_arg12)
      ∧ r.2.mem ((c.tc : Thread Cert.Inproj.nD Cert.Inproj.τ).loc Cert.Inproj.main_arg13) = m ((c.tc : Thread Cert.Inproj.nD Cert.Inproj.τ).loc Cert.Inproj.main_arg13)
      ∧ r.2.mem ((c.tc : Thread Cert.Inproj.nD Cert.Inproj.τ).loc Cert.Inproj.main_arg14) = m ((c.tc : Thread Cert.Inproj.nD Cert.Inproj.τ).loc Cert.Inproj.main_arg14)
      ∧ r.2.mem ((c.tc : Thread Cert.Inproj.nD Cert.Inproj.τ).loc Cert.Inproj.main_arg15) = m ((c.tc : Thread Cert.Inproj.nD Cert.Inproj.τ).loc Cert.Inproj.main_arg15))
      ∧ r.2.sem = fun _ => 0)

def quiescent_InprojIdeal [hInprojIdeal : Cert.InprojIdeal.Facts] : Prop :=
  ∀ (m : (ℓ : Loc Cert.InprojIdeal.nD Cert.InprojIdeal.τ Cert.InprojIdeal.sig) → Buf (Elt Ideal) ℓ) (g : Dev Cert.InprojIdeal.nD → PrngReg), Pre_InprojIdeal m →
    θ_run (Cert.InprojIdeal.defs (F := Ideal)) (onTc (τ := Cert.InprojIdeal.τ) (Cert.InprojIdeal.main (F := Ideal))) ⟨m, fun _ => 0, g⟩ (fun r => (∀ c : Dev Cert.InprojIdeal.nD,
      r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
      ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
      ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
      ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3)
      ∧ r.2.mem ((c.tc : Thread Cert.InprojIdeal.nD Cert.InprojIdeal.τ).loc Cert.InprojIdeal.main_arg4) = m ((c.tc : Thread Cert.InprojIdeal.nD Cert.InprojIdeal.τ).loc Cert.InprojIdeal.main_arg4)
      ∧ r.2.mem ((c.tc : Thread Cert.InprojIdeal.nD Cert.InprojIdeal.τ).loc Cert.InprojIdeal.main_arg5) = m ((c.tc : Thread Cert.InprojIdeal.nD Cert.InprojIdeal.τ).loc Cert.InprojIdeal.main_arg5)
      ∧ r.2.mem ((c.tc : Thread Cert.InprojIdeal.nD Cert.InprojIdeal.τ).loc Cert.InprojIdeal.main_arg6) = m ((c.tc : Thread Cert.InprojIdeal.nD Cert.InprojIdeal.τ).loc Cert.InprojIdeal.main_arg6)
      ∧ r.2.mem ((c.tc : Thread Cert.InprojIdeal.nD Cert.InprojIdeal.τ).loc Cert.InprojIdeal.main_arg7) = m ((c.tc : Thread Cert.InprojIdeal.nD Cert.InprojIdeal.τ).loc Cert.InprojIdeal.main_arg7)
      ∧ r.2.mem ((c.tc : Thread Cert.InprojIdeal.nD Cert.InprojIdeal.τ).loc Cert.InprojIdeal.main_arg8) = m ((c.tc : Thread Cert.InprojIdeal.nD Cert.InprojIdeal.τ).loc Cert.InprojIdeal.main_arg8)
      ∧ r.2.mem ((c.tc : Thread Cert.InprojIdeal.nD Cert.InprojIdeal.τ).loc Cert.InprojIdeal.main_arg9) = m ((c.tc : Thread Cert.InprojIdeal.nD Cert.InprojIdeal.τ).loc Cert.InprojIdeal.main_arg9)
      ∧ r.2.mem ((c.tc : Thread Cert.InprojIdeal.nD Cert.InprojIdeal.τ).loc Cert.InprojIdeal.main_arg10) = m ((c.tc : Thread Cert.InprojIdeal.nD Cert.InprojIdeal.τ).loc Cert.InprojIdeal.main_arg10)
      ∧ r.2.mem ((c.tc : Thread Cert.InprojIdeal.nD Cert.InprojIdeal.τ).loc Cert.InprojIdeal.main_arg11) = m ((c.tc : Thread Cert.InprojIdeal.nD Cert.InprojIdeal.τ).loc Cert.InprojIdeal.main_arg11)
      ∧ r.2.mem ((c.tc : Thread Cert.InprojIdeal.nD Cert.InprojIdeal.τ).loc Cert.InprojIdeal.main_arg12) = m ((c.tc : Thread Cert.InprojIdeal.nD Cert.InprojIdeal.τ).loc Cert.InprojIdeal.main_arg12)
      ∧ r.2.mem ((c.tc : Thread Cert.InprojIdeal.nD Cert.InprojIdeal.τ).loc Cert.InprojIdeal.main_arg13) = m ((c.tc : Thread Cert.InprojIdeal.nD Cert.InprojIdeal.τ).loc Cert.InprojIdeal.main_arg13)
      ∧ r.2.mem ((c.tc : Thread Cert.InprojIdeal.nD Cert.InprojIdeal.τ).loc Cert.InprojIdeal.main_arg14) = m ((c.tc : Thread Cert.InprojIdeal.nD Cert.InprojIdeal.τ).loc Cert.InprojIdeal.main_arg14)
      ∧ r.2.mem ((c.tc : Thread Cert.InprojIdeal.nD Cert.InprojIdeal.τ).loc Cert.InprojIdeal.main_arg15) = m ((c.tc : Thread Cert.InprojIdeal.nD Cert.InprojIdeal.τ).loc Cert.InprojIdeal.main_arg15))
      ∧ r.2.sem = fun _ => 0)

def quiescent_InprojRefIdeal [hInprojRefIdeal : Cert.InprojRefIdeal.Facts] : Prop :=
  ∀ (m : (ℓ : Loc Cert.InprojRefIdeal.nD Cert.InprojRefIdeal.τ Cert.InprojRefIdeal.sig) → Buf (Elt Ideal) ℓ) (g : Dev Cert.InprojRefIdeal.nD → PrngReg), Pre_InprojRefIdeal m →
    θ_run (Cert.InprojRefIdeal.defs (F := Ideal)) (onTc (τ := Cert.InprojRefIdeal.τ) (Cert.InprojRefIdeal.main (F := Ideal))) ⟨m, fun _ => 0, g⟩ (fun r => (∀ c : Dev Cert.InprojRefIdeal.nD,
      r.2.mem ((c.tc : Thread Cert.InprojRefIdeal.nD Cert.InprojRefIdeal.τ).loc Cert.InprojRefIdeal.main_arg0) = m ((c.tc : Thread Cert.InprojRefIdeal.nD Cert.InprojRefIdeal.τ).loc Cert.InprojRefIdeal.main_arg0)
      ∧ r.2.mem ((c.tc : Thread Cert.InprojRefIdeal.nD Cert.InprojRefIdeal.τ).loc Cert.InprojRefIdeal.main_arg1) = m ((c.tc : Thread Cert.InprojRefIdeal.nD Cert.InprojRefIdeal.τ).loc Cert.InprojRefIdeal.main_arg1)
      ∧ r.2.mem ((c.tc : Thread Cert.InprojRefIdeal.nD Cert.InprojRefIdeal.τ).loc Cert.InprojRefIdeal.main_arg2) = m ((c.tc : Thread Cert.InprojRefIdeal.nD Cert.InprojRefIdeal.τ).loc Cert.InprojRefIdeal.main_arg2)
      ∧ r.2.mem ((c.tc : Thread Cert.InprojRefIdeal.nD Cert.InprojRefIdeal.τ).loc Cert.InprojRefIdeal.main_arg3) = m ((c.tc : Thread Cert.InprojRefIdeal.nD Cert.InprojRefIdeal.τ).loc Cert.InprojRefIdeal.main_arg3)
      ∧ r.2.mem ((c.tc : Thread Cert.InprojRefIdeal.nD Cert.InprojRefIdeal.τ).loc Cert.InprojRefIdeal.main_arg4) = m ((c.tc : Thread Cert.InprojRefIdeal.nD Cert.InprojRefIdeal.τ).loc Cert.InprojRefIdeal.main_arg4)
      ∧ r.2.mem ((c.tc : Thread Cert.InprojRefIdeal.nD Cert.InprojRefIdeal.τ).loc Cert.InprojRefIdeal.main_arg5) = m ((c.tc : Thread Cert.InprojRefIdeal.nD Cert.InprojRefIdeal.τ).loc Cert.InprojRefIdeal.main_arg5)
      ∧ r.2.mem ((c.tc : Thread Cert.InprojRefIdeal.nD Cert.InprojRefIdeal.τ).loc Cert.InprojRefIdeal.main_arg6) = m ((c.tc : Thread Cert.InprojRefIdeal.nD Cert.InprojRefIdeal.τ).loc Cert.InprojRefIdeal.main_arg6)
      ∧ r.2.mem ((c.tc : Thread Cert.InprojRefIdeal.nD Cert.InprojRefIdeal.τ).loc Cert.InprojRefIdeal.main_arg7) = m ((c.tc : Thread Cert.InprojRefIdeal.nD Cert.InprojRefIdeal.τ).loc Cert.InprojRefIdeal.main_arg7)
      ∧ r.2.mem ((c.tc : Thread Cert.InprojRefIdeal.nD Cert.InprojRefIdeal.τ).loc Cert.InprojRefIdeal.main_arg8) = m ((c.tc : Thread Cert.InprojRefIdeal.nD Cert.InprojRefIdeal.τ).loc Cert.InprojRefIdeal.main_arg8)
      ∧ r.2.mem ((c.tc : Thread Cert.InprojRefIdeal.nD Cert.InprojRefIdeal.τ).loc Cert.InprojRefIdeal.main_arg9) = m ((c.tc : Thread Cert.InprojRefIdeal.nD Cert.InprojRefIdeal.τ).loc Cert.InprojRefIdeal.main_arg9)
      ∧ r.2.mem ((c.tc : Thread Cert.InprojRefIdeal.nD Cert.InprojRefIdeal.τ).loc Cert.InprojRefIdeal.main_arg10) = m ((c.tc : Thread Cert.InprojRefIdeal.nD Cert.InprojRefIdeal.τ).loc Cert.InprojRefIdeal.main_arg10)
      ∧ r.2.mem ((c.tc : Thread Cert.InprojRefIdeal.nD Cert.InprojRefIdeal.τ).loc Cert.InprojRefIdeal.main_arg11) = m ((c.tc : Thread Cert.InprojRefIdeal.nD Cert.InprojRefIdeal.τ).loc Cert.InprojRefIdeal.main_arg11)
      ∧ r.2.mem ((c.tc : Thread Cert.InprojRefIdeal.nD Cert.InprojRefIdeal.τ).loc Cert.InprojRefIdeal.main_arg12) = m ((c.tc : Thread Cert.InprojRefIdeal.nD Cert.InprojRefIdeal.τ).loc Cert.InprojRefIdeal.main_arg12)
      ∧ r.2.mem ((c.tc : Thread Cert.InprojRefIdeal.nD Cert.InprojRefIdeal.τ).loc Cert.InprojRefIdeal.main_arg13) = m ((c.tc : Thread Cert.InprojRefIdeal.nD Cert.InprojRefIdeal.τ).loc Cert.InprojRefIdeal.main_arg13)
      ∧ r.2.mem ((c.tc : Thread Cert.InprojRefIdeal.nD Cert.InprojRefIdeal.τ).loc Cert.InprojRefIdeal.main_arg14) = m ((c.tc : Thread Cert.InprojRefIdeal.nD Cert.InprojRefIdeal.τ).loc Cert.InprojRefIdeal.main_arg14)
      ∧ r.2.mem ((c.tc : Thread Cert.InprojRefIdeal.nD Cert.InprojRefIdeal.τ).loc Cert.InprojRefIdeal.main_arg15) = m ((c.tc : Thread Cert.InprojRefIdeal.nD Cert.InprojRefIdeal.τ).loc Cert.InprojRefIdeal.main_arg15))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8)
      ∧ r.2.mem ((c.tc : Thread Cert.Merge.nD Cert.Merge.τ).loc Cert.Merge.main_arg9) = m ((c.tc : Thread Cert.Merge.nD Cert.Merge.τ).loc Cert.Merge.main_arg9)
      ∧ r.2.mem ((c.tc : Thread Cert.Merge.nD Cert.Merge.τ).loc Cert.Merge.main_arg10) = m ((c.tc : Thread Cert.Merge.nD Cert.Merge.τ).loc Cert.Merge.main_arg10))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
      ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8)
      ∧ r.2.mem ((c.tc : Thread Cert.MergeRefIdeal.nD Cert.MergeRefIdeal.τ).loc Cert.MergeRefIdeal.main_arg9) = m ((c.tc : Thread Cert.MergeRefIdeal.nD Cert.MergeRefIdeal.τ).loc Cert.MergeRefIdeal.main_arg9)
      ∧ r.2.mem ((c.tc : Thread Cert.MergeRefIdeal.nD Cert.MergeRefIdeal.τ).loc Cert.MergeRefIdeal.main_arg10) = m ((c.tc : Thread Cert.MergeRefIdeal.nD Cert.MergeRefIdeal.τ).loc Cert.MergeRefIdeal.main_arg10))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5)
      ∧ r.2.mem ((c.tc : Thread Cert.Ffn.nD Cert.Ffn.τ).loc Cert.Ffn.main_arg6) = m ((c.tc : Thread Cert.Ffn.nD Cert.Ffn.τ).loc Cert.Ffn.main_arg6))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5)
      ∧ r.2.mem ((c.tc : Thread Cert.FfnRefIdeal.nD Cert.FfnRefIdeal.τ).loc Cert.FfnRefIdeal.main_arg6) = m ((c.tc : Thread Cert.FfnRefIdeal.nD Cert.FfnRefIdeal.τ).loc Cert.FfnRefIdeal.main_arg6))
      ∧ r.2.sem = fun _ => 0)

def preserves_Mla_MlaIdeal : Prop :=
  IdealRules.named_const.Statement Cert.MlaIdeal.κ "inv_dim" .f32 0x3C2AAAAB#32 ((1 / 96 : ℝ) : EReal)
  ∧ IdealRules.named_const.Statement Cert.MlaIdeal.κ "score_scale" .f32 0x3E16C740#32 (((Real.sqrt 96)⁻¹ * (Real.log 2)⁻¹ : ℝ) : EReal)

def algebraic_MlaIdeal_MlaRefIdeal_pre_mla_slots [hMlaIdeal : Cert.MlaIdeal.Facts] [hMlaRefIdeal : Cert.MlaRefIdeal.Facts] [hPre_mla_slots : Cert.Pre_mla_slots.Facts] : Prop :=
  ∀ (m : (ℓ : Loc Cert.MlaIdeal.nD Cert.MlaIdeal.τ Cert.MlaIdeal.sig) → Buf (Elt Ideal) ℓ) (g : Dev Cert.MlaIdeal.nD → PrngReg)
    (m' : (ℓ : Loc Cert.MlaRefIdeal.nD Cert.MlaRefIdeal.τ Cert.MlaRefIdeal.sig) → Buf (Elt Ideal) ℓ) (g' : Dev Cert.MlaRefIdeal.nD → PrngReg), Pre_MlaIdeal_mla_slots m →
    (∀ c : Dev Cert.MlaIdeal.nD,
      m' ((c.tc : Thread Cert.MlaRefIdeal.nD Cert.MlaRefIdeal.τ).loc Cert.MlaRefIdeal.main_arg0) = m ((c.tc : Thread Cert.MlaIdeal.nD Cert.MlaIdeal.τ).loc Cert.MlaIdeal.main_arg0)
      ∧ m' ((c.tc : Thread Cert.MlaRefIdeal.nD Cert.MlaRefIdeal.τ).loc Cert.MlaRefIdeal.main_arg1) = m ((c.tc : Thread Cert.MlaIdeal.nD Cert.MlaIdeal.τ).loc Cert.MlaIdeal.main_arg1)
      ∧ m' ((c.tc : Thread Cert.MlaRefIdeal.nD Cert.MlaRefIdeal.τ).loc Cert.MlaRefIdeal.main_arg2) = m ((c.tc : Thread Cert.MlaIdeal.nD Cert.MlaIdeal.τ).loc Cert.MlaIdeal.main_arg2)
      ∧ m' ((c.tc : Thread Cert.MlaRefIdeal.nD Cert.MlaRefIdeal.τ).loc Cert.MlaRefIdeal.main_arg3) = m ((c.tc : Thread Cert.MlaIdeal.nD Cert.MlaIdeal.τ).loc Cert.MlaIdeal.main_arg3)
      ∧ m' ((c.tc : Thread Cert.MlaRefIdeal.nD Cert.MlaRefIdeal.τ).loc Cert.MlaRefIdeal.main_arg4) = m ((c.tc : Thread Cert.MlaIdeal.nD Cert.MlaIdeal.τ).loc Cert.MlaIdeal.main_arg4)
      ∧ m' ((c.tc : Thread Cert.MlaRefIdeal.nD Cert.MlaRefIdeal.τ).loc Cert.MlaRefIdeal.main_arg5) = m ((c.tc : Thread Cert.MlaIdeal.nD Cert.MlaIdeal.τ).loc Cert.MlaIdeal.main_arg5)
      ∧ m' ((c.tc : Thread Cert.MlaRefIdeal.nD Cert.MlaRefIdeal.τ).loc Cert.MlaRefIdeal.main_arg6) = m ((c.tc : Thread Cert.MlaIdeal.nD Cert.MlaIdeal.τ).loc Cert.MlaIdeal.main_arg6)
      ∧ m' ((c.tc : Thread Cert.MlaRefIdeal.nD Cert.MlaRefIdeal.τ).loc Cert.MlaRefIdeal.main_arg7) = m ((c.tc : Thread Cert.MlaIdeal.nD Cert.MlaIdeal.τ).loc Cert.MlaIdeal.main_arg7)) →
    ∃ (v0 : (c : Dev Cert.MlaIdeal.nD) → Buf (Elt Ideal) ((c.tc : Thread Cert.MlaIdeal.nD Cert.MlaIdeal.τ).loc Cert.MlaIdeal.main_v73)),
      θ_run (Cert.MlaIdeal.defs (F := Ideal)) (onTc (τ := Cert.MlaIdeal.τ) (Cert.MlaIdeal.main (F := Ideal))) ⟨m, fun _ => 0, g⟩ (fun r => ∀ c : Dev Cert.MlaIdeal.nD,
          r.2.mem ((c.tc : Thread Cert.MlaIdeal.nD Cert.MlaIdeal.τ).loc Cert.MlaIdeal.main_v73) = v0 c
          ∧ r.2.mem ((c.tc : Thread Cert.MlaIdeal.nD Cert.MlaIdeal.τ).loc Cert.MlaIdeal.main_arg0) = m ((c.tc : Thread Cert.MlaIdeal.nD Cert.MlaIdeal.τ).loc Cert.MlaIdeal.main_arg0)
          ∧ r.2.mem ((c.tc : Thread Cert.MlaIdeal.nD Cert.MlaIdeal.τ).loc Cert.MlaIdeal.main_arg1) = m ((c.tc : Thread Cert.MlaIdeal.nD Cert.MlaIdeal.τ).loc Cert.MlaIdeal.main_arg1)
          ∧ r.2.mem ((c.tc : Thread Cert.MlaIdeal.nD Cert.MlaIdeal.τ).loc Cert.MlaIdeal.main_arg2) = m ((c.tc : Thread Cert.MlaIdeal.nD Cert.MlaIdeal.τ).loc Cert.MlaIdeal.main_arg2)
          ∧ r.2.mem ((c.tc : Thread Cert.MlaIdeal.nD Cert.MlaIdeal.τ).loc Cert.MlaIdeal.main_arg3) = m ((c.tc : Thread Cert.MlaIdeal.nD Cert.MlaIdeal.τ).loc Cert.MlaIdeal.main_arg3)
          ∧ r.2.mem ((c.tc : Thread Cert.MlaIdeal.nD Cert.MlaIdeal.τ).loc Cert.MlaIdeal.main_arg4) = m ((c.tc : Thread Cert.MlaIdeal.nD Cert.MlaIdeal.τ).loc Cert.MlaIdeal.main_arg4)
          ∧ r.2.mem ((c.tc : Thread Cert.MlaIdeal.nD Cert.MlaIdeal.τ).loc Cert.MlaIdeal.main_arg5) = m ((c.tc : Thread Cert.MlaIdeal.nD Cert.MlaIdeal.τ).loc Cert.MlaIdeal.main_arg5)
          ∧ r.2.mem ((c.tc : Thread Cert.MlaIdeal.nD Cert.MlaIdeal.τ).loc Cert.MlaIdeal.main_arg6) = m ((c.tc : Thread Cert.MlaIdeal.nD Cert.MlaIdeal.τ).loc Cert.MlaIdeal.main_arg6)
          ∧ r.2.mem ((c.tc : Thread Cert.MlaIdeal.nD Cert.MlaIdeal.τ).loc Cert.MlaIdeal.main_arg7) = m ((c.tc : Thread Cert.MlaIdeal.nD Cert.MlaIdeal.τ).loc Cert.MlaIdeal.main_arg7))
      ∧ θ_run (Cert.MlaRefIdeal.defs (F := Ideal)) (onTc (τ := Cert.MlaRefIdeal.τ) (Cert.MlaRefIdeal.main (F := Ideal))) ⟨m', fun _ => 0, g'⟩ (fun r => ∀ c : Dev Cert.MlaRefIdeal.nD,
          r.2.mem ((c.tc : Thread Cert.MlaRefIdeal.nD Cert.MlaRefIdeal.τ).loc Cert.MlaRefIdeal.main_v72) = v0 c
          ∧ r.2.mem ((c.tc : Thread Cert.MlaRefIdeal.nD Cert.MlaRefIdeal.τ).loc Cert.MlaRefIdeal.main_arg0) = m' ((c.tc : Thread Cert.MlaRefIdeal.nD Cert.MlaRefIdeal.τ).loc Cert.MlaRefIdeal.main_arg0)
          ∧ r.2.mem ((c.tc : Thread Cert.MlaRefIdeal.nD Cert.MlaRefIdeal.τ).loc Cert.MlaRefIdeal.main_arg1) = m' ((c.tc : Thread Cert.MlaRefIdeal.nD Cert.MlaRefIdeal.τ).loc Cert.MlaRefIdeal.main_arg1)
          ∧ r.2.mem ((c.tc : Thread Cert.MlaRefIdeal.nD Cert.MlaRefIdeal.τ).loc Cert.MlaRefIdeal.main_arg2) = m' ((c.tc : Thread Cert.MlaRefIdeal.nD Cert.MlaRefIdeal.τ).loc Cert.MlaRefIdeal.main_arg2)
          ∧ r.2.mem ((c.tc : Thread Cert.MlaRefIdeal.nD Cert.MlaRefIdeal.τ).loc Cert.MlaRefIdeal.main_arg3) = m' ((c.tc : Thread Cert.MlaRefIdeal.nD Cert.MlaRefIdeal.τ).loc Cert.MlaRefIdeal.main_arg3)
          ∧ r.2.mem ((c.tc : Thread Cert.MlaRefIdeal.nD Cert.MlaRefIdeal.τ).loc Cert.MlaRefIdeal.main_arg4) = m' ((c.tc : Thread Cert.MlaRefIdeal.nD Cert.MlaRefIdeal.τ).loc Cert.MlaRefIdeal.main_arg4)
          ∧ r.2.mem ((c.tc : Thread Cert.MlaRefIdeal.nD Cert.MlaRefIdeal.τ).loc Cert.MlaRefIdeal.main_arg5) = m' ((c.tc : Thread Cert.MlaRefIdeal.nD Cert.MlaRefIdeal.τ).loc Cert.MlaRefIdeal.main_arg5)
          ∧ r.2.mem ((c.tc : Thread Cert.MlaRefIdeal.nD Cert.MlaRefIdeal.τ).loc Cert.MlaRefIdeal.main_arg6) = m' ((c.tc : Thread Cert.MlaRefIdeal.nD Cert.MlaRefIdeal.τ).loc Cert.MlaRefIdeal.main_arg6)
          ∧ r.2.mem ((c.tc : Thread Cert.MlaRefIdeal.nD Cert.MlaRefIdeal.τ).loc Cert.MlaRefIdeal.main_arg7) = m' ((c.tc : Thread Cert.MlaRefIdeal.nD Cert.MlaRefIdeal.τ).loc Cert.MlaRefIdeal.main_arg7))

def preserves_Gqa_GqaIdeal : Prop :=
  IdealRules.named_const.Statement Cert.GqaIdeal.κ "score_scale" .f32 0x3E38AA3B#32 (((1 / 8) * (Real.log 2)⁻¹ : ℝ) : EReal)

def algebraic_GqaIdeal_GqaRefIdeal_pre_gqa_slots [hGqaIdeal : Cert.GqaIdeal.Facts] [hGqaRefIdeal : Cert.GqaRefIdeal.Facts] [hPre_gqa_slots : Cert.Pre_gqa_slots.Facts] : Prop :=
  ∀ (m : (ℓ : Loc Cert.GqaIdeal.nD Cert.GqaIdeal.τ Cert.GqaIdeal.sig) → Buf (Elt Ideal) ℓ) (g : Dev Cert.GqaIdeal.nD → PrngReg)
    (m' : (ℓ : Loc Cert.GqaRefIdeal.nD Cert.GqaRefIdeal.τ Cert.GqaRefIdeal.sig) → Buf (Elt Ideal) ℓ) (g' : Dev Cert.GqaRefIdeal.nD → PrngReg), Pre_GqaIdeal_gqa_slots m →
    (∀ c : Dev Cert.GqaIdeal.nD,
      m' ((c.tc : Thread Cert.GqaRefIdeal.nD Cert.GqaRefIdeal.τ).loc Cert.GqaRefIdeal.main_arg0) = m ((c.tc : Thread Cert.GqaIdeal.nD Cert.GqaIdeal.τ).loc Cert.GqaIdeal.main_arg0)
      ∧ m' ((c.tc : Thread Cert.GqaRefIdeal.nD Cert.GqaRefIdeal.τ).loc Cert.GqaRefIdeal.main_arg1) = m ((c.tc : Thread Cert.GqaIdeal.nD Cert.GqaIdeal.τ).loc Cert.GqaIdeal.main_arg1)
      ∧ m' ((c.tc : Thread Cert.GqaRefIdeal.nD Cert.GqaRefIdeal.τ).loc Cert.GqaRefIdeal.main_arg2) = m ((c.tc : Thread Cert.GqaIdeal.nD Cert.GqaIdeal.τ).loc Cert.GqaIdeal.main_arg2)
      ∧ m' ((c.tc : Thread Cert.GqaRefIdeal.nD Cert.GqaRefIdeal.τ).loc Cert.GqaRefIdeal.main_arg3) = m ((c.tc : Thread Cert.GqaIdeal.nD Cert.GqaIdeal.τ).loc Cert.GqaIdeal.main_arg3)
      ∧ m' ((c.tc : Thread Cert.GqaRefIdeal.nD Cert.GqaRefIdeal.τ).loc Cert.GqaRefIdeal.main_arg4) = m ((c.tc : Thread Cert.GqaIdeal.nD Cert.GqaIdeal.τ).loc Cert.GqaIdeal.main_arg4)
      ∧ m' ((c.tc : Thread Cert.GqaRefIdeal.nD Cert.GqaRefIdeal.τ).loc Cert.GqaRefIdeal.main_arg5) = m ((c.tc : Thread Cert.GqaIdeal.nD Cert.GqaIdeal.τ).loc Cert.GqaIdeal.main_arg5)
      ∧ m' ((c.tc : Thread Cert.GqaRefIdeal.nD Cert.GqaRefIdeal.τ).loc Cert.GqaRefIdeal.main_arg6) = m ((c.tc : Thread Cert.GqaIdeal.nD Cert.GqaIdeal.τ).loc Cert.GqaIdeal.main_arg6)
      ∧ m' ((c.tc : Thread Cert.GqaRefIdeal.nD Cert.GqaRefIdeal.τ).loc Cert.GqaRefIdeal.main_arg7) = m ((c.tc : Thread Cert.GqaIdeal.nD Cert.GqaIdeal.τ).loc Cert.GqaIdeal.main_arg7)) →
    ∃ (v0 : (c : Dev Cert.GqaIdeal.nD) → Buf (Elt Ideal) ((c.tc : Thread Cert.GqaIdeal.nD Cert.GqaIdeal.τ).loc Cert.GqaIdeal.main_v53)),
      θ_run (Cert.GqaIdeal.defs (F := Ideal)) (onTc (τ := Cert.GqaIdeal.τ) (Cert.GqaIdeal.main (F := Ideal))) ⟨m, fun _ => 0, g⟩ (fun r => ∀ c : Dev Cert.GqaIdeal.nD,
          r.2.mem ((c.tc : Thread Cert.GqaIdeal.nD Cert.GqaIdeal.τ).loc Cert.GqaIdeal.main_v53) = v0 c
          ∧ r.2.mem ((c.tc : Thread Cert.GqaIdeal.nD Cert.GqaIdeal.τ).loc Cert.GqaIdeal.main_arg0) = m ((c.tc : Thread Cert.GqaIdeal.nD Cert.GqaIdeal.τ).loc Cert.GqaIdeal.main_arg0)
          ∧ r.2.mem ((c.tc : Thread Cert.GqaIdeal.nD Cert.GqaIdeal.τ).loc Cert.GqaIdeal.main_arg1) = m ((c.tc : Thread Cert.GqaIdeal.nD Cert.GqaIdeal.τ).loc Cert.GqaIdeal.main_arg1)
          ∧ r.2.mem ((c.tc : Thread Cert.GqaIdeal.nD Cert.GqaIdeal.τ).loc Cert.GqaIdeal.main_arg2) = m ((c.tc : Thread Cert.GqaIdeal.nD Cert.GqaIdeal.τ).loc Cert.GqaIdeal.main_arg2)
          ∧ r.2.mem ((c.tc : Thread Cert.GqaIdeal.nD Cert.GqaIdeal.τ).loc Cert.GqaIdeal.main_arg3) = m ((c.tc : Thread Cert.GqaIdeal.nD Cert.GqaIdeal.τ).loc Cert.GqaIdeal.main_arg3)
          ∧ r.2.mem ((c.tc : Thread Cert.GqaIdeal.nD Cert.GqaIdeal.τ).loc Cert.GqaIdeal.main_arg4) = m ((c.tc : Thread Cert.GqaIdeal.nD Cert.GqaIdeal.τ).loc Cert.GqaIdeal.main_arg4)
          ∧ r.2.mem ((c.tc : Thread Cert.GqaIdeal.nD Cert.GqaIdeal.τ).loc Cert.GqaIdeal.main_arg5) = m ((c.tc : Thread Cert.GqaIdeal.nD Cert.GqaIdeal.τ).loc Cert.GqaIdeal.main_arg5)
          ∧ r.2.mem ((c.tc : Thread Cert.GqaIdeal.nD Cert.GqaIdeal.τ).loc Cert.GqaIdeal.main_arg6) = m ((c.tc : Thread Cert.GqaIdeal.nD Cert.GqaIdeal.τ).loc Cert.GqaIdeal.main_arg6)
          ∧ r.2.mem ((c.tc : Thread Cert.GqaIdeal.nD Cert.GqaIdeal.τ).loc Cert.GqaIdeal.main_arg7) = m ((c.tc : Thread Cert.GqaIdeal.nD Cert.GqaIdeal.τ).loc Cert.GqaIdeal.main_arg7))
      ∧ θ_run (Cert.GqaRefIdeal.defs (F := Ideal)) (onTc (τ := Cert.GqaRefIdeal.τ) (Cert.GqaRefIdeal.main (F := Ideal))) ⟨m', fun _ => 0, g'⟩ (fun r => ∀ c : Dev Cert.GqaRefIdeal.nD,
          r.2.mem ((c.tc : Thread Cert.GqaRefIdeal.nD Cert.GqaRefIdeal.τ).loc Cert.GqaRefIdeal.main_v68) = v0 c
          ∧ r.2.mem ((c.tc : Thread Cert.GqaRefIdeal.nD Cert.GqaRefIdeal.τ).loc Cert.GqaRefIdeal.main_arg0) = m' ((c.tc : Thread Cert.GqaRefIdeal.nD Cert.GqaRefIdeal.τ).loc Cert.GqaRefIdeal.main_arg0)
          ∧ r.2.mem ((c.tc : Thread Cert.GqaRefIdeal.nD Cert.GqaRefIdeal.τ).loc Cert.GqaRefIdeal.main_arg1) = m' ((c.tc : Thread Cert.GqaRefIdeal.nD Cert.GqaRefIdeal.τ).loc Cert.GqaRefIdeal.main_arg1)
          ∧ r.2.mem ((c.tc : Thread Cert.GqaRefIdeal.nD Cert.GqaRefIdeal.τ).loc Cert.GqaRefIdeal.main_arg2) = m' ((c.tc : Thread Cert.GqaRefIdeal.nD Cert.GqaRefIdeal.τ).loc Cert.GqaRefIdeal.main_arg2)
          ∧ r.2.mem ((c.tc : Thread Cert.GqaRefIdeal.nD Cert.GqaRefIdeal.τ).loc Cert.GqaRefIdeal.main_arg3) = m' ((c.tc : Thread Cert.GqaRefIdeal.nD Cert.GqaRefIdeal.τ).loc Cert.GqaRefIdeal.main_arg3)
          ∧ r.2.mem ((c.tc : Thread Cert.GqaRefIdeal.nD Cert.GqaRefIdeal.τ).loc Cert.GqaRefIdeal.main_arg4) = m' ((c.tc : Thread Cert.GqaRefIdeal.nD Cert.GqaRefIdeal.τ).loc Cert.GqaRefIdeal.main_arg4)
          ∧ r.2.mem ((c.tc : Thread Cert.GqaRefIdeal.nD Cert.GqaRefIdeal.τ).loc Cert.GqaRefIdeal.main_arg5) = m' ((c.tc : Thread Cert.GqaRefIdeal.nD Cert.GqaRefIdeal.τ).loc Cert.GqaRefIdeal.main_arg5)
          ∧ r.2.mem ((c.tc : Thread Cert.GqaRefIdeal.nD Cert.GqaRefIdeal.τ).loc Cert.GqaRefIdeal.main_arg6) = m' ((c.tc : Thread Cert.GqaRefIdeal.nD Cert.GqaRefIdeal.τ).loc Cert.GqaRefIdeal.main_arg6)
          ∧ r.2.mem ((c.tc : Thread Cert.GqaRefIdeal.nD Cert.GqaRefIdeal.τ).loc Cert.GqaRefIdeal.main_arg7) = m' ((c.tc : Thread Cert.GqaRefIdeal.nD Cert.GqaRefIdeal.τ).loc Cert.GqaRefIdeal.main_arg7))

def preserves_Inproj_InprojIdeal : Prop :=
  IdealRules.named_const.Statement Cert.InprojIdeal.κ "inv_dim" .f32 0x3C2AAAAB#32 ((1 / 96 : ℝ) : EReal)
  ∧ IdealRules.named_const.Statement Cert.InprojIdeal.κ "inv_rank" .f32 0x3B2AAAAB#32 ((1 / 384 : ℝ) : EReal)

def algebraic_InprojIdeal_InprojRefIdeal [hInprojIdeal : Cert.InprojIdeal.Facts] [hInprojRefIdeal : Cert.InprojRefIdeal.Facts] : Prop :=
  ∀ (m : (ℓ : Loc Cert.InprojIdeal.nD Cert.InprojIdeal.τ Cert.InprojIdeal.sig) → Buf (Elt Ideal) ℓ) (g : Dev Cert.InprojIdeal.nD → PrngReg)
    (m' : (ℓ : Loc Cert.InprojRefIdeal.nD Cert.InprojRefIdeal.τ Cert.InprojRefIdeal.sig) → Buf (Elt Ideal) ℓ) (g' : Dev Cert.InprojRefIdeal.nD → PrngReg), Pre_InprojIdeal m →
    (∀ c : Dev Cert.InprojIdeal.nD,
      m' ((c.tc : Thread Cert.InprojRefIdeal.nD Cert.InprojRefIdeal.τ).loc Cert.InprojRefIdeal.main_arg0) = m ((c.tc : Thread Cert.InprojIdeal.nD Cert.InprojIdeal.τ).loc Cert.InprojIdeal.main_arg0)
      ∧ m' ((c.tc : Thread Cert.InprojRefIdeal.nD Cert.InprojRefIdeal.τ).loc Cert.InprojRefIdeal.main_arg1) = m ((c.tc : Thread Cert.InprojIdeal.nD Cert.InprojIdeal.τ).loc Cert.InprojIdeal.main_arg1)
      ∧ m' ((c.tc : Thread Cert.InprojRefIdeal.nD Cert.InprojRefIdeal.τ).loc Cert.InprojRefIdeal.main_arg2) = m ((c.tc : Thread Cert.InprojIdeal.nD Cert.InprojIdeal.τ).loc Cert.InprojIdeal.main_arg2)
      ∧ m' ((c.tc : Thread Cert.InprojRefIdeal.nD Cert.InprojRefIdeal.τ).loc Cert.InprojRefIdeal.main_arg3) = m ((c.tc : Thread Cert.InprojIdeal.nD Cert.InprojIdeal.τ).loc Cert.InprojIdeal.main_arg3)
      ∧ m' ((c.tc : Thread Cert.InprojRefIdeal.nD Cert.InprojRefIdeal.τ).loc Cert.InprojRefIdeal.main_arg4) = m ((c.tc : Thread Cert.InprojIdeal.nD Cert.InprojIdeal.τ).loc Cert.InprojIdeal.main_arg4)
      ∧ m' ((c.tc : Thread Cert.InprojRefIdeal.nD Cert.InprojRefIdeal.τ).loc Cert.InprojRefIdeal.main_arg5) = m ((c.tc : Thread Cert.InprojIdeal.nD Cert.InprojIdeal.τ).loc Cert.InprojIdeal.main_arg5)
      ∧ m' ((c.tc : Thread Cert.InprojRefIdeal.nD Cert.InprojRefIdeal.τ).loc Cert.InprojRefIdeal.main_arg6) = m ((c.tc : Thread Cert.InprojIdeal.nD Cert.InprojIdeal.τ).loc Cert.InprojIdeal.main_arg6)
      ∧ m' ((c.tc : Thread Cert.InprojRefIdeal.nD Cert.InprojRefIdeal.τ).loc Cert.InprojRefIdeal.main_arg7) = m ((c.tc : Thread Cert.InprojIdeal.nD Cert.InprojIdeal.τ).loc Cert.InprojIdeal.main_arg7)
      ∧ m' ((c.tc : Thread Cert.InprojRefIdeal.nD Cert.InprojRefIdeal.τ).loc Cert.InprojRefIdeal.main_arg8) = m ((c.tc : Thread Cert.InprojIdeal.nD Cert.InprojIdeal.τ).loc Cert.InprojIdeal.main_arg8)
      ∧ m' ((c.tc : Thread Cert.InprojRefIdeal.nD Cert.InprojRefIdeal.τ).loc Cert.InprojRefIdeal.main_arg9) = m ((c.tc : Thread Cert.InprojIdeal.nD Cert.InprojIdeal.τ).loc Cert.InprojIdeal.main_arg9)
      ∧ m' ((c.tc : Thread Cert.InprojRefIdeal.nD Cert.InprojRefIdeal.τ).loc Cert.InprojRefIdeal.main_arg10) = m ((c.tc : Thread Cert.InprojIdeal.nD Cert.InprojIdeal.τ).loc Cert.InprojIdeal.main_arg10)
      ∧ m' ((c.tc : Thread Cert.InprojRefIdeal.nD Cert.InprojRefIdeal.τ).loc Cert.InprojRefIdeal.main_arg11) = m ((c.tc : Thread Cert.InprojIdeal.nD Cert.InprojIdeal.τ).loc Cert.InprojIdeal.main_arg11)
      ∧ m' ((c.tc : Thread Cert.InprojRefIdeal.nD Cert.InprojRefIdeal.τ).loc Cert.InprojRefIdeal.main_arg12) = m ((c.tc : Thread Cert.InprojIdeal.nD Cert.InprojIdeal.τ).loc Cert.InprojIdeal.main_arg12)
      ∧ m' ((c.tc : Thread Cert.InprojRefIdeal.nD Cert.InprojRefIdeal.τ).loc Cert.InprojRefIdeal.main_arg13) = m ((c.tc : Thread Cert.InprojIdeal.nD Cert.InprojIdeal.τ).loc Cert.InprojIdeal.main_arg13)
      ∧ m' ((c.tc : Thread Cert.InprojRefIdeal.nD Cert.InprojRefIdeal.τ).loc Cert.InprojRefIdeal.main_arg14) = m ((c.tc : Thread Cert.InprojIdeal.nD Cert.InprojIdeal.τ).loc Cert.InprojIdeal.main_arg14)
      ∧ m' ((c.tc : Thread Cert.InprojRefIdeal.nD Cert.InprojRefIdeal.τ).loc Cert.InprojRefIdeal.main_arg15) = m ((c.tc : Thread Cert.InprojIdeal.nD Cert.InprojIdeal.τ).loc Cert.InprojIdeal.main_arg15)) →
    ∃ (v0 : (c : Dev Cert.InprojIdeal.nD) → Buf (Elt Ideal) ((c.tc : Thread Cert.InprojIdeal.nD Cert.InprojIdeal.τ).loc Cert.InprojIdeal.main_v128_0)) (v1 : (c : Dev Cert.InprojIdeal.nD) → Buf (Elt Ideal) ((c.tc : Thread Cert.InprojIdeal.nD Cert.InprojIdeal.τ).loc Cert.InprojIdeal.main_v128_1)) (v2 : (c : Dev Cert.InprojIdeal.nD) → Buf (Elt Ideal) ((c.tc : Thread Cert.InprojIdeal.nD Cert.InprojIdeal.τ).loc Cert.InprojIdeal.main_v128_2)) (v3 : (c : Dev Cert.InprojIdeal.nD) → Buf (Elt Ideal) ((c.tc : Thread Cert.InprojIdeal.nD Cert.InprojIdeal.τ).loc Cert.InprojIdeal.main_v128_3)) (v4 : (c : Dev Cert.InprojIdeal.nD) → Buf (Elt Ideal) ((c.tc : Thread Cert.InprojIdeal.nD Cert.InprojIdeal.τ).loc Cert.InprojIdeal.main_v128_4)) (v5 : (c : Dev Cert.InprojIdeal.nD) → Buf (Elt Ideal) ((c.tc : Thread Cert.InprojIdeal.nD Cert.InprojIdeal.τ).loc Cert.InprojIdeal.main_v128_5)) (v6 : (c : Dev Cert.InprojIdeal.nD) → Buf (Elt Ideal) ((c.tc : Thread Cert.InprojIdeal.nD Cert.InprojIdeal.τ).loc Cert.InprojIdeal.main_v128_6)),
      θ_run (Cert.InprojIdeal.defs (F := Ideal)) (onTc (τ := Cert.InprojIdeal.τ) (Cert.InprojIdeal.main (F := Ideal))) ⟨m, fun _ => 0, g⟩ (fun r => ∀ c : Dev Cert.InprojIdeal.nD,
          r.2.mem ((c.tc : Thread Cert.InprojIdeal.nD Cert.InprojIdeal.τ).loc Cert.InprojIdeal.main_v128_0) = v0 c
          ∧ r.2.mem ((c.tc : Thread Cert.InprojIdeal.nD Cert.InprojIdeal.τ).loc Cert.InprojIdeal.main_v128_1) = v1 c
          ∧ r.2.mem ((c.tc : Thread Cert.InprojIdeal.nD Cert.InprojIdeal.τ).loc Cert.InprojIdeal.main_v128_2) = v2 c
          ∧ r.2.mem ((c.tc : Thread Cert.InprojIdeal.nD Cert.InprojIdeal.τ).loc Cert.InprojIdeal.main_v128_3) = v3 c
          ∧ r.2.mem ((c.tc : Thread Cert.InprojIdeal.nD Cert.InprojIdeal.τ).loc Cert.InprojIdeal.main_v128_4) = v4 c
          ∧ r.2.mem ((c.tc : Thread Cert.InprojIdeal.nD Cert.InprojIdeal.τ).loc Cert.InprojIdeal.main_v128_5) = v5 c
          ∧ r.2.mem ((c.tc : Thread Cert.InprojIdeal.nD Cert.InprojIdeal.τ).loc Cert.InprojIdeal.main_v128_6) = v6 c
          ∧ r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
          ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
          ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
          ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3)
          ∧ r.2.mem ((c.tc : Thread Cert.InprojIdeal.nD Cert.InprojIdeal.τ).loc Cert.InprojIdeal.main_arg4) = m ((c.tc : Thread Cert.InprojIdeal.nD Cert.InprojIdeal.τ).loc Cert.InprojIdeal.main_arg4)
          ∧ r.2.mem ((c.tc : Thread Cert.InprojIdeal.nD Cert.InprojIdeal.τ).loc Cert.InprojIdeal.main_arg5) = m ((c.tc : Thread Cert.InprojIdeal.nD Cert.InprojIdeal.τ).loc Cert.InprojIdeal.main_arg5)
          ∧ r.2.mem ((c.tc : Thread Cert.InprojIdeal.nD Cert.InprojIdeal.τ).loc Cert.InprojIdeal.main_arg6) = m ((c.tc : Thread Cert.InprojIdeal.nD Cert.InprojIdeal.τ).loc Cert.InprojIdeal.main_arg6)
          ∧ r.2.mem ((c.tc : Thread Cert.InprojIdeal.nD Cert.InprojIdeal.τ).loc Cert.InprojIdeal.main_arg7) = m ((c.tc : Thread Cert.InprojIdeal.nD Cert.InprojIdeal.τ).loc Cert.InprojIdeal.main_arg7)
          ∧ r.2.mem ((c.tc : Thread Cert.InprojIdeal.nD Cert.InprojIdeal.τ).loc Cert.InprojIdeal.main_arg8) = m ((c.tc : Thread Cert.InprojIdeal.nD Cert.InprojIdeal.τ).loc Cert.InprojIdeal.main_arg8)
          ∧ r.2.mem ((c.tc : Thread Cert.InprojIdeal.nD Cert.InprojIdeal.τ).loc Cert.InprojIdeal.main_arg9) = m ((c.tc : Thread Cert.InprojIdeal.nD Cert.InprojIdeal.τ).loc Cert.InprojIdeal.main_arg9)
          ∧ r.2.mem ((c.tc : Thread Cert.InprojIdeal.nD Cert.InprojIdeal.τ).loc Cert.InprojIdeal.main_arg10) = m ((c.tc : Thread Cert.InprojIdeal.nD Cert.InprojIdeal.τ).loc Cert.InprojIdeal.main_arg10)
          ∧ r.2.mem ((c.tc : Thread Cert.InprojIdeal.nD Cert.InprojIdeal.τ).loc Cert.InprojIdeal.main_arg11) = m ((c.tc : Thread Cert.InprojIdeal.nD Cert.InprojIdeal.τ).loc Cert.InprojIdeal.main_arg11)
          ∧ r.2.mem ((c.tc : Thread Cert.InprojIdeal.nD Cert.InprojIdeal.τ).loc Cert.InprojIdeal.main_arg12) = m ((c.tc : Thread Cert.InprojIdeal.nD Cert.InprojIdeal.τ).loc Cert.InprojIdeal.main_arg12)
          ∧ r.2.mem ((c.tc : Thread Cert.InprojIdeal.nD Cert.InprojIdeal.τ).loc Cert.InprojIdeal.main_arg13) = m ((c.tc : Thread Cert.InprojIdeal.nD Cert.InprojIdeal.τ).loc Cert.InprojIdeal.main_arg13)
          ∧ r.2.mem ((c.tc : Thread Cert.InprojIdeal.nD Cert.InprojIdeal.τ).loc Cert.InprojIdeal.main_arg14) = m ((c.tc : Thread Cert.InprojIdeal.nD Cert.InprojIdeal.τ).loc Cert.InprojIdeal.main_arg14)
          ∧ r.2.mem ((c.tc : Thread Cert.InprojIdeal.nD Cert.InprojIdeal.τ).loc Cert.InprojIdeal.main_arg15) = m ((c.tc : Thread Cert.InprojIdeal.nD Cert.InprojIdeal.τ).loc Cert.InprojIdeal.main_arg15))
      ∧ θ_run (Cert.InprojRefIdeal.defs (F := Ideal)) (onTc (τ := Cert.InprojRefIdeal.τ) (Cert.InprojRefIdeal.main (F := Ideal))) ⟨m', fun _ => 0, g'⟩ (fun r => ∀ c : Dev Cert.InprojRefIdeal.nD,
          r.2.mem ((c.tc : Thread Cert.InprojRefIdeal.nD Cert.InprojRefIdeal.τ).loc Cert.InprojRefIdeal.main_v164) = v0 c
          ∧ r.2.mem ((c.tc : Thread Cert.InprojRefIdeal.nD Cert.InprojRefIdeal.τ).loc Cert.InprojRefIdeal.main_v169) = v1 c
          ∧ r.2.mem ((c.tc : Thread Cert.InprojRefIdeal.nD Cert.InprojRefIdeal.τ).loc Cert.InprojRefIdeal.main_v177) = v2 c
          ∧ r.2.mem ((c.tc : Thread Cert.InprojRefIdeal.nD Cert.InprojRefIdeal.τ).loc Cert.InprojRefIdeal.main_v182) = v3 c
          ∧ r.2.mem ((c.tc : Thread Cert.InprojRefIdeal.nD Cert.InprojRefIdeal.τ).loc Cert.InprojRefIdeal.main_v186) = v4 c
          ∧ r.2.mem ((c.tc : Thread Cert.InprojRefIdeal.nD Cert.InprojRefIdeal.τ).loc Cert.InprojRefIdeal.main_v189) = v5 c
          ∧ r.2.mem ((c.tc : Thread Cert.InprojRefIdeal.nD Cert.InprojRefIdeal.τ).loc Cert.InprojRefIdeal.main_v39) = v6 c
          ∧ r.2.mem ((c.tc : Thread Cert.InprojRefIdeal.nD Cert.InprojRefIdeal.τ).loc Cert.InprojRefIdeal.main_arg0) = m' ((c.tc : Thread Cert.InprojRefIdeal.nD Cert.InprojRefIdeal.τ).loc Cert.InprojRefIdeal.main_arg0)
          ∧ r.2.mem ((c.tc : Thread Cert.InprojRefIdeal.nD Cert.InprojRefIdeal.τ).loc Cert.InprojRefIdeal.main_arg1) = m' ((c.tc : Thread Cert.InprojRefIdeal.nD Cert.InprojRefIdeal.τ).loc Cert.InprojRefIdeal.main_arg1)
          ∧ r.2.mem ((c.tc : Thread Cert.InprojRefIdeal.nD Cert.InprojRefIdeal.τ).loc Cert.InprojRefIdeal.main_arg2) = m' ((c.tc : Thread Cert.InprojRefIdeal.nD Cert.InprojRefIdeal.τ).loc Cert.InprojRefIdeal.main_arg2)
          ∧ r.2.mem ((c.tc : Thread Cert.InprojRefIdeal.nD Cert.InprojRefIdeal.τ).loc Cert.InprojRefIdeal.main_arg3) = m' ((c.tc : Thread Cert.InprojRefIdeal.nD Cert.InprojRefIdeal.τ).loc Cert.InprojRefIdeal.main_arg3)
          ∧ r.2.mem ((c.tc : Thread Cert.InprojRefIdeal.nD Cert.InprojRefIdeal.τ).loc Cert.InprojRefIdeal.main_arg4) = m' ((c.tc : Thread Cert.InprojRefIdeal.nD Cert.InprojRefIdeal.τ).loc Cert.InprojRefIdeal.main_arg4)
          ∧ r.2.mem ((c.tc : Thread Cert.InprojRefIdeal.nD Cert.InprojRefIdeal.τ).loc Cert.InprojRefIdeal.main_arg5) = m' ((c.tc : Thread Cert.InprojRefIdeal.nD Cert.InprojRefIdeal.τ).loc Cert.InprojRefIdeal.main_arg5)
          ∧ r.2.mem ((c.tc : Thread Cert.InprojRefIdeal.nD Cert.InprojRefIdeal.τ).loc Cert.InprojRefIdeal.main_arg6) = m' ((c.tc : Thread Cert.InprojRefIdeal.nD Cert.InprojRefIdeal.τ).loc Cert.InprojRefIdeal.main_arg6)
          ∧ r.2.mem ((c.tc : Thread Cert.InprojRefIdeal.nD Cert.InprojRefIdeal.τ).loc Cert.InprojRefIdeal.main_arg7) = m' ((c.tc : Thread Cert.InprojRefIdeal.nD Cert.InprojRefIdeal.τ).loc Cert.InprojRefIdeal.main_arg7)
          ∧ r.2.mem ((c.tc : Thread Cert.InprojRefIdeal.nD Cert.InprojRefIdeal.τ).loc Cert.InprojRefIdeal.main_arg8) = m' ((c.tc : Thread Cert.InprojRefIdeal.nD Cert.InprojRefIdeal.τ).loc Cert.InprojRefIdeal.main_arg8)
          ∧ r.2.mem ((c.tc : Thread Cert.InprojRefIdeal.nD Cert.InprojRefIdeal.τ).loc Cert.InprojRefIdeal.main_arg9) = m' ((c.tc : Thread Cert.InprojRefIdeal.nD Cert.InprojRefIdeal.τ).loc Cert.InprojRefIdeal.main_arg9)
          ∧ r.2.mem ((c.tc : Thread Cert.InprojRefIdeal.nD Cert.InprojRefIdeal.τ).loc Cert.InprojRefIdeal.main_arg10) = m' ((c.tc : Thread Cert.InprojRefIdeal.nD Cert.InprojRefIdeal.τ).loc Cert.InprojRefIdeal.main_arg10)
          ∧ r.2.mem ((c.tc : Thread Cert.InprojRefIdeal.nD Cert.InprojRefIdeal.τ).loc Cert.InprojRefIdeal.main_arg11) = m' ((c.tc : Thread Cert.InprojRefIdeal.nD Cert.InprojRefIdeal.τ).loc Cert.InprojRefIdeal.main_arg11)
          ∧ r.2.mem ((c.tc : Thread Cert.InprojRefIdeal.nD Cert.InprojRefIdeal.τ).loc Cert.InprojRefIdeal.main_arg12) = m' ((c.tc : Thread Cert.InprojRefIdeal.nD Cert.InprojRefIdeal.τ).loc Cert.InprojRefIdeal.main_arg12)
          ∧ r.2.mem ((c.tc : Thread Cert.InprojRefIdeal.nD Cert.InprojRefIdeal.τ).loc Cert.InprojRefIdeal.main_arg13) = m' ((c.tc : Thread Cert.InprojRefIdeal.nD Cert.InprojRefIdeal.τ).loc Cert.InprojRefIdeal.main_arg13)
          ∧ r.2.mem ((c.tc : Thread Cert.InprojRefIdeal.nD Cert.InprojRefIdeal.τ).loc Cert.InprojRefIdeal.main_arg14) = m' ((c.tc : Thread Cert.InprojRefIdeal.nD Cert.InprojRefIdeal.τ).loc Cert.InprojRefIdeal.main_arg14)
          ∧ r.2.mem ((c.tc : Thread Cert.InprojRefIdeal.nD Cert.InprojRefIdeal.τ).loc Cert.InprojRefIdeal.main_arg15) = m' ((c.tc : Thread Cert.InprojRefIdeal.nD Cert.InprojRefIdeal.τ).loc Cert.InprojRefIdeal.main_arg15))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)
      ∧ m' ((c.tc : Thread Cert.MergeRefIdeal.nD Cert.MergeRefIdeal.τ).loc Cert.MergeRefIdeal.main_arg8) = m ((c.tc : Thread Cert.MergeIdeal.nD Cert.MergeIdeal.τ).loc Cert.MergeIdeal.main_arg8)
      ∧ m' ((c.tc : Thread Cert.MergeRefIdeal.nD Cert.MergeRefIdeal.τ).loc Cert.MergeRefIdeal.main_arg9) = m ((c.tc : Thread Cert.MergeIdeal.nD Cert.MergeIdeal.τ).loc Cert.MergeIdeal.main_arg9)
      ∧ m' ((c.tc : Thread Cert.MergeRefIdeal.nD Cert.MergeRefIdeal.τ).loc Cert.MergeRefIdeal.main_arg10) = m ((c.tc : Thread Cert.MergeIdeal.nD Cert.MergeIdeal.τ).loc Cert.MergeIdeal.main_arg10)) →
    ∃ (v0 : (c : Dev Cert.MergeIdeal.nD) → Buf (Elt Ideal) ((c.tc : Thread Cert.MergeIdeal.nD Cert.MergeIdeal.τ).loc Cert.MergeIdeal.main_v12)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v12) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
          ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
          ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v63) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7)
          ∧ r.2.mem ((c.tc : Thread Cert.MergeRefIdeal.nD Cert.MergeRefIdeal.τ).loc Cert.MergeRefIdeal.main_arg8) = m' ((c.tc : Thread Cert.MergeRefIdeal.nD Cert.MergeRefIdeal.τ).loc Cert.MergeRefIdeal.main_arg8)
          ∧ r.2.mem ((c.tc : Thread Cert.MergeRefIdeal.nD Cert.MergeRefIdeal.τ).loc Cert.MergeRefIdeal.main_arg9) = m' ((c.tc : Thread Cert.MergeRefIdeal.nD Cert.MergeRefIdeal.τ).loc Cert.MergeRefIdeal.main_arg9)
          ∧ r.2.mem ((c.tc : Thread Cert.MergeRefIdeal.nD Cert.MergeRefIdeal.τ).loc Cert.MergeRefIdeal.main_arg10) = m' ((c.tc : Thread Cert.MergeRefIdeal.nD Cert.MergeRefIdeal.τ).loc Cert.MergeRefIdeal.main_arg10))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)
      ∧ m' ((c.tc : Thread Cert.FfnRefIdeal.nD Cert.FfnRefIdeal.τ).loc Cert.FfnRefIdeal.main_arg6) = m ((c.tc : Thread Cert.FfnIdeal.nD Cert.FfnIdeal.τ).loc Cert.FfnIdeal.main_arg6)) →
    ∃ (v0 : (c : Dev Cert.FfnIdeal.nD) → Buf (Elt Ideal) ((c.tc : Thread Cert.FfnIdeal.nD Cert.FfnIdeal.τ).loc Cert.FfnIdeal.main_v10)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v10) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
          ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v67) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5)
          ∧ r.2.mem ((c.tc : Thread Cert.FfnRefIdeal.nD Cert.FfnRefIdeal.τ).loc Cert.FfnRefIdeal.main_arg6) = m' ((c.tc : Thread Cert.FfnRefIdeal.nD Cert.FfnRefIdeal.τ).loc Cert.FfnRefIdeal.main_arg6))

def Claim : Prop :=
  ∃ (hMla : Cert.Mla.Facts) (hMlaIdeal : Cert.MlaIdeal.Facts) (hMlaRefIdeal : Cert.MlaRefIdeal.Facts) (hGqa : Cert.Gqa.Facts) (hGqaIdeal : Cert.GqaIdeal.Facts) (hGqaRefIdeal : Cert.GqaRefIdeal.Facts) (hInproj : Cert.Inproj.Facts) (hInprojIdeal : Cert.InprojIdeal.Facts) (hInprojRefIdeal : Cert.InprojRefIdeal.Facts) (hMerge : Cert.Merge.Facts) (hMergeIdeal : Cert.MergeIdeal.Facts) (hMergeRefIdeal : Cert.MergeRefIdeal.Facts) (hFfn : Cert.Ffn.Facts) (hFfnIdeal : Cert.FfnIdeal.Facts) (hFfnRefIdeal : Cert.FfnRefIdeal.Facts) (hPre_mla_slots : Cert.Pre_mla_slots.Facts) (hPre_gqa_slots : Cert.Pre_gqa_slots.Facts),
    quiescent_Mla (hMla := hMla)
    ∧ quiescent_MlaIdeal (hMlaIdeal := hMlaIdeal)
    ∧ quiescent_MlaIdeal_pre_mla_slots (hMlaIdeal := hMlaIdeal) (hPre_mla_slots := hPre_mla_slots)
    ∧ quiescent_MlaRefIdeal (hMlaRefIdeal := hMlaRefIdeal)
    ∧ quiescent_MlaRefIdeal_pre_mla_slots (hMlaRefIdeal := hMlaRefIdeal) (hPre_mla_slots := hPre_mla_slots)
    ∧ quiescent_Gqa (hGqa := hGqa)
    ∧ quiescent_GqaIdeal (hGqaIdeal := hGqaIdeal)
    ∧ quiescent_GqaIdeal_pre_gqa_slots (hGqaIdeal := hGqaIdeal) (hPre_gqa_slots := hPre_gqa_slots)
    ∧ quiescent_GqaRefIdeal (hGqaRefIdeal := hGqaRefIdeal)
    ∧ quiescent_GqaRefIdeal_pre_gqa_slots (hGqaRefIdeal := hGqaRefIdeal) (hPre_gqa_slots := hPre_gqa_slots)
    ∧ quiescent_Inproj (hInproj := hInproj)
    ∧ quiescent_InprojIdeal (hInprojIdeal := hInprojIdeal)
    ∧ quiescent_InprojRefIdeal (hInprojRefIdeal := hInprojRefIdeal)
    ∧ quiescent_Merge (hMerge := hMerge)
    ∧ quiescent_MergeIdeal (hMergeIdeal := hMergeIdeal)
    ∧ quiescent_MergeRefIdeal (hMergeRefIdeal := hMergeRefIdeal)
    ∧ quiescent_Ffn (hFfn := hFfn)
    ∧ quiescent_FfnIdeal (hFfnIdeal := hFfnIdeal)
    ∧ quiescent_FfnRefIdeal (hFfnRefIdeal := hFfnRefIdeal)
    ∧ preserves_Mla_MlaIdeal
    ∧ algebraic_MlaIdeal_MlaRefIdeal_pre_mla_slots (hMlaIdeal := hMlaIdeal) (hMlaRefIdeal := hMlaRefIdeal) (hPre_mla_slots := hPre_mla_slots)
    ∧ preserves_Gqa_GqaIdeal
    ∧ algebraic_GqaIdeal_GqaRefIdeal_pre_gqa_slots (hGqaIdeal := hGqaIdeal) (hGqaRefIdeal := hGqaRefIdeal) (hPre_gqa_slots := hPre_gqa_slots)
    ∧ preserves_Inproj_InprojIdeal
    ∧ algebraic_InprojIdeal_InprojRefIdeal (hInprojIdeal := hInprojIdeal) (hInprojRefIdeal := hInprojRefIdeal)
    ∧ preserves_Merge_MergeIdeal
    ∧ algebraic_MergeIdeal_MergeRefIdeal (hMergeIdeal := hMergeIdeal) (hMergeRefIdeal := hMergeRefIdeal)
    ∧ preserves_Ffn_FfnIdeal
    ∧ algebraic_FfnIdeal_FfnRefIdeal (hFfnIdeal := hFfnIdeal) (hFfnRefIdeal := hFfnRefIdeal)
-- ==== Pre_gqa_slots.lean ====
abbrev S4x8x128x4096 : Shape := ⟨4, ![4, 8, 128, 4096]⟩
abbrev S4096x32 : Shape := ⟨2, ![4096, 32]⟩
abbrev S64 : Shape := ⟨1, ![64]⟩
abbrev S4x256x256 : Shape := ⟨3, ![4, 256, 256]⟩
abbrev S4x2x128x256 : Shape := ⟨4, ![4, 2, 128, 256]⟩
abbrev S4x4096x256 : Shape := ⟨3, ![4, 4096, 256]⟩
abbrev S4x2x128x4096 : Shape := ⟨4, ![4, 2, 128, 4096]⟩
abbrev S_ : Shape := ⟨0, ![]⟩
abbrev S4x256x2x128 : Shape := ⟨4, ![4, 256, 2, 128]⟩
abbrev S4x256x2x65 : Shape := ⟨4, ![4, 256, 2, 65]⟩
abbrev S4x4096x2x128 : Shape := ⟨4, ![4, 4096, 2, 128]⟩
abbrev S4x4096x2x65 : Shape := ⟨4, ![4, 4096, 2, 65]⟩
abbrev S4x8x64x4096 : Shape := ⟨4, ![4, 8, 64, 4096]⟩
abbrev S4x256x2x1 : Shape := ⟨4, ![4, 256, 2, 1]⟩
abbrev S4x256x2 : Shape := ⟨3, ![4, 256, 2]⟩
abbrev S1x1x1 : Shape := ⟨3, ![1, 1, 1]⟩
abbrev S4x4096x2x1 : Shape := ⟨4, ![4, 4096, 2, 1]⟩
abbrev S4x4096x2 : Shape := ⟨3, ![4, 4096, 2]⟩
abbrev S4x2x1x256 : Shape := ⟨4, ![4, 2, 1, 256]⟩
abbrev S4x2x256 : Shape := ⟨3, ![4, 2, 256]⟩
abbrev S4x2x1x4096 : Shape := ⟨4, ![4, 2, 1, 4096]⟩
abbrev S4x2x4096 : Shape := ⟨3, ![4, 2, 4096]⟩

class Facts : Prop where
  bcast_S_S4096x32 : S_.BroadcastsInDim S4096x32 (![] : Fin 0 → Fin S4096x32.rank)
  bcast_S_S64 : S_.BroadcastsInDim S64 (![] : Fin 0 → Fin S64.rank)
  bitsLt_bf16_f32 : FTy.bits .bf16 < FTy.bits .f32
  shapeCasts_S4x256x256_S4x256x2x128 : S4x256x256.ShapeCasts S4x256x2x128
  slices_S4x256x2x128_S4x256x2x65_0_0_0_0 : S4x256x2x128.Slices ![0, 0, 0, 0] S4x256x2x65
  bcast_S_S4x256x2x65 : S_.BroadcastsInDim S4x256x2x65 (![] : Fin 0 → Fin S4x256x2x65.rank)
  shapeCasts_S4x4096x256_S4x4096x2x128 : S4x4096x256.ShapeCasts S4x4096x2x128
  slices_S4x4096x2x128_S4x4096x2x65_0_0_0_0 : S4x4096x2x128.Slices ![0, 0, 0, 0] S4x4096x2x65
  bcast_S_S4x4096x2x65 : S_.BroadcastsInDim S4x4096x2x65 (![] : Fin 0 → Fin S4x4096x2x65.rank)
  slices_S4x8x128x4096_S4x8x64x4096_0_0_64_0 : S4x8x128x4096.Slices ![0, 0, 64, 0] S4x8x64x4096
  slices_S4x8x128x4096_S4x8x64x4096_0_0_0_0 : S4x8x128x4096.Slices ![0, 0, 0, 0] S4x8x64x4096
  slices_S4x256x2x128_S4x256x2x1_0_0_0_64 : S4x256x2x128.Slices ![0, 0, 0, 64] S4x256x2x1
  shapeCasts_S4x256x2x1_S4x256x2 : S4x256x2x1.ShapeCasts S4x256x2
  slices_S4x256x256_S1x1x1_0_0_64 : S4x256x256.Slices ![0, 0, 64] S1x1x1
  shapeCasts_S1x1x1_S_ : S1x1x1.ShapeCasts S_
  bcast_S_S4x256x2 : S_.BroadcastsInDim S4x256x2 (![] : Fin 0 → Fin S4x256x2.rank)
  slices_S4x4096x2x128_S4x4096x2x1_0_0_0_64 : S4x4096x2x128.Slices ![0, 0, 0, 64] S4x4096x2x1
  shapeCasts_S4x4096x2x1_S4x4096x2 : S4x4096x2x1.ShapeCasts S4x4096x2
  bcast_S_S4x4096x2 : S_.BroadcastsInDim S4x4096x2 (![] : Fin 0 → Fin S4x4096x2.rank)
  slices_S4x2x128x256_S4x2x1x256_0_0_64_0 : S4x2x128x256.Slices ![0, 0, 64, 0] S4x2x1x256
  shapeCasts_S4x2x1x256_S4x2x256 : S4x2x1x256.ShapeCasts S4x2x256
  bcast_S_S4x2x256 : S_.BroadcastsInDim S4x2x256 (![] : Fin 0 → Fin S4x2x256.rank)
  slices_S4x2x128x4096_S4x2x1x4096_0_0_64_0 : S4x2x128x4096.Slices ![0, 0, 64, 0] S4x2x1x4096
  shapeCasts_S4x2x1x4096_S4x2x4096 : S4x2x1x4096.ShapeCasts S4x2x4096
  bcast_S_S4x2x4096 : S_.BroadcastsInDim S4x2x4096 (![] : Fin 0 → Fin S4x2x4096.rank)

variable [Facts]

def fn_part2 {F : FTy → Type} [FloatOps F] (main_arg5 : FVec F S4x2x128x256 .bf16) (main_arg7 : FVec F S4x2x128x4096 .bf16) (main_v2 : IVec S4096x32 1) (main_v5 : IVec S4096x32 1) (main_v8 : IVec S64 1) (main_v14 : IVec S4x256x2x65 1) (main_v20 : IVec S4x4096x2x65 1) (main_v25 : IVec S4x8x64x4096 1) (main_v34 : IVec S4x256x2 1) (main_v38 : FVec F S4x4096x2 .f32) (main_v42 : FVec F S4x4096x2 .f32) : IVec S4096x32 1 × IVec S4096x32 1 × IVec S64 1 × IVec S4x256x2x65 1 × IVec S4x4096x2x65 1 × IVec S4x8x64x4096 1 × IVec S4x256x2 1 × IVec S4x4096x2 1 × IVec S4x2x256 1 × IVec S4x2x4096 1 :=
  let main_v43 : IVec S4x4096x2 1 := cmpf .oeq main_v38 main_v42
  let main_v44 : FVec F S4x2x128x256 .f32 := (extf .f32 · bitsLt_bf16_f32) main_arg5
  let main_v45 : FVec F S4x2x1x256 .f32 := (extractStridedSlice S4x2x1x256 ![0, 0, 64, 0] · slices_S4x2x128x256_S4x2x1x256_0_0_64_0) main_v44
  let main_v46 : FVec F S4x2x256 .f32 := shapeCast S4x2x256 main_v45 shapeCasts_S4x2x1x256_S4x2x256
  let main_cst_4 : FVec F S_ .f32 := constant S_ .f32 0x3F800000#32
  let main_v47 : FVec F S4x2x256 .f32 := broadcastInDim S4x2x256 ![] bcast_S_S4x2x256 main_cst_4
  let main_v48 : IVec S4x2x256 1 := cmpf .oeq main_v46 main_v47
  let main_v49 : FVec F S4x2x128x4096 .f32 := (extf .f32 · bitsLt_bf16_f32) main_arg7
  let main_v50 : FVec F S4x2x1x4096 .f32 := (extractStridedSlice S4x2x1x4096 ![0, 0, 64, 0] · slices_S4x2x128x4096_S4x2x1x4096_0_0_64_0) main_v49
  let main_v51 : FVec F S4x2x4096 .f32 := shapeCast S4x2x4096 main_v50 shapeCasts_S4x2x1x4096_S4x2x4096
  let main_cst_5 : FVec F S_ .f32 := constant S_ .f32 0x3F800000#32
  let main_v52 : FVec F S4x2x4096 .f32 := broadcastInDim S4x2x4096 ![] bcast_S_S4x2x4096 main_cst_5
  let main_v53 : IVec S4x2x4096 1 := cmpf .oeq main_v51 main_v52
  (main_v2, main_v5, main_v8, main_v14, main_v20, main_v25, main_v34, main_v43, main_v48, main_v53)

def fn_part1 {F : FTy → Type} [FloatOps F] (main_arg0 : FVec F S4x8x128x4096 .bf16) (main_arg4 : FVec F S4x256x256 .bf16) (main_arg5 : FVec F S4x2x128x256 .bf16) (main_arg6 : FVec F S4x4096x256 .bf16) (main_arg7 : FVec F S4x2x128x4096 .bf16) (main_v2 : IVec S4096x32 1) (main_v5 : IVec S4096x32 1) (main_v8 : IVec S64 1) (main_v14 : IVec S4x256x2x65 1) (main_v18 : FVec F S4x4096x2x65 .f32) (main_cst_3 : FVec F S_ .f32) : IVec S4096x32 1 × IVec S4096x32 1 × IVec S64 1 × IVec S4x256x2x65 1 × IVec S4x4096x2x65 1 × IVec S4x8x64x4096 1 × IVec S4x256x2 1 × IVec S4x4096x2 1 × IVec S4x2x256 1 × IVec S4x2x4096 1 :=
  let main_v19 : FVec F S4x4096x2x65 .f32 := broadcastInDim S4x4096x2x65 ![] bcast_S_S4x4096x2x65 main_cst_3
  let main_v20 : IVec S4x4096x2x65 1 := cmpf .olt main_v18 main_v19
  let main_v21 : FVec F S4x8x128x4096 .f32 := (extf .f32 · bitsLt_bf16_f32) main_arg0
  let main_v22 : FVec F S4x8x64x4096 .f32 := (extractStridedSlice S4x8x64x4096 ![0, 0, 64, 0] · slices_S4x8x128x4096_S4x8x64x4096_0_0_64_0) main_v21
  let main_v23 : FVec F S4x8x128x4096 .f32 := (extf .f32 · bitsLt_bf16_f32) main_arg0
  let main_v24 : FVec F S4x8x64x4096 .f32 := (extractStridedSlice S4x8x64x4096 ![0, 0, 0, 0] · slices_S4x8x128x4096_S4x8x64x4096_0_0_0_0) main_v23
  let main_v25 : IVec S4x8x64x4096 1 := cmpf .oeq main_v22 main_v24
  let main_v26 : FVec F S4x256x256 .f32 := (extf .f32 · bitsLt_bf16_f32) main_arg4
  let main_v27 : FVec F S4x256x2x128 .f32 := shapeCast S4x256x2x128 main_v26 shapeCasts_S4x256x256_S4x256x2x128
  let main_v28 : FVec F S4x256x2x1 .f32 := (extractStridedSlice S4x256x2x1 ![0, 0, 0, 64] · slices_S4x256x2x128_S4x256x2x1_0_0_0_64) main_v27
  let main_v29 : FVec F S4x256x2 .f32 := shapeCast S4x256x2 main_v28 shapeCasts_S4x256x2x1_S4x256x2
  let main_v30 : FVec F S4x256x256 .f32 := (extf .f32 · bitsLt_bf16_f32) main_arg4
  let main_v31 : FVec F S1x1x1 .f32 := (extractStridedSlice S1x1x1 ![0, 0, 64] · slices_S4x256x256_S1x1x1_0_0_64) main_v30
  let main_v32 : FVec F S_ .f32 := shapeCast S_ main_v31 shapeCasts_S1x1x1_S_
  let main_v33 : FVec F S4x256x2 .f32 := broadcastInDim S4x256x2 ![] bcast_S_S4x256x2 main_v32
  let main_v34 : IVec S4x256x2 1 := cmpf .oeq main_v29 main_v33
  let main_v35 : FVec F S4x4096x256 .f32 := (extf .f32 · bitsLt_bf16_f32) main_arg6
  let main_v36 : FVec F S4x4096x2x128 .f32 := shapeCast S4x4096x2x128 main_v35 shapeCasts_S4x4096x256_S4x4096x2x128
  let main_v37 : FVec F S4x4096x2x1 .f32 := (extractStridedSlice S4x4096x2x1 ![0, 0, 0, 64] · slices_S4x4096x2x128_S4x4096x2x1_0_0_0_64) main_v36
  let main_v38 : FVec F S4x4096x2 .f32 := shapeCast S4x4096x2 main_v37 shapeCasts_S4x4096x2x1_S4x4096x2
  let main_v39 : FVec F S4x256x256 .f32 := (extf .f32 · bitsLt_bf16_f32) main_arg4
  let main_v40 : FVec F S1x1x1 .f32 := (extractStridedSlice S1x1x1 ![0, 0, 64] · slices_S4x256x256_S1x1x1_0_0_64) main_v39
  let main_v41 : FVec F S_ .f32 := shapeCast S_ main_v40 shapeCasts_S1x1x1_S_
  let main_v42 : FVec F S4x4096x2 .f32 := broadcastInDim S4x4096x2 ![] bcast_S_S4x4096x2 main_v41
  fn_part2 (F := F) main_arg5 main_arg7 main_v2 main_v5 main_v8 main_v14 main_v20 main_v25 main_v34 main_v38 main_v42

def fn {F : FTy → Type} [FloatOps F] (main_arg0 : FVec F S4x8x128x4096 .bf16) (main_arg1 : FVec F S4096x32 .f32) (main_arg2 : FVec F S4096x32 .f32) (main_arg3 : FVec F S64 .f32) (main_arg4 : FVec F S4x256x256 .bf16) (main_arg5 : FVec F S4x2x128x256 .bf16) (main_arg6 : FVec F S4x4096x256 .bf16) (main_arg7 : FVec F S4x2x128x4096 .bf16) : IVec S4096x32 1 × IVec S4096x32 1 × IVec S64 1 × IVec S4x256x2x65 1 × IVec S4x4096x2x65 1 × IVec S4x8x64x4096 1 × IVec S4x256x2 1 × IVec S4x4096x2 1 × IVec S4x2x256 1 × IVec S4x2x4096 1 :=
  let main_v0 : FVec F S4096x32 .f32 := Host.absf main_arg1
  let main_cst : FVec F S_ .f32 := constant S_ .f32 0x7F800000#32
  let main_v1 : FVec F S4096x32 .f32 := broadcastInDim S4096x32 ![] bcast_S_S4096x32 main_cst
  let main_v2 : IVec S4096x32 1 := cmpf .olt main_v0 main_v1
  let main_v3 : FVec F S4096x32 .f32 := Host.absf main_arg2
  let main_cst_0 : FVec F S_ .f32 := constant S_ .f32 0x7F800000#32
  let main_v4 : FVec F S4096x32 .f32 := broadcastInDim S4096x32 ![] bcast_S_S4096x32 main_cst_0
  let main_v5 : IVec S4096x32 1 := cmpf .olt main_v3 main_v4
  let main_v6 : FVec F S64 .f32 := Host.absf main_arg3
  let main_cst_1 : FVec F S_ .f32 := constant S_ .f32 0x7F800000#32
  let main_v7 : FVec F S64 .f32 := broadcastInDim S64 ![] bcast_S_S64 main_cst_1
  let main_v8 : IVec S64 1 := cmpf .olt main_v6 main_v7
  let main_v9 : FVec F S4x256x256 .f32 := (extf .f32 · bitsLt_bf16_f32) main_arg4
  let main_v10 : FVec F S4x256x2x128 .f32 := shapeCast S4x256x2x128 main_v9 shapeCasts_S4x256x256_S4x256x2x128
  let main_v11 : FVec F S4x256x2x65 .f32 := (extractStridedSlice S4x256x2x65 ![0, 0, 0, 0] · slices_S4x256x2x128_S4x256x2x65_0_0_0_0) main_v10
  let main_v12 : FVec F S4x256x2x65 .f32 := Host.absf main_v11
  let main_cst_2 : FVec F S_ .f32 := constant S_ .f32 0x7F800000#32
  let main_v13 : FVec F S4x256x2x65 .f32 := broadcastInDim S4x256x2x65 ![] bcast_S_S4x256x2x65 main_cst_2
  let main_v14 : IVec S4x256x2x65 1 := cmpf .olt main_v12 main_v13
  let main_v15 : FVec F S4x4096x256 .f32 := (extf .f32 · bitsLt_bf16_f32) main_arg6
  let main_v16 : FVec F S4x4096x2x128 .f32 := shapeCast S4x4096x2x128 main_v15 shapeCasts_S4x4096x256_S4x4096x2x128
  let main_v17 : FVec F S4x4096x2x65 .f32 := (extractStridedSlice S4x4096x2x65 ![0, 0, 0, 0] · slices_S4x4096x2x128_S4x4096x2x65_0_0_0_0) main_v16
  let main_v18 : FVec F S4x4096x2x65 .f32 := Host.absf main_v17
  let main_cst_3 : FVec F S_ .f32 := constant S_ .f32 0x7F800000#32
  fn_part1 (F := F) main_arg0 main_arg4 main_arg5 main_arg6 main_arg7 main_v2 main_v5 main_v8 main_v14 main_v18 main_cst_3
-- ==== Pre_mla_slots.lean ====
abbrev S4x8x128x4096 : Shape := ⟨4, ![4, 8, 128, 4096]⟩
abbrev S4096x16 : Shape := ⟨2, ![4096, 16]⟩
abbrev S96 : Shape := ⟨1, ![96]⟩
abbrev S4x256x1024 : Shape := ⟨3, ![4, 256, 1024]⟩
abbrev S4x8x128x256 : Shape := ⟨4, ![4, 8, 128, 256]⟩
abbrev S4x4096x1024 : Shape := ⟨3, ![4, 4096, 1024]⟩
abbrev S_ : Shape := ⟨0, ![]⟩
abbrev S4x256x8x128 : Shape := ⟨4, ![4, 256, 8, 128]⟩
abbrev S4x256x8x97 : Shape := ⟨4, ![4, 256, 8, 97]⟩
abbrev S4x4096x8x128 : Shape := ⟨4, ![4, 4096, 8, 128]⟩
abbrev S4x4096x8x97 : Shape := ⟨4, ![4, 4096, 8, 97]⟩
abbrev S4x8x32x4096 : Shape := ⟨4, ![4, 8, 32, 4096]⟩
abbrev S4x256x8x1 : Shape := ⟨4, ![4, 256, 8, 1]⟩
abbrev S4x256x8 : Shape := ⟨3, ![4, 256, 8]⟩
abbrev S1x1x1 : Shape := ⟨3, ![1, 1, 1]⟩
abbrev S4x4096x8x1 : Shape := ⟨4, ![4, 4096, 8, 1]⟩
abbrev S4x4096x8 : Shape := ⟨3, ![4, 4096, 8]⟩
abbrev S4x8x1x256 : Shape := ⟨4, ![4, 8, 1, 256]⟩
abbrev S4x8x256 : Shape := ⟨3, ![4, 8, 256]⟩
abbrev S4x8x1x4096 : Shape := ⟨4, ![4, 8, 1, 4096]⟩
abbrev S4x8x4096 : Shape := ⟨3, ![4, 8, 4096]⟩

class Facts : Prop where
  bcast_S_S4096x16 : S_.BroadcastsInDim S4096x16 (![] : Fin 0 → Fin S4096x16.rank)
  bcast_S_S96 : S_.BroadcastsInDim S96 (![] : Fin 0 → Fin S96.rank)
  bitsLt_bf16_f32 : FTy.bits .bf16 < FTy.bits .f32
  shapeCasts_S4x256x1024_S4x256x8x128 : S4x256x1024.ShapeCasts S4x256x8x128
  slices_S4x256x8x128_S4x256x8x97_0_0_0_0 : S4x256x8x128.Slices ![0, 0, 0, 0] S4x256x8x97
  bcast_S_S4x256x8x97 : S_.BroadcastsInDim S4x256x8x97 (![] : Fin 0 → Fin S4x256x8x97.rank)
  shapeCasts_S4x4096x1024_S4x4096x8x128 : S4x4096x1024.ShapeCasts S4x4096x8x128
  slices_S4x4096x8x128_S4x4096x8x97_0_0_0_0 : S4x4096x8x128.Slices ![0, 0, 0, 0] S4x4096x8x97
  bcast_S_S4x4096x8x97 : S_.BroadcastsInDim S4x4096x8x97 (![] : Fin 0 → Fin S4x4096x8x97.rank)
  slices_S4x8x128x4096_S4x8x32x4096_0_0_96_0 : S4x8x128x4096.Slices ![0, 0, 96, 0] S4x8x32x4096
  bcast_S_S4x8x32x4096 : S_.BroadcastsInDim S4x8x32x4096 (![] : Fin 0 → Fin S4x8x32x4096.rank)
  slices_S4x256x8x128_S4x256x8x1_0_0_0_96 : S4x256x8x128.Slices ![0, 0, 0, 96] S4x256x8x1
  shapeCasts_S4x256x8x1_S4x256x8 : S4x256x8x1.ShapeCasts S4x256x8
  slices_S4x256x1024_S1x1x1_0_0_96 : S4x256x1024.Slices ![0, 0, 96] S1x1x1
  shapeCasts_S1x1x1_S_ : S1x1x1.ShapeCasts S_
  bcast_S_S4x256x8 : S_.BroadcastsInDim S4x256x8 (![] : Fin 0 → Fin S4x256x8.rank)
  slices_S4x4096x8x128_S4x4096x8x1_0_0_0_96 : S4x4096x8x128.Slices ![0, 0, 0, 96] S4x4096x8x1
  shapeCasts_S4x4096x8x1_S4x4096x8 : S4x4096x8x1.ShapeCasts S4x4096x8
  bcast_S_S4x4096x8 : S_.BroadcastsInDim S4x4096x8 (![] : Fin 0 → Fin S4x4096x8.rank)
  slices_S4x8x128x256_S4x8x1x256_0_0_64_0 : S4x8x128x256.Slices ![0, 0, 64, 0] S4x8x1x256
  shapeCasts_S4x8x1x256_S4x8x256 : S4x8x1x256.ShapeCasts S4x8x256
  bcast_S_S4x8x256 : S_.BroadcastsInDim S4x8x256 (![] : Fin 0 → Fin S4x8x256.rank)
  slices_S4x8x128x4096_S4x8x1x4096_0_0_64_0 : S4x8x128x4096.Slices ![0, 0, 64, 0] S4x8x1x4096
  shapeCasts_S4x8x1x4096_S4x8x4096 : S4x8x1x4096.ShapeCasts S4x8x4096
  bcast_S_S4x8x4096 : S_.BroadcastsInDim S4x8x4096 (![] : Fin 0 → Fin S4x8x4096.rank)

variable [Facts]

def fn_part2 {F : FTy → Type} [FloatOps F] (main_arg5 : FVec F S4x8x128x256 .bf16) (main_arg7 : FVec F S4x8x128x4096 .bf16) (main_v2 : IVec S4096x16 1) (main_v5 : IVec S4096x16 1) (main_v8 : IVec S96 1) (main_v14 : IVec S4x256x8x97 1) (main_v20 : IVec S4x4096x8x97 1) (main_v24 : IVec S4x8x32x4096 1) (main_v33 : IVec S4x256x8 1) (main_v37 : FVec F S4x4096x8 .f32) (main_v41 : FVec F S4x4096x8 .f32) : IVec S4096x16 1 × IVec S4096x16 1 × IVec S96 1 × IVec S4x256x8x97 1 × IVec S4x4096x8x97 1 × IVec S4x8x32x4096 1 × IVec S4x256x8 1 × IVec S4x4096x8 1 × IVec S4x8x256 1 × IVec S4x8x4096 1 :=
  let main_v42 : IVec S4x4096x8 1 := cmpf .oeq main_v37 main_v41
  let main_v43 : FVec F S4x8x128x256 .f32 := (extf .f32 · bitsLt_bf16_f32) main_arg5
  let main_v44 : FVec F S4x8x1x256 .f32 := (extractStridedSlice S4x8x1x256 ![0, 0, 64, 0] · slices_S4x8x128x256_S4x8x1x256_0_0_64_0) main_v43
  let main_v45 : FVec F S4x8x256 .f32 := shapeCast S4x8x256 main_v44 shapeCasts_S4x8x1x256_S4x8x256
  let main_cst_5 : FVec F S_ .f32 := constant S_ .f32 0x3F800000#32
  let main_v46 : FVec F S4x8x256 .f32 := broadcastInDim S4x8x256 ![] bcast_S_S4x8x256 main_cst_5
  let main_v47 : IVec S4x8x256 1 := cmpf .oeq main_v45 main_v46
  let main_v48 : FVec F S4x8x128x4096 .f32 := (extf .f32 · bitsLt_bf16_f32) main_arg7
  let main_v49 : FVec F S4x8x1x4096 .f32 := (extractStridedSlice S4x8x1x4096 ![0, 0, 64, 0] · slices_S4x8x128x4096_S4x8x1x4096_0_0_64_0) main_v48
  let main_v50 : FVec F S4x8x4096 .f32 := shapeCast S4x8x4096 main_v49 shapeCasts_S4x8x1x4096_S4x8x4096
  let main_cst_6 : FVec F S_ .f32 := constant S_ .f32 0x3F800000#32
  let main_v51 : FVec F S4x8x4096 .f32 := broadcastInDim S4x8x4096 ![] bcast_S_S4x8x4096 main_cst_6
  let main_v52 : IVec S4x8x4096 1 := cmpf .oeq main_v50 main_v51
  (main_v2, main_v5, main_v8, main_v14, main_v20, main_v24, main_v33, main_v42, main_v47, main_v52)

def fn_part1 {F : FTy → Type} [FloatOps F] (main_arg0 : FVec F S4x8x128x4096 .bf16) (main_arg4 : FVec F S4x256x1024 .bf16) (main_arg5 : FVec F S4x8x128x256 .bf16) (main_arg6 : FVec F S4x4096x1024 .bf16) (main_arg7 : FVec F S4x8x128x4096 .bf16) (main_v2 : IVec S4096x16 1) (main_v5 : IVec S4096x16 1) (main_v8 : IVec S96 1) (main_v14 : IVec S4x256x8x97 1) (main_v18 : FVec F S4x4096x8x97 .f32) (main_cst_3 : FVec F S_ .f32) : IVec S4096x16 1 × IVec S4096x16 1 × IVec S96 1 × IVec S4x256x8x97 1 × IVec S4x4096x8x97 1 × IVec S4x8x32x4096 1 × IVec S4x256x8 1 × IVec S4x4096x8 1 × IVec S4x8x256 1 × IVec S4x8x4096 1 :=
  let main_v19 : FVec F S4x4096x8x97 .f32 := broadcastInDim S4x4096x8x97 ![] bcast_S_S4x4096x8x97 main_cst_3
  let main_v20 : IVec S4x4096x8x97 1 := cmpf .olt main_v18 main_v19
  let main_v21 : FVec F S4x8x128x4096 .f32 := (extf .f32 · bitsLt_bf16_f32) main_arg0
  let main_v22 : FVec F S4x8x32x4096 .f32 := (extractStridedSlice S4x8x32x4096 ![0, 0, 96, 0] · slices_S4x8x128x4096_S4x8x32x4096_0_0_96_0) main_v21
  let main_cst_4 : FVec F S_ .f32 := constant S_ .f32 0x00000000#32
  let main_v23 : FVec F S4x8x32x4096 .f32 := broadcastInDim S4x8x32x4096 ![] bcast_S_S4x8x32x4096 main_cst_4
  let main_v24 : IVec S4x8x32x4096 1 := cmpf .oeq main_v22 main_v23
  let main_v25 : FVec F S4x256x1024 .f32 := (extf .f32 · bitsLt_bf16_f32) main_arg4
  let main_v26 : FVec F S4x256x8x128 .f32 := shapeCast S4x256x8x128 main_v25 shapeCasts_S4x256x1024_S4x256x8x128
  let main_v27 : FVec F S4x256x8x1 .f32 := (extractStridedSlice S4x256x8x1 ![0, 0, 0, 96] · slices_S4x256x8x128_S4x256x8x1_0_0_0_96) main_v26
  let main_v28 : FVec F S4x256x8 .f32 := shapeCast S4x256x8 main_v27 shapeCasts_S4x256x8x1_S4x256x8
  let main_v29 : FVec F S4x256x1024 .f32 := (extf .f32 · bitsLt_bf16_f32) main_arg4
  let main_v30 : FVec F S1x1x1 .f32 := (extractStridedSlice S1x1x1 ![0, 0, 96] · slices_S4x256x1024_S1x1x1_0_0_96) main_v29
  let main_v31 : FVec F S_ .f32 := shapeCast S_ main_v30 shapeCasts_S1x1x1_S_
  let main_v32 : FVec F S4x256x8 .f32 := broadcastInDim S4x256x8 ![] bcast_S_S4x256x8 main_v31
  let main_v33 : IVec S4x256x8 1 := cmpf .oeq main_v28 main_v32
  let main_v34 : FVec F S4x4096x1024 .f32 := (extf .f32 · bitsLt_bf16_f32) main_arg6
  let main_v35 : FVec F S4x4096x8x128 .f32 := shapeCast S4x4096x8x128 main_v34 shapeCasts_S4x4096x1024_S4x4096x8x128
  let main_v36 : FVec F S4x4096x8x1 .f32 := (extractStridedSlice S4x4096x8x1 ![0, 0, 0, 96] · slices_S4x4096x8x128_S4x4096x8x1_0_0_0_96) main_v35
  let main_v37 : FVec F S4x4096x8 .f32 := shapeCast S4x4096x8 main_v36 shapeCasts_S4x4096x8x1_S4x4096x8
  let main_v38 : FVec F S4x256x1024 .f32 := (extf .f32 · bitsLt_bf16_f32) main_arg4
  let main_v39 : FVec F S1x1x1 .f32 := (extractStridedSlice S1x1x1 ![0, 0, 96] · slices_S4x256x1024_S1x1x1_0_0_96) main_v38
  let main_v40 : FVec F S_ .f32 := shapeCast S_ main_v39 shapeCasts_S1x1x1_S_
  let main_v41 : FVec F S4x4096x8 .f32 := broadcastInDim S4x4096x8 ![] bcast_S_S4x4096x8 main_v40
  fn_part2 (F := F) main_arg5 main_arg7 main_v2 main_v5 main_v8 main_v14 main_v20 main_v24 main_v33 main_v37 main_v41

def fn {F : FTy → Type} [FloatOps F] (main_arg0 : FVec F S4x8x128x4096 .bf16) (main_arg1 : FVec F S4096x16 .f32) (main_arg2 : FVec F S4096x16 .f32) (main_arg3 : FVec F S96 .f32) (main_arg4 : FVec F S4x256x1024 .bf16) (main_arg5 : FVec F S4x8x128x256 .bf16) (main_arg6 : FVec F S4x4096x1024 .bf16) (main_arg7 : FVec F S4x8x128x4096 .bf16) : IVec S4096x16 1 × IVec S4096x16 1 × IVec S96 1 × IVec S4x256x8x97 1 × IVec S4x4096x8x97 1 × IVec S4x8x32x4096 1 × IVec S4x256x8 1 × IVec S4x4096x8 1 × IVec S4x8x256 1 × IVec S4x8x4096 1 :=
  let main_v0 : FVec F S4096x16 .f32 := Host.absf main_arg1
  let main_cst : FVec F S_ .f32 := constant S_ .f32 0x7F800000#32
  let main_v1 : FVec F S4096x16 .f32 := broadcastInDim S4096x16 ![] bcast_S_S4096x16 main_cst
  let main_v2 : IVec S4096x16 1 := cmpf .olt main_v0 main_v1
  let main_v3 : FVec F S4096x16 .f32 := Host.absf main_arg2
  let main_cst_0 : FVec F S_ .f32 := constant S_ .f32 0x7F800000#32
  let main_v4 : FVec F S4096x16 .f32 := broadcastInDim S4096x16 ![] bcast_S_S4096x16 main_cst_0
  let main_v5 : IVec S4096x16 1 := cmpf .olt main_v3 main_v4
  let main_v6 : FVec F S96 .f32 := Host.absf main_arg3
  let main_cst_1 : FVec F S_ .f32 := constant S_ .f32 0x7F800000#32
  let main_v7 : FVec F S96 .f32 := broadcastInDim S96 ![] bcast_S_S96 main_cst_1
  let main_v8 : IVec S96 1 := cmpf .olt main_v6 main_v7
  let main_v9 : FVec F S4x256x1024 .f32 := (extf .f32 · bitsLt_bf16_f32) main_arg4
  let main_v10 : FVec F S4x256x8x128 .f32 := shapeCast S4x256x8x128 main_v9 shapeCasts_S4x256x1024_S4x256x8x128
  let main_v11 : FVec F S4x256x8x97 .f32 := (extractStridedSlice S4x256x8x97 ![0, 0, 0, 0] · slices_S4x256x8x128_S4x256x8x97_0_0_0_0) main_v10
  let main_v12 : FVec F S4x256x8x97 .f32 := Host.absf main_v11
  let main_cst_2 : FVec F S_ .f32 := constant S_ .f32 0x7F800000#32
  let main_v13 : FVec F S4x256x8x97 .f32 := broadcastInDim S4x256x8x97 ![] bcast_S_S4x256x8x97 main_cst_2
  let main_v14 : IVec S4x256x8x97 1 := cmpf .olt main_v12 main_v13
  let main_v15 : FVec F S4x4096x1024 .f32 := (extf .f32 · bitsLt_bf16_f32) main_arg6
  let main_v16 : FVec F S4x4096x8x128 .f32 := shapeCast S4x4096x8x128 main_v15 shapeCasts_S4x4096x1024_S4x4096x8x128
  let main_v17 : FVec F S4x4096x8x97 .f32 := (extractStridedSlice S4x4096x8x97 ![0, 0, 0, 0] · slices_S4x4096x8x128_S4x4096x8x97_0_0_0_0) main_v16
  let main_v18 : FVec F S4x4096x8x97 .f32 := Host.absf main_v17
  let main_cst_3 : FVec F S_ .f32 := constant S_ .f32 0x7F800000#32
  fn_part1 (F := F) main_arg0 main_arg4 main_arg5 main_arg6 main_arg7 main_v2 main_v5 main_v8 main_v14 main_v18 main_cst_3
-- ==== Mla.lean ====
abbrev S4x8x128x4096 : Shape := ⟨4, ![4, 8, 128, 4096]⟩
abbrev S4096x16 : Shape := ⟨2, ![4096, 16]⟩
abbrev S96 : Shape := ⟨1, ![96]⟩
abbrev S4x256x1024 : Shape := ⟨3, ![4, 256, 1024]⟩
abbrev S4x8x128x256 : Shape := ⟨4, ![4, 8, 128, 256]⟩
abbrev S4x4096x1024 : Shape := ⟨3, ![4, 4096, 1024]⟩
abbrev S128 : Shape := ⟨1, ![128]⟩
abbrev S_ : Shape := ⟨0, ![]⟩
abbrev S64 : Shape := ⟨1, ![64]⟩
abbrev S16 : Shape := ⟨1, ![16]⟩
abbrev S32 : Shape := ⟨1, ![32]⟩
abbrev S1x128 : Shape := ⟨2, ![1, 128]⟩
abbrev S10x128 : Shape := ⟨2, ![10, 128]⟩
abbrev S16x128 : Shape := ⟨2, ![16, 128]⟩
abbrev S4096x64 : Shape := ⟨2, ![4096, 64]⟩
abbrev S4096x32 : Shape := ⟨2, ![4096, 32]⟩
abbrev S4096x128 : Shape := ⟨2, ![4096, 128]⟩
abbrev S1x4096x128 : Shape := ⟨3, ![1, 4096, 128]⟩
abbrev S3x4096x128 : Shape := ⟨3, ![3, 4096, 128]⟩
abbrev S128x1 : Shape := ⟨2, ![128, 1]⟩
abbrev S128x4096 : Shape := ⟨2, ![128, 4096]⟩
abbrev S1x128x4096 : Shape := ⟨3, ![1, 128, 4096]⟩
abbrev S3x128x4096 : Shape := ⟨3, ![3, 128, 4096]⟩
abbrev S4x4096x512 : Shape := ⟨3, ![4, 4096, 512]⟩
abbrev S3x128x1024 : Shape := ⟨3, ![3, 128, 1024]⟩
abbrev S1x4x128x1024 : Shape := ⟨4, ![1, 4, 128, 1024]⟩
abbrev S1x256x512 : Shape := ⟨3, ![1, 256, 512]⟩
abbrev S1x4x128x256 : Shape := ⟨4, ![1, 4, 128, 256]⟩
abbrev S1x4096x512 : Shape := ⟨3, ![1, 4096, 512]⟩
abbrev S1x4x128x4096 : Shape := ⟨4, ![1, 4, 128, 4096]⟩
abbrev S1x1024x256 : Shape := ⟨3, ![1, 1024, 256]⟩
abbrev S128x1024 : Shape := ⟨2, ![128, 1024]⟩
abbrev S1x1x128x1024 : Shape := ⟨4, ![1, 1, 128, 1024]⟩
abbrev S1x128x1024 : Shape := ⟨3, ![1, 128, 1024]⟩
abbrev S112x1024 : Shape := ⟨2, ![112, 1024]⟩
abbrev S16x1024 : Shape := ⟨2, ![16, 1024]⟩
abbrev S1024 : Shape := ⟨1, ![1024]⟩
abbrev S1x1024 : Shape := ⟨2, ![1, 1024]⟩
abbrev S1x256x128 : Shape := ⟨3, ![1, 256, 128]⟩
abbrev S256x128 : Shape := ⟨2, ![256, 128]⟩
abbrev S256x1024 : Shape := ⟨2, ![256, 1024]⟩
abbrev S4096x1024 : Shape := ⟨2, ![4096, 1024]⟩
abbrev S1x1x128x256 : Shape := ⟨4, ![1, 1, 128, 256]⟩
abbrev S128x256 : Shape := ⟨2, ![128, 256]⟩
abbrev S1x1x128x4096 : Shape := ⟨4, ![1, 1, 128, 4096]⟩
abbrev S64x1024 : Shape := ⟨2, ![64, 1024]⟩
abbrev S1024x128 : Shape := ⟨2, ![1024, 128]⟩
abbrev S1x1024x128 : Shape := ⟨3, ![1, 1024, 128]⟩

abbrev nBuf : Space → Nat
  | .hbm => 105
  | .vmem => 14
  | .smem => 0
  | _ => 0

abbrev bufTy : (tb : Table) → Fin (tcTables nBuf tb) → BufTy
  | .hbm, ⟨0, _⟩ => ⟨S4x8x128x4096, .bf16⟩
  | .hbm, ⟨1, _⟩ => ⟨S4096x16, .f32⟩
  | .hbm, ⟨2, _⟩ => ⟨S4096x16, .f32⟩
  | .hbm, ⟨3, _⟩ => ⟨S96, .f32⟩
  | .hbm, ⟨4, _⟩ => ⟨S4x256x1024, .bf16⟩
  | .hbm, ⟨5, _⟩ => ⟨S4x8x128x256, .bf16⟩
  | .hbm, ⟨6, _⟩ => ⟨S4x4096x1024, .bf16⟩
  | .hbm, ⟨7, _⟩ => ⟨S4x8x128x4096, .bf16⟩
  | .hbm, ⟨8, _⟩ => ⟨S128, .i32⟩
  | .hbm, ⟨9, _⟩ => ⟨S_, .i32⟩
  | .hbm, ⟨10, _⟩ => ⟨S128, .i32⟩
  | .hbm, ⟨11, _⟩ => ⟨S128, .i1⟩
  | .hbm, ⟨12, _⟩ => ⟨S128, .f32⟩
  | .hbm, ⟨13, _⟩ => ⟨S_, .i32⟩
  | .hbm, ⟨14, _⟩ => ⟨S_, .f32⟩
  | .hbm, ⟨15, _⟩ => ⟨S128, .f32⟩
  | .hbm, ⟨16, _⟩ => ⟨S_, .i32⟩
  | .hbm, ⟨17, _⟩ => ⟨S_, .f32⟩
  | .hbm, ⟨18, _⟩ => ⟨S128, .f32⟩
  | .hbm, ⟨19, _⟩ => ⟨S64, .f32⟩
  | .hbm, ⟨20, _⟩ => ⟨S16, .f32⟩
  | .hbm, ⟨21, _⟩ => ⟨S16, .f32⟩
  | .hbm, ⟨22, _⟩ => ⟨S32, .f32⟩
  | .hbm, ⟨23, _⟩ => ⟨S128, .f32⟩
  | .hbm, ⟨24, _⟩ => ⟨S128, .f32⟩
  | .hbm, ⟨25, _⟩ => ⟨S_, .f32⟩
  | .hbm, ⟨26, _⟩ => ⟨S128, .f32⟩
  | .hbm, ⟨27, _⟩ => ⟨S_, .f32⟩
  | .hbm, ⟨28, _⟩ => ⟨S128, .f32⟩
  | .hbm, ⟨29, _⟩ => ⟨S_, .f32⟩
  | .hbm, ⟨30, _⟩ => ⟨S128, .f32⟩
  | .hbm, ⟨31, _⟩ => ⟨S_, .f32⟩
  | .hbm, ⟨32, _⟩ => ⟨S128, .f32⟩
  | .hbm, ⟨33, _⟩ => ⟨S_, .f32⟩
  | .hbm, ⟨34, _⟩ => ⟨S128, .f32⟩
  | .hbm, ⟨35, _⟩ => ⟨S_, .f32⟩
  | .hbm, ⟨36, _⟩ => ⟨S128, .f32⟩
  | .hbm, ⟨37, _⟩ => ⟨S_, .f32⟩
  | .hbm, ⟨38, _⟩ => ⟨S128, .f32⟩
  | .hbm, ⟨39, _⟩ => ⟨S_, .f32⟩
  | .hbm, ⟨40, _⟩ => ⟨S128, .f32⟩
  | .hbm, ⟨41, _⟩ => ⟨S1x128, .f32⟩
  | .hbm, ⟨42, _⟩ => ⟨S1x128, .f32⟩
  | .hbm, ⟨43, _⟩ => ⟨S1x128, .f32⟩
  | .hbm, ⟨44, _⟩ => ⟨S1x128, .f32⟩
  | .hbm, ⟨45, _⟩ => ⟨S1x128, .f32⟩
  | .hbm, ⟨46, _⟩ => ⟨S1x128, .f32⟩
  | .hbm, ⟨47, _⟩ => ⟨S1x128, .f32⟩
  | .hbm, ⟨48, _⟩ => ⟨S1x128, .f32⟩
  | .hbm, ⟨49, _⟩ => ⟨S1x128, .f32⟩
  | .hbm, ⟨50, _⟩ => ⟨S1x128, .f32⟩
  | .hbm, ⟨51, _⟩ => ⟨S10x128, .f32⟩
  | .hbm, ⟨52, _⟩ => ⟨S_, .i32⟩
  | .hbm, ⟨53, _⟩ => ⟨S_, .f32⟩
  | .hbm, ⟨54, _⟩ => ⟨S16x128, .f32⟩
  | .hbm, ⟨55, _⟩ => ⟨S_, .f32⟩
  | .hbm, ⟨56, _⟩ => ⟨S4096x64, .f32⟩
  | .hbm, ⟨57, _⟩ => ⟨S_, .f32⟩
  | .hbm, ⟨58, _⟩ => ⟨S4096x32, .f32⟩
  | .hbm, ⟨59, _⟩ => ⟨S4096x128, .f32⟩
  | .hbm, ⟨60, _⟩ => ⟨S_, .f32⟩
  | .hbm, ⟨61, _⟩ => ⟨S4096x64, .f32⟩
  | .hbm, ⟨62, _⟩ => ⟨S4096x16, .f32⟩
  | .hbm, ⟨63, _⟩ => ⟨S_, .f32⟩
  | .hbm, ⟨64, _⟩ => ⟨S4096x16, .f32⟩
  | .hbm, ⟨65, _⟩ => ⟨S_, .f32⟩
  | .hbm, ⟨66, _⟩ => ⟨S4096x32, .f32⟩
  | .hbm, ⟨67, _⟩ => ⟨S4096x128, .f32⟩
  | .hbm, ⟨68, _⟩ => ⟨S_, .f32⟩
  | .hbm, ⟨69, _⟩ => ⟨S4096x64, .f32⟩
  | .hbm, ⟨70, _⟩ => ⟨S_, .f32⟩
  | .hbm, ⟨71, _⟩ => ⟨S4096x16, .f32⟩
  | .hbm, ⟨72, _⟩ => ⟨S_, .f32⟩
  | .hbm, ⟨73, _⟩ => ⟨S4096x32, .f32⟩
  | .hbm, ⟨74, _⟩ => ⟨S4096x128, .f32⟩
  | .hbm, ⟨75, _⟩ => ⟨S1x4096x128, .f32⟩
  | .hbm, ⟨76, _⟩ => ⟨S1x4096x128, .f32⟩
  | .hbm, ⟨77, _⟩ => ⟨S1x4096x128, .f32⟩
  | .hbm, ⟨78, _⟩ => ⟨S3x4096x128, .f32⟩
  | .hbm, ⟨79, _⟩ => ⟨S1x128, .f32⟩
  | .hbm, ⟨80, _⟩ => ⟨S128, .f32⟩
  | .hbm, ⟨81, _⟩ => ⟨S128x1, .f32⟩
  | .hbm, ⟨82, _⟩ => ⟨S1x128, .f32⟩
  | .hbm, ⟨83, _⟩ => ⟨S128, .f32⟩
  | .hbm, ⟨84, _⟩ => ⟨S128x1, .f32⟩
  | .hbm, ⟨85, _⟩ => ⟨S1x4096x128, .f32⟩
  | .hbm, ⟨86, _⟩ => ⟨S4096x128, .f32⟩
  | .hbm, ⟨87, _⟩ => ⟨S128x4096, .f32⟩
  | .hbm, ⟨88, _⟩ => ⟨S128x4096, .f32⟩
  | .hbm, ⟨89, _⟩ => ⟨S128x4096, .f32⟩
  | .hbm, ⟨90, _⟩ => ⟨S1x4096x128, .f32⟩
  | .hbm, ⟨91, _⟩ => ⟨S4096x128, .f32⟩
  | .hbm, ⟨92, _⟩ => ⟨S128x4096, .f32⟩
  | .hbm, ⟨93, _⟩ => ⟨S128x4096, .f32⟩
  | .hbm, ⟨94, _⟩ => ⟨S128x4096, .f32⟩
  | .hbm, ⟨95, _⟩ => ⟨S1x4096x128, .f32⟩
  | .hbm, ⟨96, _⟩ => ⟨S4096x128, .f32⟩
  | .hbm, ⟨97, _⟩ => ⟨S128x4096, .f32⟩
  | .hbm, ⟨98, _⟩ => ⟨S128x4096, .f32⟩
  | .hbm, ⟨99, _⟩ => ⟨S128x4096, .f32⟩
  | .hbm, ⟨100, _⟩ => ⟨S1x128x4096, .f32⟩
  | .hbm, ⟨101, _⟩ => ⟨S1x128x4096, .f32⟩
  | .hbm, ⟨102, _⟩ => ⟨S1x128x4096, .f32⟩
  | .hbm, ⟨103, _⟩ => ⟨S3x128x4096, .f32⟩
  | .hbm, ⟨104, _⟩ => ⟨S4x4096x512, .bf16⟩
  | .local _ .vmem, ⟨0, _⟩ => ⟨S3x128x1024, .f32⟩
  | .local _ .vmem, ⟨1, _⟩ => ⟨S3x128x1024, .f32⟩
  | .local _ .vmem, ⟨2, _⟩ => ⟨S1x4x128x1024, .bf16⟩
  | .local _ .vmem, ⟨3, _⟩ => ⟨S1x4x128x1024, .bf16⟩
  | .local _ .vmem, ⟨4, _⟩ => ⟨S1x256x512, .bf16⟩
  | .local _ .vmem, ⟨5, _⟩ => ⟨S1x256x512, .bf16⟩
  | .local _ .vmem, ⟨6, _⟩ => ⟨S1x4x128x256, .bf16⟩
  | .local _ .vmem, ⟨7, _⟩ => ⟨S1x4x128x256, .bf16⟩
  | .local _ .vmem, ⟨8, _⟩ => ⟨S1x4096x512, .bf16⟩
  | .local _ .vmem, ⟨9, _⟩ => ⟨S1x4096x512, .bf16⟩
  | .local _ .vmem, ⟨10, _⟩ => ⟨S1x4x128x4096, .bf16⟩
  | .local _ .vmem, ⟨11, _⟩ => ⟨S1x4x128x4096, .bf16⟩
  | .local _ .vmem, ⟨12, _⟩ => ⟨S1x1024x256, .bf16⟩
  | .local _ .vmem, ⟨13, _⟩ => ⟨S1x1024x256, .bf16⟩
  | _, _ => ⟨S4x8x128x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c_0 : Ref sig .tc := ⟨.hbm, 13, rfl⟩
abbrev main_call0_v0 : Ref sig .tc := ⟨.hbm, 14, rfl⟩
abbrev main_v4 : Ref sig .tc := ⟨.hbm, 15, rfl⟩
abbrev main_c_1 : Ref sig .tc := ⟨.hbm, 16, rfl⟩
abbrev main_call1_v0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst : Ref sig .tc := ⟨.hbm, 25, rfl⟩
abbrev main_v12 : Ref sig .tc := ⟨.hbm, 26, rfl⟩
abbrev main_cst_2 : Ref sig .tc := ⟨.hbm, 27, rfl⟩
abbrev main_v13 : Ref sig .tc := ⟨.hbm, 28, rfl⟩
abbrev main_cst_3 : Ref sig .tc := ⟨.hbm, 29, rfl⟩
abbrev main_v14 : Ref sig .tc := ⟨.hbm, 30, rfl⟩
abbrev main_cst_4 : Ref sig .tc := ⟨.hbm, 31, rfl⟩
abbrev main_v15 : Ref sig .tc := ⟨.hbm, 32, rfl⟩
abbrev main_cst_5 : Ref sig .tc := ⟨.hbm, 33, rfl⟩
abbrev main_v16 : Ref sig .tc := ⟨.hbm, 34, rfl⟩
abbrev main_cst_6 : Ref sig .tc := ⟨.hbm, 35, rfl⟩
abbrev main_v17 : Ref sig .tc := ⟨.hbm, 36, rfl⟩
abbrev main_cst_7 : Ref sig .tc := ⟨.hbm, 37, rfl⟩
abbrev main_v18 : Ref sig .tc := ⟨.hbm, 38, rfl⟩
abbrev main_cst_8 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_c_9 : Ref sig .tc := ⟨.hbm, 52, rfl⟩
abbrev main_call2_v0 : Ref sig .tc := ⟨.hbm, 53, rfl⟩
abbrev main_v31 : Ref sig .tc := ⟨.hbm, 54, rfl⟩
abbrev main_cst_10 : Ref sig .tc := ⟨.hbm, 55, rfl⟩
abbrev main_v32 : Ref sig .tc := ⟨.hbm, 56, rfl⟩
abbrev main_cst_11 : Ref sig .tc := ⟨.hbm, 57, rfl⟩
abbrev main_v33 : Ref sig .tc := ⟨.hbm, 58, rfl⟩
abbrev main_v34 : Ref sig .tc := ⟨.hbm, 59, rfl⟩
abbrev main_cst_12 : Ref sig .tc := ⟨.hbm, 60, rfl⟩
abbrev main_v35 : Ref sig .tc := ⟨.hbm, 61, rfl⟩
abbrev main_v36 : Ref sig .tc := ⟨.hbm, 62, rfl⟩
abbrev main_cst_13 : Ref sig .tc := ⟨.hbm, 63, rfl⟩
abbrev main_v37 : Ref sig .tc := ⟨.hbm, 64, rfl⟩
abbrev main_cst_14 : Ref sig .tc := ⟨.hbm, 65, rfl⟩
abbrev main_v38 : Ref sig .tc := ⟨.hbm, 66, rfl⟩
abbrev main_v39 : Ref sig .tc := ⟨.hbm, 67, rfl⟩
abbrev main_cst_15 : Ref sig .tc := ⟨.hbm, 68, rfl⟩
abbrev main_v40 : Ref sig .tc := ⟨.hbm, 69, rfl⟩
abbrev main_cst_16 : Ref sig .tc := ⟨.hbm, 70, rfl⟩
abbrev main_v41 : Ref sig .tc := ⟨.hbm, 71, rfl⟩
abbrev main_cst_17 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![4, 2, 4], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S3x128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, false, true]

abbrev stage0_1 : Fin 2 → Memref sig .tc .vmem S1x4x128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x4x128x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x4096x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x4x128x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1x1024x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]
-- ==== MlaIdeal.lean ====
variable {F : FTy → Type} [FloatOps F] [Named F]
def κ : String → Option EReal := fun
  | "inv_dim" => some ((1 / 96 : ℝ) : EReal)
  | "score_scale" => some (((Real.sqrt 96)⁻¹ * (Real.log 2)⁻¹ : ℝ) : EReal)
  | _ => none
-- ==== MlaRefIdeal.lean ====
abbrev S4x8x128x4096 : Shape := ⟨4, ![4, 8, 128, 4096]⟩
abbrev S4096x16 : Shape := ⟨2, ![4096, 16]⟩
abbrev S96 : Shape := ⟨1, ![96]⟩
abbrev S4x256x1024 : Shape := ⟨3, ![4, 256, 1024]⟩
abbrev S4x8x128x256 : Shape := ⟨4, ![4, 8, 128, 256]⟩
abbrev S4x4096x1024 : Shape := ⟨3, ![4, 4096, 1024]⟩
abbrev S4x8x96x4096 : Shape := ⟨4, ![4, 8, 96, 4096]⟩
abbrev S4x4096x8x96 : Shape := ⟨4, ![4, 4096, 8, 96]⟩
abbrev S_ : Shape := ⟨0, ![]⟩
abbrev S4x4096x8 : Shape := ⟨3, ![4, 4096, 8]⟩
abbrev S4x4096x8x1 : Shape := ⟨4, ![4, 4096, 8, 1]⟩
abbrev S1x1x1x96 : Shape := ⟨4, ![1, 1, 1, 96]⟩
abbrev S4x4096x8x64 : Shape := ⟨4, ![4, 4096, 8, 64]⟩
abbrev S4x4096x8x32 : Shape := ⟨4, ![4, 4096, 8, 32]⟩
abbrev S4096x1x16 : Shape := ⟨3, ![4096, 1, 16]⟩
abbrev S4x4096x8x16 : Shape := ⟨4, ![4, 4096, 8, 16]⟩
abbrev S1x4096x1x16 : Shape := ⟨4, ![1, 4096, 1, 16]⟩
abbrev S4x4096x8x1x96 : Shape := ⟨5, ![4, 4096, 8, 1, 96]⟩
abbrev S4x256x8x128 : Shape := ⟨4, ![4, 256, 8, 128]⟩
abbrev S4x256x8x96 : Shape := ⟨4, ![4, 256, 8, 96]⟩
abbrev S4x4096x8x128 : Shape := ⟨4, ![4, 4096, 8, 128]⟩
abbrev S4x4352x8x96 : Shape := ⟨4, ![4, 4352, 8, 96]⟩
abbrev S4x8x64x256 : Shape := ⟨4, ![4, 8, 64, 256]⟩
abbrev S4x256x8x64 : Shape := ⟨4, ![4, 256, 8, 64]⟩
abbrev S4x8x64x4096 : Shape := ⟨4, ![4, 8, 64, 4096]⟩
abbrev S4x4352x8x64 : Shape := ⟨4, ![4, 4352, 8, 64]⟩
abbrev S4x8x4352x4096x1 : Shape := ⟨5, ![4, 8, 4352, 4096, 1]⟩
abbrev S4x8x1x4096x4352 : Shape := ⟨5, ![4, 8, 1, 4096, 4352]⟩
abbrev S4x8x1x4096 : Shape := ⟨4, ![4, 8, 1, 4096]⟩
abbrev S4x8x1x4096x1 : Shape := ⟨5, ![4, 8, 1, 4096, 1]⟩
abbrev S4x8x64x1x4096 : Shape := ⟨5, ![4, 8, 64, 1, 4096]⟩
abbrev S4x4096x8x1x64 : Shape := ⟨5, ![4, 4096, 8, 1, 64]⟩
abbrev S4x4096x512 : Shape := ⟨3, ![4, 4096, 512]⟩

abbrev nBuf : Space → Nat
  | .hbm => 88
  | .vmem => 0
  | .smem => 0
  | _ => 0

abbrev bufTy : (tb : Table) → Fin (tcTables nBuf tb) → BufTy
  | .hbm, ⟨0, _⟩ => ⟨S4x8x128x4096, .bf16⟩
  | .hbm, ⟨1, _⟩ => ⟨S4096x16, .f32⟩
  | .hbm, ⟨2, _⟩ => ⟨S4096x16, .f32⟩
  | .hbm, ⟨3, _⟩ => ⟨S96, .f32⟩
  | .hbm, ⟨4, _⟩ => ⟨S4x256x1024, .bf16⟩
  | .hbm, ⟨5, _⟩ => ⟨S4x8x128x256, .bf16⟩
  | .hbm, ⟨6, _⟩ => ⟨S4x4096x1024, .bf16⟩
  | .hbm, ⟨7, _⟩ => ⟨S4x8x128x4096, .bf16⟩
  | .hbm, ⟨8, _⟩ => ⟨S4x8x128x4096, .f32⟩
  | .hbm, ⟨9, _⟩ => ⟨S4x8x96x4096, .f32⟩
  | .hbm, ⟨10, _⟩ => ⟨S4x4096x8x96, .f32⟩
  | .hbm, ⟨11, _⟩ => ⟨S4x4096x8x96, .f32⟩
  | .hbm, ⟨12, _⟩ => ⟨S_, .f32⟩
  | .hbm, ⟨13, _⟩ => ⟨S4x4096x8, .f32⟩
  | .hbm, ⟨14, _⟩ => ⟨S4x4096x8x1, .f32⟩
  | .hbm, ⟨15, _⟩ => ⟨S_, .f32⟩
  | .hbm, ⟨16, _⟩ => ⟨S4x4096x8x1, .f32⟩
  | .hbm, ⟨17, _⟩ => ⟨S4x4096x8x1, .f32⟩
  | .hbm, ⟨18, _⟩ => ⟨S_, .f32⟩
  | .hbm, ⟨19, _⟩ => ⟨S4x4096x8x1, .f32⟩
  | .hbm, ⟨20, _⟩ => ⟨S4x4096x8x1, .f32⟩
  | .hbm, ⟨21, _⟩ => ⟨S4x4096x8x1, .f32⟩
  | .hbm, ⟨22, _⟩ => ⟨S4x4096x8x96, .f32⟩
  | .hbm, ⟨23, _⟩ => ⟨S4x4096x8x96, .f32⟩
  | .hbm, ⟨24, _⟩ => ⟨S1x1x1x96, .f32⟩
  | .hbm, ⟨25, _⟩ => ⟨S4x4096x8x96, .f32⟩
  | .hbm, ⟨26, _⟩ => ⟨S4x4096x8x96, .f32⟩
  | .hbm, ⟨27, _⟩ => ⟨S4x4096x8x64, .f32⟩
  | .hbm, ⟨28, _⟩ => ⟨S4x4096x8x32, .f32⟩
  | .hbm, ⟨29, _⟩ => ⟨S4096x1x16, .f32⟩
  | .hbm, ⟨30, _⟩ => ⟨S4096x1x16, .f32⟩
  | .hbm, ⟨31, _⟩ => ⟨S4x4096x8x16, .f32⟩
  | .hbm, ⟨32, _⟩ => ⟨S4x4096x8x16, .f32⟩
  | .hbm, ⟨33, _⟩ => ⟨S1x4096x1x16, .f32⟩
  | .hbm, ⟨34, _⟩ => ⟨S4x4096x8x16, .f32⟩
  | .hbm, ⟨35, _⟩ => ⟨S4x4096x8x16, .f32⟩
  | .hbm, ⟨36, _⟩ => ⟨S1x4096x1x16, .f32⟩
  | .hbm, ⟨37, _⟩ => ⟨S4x4096x8x16, .f32⟩
  | .hbm, ⟨38, _⟩ => ⟨S4x4096x8x16, .f32⟩
  | .hbm, ⟨39, _⟩ => ⟨S4x4096x8x16, .f32⟩
  | .hbm, ⟨40, _⟩ => ⟨S1x4096x1x16, .f32⟩
  | .hbm, ⟨41, _⟩ => ⟨S4x4096x8x16, .f32⟩
  | .hbm, ⟨42, _⟩ => ⟨S4x4096x8x16, .f32⟩
  | .hbm, ⟨43, _⟩ => ⟨S1x4096x1x16, .f32⟩
  | .hbm, ⟨44, _⟩ => ⟨S4x4096x8x16, .f32⟩
  | .hbm, ⟨45, _⟩ => ⟨S4x4096x8x16, .f32⟩
  | .hbm, ⟨46, _⟩ => ⟨S4x4096x8x16, .f32⟩
  | .hbm, ⟨47, _⟩ => ⟨S4x4096x8x32, .f32⟩
  | .hbm, ⟨48, _⟩ => ⟨S4x4096x8x96, .f32⟩
  | .hbm, ⟨49, _⟩ => ⟨S4x4096x8x1x96, .f32⟩
  | .hbm, ⟨50, _⟩ => ⟨S4x256x1024, .f32⟩
  | .hbm, ⟨51, _⟩ => ⟨S4x256x8x128, .f32⟩
  | .hbm, ⟨52, _⟩ => ⟨S4x256x8x96, .f32⟩
  | .hbm, ⟨53, _⟩ => ⟨S4x4096x1024, .f32⟩
  | .hbm, ⟨54, _⟩ => ⟨S4x4096x8x128, .f32⟩
  | .hbm, ⟨55, _⟩ => ⟨S4x4096x8x96, .f32⟩
  | .hbm, ⟨56, _⟩ => ⟨S4x4352x8x96, .f32⟩
  | .hbm, ⟨57, _⟩ => ⟨S4x8x128x256, .f32⟩
  | .hbm, ⟨58, _⟩ => ⟨S4x8x64x256, .f32⟩
  | .hbm, ⟨59, _⟩ => ⟨S4x256x8x64, .f32⟩
  | .hbm, ⟨60, _⟩ => ⟨S4x8x128x4096, .f32⟩
  | .hbm, ⟨61, _⟩ => ⟨S4x8x64x4096, .f32⟩
  | .hbm, ⟨62, _⟩ => ⟨S4x4096x8x64, .f32⟩
  | .hbm, ⟨63, _⟩ => ⟨S4x4352x8x64, .f32⟩
  | .hbm, ⟨64, _⟩ => ⟨S_, .f32⟩
  | .hbm, ⟨65, _⟩ => ⟨S_, .f32⟩
  | .hbm, ⟨66, _⟩ => ⟨S4x8x4352x4096x1, .f32⟩
  | .hbm, ⟨67, _⟩ => ⟨S4x8x1x4096x4352, .f32⟩
  | .hbm, ⟨68, _⟩ => ⟨S4x8x1x4096x4352, .f32⟩
  | .hbm, ⟨69, _⟩ => ⟨S4x8x1x4096x4352, .f32⟩
  | .hbm, ⟨70, _⟩ => ⟨S_, .f32⟩
  | .hbm, ⟨71, _⟩ => ⟨S4x8x1x4096, .f32⟩
  | .hbm, ⟨72, _⟩ => ⟨S_, .f32⟩
  | .hbm, ⟨73, _⟩ => ⟨S4x8x1x4096, .f32⟩
  | .hbm, ⟨74, _⟩ => ⟨S4x8x1x4096, .f32⟩
  | .hbm, ⟨75, _⟩ => ⟨S4x8x1x4096x1, .f32⟩
  | .hbm, ⟨76, _⟩ => ⟨S4x8x1x4096x4352, .f32⟩
  | .hbm, ⟨77, _⟩ => ⟨S4x8x1x4096x4352, .f32⟩
  | .hbm, ⟨78, _⟩ => ⟨S4x8x1x4096x4352, .f32⟩
  | .hbm, ⟨79, _⟩ => ⟨S_, .f32⟩
  | .hbm, ⟨80, _⟩ => ⟨S4x8x1x4096, .f32⟩
  | .hbm, ⟨81, _⟩ => ⟨S4x8x1x4096x1, .f32⟩
  | .hbm, ⟨82, _⟩ => ⟨S4x8x1x4096x4352, .f32⟩
  | .hbm, ⟨83, _⟩ => ⟨S4x8x1x4096x4352, .f32⟩
  | .hbm, ⟨84, _⟩ => ⟨S4x8x64x1x4096, .f32⟩
  | .hbm, ⟨85, _⟩ => ⟨S4x4096x8x1x64, .f32⟩
  | .hbm, ⟨86, _⟩ => ⟨S4x4096x512, .f32⟩
  | .hbm, ⟨87, _⟩ => ⟨S4x4096x512, .bf16⟩
  | _, _ => ⟨S4x8x128x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_cst_2 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_cst_3 : Ref sig .tc := ⟨.hbm, 70, rfl⟩
abbrev main_v58 : Ref sig .tc := ⟨.hbm, 71, rfl⟩
abbrev main_cst_4 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_cst_5 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩

abbrev nD : Nat := 1
abbrev τ : Topo := Topo.v7x

variable {F : FTy → Type} [FloatOps F]
-- ==== Gqa.lean ====
abbrev S4x8x128x4096 : Shape := ⟨4, ![4, 8, 128, 4096]⟩
abbrev S4096x32 : Shape := ⟨2, ![4096, 32]⟩
abbrev S64 : Shape := ⟨1, ![64]⟩
abbrev S4x256x256 : Shape := ⟨3, ![4, 256, 256]⟩
abbrev S4x2x128x256 : Shape := ⟨4, ![4, 2, 128, 256]⟩
abbrev S4x4096x256 : Shape := ⟨3, ![4, 4096, 256]⟩
abbrev S4x2x128x4096 : Shape := ⟨4, ![4, 2, 128, 4096]⟩
abbrev S_ : Shape := ⟨0, ![]⟩
abbrev S128 : Shape := ⟨1, ![128]⟩
abbrev S0 : Shape := ⟨1, ![0]⟩
abbrev S32 : Shape := ⟨1, ![32]⟩
abbrev S1x128 : Shape := ⟨2, ![1, 128]⟩
abbrev S10x128 : Shape := ⟨2, ![10, 128]⟩
abbrev S16x128 : Shape := ⟨2, ![16, 128]⟩
abbrev S4096x64 : Shape := ⟨2, ![4096, 64]⟩
abbrev S4096x128 : Shape := ⟨2, ![4096, 128]⟩
abbrev S1x4096x128 : Shape := ⟨3, ![1, 4096, 128]⟩
abbrev S2x4096x128 : Shape := ⟨3, ![2, 4096, 128]⟩
abbrev S128x1 : Shape := ⟨2, ![128, 1]⟩
abbrev S128x4096 : Shape := ⟨2, ![128, 4096]⟩
abbrev S1x128x4096 : Shape := ⟨3, ![1, 128, 4096]⟩
abbrev S2x128x4096 : Shape := ⟨3, ![2, 128, 4096]⟩
abbrev S4x4096x512 : Shape := ⟨3, ![4, 4096, 512]⟩
abbrev S2x128x1024 : Shape := ⟨3, ![2, 128, 1024]⟩
abbrev S1x4x128x1024 : Shape := ⟨4, ![1, 4, 128, 1024]⟩
abbrev S1x256x128 : Shape := ⟨3, ![1, 256, 128]⟩
abbrev S1x1x128x256 : Shape := ⟨4, ![1, 1, 128, 256]⟩
abbrev S1x1x128x4096 : Shape := ⟨4, ![1, 1, 128, 4096]⟩
abbrev S1x1024x256 : Shape := ⟨3, ![1, 1024, 256]⟩
abbrev S128x1024 : Shape := ⟨2, ![128, 1024]⟩
abbrev S1x1x128x1024 : Shape := ⟨4, ![1, 1, 128, 1024]⟩
abbrev S1x128x1024 : Shape := ⟨3, ![1, 128, 1024]⟩
abbrev S32x1024 : Shape := ⟨2, ![32, 1024]⟩
abbrev S96x1024 : Shape := ⟨2, ![96, 1024]⟩
abbrev S1024 : Shape := ⟨1, ![1024]⟩
abbrev S1x1024 : Shape := ⟨2, ![1, 1024]⟩
abbrev S256x128 : Shape := ⟨2, ![256, 128]⟩
abbrev S256x1024 : Shape := ⟨2, ![256, 1024]⟩
abbrev S4096x1024 : Shape := ⟨2, ![4096, 1024]⟩
abbrev S128x256 : Shape := ⟨2, ![128, 256]⟩
abbrev S64x1024 : Shape := ⟨2, ![64, 1024]⟩
abbrev S1024x128 : Shape := ⟨2, ![1024, 128]⟩
abbrev S1x1024x128 : Shape := ⟨3, ![1, 1024, 128]⟩

abbrev nBuf : Space → Nat
  | .hbm => 77
  | .vmem => 14
  | .smem => 0
  | _ => 0

abbrev bufTy : (tb : Table) → Fin (tcTables nBuf tb) → BufTy
  | .hbm, ⟨0, _⟩ => ⟨S4x8x128x4096, .bf16⟩
  | .hbm, ⟨1, _⟩ => ⟨S4096x32, .f32⟩
  | .hbm, ⟨2, _⟩ => ⟨S4096x32, .f32⟩
  | .hbm, ⟨3, _⟩ => ⟨S64, .f32⟩
  | .hbm, ⟨4, _⟩ => ⟨S4x256x256, .bf16⟩
  | .hbm, ⟨5, _⟩ => ⟨S4x2x128x256, .bf16⟩
  | .hbm, ⟨6, _⟩ => ⟨S4x4096x256, .bf16⟩
  | .hbm, ⟨7, _⟩ => ⟨S4x2x128x4096, .bf16⟩
  | .hbm, ⟨8, _⟩ => ⟨S_, .i32⟩
  | .hbm, ⟨9, _⟩ => ⟨S_, .f32⟩
  | .hbm, ⟨10, _⟩ => ⟨S128, .f32⟩
  | .hbm, ⟨11, _⟩ => ⟨S_, .i32⟩
  | .hbm, ⟨12, _⟩ => ⟨S_, .f32⟩
  | .hbm, ⟨13, _⟩ => ⟨S128, .f32⟩
  | .hbm, ⟨14, _⟩ => ⟨S0, .f32⟩
  | .hbm, ⟨15, _⟩ => ⟨S32, .f32⟩
  | .hbm, ⟨16, _⟩ => ⟨S32, .f32⟩
  | .hbm, ⟨17, _⟩ => ⟨S64, .f32⟩
  | .hbm, ⟨18, _⟩ => ⟨S128, .f32⟩
  | .hbm, ⟨19, _⟩ => ⟨S_, .f32⟩
  | .hbm, ⟨20, _⟩ => ⟨S128, .f32⟩
  | .hbm, ⟨21, _⟩ => ⟨S_, .f32⟩
  | .hbm, ⟨22, _⟩ => ⟨S128, .f32⟩
  | .hbm, ⟨23, _⟩ => ⟨S_, .f32⟩
  | .hbm, ⟨24, _⟩ => ⟨S128, .f32⟩
  | .hbm, ⟨25, _⟩ => ⟨S_, .f32⟩
  | .hbm, ⟨26, _⟩ => ⟨S128, .f32⟩
  | .hbm, ⟨27, _⟩ => ⟨S_, .f32⟩
  | .hbm, ⟨28, _⟩ => ⟨S128, .f32⟩
  | .hbm, ⟨29, _⟩ => ⟨S_, .f32⟩
  | .hbm, ⟨30, _⟩ => ⟨S128, .f32⟩
  | .hbm, ⟨31, _⟩ => ⟨S_, .f32⟩
  | .hbm, ⟨32, _⟩ => ⟨S128, .f32⟩
  | .hbm, ⟨33, _⟩ => ⟨S_, .f32⟩
  | .hbm, ⟨34, _⟩ => ⟨S128, .f32⟩
  | .hbm, ⟨35, _⟩ => ⟨S1x128, .f32⟩
  | .hbm, ⟨36, _⟩ => ⟨S1x128, .f32⟩
  | .hbm, ⟨37, _⟩ => ⟨S1x128, .f32⟩
  | .hbm, ⟨38, _⟩ => ⟨S1x128, .f32⟩
  | .hbm, ⟨39, _⟩ => ⟨S1x128, .f32⟩
  | .hbm, ⟨40, _⟩ => ⟨S1x128, .f32⟩
  | .hbm, ⟨41, _⟩ => ⟨S1x128, .f32⟩
  | .hbm, ⟨42, _⟩ => ⟨S1x128, .f32⟩
  | .hbm, ⟨43, _⟩ => ⟨S1x128, .f32⟩
  | .hbm, ⟨44, _⟩ => ⟨S1x128, .f32⟩
  | .hbm, ⟨45, _⟩ => ⟨S10x128, .f32⟩
  | .hbm, ⟨46, _⟩ => ⟨S_, .i32⟩
  | .hbm, ⟨47, _⟩ => ⟨S_, .f32⟩
  | .hbm, ⟨48, _⟩ => ⟨S16x128, .f32⟩
  | .hbm, ⟨49, _⟩ => ⟨S_, .f32⟩
  | .hbm, ⟨50, _⟩ => ⟨S4096x64, .f32⟩
  | .hbm, ⟨51, _⟩ => ⟨S4096x128, .f32⟩
  | .hbm, ⟨52, _⟩ => ⟨S4096x32, .f32⟩
  | .hbm, ⟨53, _⟩ => ⟨S4096x128, .f32⟩
  | .hbm, ⟨54, _⟩ => ⟨S1x4096x128, .f32⟩
  | .hbm, ⟨55, _⟩ => ⟨S1x4096x128, .f32⟩
  | .hbm, ⟨56, _⟩ => ⟨S2x4096x128, .f32⟩
  | .hbm, ⟨57, _⟩ => ⟨S1x128, .f32⟩
  | .hbm, ⟨58, _⟩ => ⟨S128, .f32⟩
  | .hbm, ⟨59, _⟩ => ⟨S128x1, .f32⟩
  | .hbm, ⟨60, _⟩ => ⟨S1x128, .f32⟩
  | .hbm, ⟨61, _⟩ => ⟨S128, .f32⟩
  | .hbm, ⟨62, _⟩ => ⟨S128x1, .f32⟩
  | .hbm, ⟨63, _⟩ => ⟨S1x4096x128, .f32⟩
  | .hbm, ⟨64, _⟩ => ⟨S4096x128, .f32⟩
  | .hbm, ⟨65, _⟩ => ⟨S128x4096, .f32⟩
  | .hbm, ⟨66, _⟩ => ⟨S128x4096, .f32⟩
  | .hbm, ⟨67, _⟩ => ⟨S128x4096, .f32⟩
  | .hbm, ⟨68, _⟩ => ⟨S1x4096x128, .f32⟩
  | .hbm, ⟨69, _⟩ => ⟨S4096x128, .f32⟩
  | .hbm, ⟨70, _⟩ => ⟨S128x4096, .f32⟩
  | .hbm, ⟨71, _⟩ => ⟨S128x4096, .f32⟩
  | .hbm, ⟨72, _⟩ => ⟨S128x4096, .f32⟩
  | .hbm, ⟨73, _⟩ => ⟨S1x128x4096, .f32⟩
  | .hbm, ⟨74, _⟩ => ⟨S1x128x4096, .f32⟩
  | .hbm, ⟨75, _⟩ => ⟨S2x128x4096, .f32⟩
  | .hbm, ⟨76, _⟩ => ⟨S4x4096x512, .bf16⟩
  | .local _ .vmem, ⟨0, _⟩ => ⟨S2x128x1024, .f32⟩
  | .local _ .vmem, ⟨1, _⟩ => ⟨S2x128x1024, .f32⟩
  | .local _ .vmem, ⟨2, _⟩ => ⟨S1x4x128x1024, .bf16⟩
  | .local _ .vmem, ⟨3, _⟩ => ⟨S1x4x128x1024, .bf16⟩
  | .local _ .vmem, ⟨4, _⟩ => ⟨S1x256x128, .bf16⟩
  | .local _ .vmem, ⟨5, _⟩ => ⟨S1x256x128, .bf16⟩
  | .local _ .vmem, ⟨6, _⟩ => ⟨S1x1x128x256, .bf16⟩
  | .local _ .vmem, ⟨7, _⟩ => ⟨S1x1x128x256, .bf16⟩
  | .local _ .vmem, ⟨8, _⟩ => ⟨S1x4096x128, .bf16⟩
  | .local _ .vmem, ⟨9, _⟩ => ⟨S1x4096x128, .bf16⟩
  | .local _ .vmem, ⟨10, _⟩ => ⟨S1x1x128x4096, .bf16⟩
  | .local _ .vmem, ⟨11, _⟩ => ⟨S1x1x128x4096, .bf16⟩
  | .local _ .vmem, ⟨12, _⟩ => ⟨S1x1024x256, .bf16⟩
  | .local _ .vmem, ⟨13, _⟩ => ⟨S1x1024x256, .bf16⟩
  | _, _ => ⟨S4x8x128x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_call0_v0 : Ref sig .tc := ⟨.hbm, 9, rfl⟩
abbrev main_v0 : Ref sig .tc := ⟨.hbm, 10, rfl⟩
abbrev main_c_0 : Ref sig .tc := ⟨.hbm, 11, rfl⟩
abbrev main_call1_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_cst_2 : Ref sig .tc := ⟨.hbm, 23, rfl⟩
abbrev main_v9 : Ref sig .tc := ⟨.hbm, 24, rfl⟩
abbrev main_cst_3 : Ref sig .tc := ⟨.hbm, 25, rfl⟩
abbrev main_v10 : Ref sig .tc := ⟨.hbm, 26, rfl⟩
abbrev main_cst_4 : Ref sig .tc := ⟨.hbm, 27, rfl⟩
abbrev main_v11 : Ref sig .tc := ⟨.hbm, 28, rfl⟩
abbrev main_cst_5 : Ref sig .tc := ⟨.hbm, 29, rfl⟩
abbrev main_v12 : Ref sig .tc := ⟨.hbm, 30, rfl⟩
abbrev main_cst_6 : Ref sig .tc := ⟨.hbm, 31, rfl⟩
abbrev main_v13 : Ref sig .tc := ⟨.hbm, 32, rfl⟩
abbrev main_cst_7 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_c_8 : Ref sig .tc := ⟨.hbm, 46, rfl⟩
abbrev main_call2_v0 : Ref sig .tc := ⟨.hbm, 47, rfl⟩
abbrev main_v26 : Ref sig .tc := ⟨.hbm, 48, rfl⟩
abbrev main_cst_9 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![4, 2, 4], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S2x128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, false, true]

abbrev stage0_1 : Fin 2 → Memref sig .tc .vmem S1x4x128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x256x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x128x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x4096x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x1x128x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1x1024x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]
-- ==== GqaIdeal.lean ====
variable {F : FTy → Type} [FloatOps F] [Named F]
def κ : String → Option EReal := fun
  | "score_scale" => some (((1 / 8) * (Real.log 2)⁻¹ : ℝ) : EReal)
  | _ => none
-- ==== GqaRefIdeal.lean ====
abbrev S4x8x128x4096 : Shape := ⟨4, ![4, 8, 128, 4096]⟩
abbrev S4096x32 : Shape := ⟨2, ![4096, 32]⟩
abbrev S64 : Shape := ⟨1, ![64]⟩
abbrev S4x256x256 : Shape := ⟨3, ![4, 256, 256]⟩
abbrev S4x2x128x256 : Shape := ⟨4, ![4, 2, 128, 256]⟩
abbrev S4x4096x256 : Shape := ⟨3, ![4, 4096, 256]⟩
abbrev S4x2x128x4096 : Shape := ⟨4, ![4, 2, 128, 4096]⟩
abbrev S4x8x64x4096 : Shape := ⟨4, ![4, 8, 64, 4096]⟩
abbrev S4x4096x8x64 : Shape := ⟨4, ![4, 4096, 8, 64]⟩
abbrev S_ : Shape := ⟨0, ![]⟩
abbrev S4x4096x8 : Shape := ⟨3, ![4, 4096, 8]⟩
abbrev S4x4096x8x1 : Shape := ⟨4, ![4, 4096, 8, 1]⟩
abbrev S1x1x1x64 : Shape := ⟨4, ![1, 1, 1, 64]⟩
abbrev S4096x1x32 : Shape := ⟨3, ![4096, 1, 32]⟩
abbrev S4x4096x8x32 : Shape := ⟨4, ![4, 4096, 8, 32]⟩
abbrev S1x4096x1x32 : Shape := ⟨4, ![1, 4096, 1, 32]⟩
abbrev S4x4096x2x4x64 : Shape := ⟨5, ![4, 4096, 2, 4, 64]⟩
abbrev S4x256x2x128 : Shape := ⟨4, ![4, 256, 2, 128]⟩
abbrev S4x256x2x64 : Shape := ⟨4, ![4, 256, 2, 64]⟩
abbrev S4x4096x2x128 : Shape := ⟨4, ![4, 4096, 2, 128]⟩
abbrev S4x4096x2x64 : Shape := ⟨4, ![4, 4096, 2, 64]⟩
abbrev S4x4352x2x64 : Shape := ⟨4, ![4, 4352, 2, 64]⟩
abbrev S4x2x64x256 : Shape := ⟨4, ![4, 2, 64, 256]⟩
abbrev S4x2x64x4096 : Shape := ⟨4, ![4, 2, 64, 4096]⟩
abbrev S4x2x4352x4096x4 : Shape := ⟨5, ![4, 2, 4352, 4096, 4]⟩
abbrev S4x2x4x4096x4352 : Shape := ⟨5, ![4, 2, 4, 4096, 4352]⟩
abbrev S4x2x4x4096 : Shape := ⟨4, ![4, 2, 4, 4096]⟩
abbrev S4x2x4x4096x1 : Shape := ⟨5, ![4, 2, 4, 4096, 1]⟩
abbrev S4x2x64x4x4096 : Shape := ⟨5, ![4, 2, 64, 4, 4096]⟩
abbrev S4x4096x512 : Shape := ⟨3, ![4, 4096, 512]⟩

abbrev nBuf : Space → Nat
  | .hbm => 84
  | .vmem => 0
  | .smem => 0
  | _ => 0

abbrev bufTy : (tb : Table) → Fin (tcTables nBuf tb) → BufTy
  | .hbm, ⟨0, _⟩ => ⟨S4x8x128x4096, .bf16⟩
  | .hbm, ⟨1, _⟩ => ⟨S4096x32, .f32⟩
  | .hbm, ⟨2, _⟩ => ⟨S4096x32, .f32⟩
  | .hbm, ⟨3, _⟩ => ⟨S64, .f32⟩
  | .hbm, ⟨4, _⟩ => ⟨S4x256x256, .bf16⟩
  | .hbm, ⟨5, _⟩ => ⟨S4x2x128x256, .bf16⟩
  | .hbm, ⟨6, _⟩ => ⟨S4x4096x256, .bf16⟩
  | .hbm, ⟨7, _⟩ => ⟨S4x2x128x4096, .bf16⟩
  | .hbm, ⟨8, _⟩ => ⟨S4x8x128x4096, .f32⟩
  | .hbm, ⟨9, _⟩ => ⟨S4x8x64x4096, .f32⟩
  | .hbm, ⟨10, _⟩ => ⟨S4x4096x8x64, .f32⟩
  | .hbm, ⟨11, _⟩ => ⟨S4x4096x8x64, .f32⟩
  | .hbm, ⟨12, _⟩ => ⟨S_, .f32⟩
  | .hbm, ⟨13, _⟩ => ⟨S4x4096x8, .f32⟩
  | .hbm, ⟨14, _⟩ => ⟨S4x4096x8x1, .f32⟩
  | .hbm, ⟨15, _⟩ => ⟨S_, .f32⟩
  | .hbm, ⟨16, _⟩ => ⟨S4x4096x8x1, .f32⟩
  | .hbm, ⟨17, _⟩ => ⟨S4x4096x8x1, .f32⟩
  | .hbm, ⟨18, _⟩ => ⟨S_, .f32⟩
  | .hbm, ⟨19, _⟩ => ⟨S4x4096x8x1, .f32⟩
  | .hbm, ⟨20, _⟩ => ⟨S4x4096x8x1, .f32⟩
  | .hbm, ⟨21, _⟩ => ⟨S4x4096x8x1, .f32⟩
  | .hbm, ⟨22, _⟩ => ⟨S4x4096x8x64, .f32⟩
  | .hbm, ⟨23, _⟩ => ⟨S4x4096x8x64, .f32⟩
  | .hbm, ⟨24, _⟩ => ⟨S1x1x1x64, .f32⟩
  | .hbm, ⟨25, _⟩ => ⟨S4x4096x8x64, .f32⟩
  | .hbm, ⟨26, _⟩ => ⟨S4x4096x8x64, .f32⟩
  | .hbm, ⟨27, _⟩ => ⟨S4096x1x32, .f32⟩
  | .hbm, ⟨28, _⟩ => ⟨S4096x1x32, .f32⟩
  | .hbm, ⟨29, _⟩ => ⟨S4x4096x8x32, .f32⟩
  | .hbm, ⟨30, _⟩ => ⟨S4x4096x8x32, .f32⟩
  | .hbm, ⟨31, _⟩ => ⟨S1x4096x1x32, .f32⟩
  | .hbm, ⟨32, _⟩ => ⟨S4x4096x8x32, .f32⟩
  | .hbm, ⟨33, _⟩ => ⟨S4x4096x8x32, .f32⟩
  | .hbm, ⟨34, _⟩ => ⟨S1x4096x1x32, .f32⟩
  | .hbm, ⟨35, _⟩ => ⟨S4x4096x8x32, .f32⟩
  | .hbm, ⟨36, _⟩ => ⟨S4x4096x8x32, .f32⟩
  | .hbm, ⟨37, _⟩ => ⟨S4x4096x8x32, .f32⟩
  | .hbm, ⟨38, _⟩ => ⟨S1x4096x1x32, .f32⟩
  | .hbm, ⟨39, _⟩ => ⟨S4x4096x8x32, .f32⟩
  | .hbm, ⟨40, _⟩ => ⟨S4x4096x8x32, .f32⟩
  | .hbm, ⟨41, _⟩ => ⟨S1x4096x1x32, .f32⟩
  | .hbm, ⟨42, _⟩ => ⟨S4x4096x8x32, .f32⟩
  | .hbm, ⟨43, _⟩ => ⟨S4x4096x8x32, .f32⟩
  | .hbm, ⟨44, _⟩ => ⟨S4x4096x8x32, .f32⟩
  | .hbm, ⟨45, _⟩ => ⟨S4x4096x8x64, .f32⟩
  | .hbm, ⟨46, _⟩ => ⟨S4x4096x2x4x64, .f32⟩
  | .hbm, ⟨47, _⟩ => ⟨S4x256x256, .f32⟩
  | .hbm, ⟨48, _⟩ => ⟨S4x256x2x128, .f32⟩
  | .hbm, ⟨49, _⟩ => ⟨S4x256x2x64, .f32⟩
  | .hbm, ⟨50, _⟩ => ⟨S4x4096x256, .f32⟩
  | .hbm, ⟨51, _⟩ => ⟨S4x4096x2x128, .f32⟩
  | .hbm, ⟨52, _⟩ => ⟨S4x4096x2x64, .f32⟩
  | .hbm, ⟨53, _⟩ => ⟨S4x4352x2x64, .f32⟩
  | .hbm, ⟨54, _⟩ => ⟨S4x2x128x256, .f32⟩
  | .hbm, ⟨55, _⟩ => ⟨S4x2x64x256, .f32⟩
  | .hbm, ⟨56, _⟩ => ⟨S4x256x2x64, .f32⟩
  | .hbm, ⟨57, _⟩ => ⟨S4x2x128x4096, .f32⟩
  | .hbm, ⟨58, _⟩ => ⟨S4x2x64x4096, .f32⟩
  | .hbm, ⟨59, _⟩ => ⟨S4x4096x2x64, .f32⟩
  | .hbm, ⟨60, _⟩ => ⟨S4x4352x2x64, .f32⟩
  | .hbm, ⟨61, _⟩ => ⟨S4x2x4352x4096x4, .f32⟩
  | .hbm, ⟨62, _⟩ => ⟨S4x2x4x4096x4352, .f32⟩
  | .hbm, ⟨63, _⟩ => ⟨S_, .f32⟩
  | .hbm, ⟨64, _⟩ => ⟨S4x2x4x4096x4352, .f32⟩
  | .hbm, ⟨65, _⟩ => ⟨S4x2x4x4096x4352, .f32⟩
  | .hbm, ⟨66, _⟩ => ⟨S_, .f32⟩
  | .hbm, ⟨67, _⟩ => ⟨S4x2x4x4096, .f32⟩
  | .hbm, ⟨68, _⟩ => ⟨S_, .f32⟩
  | .hbm, ⟨69, _⟩ => ⟨S4x2x4x4096, .f32⟩
  | .hbm, ⟨70, _⟩ => ⟨S4x2x4x4096, .f32⟩
  | .hbm, ⟨71, _⟩ => ⟨S4x2x4x4096x1, .f32⟩
  | .hbm, ⟨72, _⟩ => ⟨S4x2x4x4096x4352, .f32⟩
  | .hbm, ⟨73, _⟩ => ⟨S4x2x4x4096x4352, .f32⟩
  | .hbm, ⟨74, _⟩ => ⟨S4x2x4x4096x4352, .f32⟩
  | .hbm, ⟨75, _⟩ => ⟨S_, .f32⟩
  | .hbm, ⟨76, _⟩ => ⟨S4x2x4x4096, .f32⟩
  | .hbm, ⟨77, _⟩ => ⟨S4x2x4x4096x1, .f32⟩
  | .hbm, ⟨78, _⟩ => ⟨S4x2x4x4096x4352, .f32⟩
  | .hbm, ⟨79, _⟩ => ⟨S4x2x4x4096x4352, .f32⟩
  | .hbm, ⟨80, _⟩ => ⟨S4x2x64x4x4096, .f32⟩
  | .hbm, ⟨81, _⟩ => ⟨S4x4096x2x4x64, .f32⟩
  | .hbm, ⟨82, _⟩ => ⟨S4x4096x512, .f32⟩
  | .hbm, ⟨83, _⟩ => ⟨S4x4096x512, .bf16⟩
  | _, _ => ⟨S4x8x128x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_cst_2 : Ref sig .tc := ⟨.hbm, 63, rfl⟩
abbrev main_v52 : Ref sig .tc := ⟨.hbm, 64, rfl⟩
abbrev main_v53 : Ref sig .tc := ⟨.hbm, 65, rfl⟩
abbrev main_cst_3 : Ref sig .tc := ⟨.hbm, 66, rfl⟩
abbrev main_v54 : Ref sig .tc := ⟨.hbm, 67, rfl⟩
abbrev main_cst_4 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_cst_5 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩

abbrev nD : Nat := 1
abbrev τ : Topo := Topo.v7x

variable {F : FTy → Type} [FloatOps F]
-- ==== Inproj.lean ====
abbrev S4x4096x1024 : Shape := ⟨3, ![4, 4096, 1024]⟩
abbrev S8x6144 : Shape := ⟨2, ![8, 6144]⟩
abbrev S2x1024 : Shape := ⟨2, ![2, 1024]⟩
abbrev S2x1024x5024 : Shape := ⟨3, ![2, 1024, 5024]⟩
abbrev S2x256 : Shape := ⟨2, ![2, 256]⟩
abbrev S2x384 : Shape := ⟨2, ![2, 384]⟩
abbrev S2x256x1024 : Shape := ⟨3, ![2, 256, 1024]⟩
abbrev S2x384x768 : Shape := ⟨3, ![2, 384, 768]⟩
abbrev S2x96 : Shape := ⟨2, ![2, 96]⟩
abbrev S2x64 : Shape := ⟨2, ![2, 64]⟩
abbrev S4096x16 : Shape := ⟨2, ![4096, 16]⟩
abbrev S4096x32 : Shape := ⟨2, ![4096, 32]⟩
abbrev S1 : Shape := ⟨1, ![1]⟩
abbrev S2x5024x1024 : Shape := ⟨3, ![2, 5024, 1024]⟩
abbrev S1x5024x1024 : Shape := ⟨3, ![1, 5024, 1024]⟩
abbrev S5024x1024 : Shape := ⟨2, ![5024, 1024]⟩
abbrev S256x1024 : Shape := ⟨2, ![256, 1024]⟩
abbrev S32x1024 : Shape := ⟨2, ![32, 1024]⟩
abbrev S128x1024 : Shape := ⟨2, ![128, 1024]⟩
abbrev S384x1024 : Shape := ⟨2, ![384, 1024]⟩
abbrev S512x1024 : Shape := ⟨2, ![512, 1024]⟩
abbrev S1x32x1024 : Shape := ⟨3, ![1, 32, 1024]⟩
abbrev S_ : Shape := ⟨0, ![]⟩
abbrev S1x128x1024 : Shape := ⟨3, ![1, 128, 1024]⟩
abbrev S2x64x1024 : Shape := ⟨3, ![2, 64, 1024]⟩
abbrev S2x128x1024 : Shape := ⟨3, ![2, 128, 1024]⟩
abbrev S8x64x1024 : Shape := ⟨3, ![8, 64, 1024]⟩
abbrev S8x128x1024 : Shape := ⟨3, ![8, 128, 1024]⟩
abbrev S1024x1024 : Shape := ⟨2, ![1024, 1024]⟩
abbrev S2816x1024 : Shape := ⟨2, ![2816, 1024]⟩
abbrev S1x256x1024 : Shape := ⟨3, ![1, 256, 1024]⟩
abbrev S256x8x128 : Shape := ⟨3, ![256, 8, 128]⟩
abbrev S256x8x64 : Shape := ⟨3, ![256, 8, 64]⟩
abbrev S256x512 : Shape := ⟨2, ![256, 512]⟩
abbrev S256x2048 : Shape := ⟨2, ![256, 2048]⟩
abbrev S1x384x768 : Shape := ⟨3, ![1, 384, 768]⟩
abbrev S384x768 : Shape := ⟨2, ![384, 768]⟩
abbrev S384x8x96 : Shape := ⟨3, ![384, 8, 96]⟩
abbrev S384x8x128 : Shape := ⟨3, ![384, 8, 128]⟩
abbrev S1x96 : Shape := ⟨2, ![1, 96]⟩
abbrev S96 : Shape := ⟨1, ![96]⟩
abbrev S128 : Shape := ⟨1, ![128]⟩
abbrev S1x64 : Shape := ⟨2, ![1, 64]⟩
abbrev S64 : Shape := ⟨1, ![64]⟩
abbrev S0 : Shape := ⟨1, ![0]⟩
abbrev S32 : Shape := ⟨1, ![32]⟩
abbrev S1x128 : Shape := ⟨2, ![1, 128]⟩
abbrev S10x128 : Shape := ⟨2, ![10, 128]⟩
abbrev S16x128 : Shape := ⟨2, ![16, 128]⟩
abbrev S1x1024 : Shape := ⟨2, ![1, 1024]⟩
abbrev S1024 : Shape := ⟨1, ![1024]⟩
abbrev S1x256 : Shape := ⟨2, ![1, 256]⟩
abbrev S256 : Shape := ⟨1, ![256]⟩
abbrev S1x384 : Shape := ⟨2, ![1, 384]⟩
abbrev S384 : Shape := ⟨1, ![384]⟩
abbrev S4096x64 : Shape := ⟨2, ![4096, 64]⟩
abbrev S4096x128 : Shape := ⟨2, ![4096, 128]⟩
abbrev S1x4096x128 : Shape := ⟨3, ![1, 4096, 128]⟩
abbrev S3x4096x128 : Shape := ⟨3, ![3, 4096, 128]⟩
abbrev S2x4096x128 : Shape := ⟨3, ![2, 4096, 128]⟩
abbrev S4x8x128x4096 : Shape := ⟨4, ![4, 8, 128, 4096]⟩
abbrev S4x4096x256 : Shape := ⟨3, ![4, 4096, 256]⟩
abbrev S4x2x128x4096 : Shape := ⟨4, ![4, 2, 128, 4096]⟩
abbrev S4x4096x512 : Shape := ⟨3, ![4, 4096, 512]⟩
abbrev S1x1024x1024 : Shape := ⟨3, ![1, 1024, 1024]⟩
abbrev S3x1024x128 : Shape := ⟨3, ![3, 1024, 128]⟩
abbrev S2x1024x128 : Shape := ⟨3, ![2, 1024, 128]⟩
abbrev S1x8x128x1024 : Shape := ⟨4, ![1, 8, 128, 1024]⟩
abbrev S1x1024x256 : Shape := ⟨3, ![1, 1024, 256]⟩
abbrev S1x2x128x1024 : Shape := ⟨4, ![1, 2, 128, 1024]⟩
abbrev S1x1024x512 : Shape := ⟨3, ![1, 1024, 512]⟩
abbrev S1024x1 : Shape := ⟨2, ![1024, 1]⟩
abbrev S1024x2816 : Shape := ⟨2, ![1024, 2816]⟩
abbrev S1024x256 : Shape := ⟨2, ![1024, 256]⟩
abbrev S1024x2048 : Shape := ⟨2, ![1024, 2048]⟩
abbrev S1024x128 : Shape := ⟨2, ![1024, 128]⟩
abbrev S1x1024x128 : Shape := ⟨3, ![1, 1024, 128]⟩
abbrev S1x1x128x1024 : Shape := ⟨4, ![1, 1, 128, 1024]⟩
abbrev S1024x384 : Shape := ⟨2, ![1024, 384]⟩
abbrev S1024x512 : Shape := ⟨2, ![1024, 512]⟩

abbrev nBuf : Space → Nat
  | .hbm => 199
  | .vmem => 28
  | .smem => 0
  | _ => 0

abbrev hbmTy0_0 (i : Nat) : BufTy := match i % 128 with
  | 0 => ⟨S4x4096x1024, .f32⟩
  | 1 => ⟨S8x6144, .f32⟩
  | 2 => ⟨S2x1024, .f32⟩
  | 3 => ⟨S2x1024x5024, .f32⟩
  | 4 => ⟨S2x256, .f32⟩
  | 5 => ⟨S2x384, .f32⟩
  | 6 => ⟨S2x256x1024, .f32⟩
  | 7 => ⟨S2x384x768, .f32⟩
  | 8 => ⟨S2x96, .f32⟩
  | 9 => ⟨S2x64, .f32⟩
  | 10 => ⟨S4096x16, .f32⟩
  | 11 => ⟨S4096x16, .f32⟩
  | 12 => ⟨S4096x32, .f32⟩
  | 13 => ⟨S4096x32, .f32⟩
  | 14 => ⟨S1, .f32⟩
  | 15 => ⟨S1, .f32⟩
  | 16 => ⟨S2x5024x1024, .f32⟩
  | 17 => ⟨S1x5024x1024, .f32⟩
  | 18 => ⟨S5024x1024, .f32⟩
  | 19 => ⟨S5024x1024, .bf16⟩
  | 20 => ⟨S256x1024, .bf16⟩
  | 21 => ⟨S32x1024, .bf16⟩
  | 22 => ⟨S128x1024, .bf16⟩
  | 23 => ⟨S128x1024, .bf16⟩
  | 24 => ⟨S384x1024, .bf16⟩
  | 25 => ⟨S512x1024, .bf16⟩
  | 26 => ⟨S512x1024, .bf16⟩
  | 27 => ⟨S1x32x1024, .bf16⟩
  | 28 => ⟨S_, .i32⟩
  | 29 => ⟨S_, .bf16⟩
  | 30 => ⟨S1x128x1024, .bf16⟩
  | 31 => ⟨S128x1024, .bf16⟩
  | 32 => ⟨S2x64x1024, .bf16⟩
  | 33 => ⟨S_, .i32⟩
  | 34 => ⟨S_, .bf16⟩
  | 35 => ⟨S2x128x1024, .bf16⟩
  | 36 => ⟨S256x1024, .bf16⟩
  | 37 => ⟨S2x64x1024, .bf16⟩
  | 38 => ⟨S_, .i32⟩
  | 39 => ⟨S_, .bf16⟩
  | 40 => ⟨S2x128x1024, .bf16⟩
  | 41 => ⟨S256x1024, .bf16⟩
  | 42 => ⟨S256x1024, .bf16⟩
  | 43 => ⟨S2x64x1024, .bf16⟩
  | 44 => ⟨S_, .i32⟩
  | 45 => ⟨S_, .bf16⟩
  | 46 => ⟨S2x128x1024, .bf16⟩
  | 47 => ⟨S256x1024, .bf16⟩
  | 48 => ⟨S8x64x1024, .bf16⟩
  | 49 => ⟨S_, .i32⟩
  | 50 => ⟨S_, .bf16⟩
  | 51 => ⟨S8x128x1024, .bf16⟩
  | 52 => ⟨S1024x1024, .bf16⟩
  | 53 => ⟨S8x64x1024, .bf16⟩
  | 54 => ⟨S_, .i32⟩
  | 55 => ⟨S_, .bf16⟩
  | 56 => ⟨S8x128x1024, .bf16⟩
  | 57 => ⟨S1024x1024, .bf16⟩
  | 58 => ⟨S1024x1024, .bf16⟩
  | 59 => ⟨S2816x1024, .bf16⟩
  | 60 => ⟨S1x256x1024, .f32⟩
  | 61 => ⟨S256x1024, .f32⟩
  | 62 => ⟨S256x8x128, .f32⟩
  | 63 => ⟨S256x8x64, .f32⟩
  | 64 => ⟨S256x512, .f32⟩
  | 65 => ⟨S256x8x64, .f32⟩
  | 66 => ⟨S256x512, .f32⟩
  | 67 => ⟨S256x8x64, .f32⟩
  | 68 => ⟨S_, .i32⟩
  | 69 => ⟨S_, .f32⟩
  | 70 => ⟨S256x8x128, .f32⟩
  | 71 => ⟨S256x1024, .f32⟩
  | 72 => ⟨S256x8x64, .f32⟩
  | 73 => ⟨S_, .i32⟩
  | 74 => ⟨S_, .f32⟩
  | 75 => ⟨S256x8x128, .f32⟩
  | 76 => ⟨S256x1024, .f32⟩
  | 77 => ⟨S256x2048, .f32⟩
  | 78 => ⟨S256x2048, .bf16⟩
  | 79 => ⟨S1x384x768, .f32⟩
  | 80 => ⟨S384x768, .f32⟩
  | 81 => ⟨S384x8x96, .f32⟩
  | 82 => ⟨S_, .i32⟩
  | 83 => ⟨S_, .f32⟩
  | 84 => ⟨S384x8x128, .f32⟩
  | 85 => ⟨S384x1024, .f32⟩
  | 86 => ⟨S384x1024, .bf16⟩
  | 87 => ⟨S1x96, .f32⟩
  | 88 => ⟨S96, .f32⟩
  | 89 => ⟨S_, .i32⟩
  | 90 => ⟨S_, .f32⟩
  | 91 => ⟨S128, .f32⟩
  | 92 => ⟨S1x64, .f32⟩
  | 93 => ⟨S64, .f32⟩
  | 94 => ⟨S_, .i32⟩
  | 95 => ⟨S_, .f32⟩
  | 96 => ⟨S128, .f32⟩
  | 97 => ⟨S1x64, .f32⟩
  | 98 => ⟨S64, .f32⟩
  | 99 => ⟨S_, .i32⟩
  | 100 => ⟨S_, .f32⟩
  | 101 => ⟨S128, .f32⟩
  | 102 => ⟨S0, .f32⟩
  | 103 => ⟨S32, .f32⟩
  | 104 => ⟨S32, .f32⟩
  | 105 => ⟨S64, .f32⟩
  | 106 => ⟨S128, .f32⟩
  | 107 => ⟨S_, .f32⟩
  | 108 => ⟨S128, .f32⟩
  | 109 => ⟨S_, .i32⟩
  | 110 => ⟨S1, .i32⟩
  | 111 => ⟨S_, .f32⟩
  | 112 => ⟨S128, .f32⟩
  | 113 => ⟨S128, .f32⟩
  | 114 => ⟨S128, .f32⟩
  | 115 => ⟨S_, .f32⟩
  | 116 => ⟨S128, .f32⟩
  | 117 => ⟨S_, .i32⟩
  | 118 => ⟨S1, .i32⟩
  | 119 => ⟨S_, .f32⟩
  | 120 => ⟨S128, .f32⟩
  | 121 => ⟨S128, .f32⟩
  | 122 => ⟨S128, .f32⟩
  | 123 => ⟨S_, .f32⟩
  | 124 => ⟨S128, .f32⟩
  | 125 => ⟨S_, .i32⟩
  | 126 => ⟨S1, .i32⟩
  | 127 => ⟨S_, .f32⟩
  | _ => ⟨S4x4096x1024, .f32⟩

abbrev hbmTy0_1 (i : Nat) : BufTy := match i % 128 with
  | 0 => ⟨S128, .f32⟩
  | 1 => ⟨S_, .f32⟩
  | 2 => ⟨S128, .f32⟩
  | 3 => ⟨S_, .f32⟩
  | 4 => ⟨S128, .f32⟩
  | 5 => ⟨S_, .f32⟩
  | 6 => ⟨S128, .f32⟩
  | 7 => ⟨S_, .f32⟩
  | 8 => ⟨S128, .f32⟩
  | 9 => ⟨S1x128, .f32⟩
  | 10 => ⟨S1x128, .f32⟩
  | 11 => ⟨S1x128, .f32⟩
  | 12 => ⟨S1x128, .f32⟩
  | 13 => ⟨S1x128, .f32⟩
  | 14 => ⟨S1x128, .f32⟩
  | 15 => ⟨S1x128, .f32⟩
  | 16 => ⟨S1x128, .f32⟩
  | 17 => ⟨S1x128, .f32⟩
  | 18 => ⟨S1x128, .f32⟩
  | 19 => ⟨S10x128, .f32⟩
  | 20 => ⟨S_, .i32⟩
  | 21 => ⟨S_, .f32⟩
  | 22 => ⟨S16x128, .f32⟩
  | 23 => ⟨S1x1024, .f32⟩
  | 24 => ⟨S1024, .f32⟩
  | 25 => ⟨S1x1024, .f32⟩
  | 26 => ⟨S1x256, .f32⟩
  | 27 => ⟨S256, .f32⟩
  | 28 => ⟨S1x256, .f32⟩
  | 29 => ⟨S1x384, .f32⟩
  | 30 => ⟨S384, .f32⟩
  | 31 => ⟨S1x384, .f32⟩
  | 32 => ⟨S_, .f32⟩
  | 33 => ⟨S4096x64, .f32⟩
  | 34 => ⟨S_, .f32⟩
  | 35 => ⟨S4096x32, .f32⟩
  | 36 => ⟨S4096x128, .f32⟩
  | 37 => ⟨S_, .f32⟩
  | 38 => ⟨S4096x64, .f32⟩
  | 39 => ⟨S4096x16, .f32⟩
  | 40 => ⟨S_, .f32⟩
  | 41 => ⟨S4096x16, .f32⟩
  | 42 => ⟨S_, .f32⟩
  | 43 => ⟨S4096x32, .f32⟩
  | 44 => ⟨S4096x128, .f32⟩
  | 45 => ⟨S_, .f32⟩
  | 46 => ⟨S4096x64, .f32⟩
  | 47 => ⟨S_, .f32⟩
  | 48 => ⟨S4096x16, .f32⟩
  | 49 => ⟨S_, .f32⟩
  | 50 => ⟨S4096x32, .f32⟩
  | 51 => ⟨S4096x128, .f32⟩
  | 52 => ⟨S1x4096x128, .f32⟩
  | 53 => ⟨S1x4096x128, .f32⟩
  | 54 => ⟨S1x4096x128, .f32⟩
  | 55 => ⟨S3x4096x128, .f32⟩
  | 56 => ⟨S_, .f32⟩
  | 57 => ⟨S4096x64, .f32⟩
  | 58 => ⟨S4096x128, .f32⟩
  | 59 => ⟨S4096x32, .f32⟩
  | 60 => ⟨S4096x128, .f32⟩
  | 61 => ⟨S1x4096x128, .f32⟩
  | 62 => ⟨S1x4096x128, .f32⟩
  | 63 => ⟨S2x4096x128, .f32⟩
  | 64 => ⟨S4x4096x1024, .bf16⟩
  | 65 => ⟨S4x8x128x4096, .bf16⟩
  | 66 => ⟨S4x4096x256, .bf16⟩
  | 67 => ⟨S4x2x128x4096, .bf16⟩
  | 68 => ⟨S4x8x128x4096, .bf16⟩
  | 69 => ⟨S4x8x128x4096, .bf16⟩
  | 70 => ⟨S4x4096x512, .f32⟩
  | _ => ⟨S4x4096x1024, .f32⟩

abbrev hbmTy (i : Nat) : BufTy := match i / 128 with
  | 0 => hbmTy0_0 i
  | 1 => hbmTy0_1 i
  | _ => ⟨S4x4096x1024, .f32⟩

abbrev bufTy : (tb : Table) → Fin (tcTables nBuf tb) → BufTy
  | .hbm, ⟨i, _⟩ => hbmTy i
  | .local _ .vmem, ⟨0, _⟩ => ⟨S8x6144, .f32⟩
  | .local _ .vmem, ⟨1, _⟩ => ⟨S1x1024x1024, .f32⟩
  | .local _ .vmem, ⟨2, _⟩ => ⟨S1x1024x1024, .f32⟩
  | .local _ .vmem, ⟨3, _⟩ => ⟨S1x1024, .f32⟩
  | .local _ .vmem, ⟨4, _⟩ => ⟨S2816x1024, .bf16⟩
  | .local _ .vmem, ⟨5, _⟩ => ⟨S1x256, .f32⟩
  | .local _ .vmem, ⟨6, _⟩ => ⟨S1x384, .f32⟩
  | .local _ .vmem, ⟨7, _⟩ => ⟨S256x2048, .bf16⟩
  | .local _ .vmem, ⟨8, _⟩ => ⟨S384x1024, .bf16⟩
  | .local _ .vmem, ⟨9, _⟩ => ⟨S16x128, .f32⟩
  | .local _ .vmem, ⟨10, _⟩ => ⟨S3x1024x128, .f32⟩
  | .local _ .vmem, ⟨11, _⟩ => ⟨S3x1024x128, .f32⟩
  | .local _ .vmem, ⟨12, _⟩ => ⟨S2x1024x128, .f32⟩
  | .local _ .vmem, ⟨13, _⟩ => ⟨S2x1024x128, .f32⟩
  | .local _ .vmem, ⟨14, _⟩ => ⟨S1x1024x1024, .bf16⟩
  | .local _ .vmem, ⟨15, _⟩ => ⟨S1x1024x1024, .bf16⟩
  | .local _ .vmem, ⟨16, _⟩ => ⟨S1x8x128x1024, .bf16⟩
  | .local _ .vmem, ⟨17, _⟩ => ⟨S1x8x128x1024, .bf16⟩
  | .local _ .vmem, ⟨18, _⟩ => ⟨S1x1024x256, .bf16⟩
  | .local _ .vmem, ⟨19, _⟩ => ⟨S1x1024x256, .bf16⟩
  | .local _ .vmem, ⟨20, _⟩ => ⟨S1x2x128x1024, .bf16⟩
  | .local _ .vmem, ⟨21, _⟩ => ⟨S1x2x128x1024, .bf16⟩
  | .local _ .vmem, ⟨22, _⟩ => ⟨S1x8x128x1024, .bf16⟩
  | .local _ .vmem, ⟨23, _⟩ => ⟨S1x8x128x1024, .bf16⟩
  | .local _ .vmem, ⟨24, _⟩ => ⟨S1x8x128x1024, .bf16⟩
  | .local _ .vmem, ⟨25, _⟩ => ⟨S1x8x128x1024, .bf16⟩
  | .local _ .vmem, ⟨26, _⟩ => ⟨S1x1024x512, .f32⟩
  | .local _ .vmem, ⟨27, _⟩ => ⟨S1x1024x512, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_c : Ref sig .tc := ⟨.hbm, 28, rfl⟩
abbrev main_call0_v0 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_c_0 : Ref sig .tc := ⟨.hbm, 33, rfl⟩
abbrev main_call1_v0 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_c_1 : Ref sig .tc := ⟨.hbm, 38, rfl⟩
abbrev main_call2_v0 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_c_2 : Ref sig .tc := ⟨.hbm, 44, rfl⟩
abbrev main_call3_v0 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_c_3 : Ref sig .tc := ⟨.hbm, 49, rfl⟩
abbrev main_call4_v0 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_c_4 : Ref sig .tc := ⟨.hbm, 54, rfl⟩
abbrev main_call5_v0 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_c_5 : Ref sig .tc := ⟨.hbm, 68, rfl⟩
abbrev main_call6_v0 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_c_6 : Ref sig .tc := ⟨.hbm, 73, rfl⟩
abbrev main_call7_v0 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_c_7 : Ref sig .tc := ⟨.hbm, 82, rfl⟩
abbrev main_call8_v0 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_c_8 : Ref sig .tc := ⟨.hbm, 89, rfl⟩
abbrev main_call9_v0 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_c_9 : Ref sig .tc := ⟨.hbm, 94, rfl⟩
abbrev main_call10_v0 : Ref sig .tc := ⟨.hbm, 95, rfl⟩
abbrev main_v58 : Ref sig .tc := ⟨.hbm, 96, rfl⟩
abbrev main_v59 : Ref sig .tc := ⟨.hbm, 97, rfl⟩
abbrev main_v60 : Ref sig .tc := ⟨.hbm, 98, rfl⟩
abbrev main_c_10 : Ref sig .tc := ⟨.hbm, 99, rfl⟩
abbrev main_call11_v0 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩
abbrev main_v64 : Ref sig .tc := ⟨.hbm, 104, rfl⟩
abbrev main_v65 : Ref sig .tc := ⟨.hbm, 105, rfl⟩
abbrev main_v66 : Ref sig .tc := ⟨.hbm, 106, rfl⟩
abbrev main_cst : Ref sig .tc := ⟨.hbm, 107, rfl⟩
abbrev main_v67 : Ref sig .tc := ⟨.hbm, 108, rfl⟩
abbrev main_c_11 : Ref sig .tc := ⟨.hbm, 109, rfl⟩
abbrev main_v68 : Ref sig .tc := ⟨.hbm, 110, rfl⟩
abbrev main_cst_12 : Ref sig .tc := ⟨.hbm, 111, rfl⟩
abbrev main_v69 : Ref sig .tc := ⟨.hbm, 112, rfl⟩
abbrev main_v70 : Ref sig .tc := ⟨.hbm, 113, rfl⟩
abbrev main_v71 : Ref sig .tc := ⟨.hbm, 114, rfl⟩
abbrev main_cst_13 : Ref sig .tc := ⟨.hbm, 115, rfl⟩
abbrev main_v72 : Ref sig .tc := ⟨.hbm, 116, rfl⟩
abbrev main_c_14 : Ref sig .tc := ⟨.hbm, 117, rfl⟩
abbrev main_v73 : Ref sig .tc := ⟨.hbm, 118, rfl⟩
abbrev main_cst_15 : Ref sig .tc := ⟨.hbm, 119, rfl⟩
abbrev main_v74 : Ref sig .tc := ⟨.hbm, 120, rfl⟩
abbrev main_v75 : Ref sig .tc := ⟨.hbm, 121, rfl⟩
abbrev main_v76 : Ref sig .tc := ⟨.hbm, 122, rfl⟩
abbrev main_cst_16 : Ref sig .tc := ⟨.hbm, 123, rfl⟩
abbrev main_v77 : Ref sig .tc := ⟨.hbm, 124, rfl⟩
abbrev main_c_17 : Ref sig .tc := ⟨.hbm, 125, rfl⟩
abbrev main_v78 : Ref sig .tc := ⟨.hbm, 126, rfl⟩
abbrev main_cst_18 : Ref sig .tc := ⟨.hbm, 127, rfl⟩
abbrev main_v79 : Ref sig .tc := ⟨.hbm, 128, rfl⟩
abbrev main_cst_19 : Ref sig .tc := ⟨.hbm, 129, rfl⟩
abbrev main_v80 : Ref sig .tc := ⟨.hbm, 130, rfl⟩
abbrev main_cst_20 : Ref sig .tc := ⟨.hbm, 131, rfl⟩
abbrev main_v81 : Ref sig .tc := ⟨.hbm, 132, rfl⟩
abbrev main_cst_21 : Ref sig .tc := ⟨.hbm, 133, rfl⟩
abbrev main_v82 : Ref sig .tc := ⟨.hbm, 134, rfl⟩
abbrev main_cst_22 : Ref sig .tc := ⟨.hbm, 135, rfl⟩
abbrev main_v83 : Ref sig .tc := ⟨.hbm, 136, rfl⟩
abbrev main_v84 : Ref sig .tc := ⟨.hbm, 137, rfl⟩
abbrev main_v85 : Ref sig .tc := ⟨.hbm, 138, rfl⟩
abbrev main_v86 : Ref sig .tc := ⟨.hbm, 139, rfl⟩
abbrev main_v87 : Ref sig .tc := ⟨.hbm, 140, rfl⟩
abbrev main_v88 : Ref sig .tc := ⟨.hbm, 141, rfl⟩
abbrev main_v89 : Ref sig .tc := ⟨.hbm, 142, rfl⟩
abbrev main_v90 : Ref sig .tc := ⟨.hbm, 143, rfl⟩
abbrev main_v91 : Ref sig .tc := ⟨.hbm, 144, rfl⟩
abbrev main_v92 : Ref sig .tc := ⟨.hbm, 145, rfl⟩
abbrev main_v93 : Ref sig .tc := ⟨.hbm, 146, rfl⟩
abbrev main_v94 : Ref sig .tc := ⟨.hbm, 147, rfl⟩
abbrev main_c_23 : Ref sig .tc := ⟨.hbm, 148, rfl⟩
abbrev main_call12_v0 : Ref sig .tc := ⟨.hbm, 149, rfl⟩
abbrev main_v95 : Ref sig .tc := ⟨.hbm, 150, rfl⟩
abbrev main_v96 : Ref sig .tc := ⟨.hbm, 151, rfl⟩
abbrev main_v97 : Ref sig .tc := ⟨.hbm, 152, rfl⟩
abbrev main_v98 : Ref sig .tc := ⟨.hbm, 153, rfl⟩
abbrev main_v99 : Ref sig .tc := ⟨.hbm, 154, rfl⟩
abbrev main_v100 : Ref sig .tc := ⟨.hbm, 155, rfl⟩
abbrev main_v101 : Ref sig .tc := ⟨.hbm, 156, rfl⟩
abbrev main_v102 : Ref sig .tc := ⟨.hbm, 157, rfl⟩
abbrev main_v103 : Ref sig .tc := ⟨.hbm, 158, rfl⟩
abbrev main_v104 : Ref sig .tc := ⟨.hbm, 159, rfl⟩
abbrev main_cst_24 : Ref sig .tc := ⟨.hbm, 160, rfl⟩
abbrev main_v105 : Ref sig .tc := ⟨.hbm, 161, rfl⟩
abbrev main_cst_25 : Ref sig .tc := ⟨.hbm, 162, rfl⟩
abbrev main_v106 : Ref sig .tc := ⟨.hbm, 163, rfl⟩
abbrev main_v107 : Ref sig .tc := ⟨.hbm, 164, rfl⟩
abbrev main_cst_26 : Ref sig .tc := ⟨.hbm, 165, rfl⟩
abbrev main_v108 : Ref sig .tc := ⟨.hbm, 166, rfl⟩
abbrev main_v109 : Ref sig .tc := ⟨.hbm, 167, rfl⟩
abbrev main_cst_27 : Ref sig .tc := ⟨.hbm, 168, rfl⟩
abbrev main_v110 : Ref sig .tc := ⟨.hbm, 169, rfl⟩
abbrev main_cst_28 : Ref sig .tc := ⟨.hbm, 170, rfl⟩
abbrev main_v111 : Ref sig .tc := ⟨.hbm, 171, rfl⟩
abbrev main_v112 : Ref sig .tc := ⟨.hbm, 172, rfl⟩
abbrev main_cst_29 : Ref sig .tc := ⟨.hbm, 173, rfl⟩
abbrev main_v113 : Ref sig .tc := ⟨.hbm, 174, rfl⟩
abbrev main_cst_30 : Ref sig .tc := ⟨.hbm, 175, rfl⟩
abbrev main_v114 : Ref sig .tc := ⟨.hbm, 176, rfl⟩
abbrev main_cst_31 : Ref sig .tc := ⟨.hbm, 177, rfl⟩
abbrev main_v115 : Ref sig .tc := ⟨.hbm, 178, rfl⟩
abbrev main_v116 : Ref sig .tc := ⟨.hbm, 179, rfl⟩
abbrev main_v117 : Ref sig .tc := ⟨.hbm, 180, rfl⟩
abbrev main_v118 : Ref sig .tc := ⟨.hbm, 181, rfl⟩
abbrev main_v119 : Ref sig .tc := ⟨.hbm, 182, rfl⟩
abbrev main_v120 : Ref sig .tc := ⟨.hbm, 183, rfl⟩
abbrev main_cst_32 : Ref sig .tc := ⟨.hbm, 184, rfl⟩
abbrev main_v121 : Ref sig .tc := ⟨.hbm, 185, rfl⟩
abbrev main_v122 : Ref sig .tc := ⟨.hbm, 186, rfl⟩
abbrev main_v123 : Ref sig .tc := ⟨.hbm, 187, rfl⟩
abbrev main_v124 : Ref sig .tc := ⟨.hbm, 188, rfl⟩
abbrev main_v125 : Ref sig .tc := ⟨.hbm, 189, rfl⟩
abbrev main_v126 : Ref sig .tc := ⟨.hbm, 190, rfl⟩
abbrev main_v127 : Ref sig .tc := ⟨.hbm, 191, rfl⟩
abbrev main_v128_0 : Ref sig .tc := ⟨.hbm, 192, rfl⟩
abbrev main_v128_1 : Ref sig .tc := ⟨.hbm, 193, rfl⟩
abbrev main_v128_2 : Ref sig .tc := ⟨.hbm, 194, rfl⟩
abbrev main_v128_3 : Ref sig .tc := ⟨.hbm, 195, rfl⟩
abbrev main_v128_4 : Ref sig .tc := ⟨.hbm, 196, rfl⟩
abbrev main_v128_5 : Ref sig .tc := ⟨.hbm, 197, rfl⟩
abbrev main_v128_6 : Ref sig .tc := ⟨.hbm, 198, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg15_1 : Ref sig .tc := ⟨.vmem, 23, rfl⟩
abbrev cc0_stg16_0 : Ref sig .tc := ⟨.vmem, 24, rfl⟩
abbrev cc0_stg16_1 : Ref sig .tc := ⟨.vmem, 25, rfl⟩
abbrev cc0_stg17_0 : Ref sig .tc := ⟨.vmem, 26, rfl⟩
abbrev cc0_stg17_1 : Ref sig .tc := ⟨.vmem, 27, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11
abbrev cc0_sem10_0 : DmaSem sig := 12
abbrev cc0_sem10_1 : DmaSem sig := 13
abbrev cc0_sem11_0 : DmaSem sig := 14
abbrev cc0_sem11_1 : DmaSem sig := 15
abbrev cc0_sem12_0 : DmaSem sig := 16
abbrev cc0_sem12_1 : DmaSem sig := 17
abbrev cc0_sem13_0 : DmaSem sig := 18
abbrev cc0_sem13_1 : DmaSem sig := 19
abbrev cc0_sem14_0 : DmaSem sig := 20
abbrev cc0_sem14_1 : DmaSem sig := 21
abbrev cc0_sem15_0 : DmaSem sig := 22
abbrev cc0_sem15_1 : DmaSem sig := 23
abbrev cc0_sem16_0 : DmaSem sig := 24
abbrev cc0_sem16_1 : DmaSem sig := 25
abbrev cc0_sem17_0 : DmaSem sig := 26
abbrev cc0_sem17_1 : DmaSem sig := 27

abbrev nD : Nat := 1
abbrev τ : Topo := Topo.v7x

variable {F : FTy → Type} [FloatOps F]

abbrev grid0 : Pipeline.Grid := ⟨2, ![4, 4], ![false, false]⟩

def k0_off1 (i : grid0.Coords) : Fin 2 → Nat :=
  let arg0 : BitVec 32 := BitVec.ofNat 32 (i 0).val
  let v0 : Index := Scalar.indexCast arg0
  let c0 : Index := 0#32
  ![v0.toNat, 0]
def k0_off2 (i : grid0.Coords) : Fin 2 → Nat :=
  let arg0 : BitVec 32 := BitVec.ofNat 32 (i 0).val
  let v2 : Index := Scalar.indexCast arg0
  let c1024 : Index := 1024#32
  ![v2.toNat, 1024]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_15 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_16 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S8x6144 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S256x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S384x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S16x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S3x1024x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S2x1024x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true]

abbrev stage0_11 : Fin 2 → Memref sig .tc .vmem S1x1024x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x8x128x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x1024x256 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x2x128x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x8x128x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x8x128x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x1024x512 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]
-- ==== InprojIdeal.lean ====
variable {F : FTy → Type} [FloatOps F] [Named F]
def κ : String → Option EReal := fun
  | "inv_dim" => some ((1 / 96 : ℝ) : EReal)
  | "inv_rank" => some ((1 / 384 : ℝ) : EReal)
  | _ => none
-- ==== InprojRefIdeal.lean ====
abbrev S4x4096x1024 : Shape := ⟨3, ![4, 4096, 1024]⟩
abbrev S8x6144 : Shape := ⟨2, ![8, 6144]⟩
abbrev S2x1024 : Shape := ⟨2, ![2, 1024]⟩
abbrev S2x1024x5024 : Shape := ⟨3, ![2, 1024, 5024]⟩
abbrev S2x256 : Shape := ⟨2, ![2, 256]⟩
abbrev S2x384 : Shape := ⟨2, ![2, 384]⟩
abbrev S2x256x1024 : Shape := ⟨3, ![2, 256, 1024]⟩
abbrev S2x384x768 : Shape := ⟨3, ![2, 384, 768]⟩
abbrev S2x96 : Shape := ⟨2, ![2, 96]⟩
abbrev S2x64 : Shape := ⟨2, ![2, 64]⟩
abbrev S4096x16 : Shape := ⟨2, ![4096, 16]⟩
abbrev S4096x32 : Shape := ⟨2, ![4096, 32]⟩
abbrev S1 : Shape := ⟨1, ![1]⟩
abbrev S4x6144 : Shape := ⟨2, ![4, 6144]⟩
abbrev S4x1x6144 : Shape := ⟨3, ![4, 1, 6144]⟩
abbrev S4x1x1024 : Shape := ⟨3, ![4, 1, 1024]⟩
abbrev S1x1024 : Shape := ⟨2, ![1, 1024]⟩
abbrev S1024 : Shape := ⟨1, ![1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S1x1024x5024 : Shape := ⟨3, ![1, 1024, 5024]⟩
abbrev S1024x5024 : Shape := ⟨2, ![1024, 5024]⟩
abbrev S1024x1952 : Shape := ⟨2, ![1024, 1952]⟩
abbrev S4x4096x1952 : Shape := ⟨3, ![4, 4096, 1952]⟩
abbrev S4x4096x256 : Shape := ⟨3, ![4, 4096, 256]⟩
abbrev S4x4096x32 : Shape := ⟨3, ![4, 4096, 32]⟩
abbrev S4x4096x128 : Shape := ⟨3, ![4, 4096, 128]⟩
abbrev S4x4096x384 : Shape := ⟨3, ![4, 4096, 384]⟩
abbrev S4x4096x512 : Shape := ⟨3, ![4, 4096, 512]⟩
abbrev S1x256 : Shape := ⟨2, ![1, 256]⟩
abbrev S256 : Shape := ⟨1, ![256]⟩
abbrev S1x1x256 : Shape := ⟨3, ![1, 1, 256]⟩
abbrev S1x256x1024 : Shape := ⟨3, ![1, 256, 1024]⟩
abbrev S256x1024 : Shape := ⟨2, ![256, 1024]⟩
abbrev S4x4096x8x128 : Shape := ⟨4, ![4, 4096, 8, 128]⟩
abbrev S4x4096x8x64 : Shape := ⟨4, ![4, 4096, 8, 64]⟩
abbrev S4x4096x1x32 : Shape := ⟨4, ![4, 4096, 1, 32]⟩
abbrev S4x4096x8x32 : Shape := ⟨4, ![4, 4096, 8, 32]⟩
abbrev S4x4096x8x96 : Shape := ⟨4, ![4, 4096, 8, 96]⟩
abbrev S1x96 : Shape := ⟨2, ![1, 96]⟩
abbrev S96 : Shape := ⟨1, ![96]⟩
abbrev S4x4096x8 : Shape := ⟨3, ![4, 4096, 8]⟩
abbrev S4x4096x8x1 : Shape := ⟨4, ![4, 4096, 8, 1]⟩
abbrev S1x1x1x96 : Shape := ⟨4, ![1, 1, 1, 96]⟩
abbrev S4x4096x2x64 : Shape := ⟨4, ![4, 4096, 2, 64]⟩
abbrev S1x64 : Shape := ⟨2, ![1, 64]⟩
abbrev S64 : Shape := ⟨1, ![64]⟩
abbrev S4x4096x2 : Shape := ⟨3, ![4, 4096, 2]⟩
abbrev S4x4096x2x1 : Shape := ⟨4, ![4, 4096, 2, 1]⟩
abbrev S1x1x1x64 : Shape := ⟨4, ![1, 1, 1, 64]⟩
abbrev S4096x1x16 : Shape := ⟨3, ![4096, 1, 16]⟩
abbrev S4x4096x8x16 : Shape := ⟨4, ![4, 4096, 8, 16]⟩
abbrev S1x4096x1x16 : Shape := ⟨4, ![1, 4096, 1, 16]⟩
abbrev S4096x1x32 : Shape := ⟨3, ![4096, 1, 32]⟩
abbrev S4x4096x2x32 : Shape := ⟨4, ![4, 4096, 2, 32]⟩
abbrev S1x4096x1x32 : Shape := ⟨4, ![1, 4096, 1, 32]⟩
abbrev S1x384 : Shape := ⟨2, ![1, 384]⟩
abbrev S384 : Shape := ⟨1, ![384]⟩
abbrev S1x1x384 : Shape := ⟨3, ![1, 1, 384]⟩
abbrev S1x384x768 : Shape := ⟨3, ![1, 384, 768]⟩
abbrev S384x768 : Shape := ⟨2, ![384, 768]⟩
abbrev S4x4096x768 : Shape := ⟨3, ![4, 4096, 768]⟩
abbrev S1x1x1x1 : Shape := ⟨4, ![1, 1, 1, 1]⟩
abbrev S4x4096x8x31 : Shape := ⟨4, ![4, 4096, 8, 31]⟩
abbrev S4x4096x8x63 : Shape := ⟨4, ![4, 4096, 8, 63]⟩
abbrev S4x8x128x4096 : Shape := ⟨4, ![4, 8, 128, 4096]⟩
abbrev S4x4096x2x63 : Shape := ⟨4, ![4, 4096, 2, 63]⟩
abbrev S4x4096x2x128 : Shape := ⟨4, ![4, 4096, 2, 128]⟩
abbrev S4x2x128x4096 : Shape := ⟨4, ![4, 2, 128, 4096]⟩

abbrev nBuf : Space → Nat
  | .hbm => 231
  | .vmem => 0
  | .smem => 0
  | _ => 0

abbrev hbmTy0_0 (i : Nat) : BufTy := match i % 128 with
  | 0 => ⟨S4x4096x1024, .f32⟩
  | 1 => ⟨S8x6144, .f32⟩
  | 2 => ⟨S2x1024, .f32⟩
  | 3 => ⟨S2x1024x5024, .f32⟩
  | 4 => ⟨S2x256, .f32⟩
  | 5 => ⟨S2x384, .f32⟩
  | 6 => ⟨S2x256x1024, .f32⟩
  | 7 => ⟨S2x384x768, .f32⟩
  | 8 => ⟨S2x96, .f32⟩
  | 9 => ⟨S2x64, .f32⟩
  | 10 => ⟨S4096x16, .f32⟩
  | 11 => ⟨S4096x16, .f32⟩
  | 12 => ⟨S4096x32, .f32⟩
  | 13 => ⟨S4096x32, .f32⟩
  | 14 => ⟨S1, .f32⟩
  | 15 => ⟨S1, .f32⟩
  | 16 => ⟨S4x6144, .f32⟩
  | 17 => ⟨S4x1x6144, .f32⟩
  | 18 => ⟨S4x1x1024, .f32⟩
  | 19 => ⟨S4x1x1024, .f32⟩
  | 20 => ⟨S4x1x1024, .f32⟩
  | 21 => ⟨S4x1x1024, .f32⟩
  | 22 => ⟨S4x1x1024, .f32⟩
  | 23 => ⟨S4x1x1024, .f32⟩
  | 24 => ⟨S1x1024, .f32⟩
  | 25 => ⟨S1024, .f32⟩
  | 26 => ⟨S4x4096x1024, .f32⟩
  | 27 => ⟨S_, .f32⟩
  | 28 => ⟨S4x4096, .f32⟩
  | 29 => ⟨S4x4096x1, .f32⟩
  | 30 => ⟨S_, .f32⟩
  | 31 => ⟨S4x4096x1, .f32⟩
  | 32 => ⟨S4x4096x1, .f32⟩
  | 33 => ⟨S_, .f32⟩
  | 34 => ⟨S4x4096x1, .f32⟩
  | 35 => ⟨S4x4096x1, .f32⟩
  | 36 => ⟨S4x4096x1, .f32⟩
  | 37 => ⟨S4x4096x1024, .f32⟩
  | 38 => ⟨S4x4096x1024, .f32⟩
  | 39 => ⟨S1x1x1024, .f32⟩
  | 40 => ⟨S4x4096x1024, .f32⟩
  | 41 => ⟨S4x4096x1024, .f32⟩
  | 42 => ⟨S_, .f32⟩
  | 43 => ⟨S4x1x1024, .f32⟩
  | 44 => ⟨S4x1x1024, .f32⟩
  | 45 => ⟨S4x4096x1024, .f32⟩
  | 46 => ⟨S4x4096x1024, .f32⟩
  | 47 => ⟨S4x4096x1024, .f32⟩
  | 48 => ⟨S4x4096x1024, .f32⟩
  | 49 => ⟨S1x1024x5024, .f32⟩
  | 50 => ⟨S1024x5024, .f32⟩
  | 51 => ⟨S1024x1952, .f32⟩
  | 52 => ⟨S4x4096x1952, .f32⟩
  | 53 => ⟨S4x4096x256, .f32⟩
  | 54 => ⟨S4x4096x32, .f32⟩
  | 55 => ⟨S4x4096x128, .f32⟩
  | 56 => ⟨S4x4096x128, .f32⟩
  | 57 => ⟨S4x4096x384, .f32⟩
  | 58 => ⟨S4x4096x512, .f32⟩
  | 59 => ⟨S4x4096x512, .f32⟩
  | 60 => ⟨S1x256, .f32⟩
  | 61 => ⟨S256, .f32⟩
  | 62 => ⟨S4x4096x256, .f32⟩
  | 63 => ⟨S_, .f32⟩
  | 64 => ⟨S4x4096, .f32⟩
  | 65 => ⟨S4x4096x1, .f32⟩
  | 66 => ⟨S_, .f32⟩
  | 67 => ⟨S4x4096x1, .f32⟩
  | 68 => ⟨S4x4096x1, .f32⟩
  | 69 => ⟨S_, .f32⟩
  | 70 => ⟨S4x4096x1, .f32⟩
  | 71 => ⟨S4x4096x1, .f32⟩
  | 72 => ⟨S4x4096x1, .f32⟩
  | 73 => ⟨S4x4096x256, .f32⟩
  | 74 => ⟨S4x4096x256, .f32⟩
  | 75 => ⟨S1x1x256, .f32⟩
  | 76 => ⟨S4x4096x256, .f32⟩
  | 77 => ⟨S4x4096x256, .f32⟩
  | 78 => ⟨S1x256x1024, .f32⟩
  | 79 => ⟨S256x1024, .f32⟩
  | 80 => ⟨S4x4096x1024, .f32⟩
  | 81 => ⟨S4x4096x8x128, .f32⟩
  | 82 => ⟨S4x4096x8x64, .f32⟩
  | 83 => ⟨S4x4096x8x64, .f32⟩
  | 84 => ⟨S4x4096x1x32, .f32⟩
  | 85 => ⟨S4x4096x8x32, .f32⟩
  | 86 => ⟨S4x4096x8x96, .f32⟩
  | 87 => ⟨S1x96, .f32⟩
  | 88 => ⟨S96, .f32⟩
  | 89 => ⟨S4x4096x8x96, .f32⟩
  | 90 => ⟨S_, .f32⟩
  | 91 => ⟨S4x4096x8, .f32⟩
  | 92 => ⟨S4x4096x8x1, .f32⟩
  | 93 => ⟨S_, .f32⟩
  | 94 => ⟨S4x4096x8x1, .f32⟩
  | 95 => ⟨S4x4096x8x1, .f32⟩
  | 96 => ⟨S_, .f32⟩
  | 97 => ⟨S4x4096x8x1, .f32⟩
  | 98 => ⟨S4x4096x8x1, .f32⟩
  | 99 => ⟨S4x4096x8x1, .f32⟩
  | 100 => ⟨S4x4096x8x96, .f32⟩
  | 101 => ⟨S4x4096x8x96, .f32⟩
  | 102 => ⟨S1x1x1x96, .f32⟩
  | 103 => ⟨S4x4096x8x96, .f32⟩
  | 104 => ⟨S4x4096x8x96, .f32⟩
  | 105 => ⟨S4x4096x2x64, .f32⟩
  | 106 => ⟨S1x64, .f32⟩
  | 107 => ⟨S64, .f32⟩
  | 108 => ⟨S4x4096x2x64, .f32⟩
  | 109 => ⟨S_, .f32⟩
  | 110 => ⟨S4x4096x2, .f32⟩
  | 111 => ⟨S4x4096x2x1, .f32⟩
  | 112 => ⟨S_, .f32⟩
  | 113 => ⟨S4x4096x2x1, .f32⟩
  | 114 => ⟨S4x4096x2x1, .f32⟩
  | 115 => ⟨S_, .f32⟩
  | 116 => ⟨S4x4096x2x1, .f32⟩
  | 117 => ⟨S4x4096x2x1, .f32⟩
  | 118 => ⟨S4x4096x2x1, .f32⟩
  | 119 => ⟨S4x4096x2x64, .f32⟩
  | 120 => ⟨S4x4096x2x64, .f32⟩
  | 121 => ⟨S1x1x1x64, .f32⟩
  | 122 => ⟨S4x4096x2x64, .f32⟩
  | 123 => ⟨S4x4096x2x64, .f32⟩
  | 124 => ⟨S4x4096x2x64, .f32⟩
  | 125 => ⟨S4x4096x8x64, .f32⟩
  | 126 => ⟨S4x4096x8x32, .f32⟩
  | 127 => ⟨S4096x1x16, .f32⟩
  | _ => ⟨S4x4096x1024, .f32⟩

abbrev hbmTy0_1 (i : Nat) : BufTy := match i % 128 with
  | 0 => ⟨S4096x1x16, .f32⟩
  | 1 => ⟨S4x4096x8x16, .f32⟩
  | 2 => ⟨S4x4096x8x16, .f32⟩
  | 3 => ⟨S1x4096x1x16, .f32⟩
  | 4 => ⟨S4x4096x8x16, .f32⟩
  | 5 => ⟨S4x4096x8x16, .f32⟩
  | 6 => ⟨S1x4096x1x16, .f32⟩
  | 7 => ⟨S4x4096x8x16, .f32⟩
  | 8 => ⟨S4x4096x8x16, .f32⟩
  | 9 => ⟨S4x4096x8x16, .f32⟩
  | 10 => ⟨S1x4096x1x16, .f32⟩
  | 11 => ⟨S4x4096x8x16, .f32⟩
  | 12 => ⟨S4x4096x8x16, .f32⟩
  | 13 => ⟨S1x4096x1x16, .f32⟩
  | 14 => ⟨S4x4096x8x16, .f32⟩
  | 15 => ⟨S4x4096x8x16, .f32⟩
  | 16 => ⟨S4x4096x8x16, .f32⟩
  | 17 => ⟨S4x4096x8x32, .f32⟩
  | 18 => ⟨S4x4096x8x96, .f32⟩
  | 19 => ⟨S4096x1x32, .f32⟩
  | 20 => ⟨S4096x1x32, .f32⟩
  | 21 => ⟨S4x4096x2x32, .f32⟩
  | 22 => ⟨S4x4096x2x32, .f32⟩
  | 23 => ⟨S1x4096x1x32, .f32⟩
  | 24 => ⟨S4x4096x2x32, .f32⟩
  | 25 => ⟨S4x4096x2x32, .f32⟩
  | 26 => ⟨S1x4096x1x32, .f32⟩
  | 27 => ⟨S4x4096x2x32, .f32⟩
  | 28 => ⟨S4x4096x2x32, .f32⟩
  | 29 => ⟨S4x4096x2x32, .f32⟩
  | 30 => ⟨S1x4096x1x32, .f32⟩
  | 31 => ⟨S4x4096x2x32, .f32⟩
  | 32 => ⟨S4x4096x2x32, .f32⟩
  | 33 => ⟨S1x4096x1x32, .f32⟩
  | 34 => ⟨S4x4096x2x32, .f32⟩
  | 35 => ⟨S4x4096x2x32, .f32⟩
  | 36 => ⟨S4x4096x2x32, .f32⟩
  | 37 => ⟨S4x4096x2x64, .f32⟩
  | 38 => ⟨S1x384, .f32⟩
  | 39 => ⟨S384, .f32⟩
  | 40 => ⟨S4x4096x384, .f32⟩
  | 41 => ⟨S_, .f32⟩
  | 42 => ⟨S4x4096, .f32⟩
  | 43 => ⟨S4x4096x1, .f32⟩
  | 44 => ⟨S_, .f32⟩
  | 45 => ⟨S4x4096x1, .f32⟩
  | 46 => ⟨S4x4096x1, .f32⟩
  | 47 => ⟨S_, .f32⟩
  | 48 => ⟨S4x4096x1, .f32⟩
  | 49 => ⟨S4x4096x1, .f32⟩
  | 50 => ⟨S4x4096x1, .f32⟩
  | 51 => ⟨S4x4096x384, .f32⟩
  | 52 => ⟨S4x4096x384, .f32⟩
  | 53 => ⟨S1x1x384, .f32⟩
  | 54 => ⟨S4x4096x384, .f32⟩
  | 55 => ⟨S4x4096x384, .f32⟩
  | 56 => ⟨S1x384x768, .f32⟩
  | 57 => ⟨S384x768, .f32⟩
  | 58 => ⟨S4x4096x768, .f32⟩
  | 59 => ⟨S4x4096x8x96, .f32⟩
  | 60 => ⟨S4x4096x8x64, .f32⟩
  | 61 => ⟨S_, .f32⟩
  | 62 => ⟨S4x4096x8x1, .f32⟩
  | 63 => ⟨S1x1x1x1, .f32⟩
  | 64 => ⟨S4x4096x8x1, .f32⟩
  | 65 => ⟨S4x4096x8x1, .f32⟩
  | 66 => ⟨S_, .f32⟩
  | 67 => ⟨S4x4096x8x31, .f32⟩
  | 68 => ⟨S4x4096x8x128, .f32⟩
  | 69 => ⟨S4x4096x8x128, .bf16⟩
  | 70 => ⟨S4x4096x1024, .bf16⟩
  | 71 => ⟨S_, .f32⟩
  | 72 => ⟨S4x4096x8x1, .f32⟩
  | 73 => ⟨S_, .f32⟩
  | 74 => ⟨S4x4096x8x63, .f32⟩
  | 75 => ⟨S4x4096x8x128, .f32⟩
  | 76 => ⟨S4x4096x8x128, .bf16⟩
  | 77 => ⟨S4x8x128x4096, .bf16⟩
  | 78 => ⟨S_, .f32⟩
  | 79 => ⟨S4x4096x2x1, .f32⟩
  | 80 => ⟨S1x1x1x1, .f32⟩
  | 81 => ⟨S4x4096x2x1, .f32⟩
  | 82 => ⟨S4x4096x2x1, .f32⟩
  | 83 => ⟨S_, .f32⟩
  | 84 => ⟨S4x4096x2x63, .f32⟩
  | 85 => ⟨S4x4096x2x128, .f32⟩
  | 86 => ⟨S4x4096x2x128, .bf16⟩
  | 87 => ⟨S4x4096x256, .bf16⟩
  | 88 => ⟨S_, .f32⟩
  | 89 => ⟨S4x4096x2x1, .f32⟩
  | 90 => ⟨S_, .f32⟩
  | 91 => ⟨S4x4096x2x63, .f32⟩
  | 92 => ⟨S4x4096x2x128, .f32⟩
  | 93 => ⟨S4x4096x2x128, .bf16⟩
  | 94 => ⟨S4x2x128x4096, .bf16⟩
  | 95 => ⟨S_, .f32⟩
  | 96 => ⟨S4x4096x8x32, .f32⟩
  | 97 => ⟨S4x4096x8x128, .f32⟩
  | 98 => ⟨S4x4096x8x128, .bf16⟩
  | 99 => ⟨S4x8x128x4096, .bf16⟩
  | 100 => ⟨S4x4096x8x128, .f32⟩
  | 101 => ⟨S4x4096x8x128, .bf16⟩
  | 102 => ⟨S4x8x128x4096, .bf16⟩
  | _ => ⟨S4x4096x1024, .f32⟩

abbrev hbmTy (i : Nat) : BufTy := match i / 128 with
  | 0 => hbmTy0_0 i
  | 1 => hbmTy0_1 i
  | _ => ⟨S4x4096x1024, .f32⟩

abbrev bufTy : (tb : Table) → Fin (tcTables nBuf tb) → BufTy
  | .hbm, ⟨i, _⟩ => hbmTy i
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst : Ref sig .tc := ⟨.hbm, 27, rfl⟩
abbrev main_v11 : Ref sig .tc := ⟨.hbm, 28, rfl⟩
abbrev main_v12 : Ref sig .tc := ⟨.hbm, 29, rfl⟩
abbrev main_cst_0 : Ref sig .tc := ⟨.hbm, 30, rfl⟩
abbrev main_v13 : Ref sig .tc := ⟨.hbm, 31, rfl⟩
abbrev main_v14 : Ref sig .tc := ⟨.hbm, 32, rfl⟩
abbrev main_cst_1 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_cst_2 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_cst_3 : Ref sig .tc := ⟨.hbm, 63, rfl⟩
abbrev main_v43 : Ref sig .tc := ⟨.hbm, 64, rfl⟩
abbrev main_v44 : Ref sig .tc := ⟨.hbm, 65, rfl⟩
abbrev main_cst_4 : Ref sig .tc := ⟨.hbm, 66, rfl⟩
abbrev main_v45 : Ref sig .tc := ⟨.hbm, 67, rfl⟩
abbrev main_v46 : Ref sig .tc := ⟨.hbm, 68, rfl⟩
abbrev main_cst_5 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_cst_6 : Ref sig .tc := ⟨.hbm, 90, rfl⟩
abbrev main_v67 : Ref sig .tc := ⟨.hbm, 91, rfl⟩
abbrev main_v68 : Ref sig .tc := ⟨.hbm, 92, rfl⟩
abbrev main_cst_7 : Ref sig .tc := ⟨.hbm, 93, rfl⟩
abbrev main_v69 : Ref sig .tc := ⟨.hbm, 94, rfl⟩
abbrev main_v70 : Ref sig .tc := ⟨.hbm, 95, rfl⟩
abbrev main_cst_8 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_cst_9 : Ref sig .tc := ⟨.hbm, 109, rfl⟩
abbrev main_v83 : Ref sig .tc := ⟨.hbm, 110, rfl⟩
abbrev main_v84 : Ref sig .tc := ⟨.hbm, 111, rfl⟩
abbrev main_cst_10 : Ref sig .tc := ⟨.hbm, 112, rfl⟩
abbrev main_v85 : Ref sig .tc := ⟨.hbm, 113, rfl⟩
abbrev main_v86 : Ref sig .tc := ⟨.hbm, 114, rfl⟩
abbrev main_cst_11 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev main_v103 : Ref sig .tc := ⟨.hbm, 132, rfl⟩
abbrev main_v104 : Ref sig .tc := ⟨.hbm, 133, rfl⟩
abbrev main_v105 : Ref sig .tc := ⟨.hbm, 134, rfl⟩
abbrev main_v106 : Ref sig .tc := ⟨.hbm, 135, rfl⟩
abbrev main_v107 : Ref sig .tc := ⟨.hbm, 136, rfl⟩
abbrev main_v108 : Ref sig .tc := ⟨.hbm, 137, rfl⟩
abbrev main_v109 : Ref sig .tc := ⟨.hbm, 138, rfl⟩
abbrev main_v110 : Ref sig .tc := ⟨.hbm, 139, rfl⟩
abbrev main_v111 : Ref sig .tc := ⟨.hbm, 140, rfl⟩
abbrev main_v112 : Ref sig .tc := ⟨.hbm, 141, rfl⟩
abbrev main_v113 : Ref sig .tc := ⟨.hbm, 142, rfl⟩
abbrev main_v114 : Ref sig .tc := ⟨.hbm, 143, rfl⟩
abbrev main_v115 : Ref sig .tc := ⟨.hbm, 144, rfl⟩
abbrev main_v116 : Ref sig .tc := ⟨.hbm, 145, rfl⟩
abbrev main_v117 : Ref sig .tc := ⟨.hbm, 146, rfl⟩
abbrev main_v118 : Ref sig .tc := ⟨.hbm, 147, rfl⟩
abbrev main_v119 : Ref sig .tc := ⟨.hbm, 148, rfl⟩
abbrev main_v120 : Ref sig .tc := ⟨.hbm, 149, rfl⟩
abbrev main_v121 : Ref sig .tc := ⟨.hbm, 150, rfl⟩
abbrev main_v122 : Ref sig .tc := ⟨.hbm, 151, rfl⟩
abbrev main_v123 : Ref sig .tc := ⟨.hbm, 152, rfl⟩
abbrev main_v124 : Ref sig .tc := ⟨.hbm, 153, rfl⟩
abbrev main_v125 : Ref sig .tc := ⟨.hbm, 154, rfl⟩
abbrev main_v126 : Ref sig .tc := ⟨.hbm, 155, rfl⟩
abbrev main_v127 : Ref sig .tc := ⟨.hbm, 156, rfl⟩
abbrev main_v128 : Ref sig .tc := ⟨.hbm, 157, rfl⟩
abbrev main_v129 : Ref sig .tc := ⟨.hbm, 158, rfl⟩
abbrev main_v130 : Ref sig .tc := ⟨.hbm, 159, rfl⟩
abbrev main_v131 : Ref sig .tc := ⟨.hbm, 160, rfl⟩
abbrev main_v132 : Ref sig .tc := ⟨.hbm, 161, rfl⟩
abbrev main_v133 : Ref sig .tc := ⟨.hbm, 162, rfl⟩
abbrev main_v134 : Ref sig .tc := ⟨.hbm, 163, rfl⟩
abbrev main_v135 : Ref sig .tc := ⟨.hbm, 164, rfl⟩
abbrev main_v136 : Ref sig .tc := ⟨.hbm, 165, rfl⟩
abbrev main_v137 : Ref sig .tc := ⟨.hbm, 166, rfl⟩
abbrev main_v138 : Ref sig .tc := ⟨.hbm, 167, rfl⟩
abbrev main_v139 : Ref sig .tc := ⟨.hbm, 168, rfl⟩
abbrev main_cst_12 : Ref sig .tc := ⟨.hbm, 169, rfl⟩
abbrev main_v140 : Ref sig .tc := ⟨.hbm, 170, rfl⟩
abbrev main_v141 : Ref sig .tc := ⟨.hbm, 171, rfl⟩
abbrev main_cst_13 : Ref sig .tc := ⟨.hbm, 172, rfl⟩
abbrev main_v142 : Ref sig .tc := ⟨.hbm, 173, rfl⟩
abbrev main_v143 : Ref sig .tc := ⟨.hbm, 174, rfl⟩
abbrev main_cst_14 : Ref sig .tc := ⟨.hbm, 175, rfl⟩
abbrev main_v144 : Ref sig .tc := ⟨.hbm, 176, rfl⟩
abbrev main_v145 : Ref sig .tc := ⟨.hbm, 177, rfl⟩
abbrev main_v146 : Ref sig .tc := ⟨.hbm, 178, rfl⟩
abbrev main_v147 : Ref sig .tc := ⟨.hbm, 179, rfl⟩
abbrev main_v148 : Ref sig .tc := ⟨.hbm, 180, rfl⟩
abbrev main_v149 : Ref sig .tc := ⟨.hbm, 181, rfl⟩
abbrev main_v150 : Ref sig .tc := ⟨.hbm, 182, rfl⟩
abbrev main_v151 : Ref sig .tc := ⟨.hbm, 183, rfl⟩
abbrev main_v152 : Ref sig .tc := ⟨.hbm, 184, rfl⟩
abbrev main_v153 : Ref sig .tc := ⟨.hbm, 185, rfl⟩
abbrev main_v154 : Ref sig .tc := ⟨.hbm, 186, rfl⟩
abbrev main_v155 : Ref sig .tc := ⟨.hbm, 187, rfl⟩
abbrev main_v156 : Ref sig .tc := ⟨.hbm, 188, rfl⟩
abbrev main_cst_15 : Ref sig .tc := ⟨.hbm, 189, rfl⟩
abbrev main_v157 : Ref sig .tc := ⟨.hbm, 190, rfl⟩
abbrev main_v158 : Ref sig .tc := ⟨.hbm, 191, rfl⟩
abbrev main_v159 : Ref sig .tc := ⟨.hbm, 192, rfl⟩
abbrev main_v160 : Ref sig .tc := ⟨.hbm, 193, rfl⟩
abbrev main_cst_16 : Ref sig .tc := ⟨.hbm, 194, rfl⟩
abbrev main_v161 : Ref sig .tc := ⟨.hbm, 195, rfl⟩
abbrev main_v162 : Ref sig .tc := ⟨.hbm, 196, rfl⟩
abbrev main_v163 : Ref sig .tc := ⟨.hbm, 197, rfl⟩
abbrev main_v164 : Ref sig .tc := ⟨.hbm, 198, rfl⟩
abbrev main_cst_17 : Ref sig .tc := ⟨.hbm, 199, rfl⟩
abbrev main_v165 : Ref sig .tc := ⟨.hbm, 200, rfl⟩
abbrev main_cst_18 : Ref sig .tc := ⟨.hbm, 201, rfl⟩
abbrev main_v166 : Ref sig .tc := ⟨.hbm, 202, rfl⟩
abbrev main_v167 : Ref sig .tc := ⟨.hbm, 203, rfl⟩
abbrev main_v168 : Ref sig .tc := ⟨.hbm, 204, rfl⟩
abbrev main_v169 : Ref sig .tc := ⟨.hbm, 205, rfl⟩
abbrev main_cst_19 : Ref sig .tc := ⟨.hbm, 206, rfl⟩
abbrev main_v170 : Ref sig .tc := ⟨.hbm, 207, rfl⟩
abbrev main_v171 : Ref sig .tc := ⟨.hbm, 208, rfl⟩
abbrev main_v172 : Ref sig .tc := ⟨.hbm, 209, rfl⟩
abbrev main_v173 : Ref sig .tc := ⟨.hbm, 210, rfl⟩
abbrev main_cst_20 : Ref sig .tc := ⟨.hbm, 211, rfl⟩
abbrev main_v174 : Ref sig .tc := ⟨.hbm, 212, rfl⟩
abbrev main_v175 : Ref sig .tc := ⟨.hbm, 213, rfl⟩
abbrev main_v176 : Ref sig .tc := ⟨.hbm, 214, rfl⟩
abbrev main_v177 : Ref sig .tc := ⟨.hbm, 215, rfl⟩
abbrev main_cst_21 : Ref sig .tc := ⟨.hbm, 216, rfl⟩
abbrev main_v178 : Ref sig .tc := ⟨.hbm, 217, rfl⟩
abbrev main_cst_22 : Ref sig .tc := ⟨.hbm, 218, rfl⟩
abbrev main_v179 : Ref sig .tc := ⟨.hbm, 219, rfl⟩
abbrev main_v180 : Ref sig .tc := ⟨.hbm, 220, rfl⟩
abbrev main_v181 : Ref sig .tc := ⟨.hbm, 221, rfl⟩
abbrev main_v182 : Ref sig .tc := ⟨.hbm, 222, rfl⟩
abbrev main_cst_23 : Ref sig .tc := ⟨.hbm, 223, rfl⟩
abbrev main_v183 : Ref sig .tc := ⟨.hbm, 224, rfl⟩
abbrev main_v184 : Ref sig .tc := ⟨.hbm, 225, rfl⟩
abbrev main_v185 : Ref sig .tc := ⟨.hbm, 226, rfl⟩
abbrev main_v186 : Ref sig .tc := ⟨.hbm, 227, rfl⟩
abbrev main_v187 : Ref sig .tc := ⟨.hbm, 228, rfl⟩
abbrev main_v188 : Ref sig .tc := ⟨.hbm, 229, rfl⟩
abbrev main_v189 : Ref sig .tc := ⟨.hbm, 230, rfl⟩

abbrev nD : Nat := 1
abbrev τ : Topo := Topo.v7x

variable {F : FTy → Type} [FloatOps F]
-- ==== Merge.lean ====
abbrev S4x4096x1024 : Shape := ⟨3, ![4, 4096, 1024]⟩
abbrev S8x6144 : Shape := ⟨2, ![8, 6144]⟩
abbrev S2x1024 : Shape := ⟨2, ![2, 1024]⟩
abbrev S4x4096x512 : Shape := ⟨3, ![4, 4096, 512]⟩
abbrev S2x1024x5024 : Shape := ⟨3, ![2, 1024, 5024]⟩
abbrev S2x512x1024 : Shape := ⟨3, ![2, 512, 1024]⟩
abbrev S2x1024x1024 : Shape := ⟨3, ![2, 1024, 1024]⟩
abbrev S2x5024x1024 : Shape := ⟨3, ![2, 5024, 1024]⟩
abbrev S1x5024x1024 : Shape := ⟨3, ![1, 5024, 1024]⟩
abbrev S5024x1024 : Shape := ⟨2, ![5024, 1024]⟩
abbrev S1x1024 : Shape := ⟨2, ![1, 1024]⟩
abbrev S1024 : Shape := ⟨1, ![1024]⟩
abbrev S3072x1024 : Shape := ⟨2, ![3072, 1024]⟩
abbrev S1x1024x1024 : Shape := ⟨3, ![1, 1024, 1024]⟩
abbrev S1x1024x512 : Shape := ⟨3, ![1, 1024, 512]⟩
abbrev S1x512x1024 : Shape := ⟨3, ![1, 512, 1024]⟩
abbrev S1024x1024 : Shape := ⟨2, ![1024, 1024]⟩
abbrev S1024x1 : Shape := ⟨2, ![1024, 1]⟩
abbrev S1024x512 : Shape := ⟨2, ![1024, 512]⟩
abbrev S512x1024 : Shape := ⟨2, ![512, 1024]⟩

abbrev nBuf : Space → Nat
  | .hbm => 24
  | .vmem => 17
  | .smem => 0
  | _ => 0

abbrev bufTy : (tb : Table) → Fin (tcTables nBuf tb) → BufTy
  | .hbm, ⟨0, _⟩ => ⟨S4x4096x1024, .f32⟩
  | .hbm, ⟨1, _⟩ => ⟨S8x6144, .f32⟩
  | .hbm, ⟨2, _⟩ => ⟨S2x1024, .f32⟩
  | .hbm, ⟨3, _⟩ => ⟨S4x4096x512, .bf16⟩
  | .hbm, ⟨4, _⟩ => ⟨S4x4096x512, .bf16⟩
  | .hbm, ⟨5, _⟩ => ⟨S4x4096x512, .f32⟩
  | .hbm, ⟨6, _⟩ => ⟨S2x1024x5024, .f32⟩
  | .hbm, ⟨7, _⟩ => ⟨S2x512x1024, .f32⟩
  | .hbm, ⟨8, _⟩ => ⟨S2x512x1024, .f32⟩
  | .hbm, ⟨9, _⟩ => ⟨S2x512x1024, .f32⟩
  | .hbm, ⟨10, _⟩ => ⟨S2x1024x1024, .f32⟩
  | .hbm, ⟨11, _⟩ => ⟨S2x5024x1024, .f32⟩
  | .hbm, ⟨12, _⟩ => ⟨S1x5024x1024, .f32⟩
  | .hbm, ⟨13, _⟩ => ⟨S5024x1024, .f32⟩
  | .hbm, ⟨14, _⟩ => ⟨S5024x1024, .bf16⟩
  | .hbm, ⟨15, _⟩ => ⟨S1x1024, .f32⟩
  | .hbm, ⟨16, _⟩ => ⟨S1024, .f32⟩
  | .hbm, ⟨17, _⟩ => ⟨S1x1024, .f32⟩
  | .hbm, ⟨18, _⟩ => ⟨S3072x1024, .bf16⟩
  | .hbm, ⟨19, _⟩ => ⟨S2x512x1024, .bf16⟩
  | .hbm, ⟨20, _⟩ => ⟨S2x512x1024, .bf16⟩
  | .hbm, ⟨21, _⟩ => ⟨S2x512x1024, .bf16⟩
  | .hbm, ⟨22, _⟩ => ⟨S2x1024x1024, .bf16⟩
  | .hbm, ⟨23, _⟩ => ⟨S4x4096x1024, .f32⟩
  | .local _ .vmem, ⟨0, _⟩ => ⟨S8x6144, .f32⟩
  | .local _ .vmem, ⟨1, _⟩ => ⟨S1x1024x1024, .f32⟩
  | .local _ .vmem, ⟨2, _⟩ => ⟨S1x1024x1024, .f32⟩
  | .local _ .vmem, ⟨3, _⟩ => ⟨S1x1024, .f32⟩
  | .local _ .vmem, ⟨4, _⟩ => ⟨S1x1024x512, .bf16⟩
  | .local _ .vmem, ⟨5, _⟩ => ⟨S1x1024x512, .bf16⟩
  | .local _ .vmem, ⟨6, _⟩ => ⟨S1x1024x512, .bf16⟩
  | .local _ .vmem, ⟨7, _⟩ => ⟨S1x1024x512, .bf16⟩
  | .local _ .vmem, ⟨8, _⟩ => ⟨S1x1024x512, .f32⟩
  | .local _ .vmem, ⟨9, _⟩ => ⟨S1x1024x512, .f32⟩
  | .local _ .vmem, ⟨10, _⟩ => ⟨S3072x1024, .bf16⟩
  | .local _ .vmem, ⟨11, _⟩ => ⟨S1x512x1024, .bf16⟩
  | .local _ .vmem, ⟨12, _⟩ => ⟨S1x512x1024, .bf16⟩
  | .local _ .vmem, ⟨13, _⟩ => ⟨S1x512x1024, .bf16⟩
  | .local _ .vmem, ⟨14, _⟩ => ⟨S1x1024x1024, .bf16⟩
  | .local _ .vmem, ⟨15, _⟩ => ⟨S1x1024x1024, .f32⟩
  | .local _ .vmem, ⟨16, _⟩ => ⟨S1x1024x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg11_1 : Ref sig .tc := ⟨.vmem, 16, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem11_1 : DmaSem sig := 16

abbrev nD : Nat := 1
abbrev τ : Topo := Topo.v7x

variable {F : FTy → Type} [FloatOps F]

abbrev grid0 : Pipeline.Grid := ⟨2, ![4, 4], ![false, false]⟩

def k0_off1 (i : grid0.Coords) : Fin 2 → Nat :=
  let arg0 : BitVec 32 := BitVec.ofNat 32 (i 0).val
  let v0 : Index := Scalar.indexCast arg0
  let c0 : Index := 0#32
  ![v0.toNat, 0]
def k0_off2 (i : grid0.Coords) : Fin 2 → Nat :=
  let arg0 : BitVec 32 := BitVec.ofNat 32 (i 0).val
  let v2 : Index := Scalar.indexCast arg0
  let c1024 : Index := 1024#32
  ![v2.toNat, 1024]
def k0_off3 (i : grid0.Coords) : Fin 2 → Nat :=
  let arg0 : BitVec 32 := BitVec.ofNat 32 (i 0).val
  let v4 : Index := Scalar.indexCast arg0
  let c2048 : Index := 2048#32
  ![v4.toNat, 2048]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S8x6144 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S3072x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x512x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1x1024x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== MergeRefIdeal.lean ====
abbrev S4x4096x1024 : Shape := ⟨3, ![4, 4096, 1024]⟩
abbrev S8x6144 : Shape := ⟨2, ![8, 6144]⟩
abbrev S2x1024 : Shape := ⟨2, ![2, 1024]⟩
abbrev S4x4096x512 : Shape := ⟨3, ![4, 4096, 512]⟩
abbrev S2x1024x5024 : Shape := ⟨3, ![2, 1024, 5024]⟩
abbrev S2x512x1024 : Shape := ⟨3, ![2, 512, 1024]⟩
abbrev S2x1024x1024 : Shape := ⟨3, ![2, 1024, 1024]⟩
abbrev S4x6144 : Shape := ⟨2, ![4, 6144]⟩
abbrev S4x1x6144 : Shape := ⟨3, ![4, 1, 6144]⟩
abbrev S4x1x1024 : Shape := ⟨3, ![4, 1, 1024]⟩
abbrev S1x1024 : Shape := ⟨2, ![1, 1024]⟩
abbrev S1024 : Shape := ⟨1, ![1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S1x1024x5024 : Shape := ⟨3, ![1, 1024, 5024]⟩
abbrev S1024x5024 : Shape := ⟨2, ![1024, 5024]⟩
abbrev S1024x3072 : Shape := ⟨2, ![1024, 3072]⟩
abbrev S4x4096x3072 : Shape := ⟨3, ![4, 4096, 3072]⟩
abbrev S1x512x1024 : Shape := ⟨3, ![1, 512, 1024]⟩
abbrev S512x1024 : Shape := ⟨2, ![512, 1024]⟩
abbrev S1x1024x1024 : Shape := ⟨3, ![1, 1024, 1024]⟩
abbrev S1024x1024 : Shape := ⟨2, ![1024, 1024]⟩

abbrev nBuf : Space → Nat
  | .hbm => 81
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S8x6144, .f32⟩
  | .hbm, ⟨2, _⟩ => ⟨S2x1024, .f32⟩
  | .hbm, ⟨3, _⟩ => ⟨S4x4096x512, .bf16⟩
  | .hbm, ⟨4, _⟩ => ⟨S4x4096x512, .bf16⟩
  | .hbm, ⟨5, _⟩ => ⟨S4x4096x512, .f32⟩
  | .hbm, ⟨6, _⟩ => ⟨S2x1024x5024, .f32⟩
  | .hbm, ⟨7, _⟩ => ⟨S2x512x1024, .f32⟩
  | .hbm, ⟨8, _⟩ => ⟨S2x512x1024, .f32⟩
  | .hbm, ⟨9, _⟩ => ⟨S2x512x1024, .f32⟩
  | .hbm, ⟨10, _⟩ => ⟨S2x1024x1024, .f32⟩
  | .hbm, ⟨11, _⟩ => ⟨S4x6144, .f32⟩
  | .hbm, ⟨12, _⟩ => ⟨S4x1x6144, .f32⟩
  | .hbm, ⟨13, _⟩ => ⟨S4x1x1024, .f32⟩
  | .hbm, ⟨14, _⟩ => ⟨S4x1x1024, .f32⟩
  | .hbm, ⟨15, _⟩ => ⟨S4x1x1024, .f32⟩
  | .hbm, ⟨16, _⟩ => ⟨S4x1x1024, .f32⟩
  | .hbm, ⟨17, _⟩ => ⟨S4x1x1024, .f32⟩
  | .hbm, ⟨18, _⟩ => ⟨S4x1x1024, .f32⟩
  | .hbm, ⟨19, _⟩ => ⟨S1x1024, .f32⟩
  | .hbm, ⟨20, _⟩ => ⟨S1024, .f32⟩
  | .hbm, ⟨21, _⟩ => ⟨S4x4096x1024, .f32⟩
  | .hbm, ⟨22, _⟩ => ⟨S_, .f32⟩
  | .hbm, ⟨23, _⟩ => ⟨S4x4096, .f32⟩
  | .hbm, ⟨24, _⟩ => ⟨S4x4096x1, .f32⟩
  | .hbm, ⟨25, _⟩ => ⟨S_, .f32⟩
  | .hbm, ⟨26, _⟩ => ⟨S4x4096x1, .f32⟩
  | .hbm, ⟨27, _⟩ => ⟨S4x4096x1, .f32⟩
  | .hbm, ⟨28, _⟩ => ⟨S_, .f32⟩
  | .hbm, ⟨29, _⟩ => ⟨S4x4096x1, .f32⟩
  | .hbm, ⟨30, _⟩ => ⟨S4x4096x1, .f32⟩
  | .hbm, ⟨31, _⟩ => ⟨S4x4096x1, .f32⟩
  | .hbm, ⟨32, _⟩ => ⟨S4x4096x1024, .f32⟩
  | .hbm, ⟨33, _⟩ => ⟨S4x4096x1024, .f32⟩
  | .hbm, ⟨34, _⟩ => ⟨S1x1x1024, .f32⟩
  | .hbm, ⟨35, _⟩ => ⟨S4x4096x1024, .f32⟩
  | .hbm, ⟨36, _⟩ => ⟨S4x4096x1024, .f32⟩
  | .hbm, ⟨37, _⟩ => ⟨S_, .f32⟩
  | .hbm, ⟨38, _⟩ => ⟨S4x1x1024, .f32⟩
  | .hbm, ⟨39, _⟩ => ⟨S4x1x1024, .f32⟩
  | .hbm, ⟨40, _⟩ => ⟨S4x4096x1024, .f32⟩
  | .hbm, ⟨41, _⟩ => ⟨S4x4096x1024, .f32⟩
  | .hbm, ⟨42, _⟩ => ⟨S4x4096x1024, .f32⟩
  | .hbm, ⟨43, _⟩ => ⟨S4x4096x1024, .f32⟩
  | .hbm, ⟨44, _⟩ => ⟨S1x1024x5024, .f32⟩
  | .hbm, ⟨45, _⟩ => ⟨S1024x5024, .f32⟩
  | .hbm, ⟨46, _⟩ => ⟨S1024x3072, .f32⟩
  | .hbm, ⟨47, _⟩ => ⟨S4x4096x3072, .f32⟩
  | .hbm, ⟨48, _⟩ => ⟨S4x4096x3072, .f32⟩
  | .hbm, ⟨49, _⟩ => ⟨S4x4096x3072, .f32⟩
  | .hbm, ⟨50, _⟩ => ⟨S_, .f32⟩
  | .hbm, ⟨51, _⟩ => ⟨S4x4096x3072, .f32⟩
  | .hbm, ⟨52, _⟩ => ⟨S4x4096x3072, .f32⟩
  | .hbm, ⟨53, _⟩ => ⟨S_, .f32⟩
  | .hbm, ⟨54, _⟩ => ⟨S4x4096x3072, .f32⟩
  | .hbm, ⟨55, _⟩ => ⟨S4x4096x3072, .f32⟩
  | .hbm, ⟨56, _⟩ => ⟨S4x4096x1024, .f32⟩
  | .hbm, ⟨57, _⟩ => ⟨S4x4096x1024, .f32⟩
  | .hbm, ⟨58, _⟩ => ⟨S4x4096x1024, .f32⟩
  | .hbm, ⟨59, _⟩ => ⟨S4x4096x512, .f32⟩
  | .hbm, ⟨60, _⟩ => ⟨S1x512x1024, .f32⟩
  | .hbm, ⟨61, _⟩ => ⟨S512x1024, .f32⟩
  | .hbm, ⟨62, _⟩ => ⟨S4x4096x1024, .f32⟩
  | .hbm, ⟨63, _⟩ => ⟨S4x4096x1024, .f32⟩
  | .hbm, ⟨64, _⟩ => ⟨S4x4096x512, .f32⟩
  | .hbm, ⟨65, _⟩ => ⟨S1x512x1024, .f32⟩
  | .hbm, ⟨66, _⟩ => ⟨S512x1024, .f32⟩
  | .hbm, ⟨67, _⟩ => ⟨S4x4096x1024, .f32⟩
  | .hbm, ⟨68, _⟩ => ⟨S4x4096x1024, .f32⟩
  | .hbm, ⟨69, _⟩ => ⟨S4x4096x1024, .f32⟩
  | .hbm, ⟨70, _⟩ => ⟨S1x512x1024, .f32⟩
  | .hbm, ⟨71, _⟩ => ⟨S512x1024, .f32⟩
  | .hbm, ⟨72, _⟩ => ⟨S4x4096x1024, .f32⟩
  | .hbm, ⟨73, _⟩ => ⟨S4x4096x1024, .f32⟩
  | .hbm, ⟨74, _⟩ => ⟨S4x4096x1024, .f32⟩
  | .hbm, ⟨75, _⟩ => ⟨S1x1024x1024, .f32⟩
  | .hbm, ⟨76, _⟩ => ⟨S1024x1024, .f32⟩
  | .hbm, ⟨77, _⟩ => ⟨S4x4096x1024, .f32⟩
  | .hbm, ⟨78, _⟩ => ⟨S4x4096x1024, .f32⟩
  | .hbm, ⟨79, _⟩ => ⟨S4x4096x1024, .f32⟩
  | .hbm, ⟨80, _⟩ => ⟨S4x4096x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst : Ref sig .tc := ⟨.hbm, 22, rfl⟩
abbrev main_v11 : Ref sig .tc := ⟨.hbm, 23, rfl⟩
abbrev main_v12 : Ref sig .tc := ⟨.hbm, 24, rfl⟩
abbrev main_cst_0 : Ref sig .tc := ⟨.hbm, 25, rfl⟩
abbrev main_v13 : Ref sig .tc := ⟨.hbm, 26, rfl⟩
abbrev main_v14 : Ref sig .tc := ⟨.hbm, 27, rfl⟩
abbrev main_cst_1 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_2 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_cst_3 : Ref sig .tc := ⟨.hbm, 50, rfl⟩
abbrev main_v35 : Ref sig .tc := ⟨.hbm, 51, rfl⟩
abbrev main_v36 : Ref sig .tc := ⟨.hbm, 52, rfl⟩
abbrev main_cst_4 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩

abbrev nD : Nat := 1
abbrev τ : Topo := Topo.v7x

variable {F : FTy → Type} [FloatOps F]
-- ==== Ffn.lean ====
abbrev S4x4096x1024 : Shape := ⟨3, ![4, 4096, 1024]⟩
abbrev S8x6144 : Shape := ⟨2, ![8, 6144]⟩
abbrev S2x1024 : Shape := ⟨2, ![2, 1024]⟩
abbrev S2x1024x5632 : Shape := ⟨3, ![2, 1024, 5632]⟩
abbrev S2x3x5632 : Shape := ⟨3, ![2, 3, 5632]⟩
abbrev S2x5632 : Shape := ⟨2, ![2, 5632]⟩
abbrev S2x2816x1024 : Shape := ⟨3, ![2, 2816, 1024]⟩
abbrev S1x1024 : Shape := ⟨2, ![1, 1024]⟩
abbrev S1024 : Shape := ⟨1, ![1024]⟩
abbrev S1x3x5632 : Shape := ⟨3, ![1, 3, 5632]⟩
abbrev S3x5632 : Shape := ⟨2, ![3, 5632]⟩
abbrev S1x5632 : Shape := ⟨2, ![1, 5632]⟩
abbrev S5632 : Shape := ⟨1, ![5632]⟩
abbrev S1x8x1024 : Shape := ⟨3, ![1, 8, 1024]⟩
abbrev S1x1024x1024 : Shape := ⟨3, ![1, 1024, 1024]⟩
abbrev S1x1024x5632 : Shape := ⟨3, ![1, 1024, 5632]⟩
abbrev S1x2816x1024 : Shape := ⟨3, ![1, 2816, 1024]⟩
abbrev S1024x1024 : Shape := ⟨2, ![1024, 1024]⟩
abbrev S8x1024 : Shape := ⟨2, ![8, 1024]⟩
abbrev S1040x1024 : Shape := ⟨2, ![1040, 1024]⟩
abbrev S1040 : Shape := ⟨1, ![1040]⟩
abbrev S1040x1 : Shape := ⟨2, ![1040, 1]⟩
abbrev S1024x5632 : Shape := ⟨2, ![1024, 5632]⟩
abbrev S1040x5632 : Shape := ⟨2, ![1040, 5632]⟩
abbrev S1024x2816 : Shape := ⟨2, ![1024, 2816]⟩
abbrev S2816x1024 : Shape := ⟨2, ![2816, 1024]⟩

abbrev nBuf : Space → Nat
  | .hbm => 18
  | .vmem => 14
  | .smem => 0
  | _ => 0

abbrev bufTy : (tb : Table) → Fin (tcTables nBuf tb) → BufTy
  | .hbm, ⟨0, _⟩ => ⟨S4x4096x1024, .f32⟩
  | .hbm, ⟨1, _⟩ => ⟨S8x6144, .f32⟩
  | .hbm, ⟨2, _⟩ => ⟨S2x1024, .f32⟩
  | .hbm, ⟨3, _⟩ => ⟨S2x1024x5632, .f32⟩
  | .hbm, ⟨4, _⟩ => ⟨S2x3x5632, .f32⟩
  | .hbm, ⟨5, _⟩ => ⟨S2x5632, .f32⟩
  | .hbm, ⟨6, _⟩ => ⟨S2x2816x1024, .f32⟩
  | .hbm, ⟨7, _⟩ => ⟨S1x1024, .f32⟩
  | .hbm, ⟨8, _⟩ => ⟨S1024, .f32⟩
  | .hbm, ⟨9, _⟩ => ⟨S1x1024, .f32⟩
  | .hbm, ⟨10, _⟩ => ⟨S2x1024x5632, .bf16⟩
  | .hbm, ⟨11, _⟩ => ⟨S1x3x5632, .f32⟩
  | .hbm, ⟨12, _⟩ => ⟨S3x5632, .f32⟩
  | .hbm, ⟨13, _⟩ => ⟨S1x5632, .f32⟩
  | .hbm, ⟨14, _⟩ => ⟨S5632, .f32⟩
  | .hbm, ⟨15, _⟩ => ⟨S1x5632, .f32⟩
  | .hbm, ⟨16, _⟩ => ⟨S2x2816x1024, .bf16⟩
  | .hbm, ⟨17, _⟩ => ⟨S4x4096x1024, .f32⟩
  | .local _ .vmem, ⟨0, _⟩ => ⟨S8x6144, .f32⟩
  | .local _ .vmem, ⟨1, _⟩ => ⟨S1x8x1024, .f32⟩
  | .local _ .vmem, ⟨2, _⟩ => ⟨S1x8x1024, .f32⟩
  | .local _ .vmem, ⟨3, _⟩ => ⟨S1x1024x1024, .f32⟩
  | .local _ .vmem, ⟨4, _⟩ => ⟨S1x1024x1024, .f32⟩
  | .local _ .vmem, ⟨5, _⟩ => ⟨S1x8x1024, .f32⟩
  | .local _ .vmem, ⟨6, _⟩ => ⟨S1x8x1024, .f32⟩
  | .local _ .vmem, ⟨7, _⟩ => ⟨S1x1024, .f32⟩
  | .local _ .vmem, ⟨8, _⟩ => ⟨S1x1024x5632, .bf16⟩
  | .local _ .vmem, ⟨9, _⟩ => ⟨S3x5632, .f32⟩
  | .local _ .vmem, ⟨10, _⟩ => ⟨S1x5632, .f32⟩
  | .local _ .vmem, ⟨11, _⟩ => ⟨S1x2816x1024, .bf16⟩
  | .local _ .vmem, ⟨12, _⟩ => ⟨S1x1024x1024, .f32⟩
  | .local _ .vmem, ⟨13, _⟩ => ⟨S1x1024x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨2, ![4, 4], ![false, false]⟩

def k0_off1 (i : grid0.Coords) : Fin 2 → Nat :=
  let arg0 : BitVec 32 := BitVec.ofNat 32 (i 0).val
  let v0 : Index := Scalar.indexCast arg0
  let c3072 : Index := 3072#32
  ![v0.toNat, 3072]
def k0_off2 (i : grid0.Coords) : Fin 2 → Nat :=
  let arg0 : BitVec 32 := BitVec.ofNat 32 (i 0).val
  let v2 : Index := Scalar.indexCast arg0
  let c4096 : Index := 4096#32
  ![v2.toNat, 4096]
def k0_off3 (i : grid0.Coords) : Fin 2 → Nat :=
  let arg0 : BitVec 32 := BitVec.ofNat 32 (i 0).val
  let v4 : Index := Scalar.indexCast arg0
  let c5120 : Index := 5120#32
  ![v4.toNat, 5120]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c128_i32 : BitVec 32 := 128#32
  let v0 : BitVec 32 := Scalar.muli arg1 c128_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c511_i32 : BitVec 32 := 511#32
  let v2 : BitVec 32 := Scalar.minsi v1 c511_i32
  let c0_i32 : BitVec 32 := 0#32
  let c0_i32_0 : BitVec 32 := 0#32
  ![arg0.toNat, v2.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S8x6144 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024x5632 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S3x5632 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x5632 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x2816x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x1024x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== FfnRefIdeal.lean ====
abbrev S4x4096x1024 : Shape := ⟨3, ![4, 4096, 1024]⟩
abbrev S8x6144 : Shape := ⟨2, ![8, 6144]⟩
abbrev S2x1024 : Shape := ⟨2, ![2, 1024]⟩
abbrev S2x1024x5632 : Shape := ⟨3, ![2, 1024, 5632]⟩
abbrev S2x3x5632 : Shape := ⟨3, ![2, 3, 5632]⟩
abbrev S2x5632 : Shape := ⟨2, ![2, 5632]⟩
abbrev S2x2816x1024 : Shape := ⟨3, ![2, 2816, 1024]⟩
abbrev S4x6144 : Shape := ⟨2, ![4, 6144]⟩
abbrev S4x1x6144 : Shape := ⟨3, ![4, 1, 6144]⟩
abbrev S4x1x1024 : Shape := ⟨3, ![4, 1, 1024]⟩
abbrev S1x1024 : Shape := ⟨2, ![1, 1024]⟩
abbrev S1024 : Shape := ⟨1, ![1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S1x1024x5632 : Shape := ⟨3, ![1, 1024, 5632]⟩
abbrev S1024x5632 : Shape := ⟨2, ![1024, 5632]⟩
abbrev S4x4096x5632 : Shape := ⟨3, ![4, 4096, 5632]⟩
abbrev S4x4097x5632 : Shape := ⟨3, ![4, 4097, 5632]⟩
abbrev S1x1x5632 : Shape := ⟨3, ![1, 1, 5632]⟩
abbrev S5632 : Shape := ⟨1, ![5632]⟩
abbrev S1x5632 : Shape := ⟨2, ![1, 5632]⟩
abbrev S4x4096x2816 : Shape := ⟨3, ![4, 4096, 2816]⟩
abbrev S1x2816x1024 : Shape := ⟨3, ![1, 2816, 1024]⟩
abbrev S2816x1024 : Shape := ⟨2, ![2816, 1024]⟩

abbrev nBuf : Space → Nat
  | .hbm => 91
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S8x6144, .f32⟩
  | .hbm, ⟨2, _⟩ => ⟨S2x1024, .f32⟩
  | .hbm, ⟨3, _⟩ => ⟨S2x1024x5632, .f32⟩
  | .hbm, ⟨4, _⟩ => ⟨S2x3x5632, .f32⟩
  | .hbm, ⟨5, _⟩ => ⟨S2x5632, .f32⟩
  | .hbm, ⟨6, _⟩ => ⟨S2x2816x1024, .f32⟩
  | .hbm, ⟨7, _⟩ => ⟨S4x6144, .f32⟩
  | .hbm, ⟨8, _⟩ => ⟨S4x1x6144, .f32⟩
  | .hbm, ⟨9, _⟩ => ⟨S4x1x1024, .f32⟩
  | .hbm, ⟨10, _⟩ => ⟨S4x1x1024, .f32⟩
  | .hbm, ⟨11, _⟩ => ⟨S4x1x1024, .f32⟩
  | .hbm, ⟨12, _⟩ => ⟨S4x1x1024, .f32⟩
  | .hbm, ⟨13, _⟩ => ⟨S4x1x1024, .f32⟩
  | .hbm, ⟨14, _⟩ => ⟨S4x1x1024, .f32⟩
  | .hbm, ⟨15, _⟩ => ⟨S1x1024, .f32⟩
  | .hbm, ⟨16, _⟩ => ⟨S1024, .f32⟩
  | .hbm, ⟨17, _⟩ => ⟨S4x4096x1024, .f32⟩
  | .hbm, ⟨18, _⟩ => ⟨S_, .f32⟩
  | .hbm, ⟨19, _⟩ => ⟨S4x4096, .f32⟩
  | .hbm, ⟨20, _⟩ => ⟨S4x4096x1, .f32⟩
  | .hbm, ⟨21, _⟩ => ⟨S_, .f32⟩
  | .hbm, ⟨22, _⟩ => ⟨S4x4096x1, .f32⟩
  | .hbm, ⟨23, _⟩ => ⟨S4x4096x1, .f32⟩
  | .hbm, ⟨24, _⟩ => ⟨S_, .f32⟩
  | .hbm, ⟨25, _⟩ => ⟨S4x4096x1, .f32⟩
  | .hbm, ⟨26, _⟩ => ⟨S4x4096x1, .f32⟩
  | .hbm, ⟨27, _⟩ => ⟨S4x4096x1, .f32⟩
  | .hbm, ⟨28, _⟩ => ⟨S4x4096x1024, .f32⟩
  | .hbm, ⟨29, _⟩ => ⟨S4x4096x1024, .f32⟩
  | .hbm, ⟨30, _⟩ => ⟨S1x1x1024, .f32⟩
  | .hbm, ⟨31, _⟩ => ⟨S4x4096x1024, .f32⟩
  | .hbm, ⟨32, _⟩ => ⟨S4x4096x1024, .f32⟩
  | .hbm, ⟨33, _⟩ => ⟨S_, .f32⟩
  | .hbm, ⟨34, _⟩ => ⟨S4x1x1024, .f32⟩
  | .hbm, ⟨35, _⟩ => ⟨S4x1x1024, .f32⟩
  | .hbm, ⟨36, _⟩ => ⟨S4x4096x1024, .f32⟩
  | .hbm, ⟨37, _⟩ => ⟨S4x4096x1024, .f32⟩
  | .hbm, ⟨38, _⟩ => ⟨S4x4096x1024, .f32⟩
  | .hbm, ⟨39, _⟩ => ⟨S4x4096x1024, .f32⟩
  | .hbm, ⟨40, _⟩ => ⟨S1x1024x5632, .f32⟩
  | .hbm, ⟨41, _⟩ => ⟨S1024x5632, .f32⟩
  | .hbm, ⟨42, _⟩ => ⟨S4x4096x5632, .f32⟩
  | .hbm, ⟨43, _⟩ => ⟨S_, .i32⟩
  | .hbm, ⟨44, _⟩ => ⟨S_, .f32⟩
  | .hbm, ⟨45, _⟩ => ⟨S4x4097x5632, .f32⟩
  | .hbm, ⟨46, _⟩ => ⟨S4x4096x5632, .f32⟩
  | .hbm, ⟨47, _⟩ => ⟨S_, .i32⟩
  | .hbm, ⟨48, _⟩ => ⟨S_, .f32⟩
  | .hbm, ⟨49, _⟩ => ⟨S4x4097x5632, .f32⟩
  | .hbm, ⟨50, _⟩ => ⟨S4x4096x5632, .f32⟩
  | .hbm, ⟨51, _⟩ => ⟨S1x1x5632, .f32⟩
  | .hbm, ⟨52, _⟩ => ⟨S5632, .f32⟩
  | .hbm, ⟨53, _⟩ => ⟨S1x1x5632, .f32⟩
  | .hbm, ⟨54, _⟩ => ⟨S4x4096x5632, .f32⟩
  | .hbm, ⟨55, _⟩ => ⟨S4x4096x5632, .f32⟩
  | .hbm, ⟨56, _⟩ => ⟨S1x1x5632, .f32⟩
  | .hbm, ⟨57, _⟩ => ⟨S5632, .f32⟩
  | .hbm, ⟨58, _⟩ => ⟨S1x1x5632, .f32⟩
  | .hbm, ⟨59, _⟩ => ⟨S4x4096x5632, .f32⟩
  | .hbm, ⟨60, _⟩ => ⟨S4x4096x5632, .f32⟩
  | .hbm, ⟨61, _⟩ => ⟨S4x4096x5632, .f32⟩
  | .hbm, ⟨62, _⟩ => ⟨S1x1x5632, .f32⟩
  | .hbm, ⟨63, _⟩ => ⟨S5632, .f32⟩
  | .hbm, ⟨64, _⟩ => ⟨S1x1x5632, .f32⟩
  | .hbm, ⟨65, _⟩ => ⟨S4x4096x5632, .f32⟩
  | .hbm, ⟨66, _⟩ => ⟨S4x4096x5632, .f32⟩
  | .hbm, ⟨67, _⟩ => ⟨S4x4096x5632, .f32⟩
  | .hbm, ⟨68, _⟩ => ⟨S1x5632, .f32⟩
  | .hbm, ⟨69, _⟩ => ⟨S5632, .f32⟩
  | .hbm, ⟨70, _⟩ => ⟨S1x1x5632, .f32⟩
  | .hbm, ⟨71, _⟩ => ⟨S4x4096x5632, .f32⟩
  | .hbm, ⟨72, _⟩ => ⟨S4x4096x5632, .f32⟩
  | .hbm, ⟨73, _⟩ => ⟨S4x4096x2816, .f32⟩
  | .hbm, ⟨74, _⟩ => ⟨S4x4096x2816, .f32⟩
  | .hbm, ⟨75, _⟩ => ⟨S4x4096x2816, .f32⟩
  | .hbm, ⟨76, _⟩ => ⟨S4x4096x2816, .f32⟩
  | .hbm, ⟨77, _⟩ => ⟨S_, .f32⟩
  | .hbm, ⟨78, _⟩ => ⟨S4x4096x2816, .f32⟩
  | .hbm, ⟨79, _⟩ => ⟨S4x4096x2816, .f32⟩
  | .hbm, ⟨80, _⟩ => ⟨S_, .f32⟩
  | .hbm, ⟨81, _⟩ => ⟨S4x4096x2816, .f32⟩
  | .hbm, ⟨82, _⟩ => ⟨S4x4096x2816, .f32⟩
  | .hbm, ⟨83, _⟩ => ⟨S4x4096x2816, .f32⟩
  | .hbm, ⟨84, _⟩ => ⟨S4x4096x2816, .f32⟩
  | .hbm, ⟨85, _⟩ => ⟨S1x2816x1024, .f32⟩
  | .hbm, ⟨86, _⟩ => ⟨S2816x1024, .f32⟩
  | .hbm, ⟨87, _⟩ => ⟨S4x4096x1024, .f32⟩
  | .hbm, ⟨88, _⟩ => ⟨S4x4096x1024, .f32⟩
  | .hbm, ⟨89, _⟩ => ⟨S4x4096x1024, .f32⟩
  | .hbm, ⟨90, _⟩ => ⟨S4x4096x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_cst_0 : Ref sig .tc := ⟨.hbm, 21, rfl⟩
abbrev main_v13 : Ref sig .tc := ⟨.hbm, 22, rfl⟩
abbrev main_v14 : Ref sig .tc := ⟨.hbm, 23, rfl⟩
abbrev main_cst_1 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_2 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_c : Ref sig .tc := ⟨.hbm, 43, rfl⟩
abbrev main_call0_v0 : Ref sig .tc := ⟨.hbm, 44, rfl⟩
abbrev main_v32 : Ref sig .tc := ⟨.hbm, 45, rfl⟩
abbrev main_v33 : Ref sig .tc := ⟨.hbm, 46, rfl⟩
abbrev main_c_3 : Ref sig .tc := ⟨.hbm, 47, rfl⟩
abbrev main_call1_v0 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_call2_v0 : Ref sig .tc := ⟨.hbm, 75, rfl⟩
abbrev main_call2_v1 : Ref sig .tc := ⟨.hbm, 76, rfl⟩
abbrev main_call2_cst : Ref sig .tc := ⟨.hbm, 77, rfl⟩
abbrev main_call2_v2 : Ref sig .tc := ⟨.hbm, 78, rfl⟩
abbrev main_call2_v3 : Ref sig .tc := ⟨.hbm, 79, rfl⟩
abbrev main_call2_cst_0 : Ref sig .tc := ⟨.hbm, 80, rfl⟩
abbrev main_call2_v4 : Ref sig .tc := ⟨.hbm, 81, rfl⟩
abbrev main_call2_v5 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩

abbrev nD : Nat := 1
abbrev τ : Topo := Topo.v7x

variable {F : FTy → Type} [FloatOps F]
-- ==== Proof.Weights.lean ====
/- Weighted means over the extended reals: weights that differ by one positive factor give one mean, and the
   exponentials of a base-two and of a natural softmax differ by one. -/
module

public import Idealize.ShloMosaic.PureOps
public import Idealize.ShloMosaic.Lib.Pointwise

@[expose] public section

noncomputable section

namespace Cert.Weights

open Idealize.ShloMosaic

/-- A sum of reals, read in the extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A nonnegative real factor moves across a sum of extended reals. -/
theorem sum_mul_coe {ι : Type} (s : Finset ι) (f : ι → EReal) {a : ℝ} (ha : 0 ≤ a) :
    (∑ i ∈ s, f i) * (a : EReal) = ∑ i ∈ s, f i * (a : EReal) := by
  classical
  induction s using Finset.induction_on with
  | empty => simp
  | insert b s hb ih =>
    rw [Finset.sum_insert hb, Finset.sum_insert hb, ← ih]
    exact EReal.right_distrib_of_nonneg_of_ne_top (by exact_mod_cast ha) (EReal.coe_ne_top a) _ _

/-- The mean of `v` under the weights `a • p`, taken by dividing once, is the mean under the weights `b • p`, each
    divided by their sum. -/
theorem mean_eq {ι : Type} [Fintype ι] [Nonempty ι] (p : ι → ℝ) (hp : ∀ i, 0 < p i) (v : ι → EReal) {a b : ℝ}
    (ha : 0 < a) (hb : 0 < b) :
    Ideal.div (∑ i, v i * ((p i * a : ℝ) : EReal)) (∑ i, 1 * ((p i * a : ℝ) : EReal))
      = ∑ i, v i * Ideal.div ((p i * b : ℝ) : EReal) (∑ i, ((p i * b : ℝ) : EReal)) := by
  have hS : 0 < ∑ i, p i := Finset.sum_pos (fun i _ => hp i) Finset.univ_nonempty
  have h1 : ∀ d : ℝ, ∑ i, ((p i * d : ℝ) : EReal) = (((∑ i, p i) * d : ℝ) : EReal) := fun d => by
    rw [← coe_sum, Finset.sum_mul]
  simp only [one_mul]
  rw [h1 a, h1 b, Ideal.div_coe (mul_pos hS ha).ne', sum_mul_coe _ _ (by positivity)]
  refine Finset.sum_congr rfl fun i _ => ?_
  rw [Ideal.div_coe (mul_pos hS hb).ne', mul_assoc, ← EReal.coe_mul, ← EReal.coe_mul]
  congr 2
  field_simp

/-- Two to the power of a score in base-two units with a shift: the natural exponential times the shift's factor. -/
theorem exp2_score (s k : ℝ) :
    Ideal.exp2 ((s * (Real.log 2)⁻¹ + k : ℝ) : EReal) = ((Real.exp s * Real.exp (Real.log 2 * k) : ℝ) : EReal) := by
  rw [Ideal.exp2_coe]
  congr 1
  show (2 : ℝ) ^ (s * (Real.log 2)⁻¹ + k) = _
  rw [Real.rpow_def_of_pos two_pos, ← Real.exp_add]
  congr 1
  have : Real.log 2 ≠ 0 := (Real.log_pos one_lt_two).ne'
  field_simp

/-- The exponential of a score less the row's maximum: the natural exponential times the maximum's factor. -/
theorem exp_shift (s k : ℝ) : Ideal.exp ((s : EReal) - (k : EReal)) = ((Real.exp s * Real.exp (-k) : ℝ) : EReal) := by
  rw [← EReal.coe_sub, Ideal.exp_coe, ← Real.exp_add, sub_eq_add_neg]

/-- Softmax by two roads. From real scores, the base-two weights with a shared shift and one final division give the
    mean that the natural softmax weights, shifted by any real and divided one by one, give. -/
theorem softmax_mean {ι : Type} [Fintype ι] [Nonempty ι] (s : ι → ℝ) (k M : ℝ) (v : ι → EReal) :
    Ideal.div (∑ i, v i * Ideal.exp2 ((s i * (Real.log 2)⁻¹ + k : ℝ) : EReal))
        (∑ i, 1 * Ideal.exp2 ((s i * (Real.log 2)⁻¹ + k : ℝ) : EReal))
      = ∑ i, v i * Ideal.div (Ideal.exp ((s i : EReal) - (M : EReal))) (∑ i, Ideal.exp ((s i : EReal) - (M : EReal))) := by
  simp only [exp2_score, exp_shift]
  exact mean_eq _ (fun i => Real.exp_pos _) v (Real.exp_pos _) (Real.exp_pos _)

/-- The running maximum of finitely many reals, started from any real, is a real. -/
theorem fold_max_real {ι : Type} (t : Finset ι) (f : ι → EReal) (hf : ∀ i, ∃ r : ℝ, f i = r) (b : EReal) (hb : b ≠ ⊤)
    (ht : t.Nonempty) : ∃ r : ℝ, t.fold max b f = (r : EReal) := by
  classical
  induction ht using Finset.Nonempty.cons_induction with
  | singleton a =>
    obtain ⟨r, hr⟩ := hf a
    rw [Finset.fold_singleton, hr]
    induction b with
    | bot => exact ⟨r, by simp⟩
    | top => exact absurd rfl hb
    | coe x => exact ⟨max r x, EReal.coe_strictMono.monotone.map_max.symm⟩
  | cons a s ha hs ih =>
    obtain ⟨r, hr⟩ := hf a
    obtain ⟨x, hx⟩ := ih
    rw [Finset.fold_cons, hx, hr]
    exact ⟨max r x, EReal.coe_strictMono.monotone.map_max.symm⟩

/-- An inverse root mean square, with a positive real added under the root: it is zero, or every entry is real and so
    is the inverse root. -/
theorem inv_rms_cases {n : ℕ} (x : Fin n → EReal) {c e : ℝ} (hc : 0 < c) (he : 0 < e) :
    Ideal.rsqrt ((∑ k, x k * x k) * (c : EReal) + (e : EReal)) = 0
      ∨ (∀ k, ∃ r : ℝ, x k = (r : EReal)) ∧ ∃ r : ℝ, Ideal.rsqrt ((∑ k, x k * x k) * (c : EReal) + (e : EReal)) = (r : EReal) := by
  have hn : ∀ k, 0 ≤ x k * x k := fun k => by
    induction x k with
    | bot => simp
    | top => simp
    | coe r => rw [← EReal.coe_mul]; exact_mod_cast mul_self_nonneg r
  have hs : 0 ≤ ∑ k, x k * x k := Finset.sum_nonneg fun k _ => hn k
  have hle : ∀ k, x k * x k ≤ ∑ k, x k * x k := fun k => Finset.single_le_sum (fun k _ => hn k) (Finset.mem_univ k)
  generalize (∑ k, x k * x k) = S at hs hle
  induction S with
  | bot => exact absurd hs (by simp)
  | top => left; rw [EReal.top_mul_coe_of_pos hc, EReal.top_add_coe, Ideal.rsqrt_top]
  | coe S =>
    right
    refine ⟨fun k => ?_, ?_⟩
    · have h := hle k
      revert h
      induction x k with
      | bot => simp
      | top => simp
      | coe r => exact fun _ => ⟨r, rfl⟩
    · have hS : (0 : ℝ) ≤ S := by exact_mod_cast hs
      rw [← EReal.coe_mul, ← EReal.coe_add, Ideal.rsqrt_coe]
      have h : 0 < S * c + e := by positivity
      rw [if_neg (not_lt.mpr h.le), if_neg h.ne']
      exact ⟨_, rfl⟩

end Cert.Weights

end
-- ==== Proof.Attend.lean ====
/- The attention's arithmetic apart from its layout: scores over padded lanes with one constant lane, and the base-two
   softmax mean over cached and fresh keys against the natural softmax. -/
module

public import proofs.«01_k».proof.Proof.Weights

@[expose] public section

noncomputable section

namespace Cert.Weights

open Idealize.ShloMosaic

/-- A softmax mean, its exponentials to base two and its denominator the values' row 64. -/
def mean {C L : ℕ} (kc : Fin C → Fin 128 → EReal) (kx : Fin L → Fin 128 → EReal) (vc : Fin 128 → Fin C → EReal)
    (vx : Fin 128 → Fin L → EReal) (Q : Fin 128 → EReal) (d : Fin 64) : EReal :=
  Ideal.div
    (∑ x, vc ⟨d, by omega⟩ x * Ideal.exp2 (∑ k, kc x k * Q k) + ∑ x, vx ⟨d, by omega⟩ x * Ideal.exp2 (∑ k, kx x k * Q k))
    (∑ x, vc 64 x * Ideal.exp2 (∑ k, kc x k * Q k) + ∑ x, vx 64 x * Ideal.exp2 (∑ k, kx x k * Q k))

/-- A key times a query whose lane `n` is one and whose later lanes are zero: the product over the first `n` lanes, plus
    the key's lane `n`. -/
theorem lanes_dot {n j : ℕ} (K Q : Fin (n + (j + 1)) → EReal) (k r : Fin n → ℝ) (a c : ℝ)
    (hK : ∀ i, K (Fin.castAdd (j + 1) i) = (k i : EReal)) (hQ : ∀ i, Q (Fin.castAdd (j + 1) i) = ((r i * c : ℝ) : EReal))
    (hKa : K (Fin.natAdd n 0) = (a : EReal)) (hQ1 : Q (Fin.natAdd n 0) = 1)
    (hQ0 : ∀ i : Fin j, Q (Fin.natAdd n i.succ) = 0) :
    ∑ i, K i * Q i = (((∑ i, k i * r i) * c + a : ℝ) : EReal) := by
  rw [Fin.sum_univ_add, Fin.sum_univ_succ, hKa, hQ1]
  simp only [hK, hQ, hQ0, mul_zero, Finset.sum_const_zero, add_zero, mul_one]
  rw [EReal.coe_add, Finset.sum_mul, coe_sum]
  congr 1
  refine Finset.sum_congr rfl fun i _ => ?_
  rw [← EReal.coe_mul]
  congr 1
  ring

/-- The base-two mean, its denominator a weighted sum of ones, is the natural softmax's mean, over two lists of keys. -/
theorem two_lists {C L : ℕ} (hC : 0 < C) (sc : Fin C → ℝ) (sx : Fin L → ℝ) (a M : ℝ) (vc oc : Fin C → EReal)
    (vx ox : Fin L → EReal) (hc : ∀ x, oc x = 1) (hx : ∀ x, ox x = 1) :
    Ideal.div
      (∑ x, vc x * Ideal.exp2 ((sc x * (Real.log 2)⁻¹ + a : ℝ) : EReal)
        + ∑ x, vx x * Ideal.exp2 ((sx x * (Real.log 2)⁻¹ + a : ℝ) : EReal))
      (∑ x, oc x * Ideal.exp2 ((sc x * (Real.log 2)⁻¹ + a : ℝ) : EReal)
        + ∑ x, ox x * Ideal.exp2 ((sx x * (Real.log 2)⁻¹ + a : ℝ) : EReal))
    = ∑ x, vc x * Ideal.div (Ideal.exp ((sc x : EReal) - M))
          (∑ x, Ideal.exp ((sc x : EReal) - M) + ∑ x, Ideal.exp ((sx x : EReal) - M))
      + ∑ x, vx x * Ideal.div (Ideal.exp ((sx x : EReal) - M))
          (∑ x, Ideal.exp ((sc x : EReal) - M) + ∑ x, Ideal.exp ((sx x : EReal) - M)) := by
  haveI : Nonempty (Fin C ⊕ Fin L) := ⟨Sum.inl ⟨0, hC⟩⟩
  have h := softmax_mean (Sum.elim sc sx) a M (Sum.elim vc vx)
  simp only [Fintype.sum_sum_type, Sum.elim_inl, Sum.elim_inr] at h
  simp only [hc, hx]
  exact h

end Cert.Weights

end
-- ==== Proof.MlaMath.lean ====
/- The latent attention's query: the rotated, normalised and scaled lanes against the plain formula. -/
module

public import proofs.«01_k».proof.Proof.Attend

@[expose] public section

noncomputable section

namespace Cert.MlaMath

open Idealize.ShloMosaic Cert.Weights

/-- The gain, with the rotation's own coefficient. -/
def tab0 (g : Fin 96 → EReal) (cs : Fin 16 → EReal) (k : Fin 128) : EReal :=
  if h : k.val < 64 then g ⟨k, by omega⟩
  else if h : k.val < 80 then g ⟨k, by omega⟩ * cs ⟨k - 64, by omega⟩
  else if h : k.val < 96 then g ⟨k, by omega⟩ * cs ⟨k - 80, by omega⟩
  else 0

/-- The coefficient of the lane 16 further on. -/
def tab1 (g : Fin 96 → EReal) (sn : Fin 16 → EReal) (k : Fin 128) : EReal :=
  if h : 64 ≤ k.val ∧ k.val < 80 then g ⟨k + 16, by omega⟩ * -sn ⟨k - 64, by omega⟩ else 0

/-- The coefficient of the lane 16 before. -/
def tab2 (g : Fin 96 → EReal) (sn : Fin 16 → EReal) (k : Fin 128) : EReal :=
  if h : 80 ≤ k.val ∧ k.val < 96 then g ⟨k - 16, by omega⟩ * sn ⟨k - 80, by omega⟩ else 0

/-- The query lanes at one position: rotate, normalise, scale; lane 96 is one. -/
def lane (q t0 t1 t2 : Fin 128 → EReal) (k : Fin 128) : EReal :=
  if k.val = 96 then 1 else
    (q k * t0 k + (if h : k.val < 112 then q ⟨16 + k, by omega⟩ else q ⟨k - 112, by omega⟩) * t1 k
        + (if h : k.val < 16 then q ⟨112 + k, by omega⟩ else q ⟨k - 16, by omega⟩) * t2 k)
      * Ideal.rsqrt ((∑ x, q x * q x) * ((1 / 96 : ℝ) : EReal) + Ideal.ofBits FTy.f32 0x358637BD#32)
      * (((Real.sqrt 96)⁻¹ * (Real.log 2)⁻¹ : ℝ) : EReal)

/-- A lane normalised by the root mean square of the 96, times its gain. -/
def normed (x g : Fin 96 → EReal) (k : Fin 96) : EReal :=
  x k * Ideal.rsqrt (Ideal.div (∑ l, x l * x l) (Ideal.ofBits FTy.f32 0x42C00000#32) + Ideal.ofBits FTy.f32 0x358637BD#32)
    * g k

/-- The rotary embedding of the last 32 lanes. -/
def rotated (n : Fin 96 → EReal) (cs sn : Fin 16 → EReal) (k : Fin 96) : EReal :=
  if hk : k.val < 64 then n k
  else if hk' : k.val < 80 then n k * cs ⟨k - 64, by omega⟩ - n ⟨k + 16, by omega⟩ * sn ⟨k - 64, by omega⟩
  else n k * cs ⟨k - 80, by omega⟩ + n ⟨k - 16, by omega⟩ * sn ⟨k - 80, by omega⟩

/-- The normalisation's floor is a positive real. -/
theorem eps_real : ∃ e : ℝ, 0 < e ∧ Ideal.ofBits FTy.f32 0x358637BD#32 = (e : EReal) := by
  refine ⟨8796093 / 2 ^ 43, by norm_num, ?_⟩
  simp [Ideal.ofBits, Ideal.ieee, -EReal.coe_mul]
  norm_num

theorem ninety_six : Ideal.ofBits FTy.f32 0x42C00000#32 = ((96 : ℝ) : EReal) := by
  simp [Ideal.ofBits, Ideal.ieee, -EReal.coe_mul]
  norm_num

/-- The kernel's lanes are the plain query's, times the score scale, with a one at lane 96 and zeros past it. -/
theorem lane_eq (q : Fin 128 → EReal) (hq : ∀ k : Fin 128, 96 ≤ k.val → q k = 0) (g : Fin 96 → EReal)
    (cs sn : Fin 16 → EReal) (hg : ∀ k, ∃ r : ℝ, g k = r) (hcs : ∀ k, ∃ r : ℝ, cs k = r) (hsn : ∀ k, ∃ r : ℝ, sn k = r) :
    ∃ R : Fin 96 → ℝ,
      (∀ k, rotated (normed (fun k => q ⟨k, by omega⟩) g) cs sn k = (R k : EReal))
      ∧ (∀ k : Fin 96, lane q (tab0 g cs) (tab1 g sn) (tab2 g sn) ⟨k, by omega⟩
          = ((R k * ((Real.sqrt 96)⁻¹ * (Real.log 2)⁻¹) : ℝ) : EReal))
      ∧ (∀ k : Fin 128, 96 < k.val → lane q (tab0 g cs) (tab1 g sn) (tab2 g sn) k = 0) := by
  obtain ⟨e, he, hε⟩ := eps_real
  choose γ hγ using hg
  choose C hC using hcs
  choose S hS using hsn
  have hss : ∑ x, q x * q x = ∑ x : Fin 96, q ⟨x, by omega⟩ * q ⟨x, by omega⟩ := by
    have h := Fin.sum_univ_add (a := 96) (b := 32) (fun x : Fin (96 + 32) => q x * q x)
    refine h.trans ?_
    have hz : ∑ i : Fin 32, q (Fin.natAdd 96 i) * q (Fin.natAdd 96 i) = 0 :=
      Finset.sum_eq_zero fun i _ => by rw [hq _ (Nat.le_add_right 96 i), mul_zero]
    rw [hz, add_zero]
    rfl
  have hdiv : Ideal.div (∑ x : Fin 96, q ⟨x, by omega⟩ * q ⟨x, by omega⟩) (Ideal.ofBits FTy.f32 0x42C00000#32)
      = (∑ x : Fin 96, q ⟨x, by omega⟩ * q ⟨x, by omega⟩) * ((1 / 96 : ℝ) : EReal) := by
    rw [ninety_six, Ideal.div_coe (by norm_num)]
  have hlane0 : ∀ k : Fin 128, 96 < k.val → lane q (tab0 g cs) (tab1 g sn) (tab2 g sn) k = 0 := by
    intro k hk
    unfold lane tab0 tab1 tab2
    rw [if_neg (by omega)]
    simp only [show ¬ k.val < 64 by omega, show ¬ k.val < 80 by omega, show ¬ k.val < 96 by omega, and_false, ↓reduceDIte,
      mul_zero, add_zero, zero_mul]
  rcases inv_rms_cases (fun x : Fin 96 => q ⟨x, by omega⟩) (c := 1 / 96) (e := e) (by norm_num) he with h0 | ⟨hx, ρ, hρ⟩
  · refine ⟨fun _ => 0, ?_, ?_, hlane0⟩
    · intro k
      unfold rotated normed
      simp only [hdiv, hε, h0, mul_zero, zero_mul, sub_zero, add_zero, EReal.coe_zero, ite_self, dite_eq_ite]
    · intro k
      unfold lane
      rw [if_neg (by simp only; omega), hss, hε, h0]
      simp
  · choose x hx using hx
    refine ⟨fun k => if hk : k.val < 64 then x k * ρ * γ k
      else if hk' : k.val < 80 then
        x k * ρ * γ k * C ⟨k - 64, by omega⟩ - x ⟨k + 16, by omega⟩ * ρ * γ ⟨k + 16, by omega⟩ * S ⟨k - 64, by omega⟩
      else x k * ρ * γ k * C ⟨k - 80, by omega⟩ + x ⟨k - 16, by omega⟩ * ρ * γ ⟨k - 16, by omega⟩ * S ⟨k - 80, by omega⟩,
      ?_, ?_, hlane0⟩
    · intro k
      have hn : ∀ k, normed (fun k => q ⟨k, by omega⟩) g k = ((x k * ρ * γ k : ℝ) : EReal) := by
        intro k
        unfold normed
        simp only [hdiv, hε, hρ]
        simp only [hx, hγ]
        push_cast
        rfl
      unfold rotated
      simp only [hn, hC, hS]
      split_ifs <;> push_cast <;> rfl
    · intro k
      have hxk : q ⟨k, by omega⟩ = x k := hx k
      unfold lane tab0 tab1 tab2
      rw [if_neg (by simp only; omega), hss, hε, hρ]
      by_cases h1 : k.val < 64
      · simp only [h1, ↓reduceDIte, hγ, hxk, show ¬ 64 ≤ k.val by omega, show ¬ 80 ≤ k.val by omega, false_and, mul_zero,
          add_zero]
        norm_cast
        ring_nf
      · by_cases h2 : k.val < 80
        · have hx' : q ⟨16 + k, by omega⟩ = x ⟨k + 16, by omega⟩ := by
            rw [← hx]; simp only [Nat.add_comm]
          simp only [h1, h2, ↓reduceDIte, hγ, hC, hS, hxk, hx', show k.val < 112 by omega, show 64 ≤ k.val by omega,
            show ¬ 80 ≤ k.val by omega, false_and, and_self, mul_zero, add_zero]
          norm_cast
          ring_nf
        · have hx' : q ⟨k - 16, by omega⟩ = x ⟨k - 16, by omega⟩ := hx ⟨k.val - 16, by omega⟩
          simp only [h1, h2, ↓reduceDIte, hγ, hC, hS, hxk, hx', show k.val < 96 from k.isLt, show ¬ k.val < 16 by omega,
            show 80 ≤ k.val by omega, and_false, and_self, mul_zero, add_zero]
          norm_cast
          ring_nf

end Cert.MlaMath

end
-- ==== Proof.MlaBlock.lean ====
/- One head of the latent attention's block, read entry by entry, and the block's two stores as pairs of heads. -/
module

public import proofs.«01_k».proof.Proof.Gen.MlaIdeal.Value
public import proofs.«01_k».proof.Proof.MlaMath
public import Idealize.ShloMosaic.Lib.Pipeline.ValueKit
public import Idealize.ShloMosaic.Lib.Pointwise

@[expose] public section

set_option maxRecDepth 16384

noncomputable section

namespace Cert.MlaIdeal.Block

open Cert.MlaIdeal Cert.MlaIdeal.Gen Cert.MlaMath Cert.Weights Idealize.ShloMosaic

theorem inv_dim_eq : (Named.named κ "inv_dim" 0x3C2AAAAB#32 : Ideal .f32) = ((1 / 96 : ℝ) : EReal) := rfl

theorem score_scale_eq : (Named.named κ "score_scale" 0x3E16C740#32 : Ideal .f32)
    = (((Real.sqrt 96)⁻¹ * (Real.log 2)⁻¹ : ℝ) : EReal) := rfl

theorem query_at (q : Vec Ideal S1x1x128x1024 .bf16) (t0 t1 t2 : Vec Ideal S1x128x1024 .f32) (k : Fin 128) (i : Fin 1024) :
    k0_pay3 q t0 t1 t2 (ix2 k i)
      = lane (fun k => q (ix4 0 0 k i)) (fun k => t0 (ix3 0 k i)) (fun k => t1 (ix3 0 k i)) (fun k => t2 (ix3 0 k i)) k := by
  pointwise [k0_pay3, k0_pay2]
  rw [inv_dim_eq, score_scale_eq]
  unfold lane
  by_cases hk : k.val = 96
  · have : IntOp.cmpi CmpIPredicate.eq (BitVec.ofNat 32 k.val) 96#32 = 1#1 := by rw [hk]; decide
    rw [this, if_pos hk]
    rfl
  · have : IntOp.cmpi CmpIPredicate.eq (BitVec.ofNat 32 k.val) 96#32 = 0#1 := by
      have hne : BitVec.ofNat 32 k.val ≠ 96#32 := by
        intro e
        have := congrArg BitVec.toNat e
        simp only [BitVec.toNat_ofNat] at this
        omega
      have : (BitVec.ofNat 32 k.val == 96#32) = false := by simpa using hne
      simp only [IntOp.cmpi, this]
      rfl
    rw [this, if_neg hk]
    rfl

theorem head_at (Q : FVec Ideal S128x1024 .bf16) (kc : Vec Ideal S1x256x128 .bf16) (kx : Vec Ideal S1x4096x128 .bf16)
    (vc : Vec Ideal S1x1x128x256 .bf16) (vx : Vec Ideal S1x1x128x4096 .bf16) (d : Fin 64) (i : Fin 1024) :
    k0_pay4 Q kc kx vc vx (ix2 d i)
      = mean (fun x k => kc (ix3 0 x k)) (fun x k => kx (ix3 0 x k)) (fun d x => vc (ix4 0 0 d x))
          (fun d x => vx (ix4 0 0 d x)) (fun k => Q (ix2 k i)) d := by
  pointwise [k0_pay4]
  rfl

/-- Two heads' outputs side by side, queries along the rows. -/
def pack {F : FTy → Type} [FloatOps F] (a b : FVec F S64x1024 .f32) : FVec F S1x1024x128 .bf16 :=
  shapeCast S1x1024x128 (truncf .bf16 (transpose S1024x128 [1, 0]
    (concatenate S128x1024 0 [⟨S64x1024, a⟩, ⟨S64x1024, b⟩] concatenates_S64x1024_S64x1024_S128x1024_d0)
    transposes_S128x1024_p1_0_S1024x128) bitsLt_bf16_f32) shapeCasts_S1024x128_S1x1024x128

theorem pack_at (a b : FVec Ideal S64x1024 .f32) (x : S1x1024x128.Idx) :
    pack a b x
      = if h : (x 2).val < 64 then a (ix2 ⟨(x 2).val, h⟩ ⟨(x 1).val, (x 1).isLt⟩)
        else b (ix2 ⟨(x 2).val - 64, Nat.sub_lt_left_of_lt_add (Nat.le_of_not_lt h) (x 2).isLt⟩ ⟨(x 1).val, (x 1).isLt⟩) := by
  pointwise [pack]

variable {F : FTy → Type} [FloatOps F] [Named F]

/-- The first store's payload is the pair of heads 0 and 1. -/
theorem pack_01 (a : FVec F S64x1024 .f32) (q : Vec F S1x1x128x1024 .bf16) (t0 t1 t2 : Vec F S1x128x1024 .f32)
    (kc : Vec F S1x256x128 .bf16) (kx : Vec F S1x4096x128 .bf16)
    (vc : Vec F S1x1x128x256 .bf16) (vx : Vec F S1x1x128x4096 .bf16) :
    k0_pay12 a (k0_pay10 k0_pay2 (k0_pay5 q) (k0_pay6 q t0) (k0_pay7 q) (k0_pay8 t1) t2 kx)
      (k0_pay11 k0_pay2 (k0_pay5 q) (k0_pay6 q t0) (k0_pay7 q) (k0_pay8 t1) t2 kc vc) vx
      = pack a (k0_pay4 (k0_pay3 q t0 t1 t2) kc kx vc vx) := rfl

/-- Head 2. -/
theorem head_2 (q : Vec F S1x1x128x1024 .bf16) (t0 t1 t2 : Vec F S1x128x1024 .f32)
    (kc : Vec F S1x256x128 .bf16) (kx : Vec F S1x4096x128 .bf16)
    (vc : Vec F S1x1x128x256 .bf16) (vx : Vec F S1x1x128x4096 .bf16) :
    k0_pay17 k0_pay2 (k0_pay14 q t0 t1 t2) (k0_pay15 q) (k0_pay16 (F := F)) kc kx vc vx
      = k0_pay4 (k0_pay3 q t0 t1 t2) kc kx vc vx := rfl

/-- The second store's payload is the pair of heads 2 and 3. -/
theorem pack_23 (a : FVec F S64x1024 .f32) (q : Vec F S1x1x128x1024 .bf16) (t0 t1 t2 : Vec F S1x128x1024 .f32)
    (kc : Vec F S1x256x128 .bf16) (kx : Vec F S1x4096x128 .bf16)
    (vc : Vec F S1x1x128x256 .bf16) (vx : Vec F S1x1x128x4096 .bf16) :
    k0_pay1 a (k0_pay20 k0_pay2 (k0_pay18 q) t0 t1 t2 kc) (k0_pay21 k0_pay2 (k0_pay18 q) t0 t1 t2 kx) vc vx
      = pack a (k0_pay4 (k0_pay3 q t0 t1 t2) kc kx vc vx) := rfl

end Cert.MlaIdeal.Block

end
-- ==== Proof.MlaTables.lean ====
/- The query tables the host computes, read at an index: the gain times the rotation's coefficient at each lane. -/
module

public import proofs.«01_k».proof.Proof.Gen.MlaIdeal.Value
public import proofs.«01_k».proof.Proof.MlaMath
public import Idealize.ShloMosaic.Lib.Pipeline.ValueKit
public import Idealize.ShloMosaic.Lib.Pointwise
public import Idealize.ShloMosaic.Lib.Claim
public import Idealize.ShloMosaic.Lib.StableHlo.ReadAt

@[expose] public section

set_option maxRecDepth 16384

noncomputable section

namespace Cert.MlaIdeal.Block

open Cert.MlaIdeal Cert.MlaIdeal.Gen Cert.MlaMath Idealize.ShloMosaic Idealize.ShloMosaic.TcCoe

variable (m : (ℓ : Loc nD τ sig) → Buf (Elt Ideal) ℓ)

/-- The integer zero, as a float. -/
theorem pad_zero : (FloatOps.sitofp FTy.f32 (0#32) : Ideal .f32) = 0 := by
  change (((0#32).toInt : ℝ) : EReal) = 0
  simp

/-- The mask of the rotated lanes. -/
theorem mask_one (k : Fin 128) (hk : 64 ≤ k.val) :
    (FloatOps.uitofp FTy.f32 (IntOp.cmpi CmpIPredicate.sge (BitVec.ofNat 32 k.val) 64#32) : Ideal .f32) = 1 := by
  have h : ∀ k : Fin 128, 64 ≤ k.val → IntOp.cmpi CmpIPredicate.sge (BitVec.ofNat 32 k.val) 64#32 = 1#1 := by decide
  rw [h k hk]
  change (((1#1).toNat : ℝ) : EReal) = 1
  simp

/-- The gain the host was given. -/
abbrev gain (c : Dev nD) (k : Fin 96) : EReal := m ((c : Thread nD τ).loc main_arg3) (ix1 k)
/-- The cosines at one position. -/
abbrev cosine (c : Dev nD) (i : Fin 4096) (k : Fin 16) : EReal := m ((c : Thread nD τ).loc main_arg1) (ix2 i k)
/-- The sines at one position. -/
abbrev sine (c : Dev nD) (i : Fin 4096) (k : Fin 16) : EReal := m ((c : Thread nD τ).loc main_arg2) (ix2 i k)

theorem tab0_at (c : Dev nD) (k : Fin 128) (i : Fin 4096) :
    V m c main_v72 (ix3 0 k i) = tab0 (gain m c) (cosine m c i) k := by
  unfold V
  repeat (first | after_reads_at | simp only [StableHlo.unary_result', StableHlo.nullary_result',
    StableHlo.binary_result', StableHlo.nary_result', StableHlo.reshape_result'])
  unfold tab0
  rw [pad_zero]
  by_cases h1 : k.val < 64
  · simp only [h1, show k.val < 96 by omega, ↓reduceDIte, mul_one]
  by_cases h2 : k.val < 80
  · simp only [h1, h2, show k.val < 96 by omega, show k.val - 64 < 16 by omega, ↓reduceDIte]
  by_cases h3 : k.val < 96
  · simp only [h1, h2, h3, show ¬ k.val - 64 < 16 by omega, show k.val - 64 - 16 < 16 by omega, ↓reduceDIte,
      show k.val - 64 - 16 = k.val - 80 by omega, show k.val - 80 < 16 by omega]
  · simp only [h1, h2, h3, ↓reduceDIte, zero_mul]

theorem tab1_at (c : Dev nD) (k : Fin 128) (i : Fin 4096) :
    V m c main_v72 (ix3 1 k i) = tab1 (gain m c) (sine m c i) k := by
  unfold V
  repeat (first | after_reads_at | simp only [StableHlo.unary_result', StableHlo.nullary_result',
    StableHlo.binary_result', StableHlo.nary_result', StableHlo.reshape_result'])
  unfold tab1
  by_cases h1 : k.val < 64
  · simp only [h1, show ¬ 64 ≤ k.val by omega, ↓reduceDIte, false_and, mul_zero]
  rw [mask_one k (by omega), mul_one]
  by_cases h2 : k.val < 80
  · simp only [h1, h2, show 64 ≤ k.val by omega, show k.val - 64 < 16 by omega, ↓reduceDIte, and_self,
      show 80 + (k.val - 64) = k.val + 16 by omega, show k.val + 16 < 96 by omega]
  · simp only [h1, h2, show ¬ k.val - 64 < 16 by omega, ↓reduceDIte, and_false, dite_eq_ite, ite_self, mul_zero]

theorem tab2_at (c : Dev nD) (k : Fin 128) (i : Fin 4096) :
    V m c main_v72 (ix3 2 k i) = tab2 (gain m c) (sine m c i) k := by
  unfold V
  repeat (first | after_reads_at | simp only [StableHlo.unary_result', StableHlo.nullary_result',
    StableHlo.binary_result', StableHlo.nary_result', StableHlo.reshape_result'])
  unfold tab2
  by_cases h1 : k.val < 80
  · simp only [show ¬ 80 ≤ k.val by omega, false_and, ↓reduceDIte]
    by_cases h0 : k.val < 64
    · simp only [h0, ↓reduceDIte, mul_zero]
    · simp only [h0, show k.val - 64 < 16 by omega, ↓reduceDIte, mul_zero]
  rw [mask_one k (by omega), mul_one]
  by_cases h2 : k.val < 96
  · simp only [h1, h2, show ¬ k.val < 64 by omega, show 80 ≤ k.val by omega, show ¬ k.val - 64 < 16 by omega,
      show k.val - 64 - 16 < 16 by omega, show 64 + (k.val - 64 - 16) < 96 by omega, ↓reduceDIte, and_self,
      show k.val - 64 - 16 = k.val - 80 by omega, show 64 + (k.val - 80) = k.val - 16 by omega,
      show k.val - 80 < 16 by omega, show k.val - 16 < 96 by omega]
  · simp only [h2, show ¬ k.val < 64 by omega, show ¬ k.val - 64 < 16 by omega, show ¬ k.val - 64 - 16 < 16 by omega,
      ↓reduceDIte, and_false, mul_zero]

end Cert.MlaIdeal.Block

end
-- ==== Proof.MlaFinal.lean ====
/- The latent attention's result array, entry by entry: the softmax mean of one head at one position. -/
module

public import proofs.«01_k».proof.Proof.MlaBlock
public import proofs.«01_k».proof.Proof.MlaTables
public import Idealize.ShloMosaic.Lib.Pipeline.ValueKit
public import Idealize.ShloMosaic.Lib.Pointwise

@[expose] public section

set_option maxRecDepth 16384

noncomputable section

namespace Cert.MlaIdeal.Block

open Cert.MlaIdeal Cert.MlaIdeal.Gen Cert.MlaMath Cert.Weights Idealize.ShloMosaic
  Idealize.ShloMosaic.TcCoe

variable (m : (ℓ : Loc nD τ sig) → Buf (Elt Ideal) ℓ)

/-- Head `h` at position `i` of list `b`, lane `d`: the softmax mean the kernel forms of its arguments. -/
def attended (c : Dev nD) (b : Fin 4) (i : Fin 4096) (h : Fin 8) (d : Fin 64) : EReal :=
  mean (fun x k => m ((c : Thread nD τ).loc main_arg4) (ix3 b x ⟨h.val * 128 + k.val, by omega⟩))
    (fun x k => m ((c : Thread nD τ).loc main_arg6) (ix3 b x ⟨h.val * 128 + k.val, by omega⟩))
    (fun d x => m ((c : Thread nD τ).loc main_arg5) (ix4 b h d x))
    (fun d x => m ((c : Thread nD τ).loc main_arg7) (ix4 b h d x))
    (lane (fun k => m ((c : Thread nD τ).loc main_arg0) (ix4 b h k i))
      (tab0 (gain m c) (cosine m c i)) (tab1 (gain m c) (sine m c i)) (tab2 (gain m c) (sine m c i))) d

/-- One head of one block, from what its loads hold. -/
theorem cell (c : Dev nD) (b : Fin 4) (I : Fin 4096) (h : Fin 8) (d : Fin 64) (i : Fin 1024)
    (q : Vec Ideal S1x1x128x1024 .bf16) (t0 t1 t2 : Vec Ideal S1x128x1024 .f32)
    (kc : Vec Ideal S1x256x128 .bf16) (kx : Vec Ideal S1x4096x128 .bf16)
    (vc : Vec Ideal S1x1x128x256 .bf16) (vx : Vec Ideal S1x1x128x4096 .bf16)
    (hq : ∀ k, q (ix4 0 0 k i) = m ((c : Thread nD τ).loc main_arg0) (ix4 b h k I))
    (h0 : ∀ k, t0 (ix3 0 k i) = V m c main_v72 (ix3 0 k I))
    (h1 : ∀ k, t1 (ix3 0 k i) = V m c main_v72 (ix3 1 k I))
    (h2 : ∀ k, t2 (ix3 0 k i) = V m c main_v72 (ix3 2 k I))
    (hkc : ∀ x k, kc (ix3 0 x k) = m ((c : Thread nD τ).loc main_arg4) (ix3 b x ⟨h.val * 128 + k.val, by omega⟩))
    (hkx : ∀ x k, kx (ix3 0 x k) = m ((c : Thread nD τ).loc main_arg6) (ix3 b x ⟨h.val * 128 + k.val, by omega⟩))
    (hvc : ∀ d x, vc (ix4 0 0 d x) = m ((c : Thread nD τ).loc main_arg5) (ix4 b h d x))
    (hvx : ∀ d x, vx (ix4 0 0 d x) = m ((c : Thread nD τ).loc main_arg7) (ix4 b h d x)) :
    k0_pay4 (k0_pay3 q t0 t1 t2) kc kx vc vx (ix2 d i) = attended m c b I h d := by
  have e0 : (fun k => t0 (ix3 0 k i)) = tab0 (gain m c) (cosine m c I) := funext fun k => (h0 k).trans (tab0_at m c k I)
  have e1 : (fun k => t1 (ix3 0 k i)) = tab1 (gain m c) (sine m c I) := funext fun k => (h1 k).trans (tab1_at m c k I)
  have e2 : (fun k => t2 (ix3 0 k i)) = tab2 (gain m c) (sine m c I) := funext fun k => (h2 k).trans (tab2_at m c k I)
  rw [head_at]
  unfold attended
  simp only [query_at, hq, e0, e1, e2, hkc, hkx, hvc, hvx]

theorem idx : ∀ t : Fin cfg0.N, win0_0.index t = ![0, 0, t.val % 4] ∧ win0_1.index t = ![t.val / 8, t.val / 4 % 2, 0, t.val % 4]
    ∧ win0_2.index t = ![t.val / 8, 0, t.val / 4 % 2] ∧ win0_3.index t = ![t.val / 8, t.val / 4 % 2, 0, 0]
    ∧ win0_4.index t = ![t.val / 8, 0, t.val / 4 % 2] ∧ win0_5.index t = ![t.val / 8, t.val / 4 % 2, 0, 0]
    ∧ win0_6.index t = ![t.val / 8, t.val % 4, t.val / 4 % 2] :=
  (by decide +kernel : ∀ t : Fin grid0.N, _)

theorem table_blk (c : Dev nD) (t : Fin cfg0.N) (I : Fin 4096) (i : Fin 1024) (r : Fin 3) (k : Fin 128)
    (eI : I.val = t.val % 4 * 1024 + i.val) : iblk m c 0 t (ix3 r k i) = V m c main_v72 (ix3 r k I) := by
  blk_ext [iblk, idx t]

theorem query_blk (c : Dev nD) (t : Fin cfg0.N) (b : Fin 4) (I : Fin 4096) (h : Fin 8) (i : Fin 1024) (j : Fin 4) (k : Fin 128)
    (eb : b.val = t.val / 8) (eI : I.val = t.val % 4 * 1024 + i.val) (eh : h.val = t.val / 4 % 2 * 4 + j.val) :
    iblk m c 1 t (ix4 0 j k i) = m ((c : Thread nD τ).loc main_arg0) (ix4 b h k I) := by
  rw [← V_main_arg0 m c]
  blk_ext [iblk, idx t]

theorem keys_blk (c : Dev nD) (t : Fin cfg0.N) (b : Fin 4) (h : Fin 8) (j : Fin 4) (k : Fin 128)
    (eb : b.val = t.val / 8) (eh : h.val = t.val / 4 % 2 * 4 + j.val) (x : Fin 256) :
    iblk m c 2 t (ix3 0 x ⟨j.val * 128 + k.val, by omega⟩)
      = m ((c : Thread nD τ).loc main_arg4) (ix3 b x ⟨h.val * 128 + k.val, by omega⟩) := by
  rw [← V_main_arg4 m c]
  blk_ext [iblk, idx t]

theorem keys_blk' (c : Dev nD) (t : Fin cfg0.N) (b : Fin 4) (h : Fin 8) (j : Fin 4) (k : Fin 128)
    (eb : b.val = t.val / 8) (eh : h.val = t.val / 4 % 2 * 4 + j.val) (x : Fin 4096) :
    iblk m c 4 t (ix3 0 x ⟨j.val * 128 + k.val, by omega⟩)
      = m ((c : Thread nD τ).loc main_arg6) (ix3 b x ⟨h.val * 128 + k.val, by omega⟩) := by
  rw [← V_main_arg6 m c]
  blk_ext [iblk, idx t]

theorem vals_blk (c : Dev nD) (t : Fin cfg0.N) (b : Fin 4) (h : Fin 8) (j : Fin 4) (d : Fin 128)
    (eb : b.val = t.val / 8) (eh : h.val = t.val / 4 % 2 * 4 + j.val) (x : Fin 256) :
    iblk m c 3 t (ix4 0 j d x) = m ((c : Thread nD τ).loc main_arg5) (ix4 b h d x) := by
  rw [← V_main_arg5 m c]
  blk_ext [iblk, idx t]

theorem vals_blk' (c : Dev nD) (t : Fin cfg0.N) (b : Fin 4) (h : Fin 8) (j : Fin 4) (d : Fin 128)
    (eb : b.val = t.val / 8) (eh : h.val = t.val / 4 % 2 * 4 + j.val) (x : Fin 4096) :
    iblk m c 5 t (ix4 0 j d x) = m ((c : Thread nD τ).loc main_arg7) (ix4 b h d x) := by
  rw [← V_main_arg7 m c]
  blk_ext [iblk, idx t]

/-- The loads of head `j` of a block, and the head formed of them. -/
theorem block_head (c : Dev nD) (t : Fin cfg0.N) (b : Fin 4) (I : Fin 4096) (h : Fin 8) (d : Fin 64) (i : Fin 1024) (j : Fin 4)
    (eb : b.val = t.val / 8) (eI : I.val = t.val % 4 * 1024 + i.val) (eh : h.val = t.val / 4 % 2 * 4 + j.val)
    (q : Vec Ideal S1x1x128x1024 .bf16) (t0 t1 t2 : Vec Ideal S1x128x1024 .f32)
    (kc : Vec Ideal S1x256x128 .bf16) (kx : Vec Ideal S1x4096x128 .bf16)
    (vc : Vec Ideal S1x1x128x256 .bf16) (vx : Vec Ideal S1x1x128x4096 .bf16)
    (hq : ∀ k, q (ix4 0 0 k i) = iblk m c 1 t (ix4 0 j k i))
    (h0 : ∀ k, t0 (ix3 0 k i) = iblk m c 0 t (ix3 0 k i))
    (h1 : ∀ k, t1 (ix3 0 k i) = iblk m c 0 t (ix3 1 k i))
    (h2 : ∀ k, t2 (ix3 0 k i) = iblk m c 0 t (ix3 2 k i))
    (hkc : ∀ x k, kc (ix3 0 x k) = iblk m c 2 t (ix3 0 x ⟨j.val * 128 + k.val, by omega⟩))
    (hkx : ∀ x k, kx (ix3 0 x k) = iblk m c 4 t (ix3 0 x ⟨j.val * 128 + k.val, by omega⟩))
    (hvc : ∀ d x, vc (ix4 0 0 d x) = iblk m c 3 t (ix4 0 j d x))
    (hvx : ∀ d x, vx (ix4 0 0 d x) = iblk m c 5 t (ix4 0 j d x)) :
    k0_pay4 (k0_pay3 q t0 t1 t2) kc kx vc vx (ix2 d i) = attended m c b I h d :=
  cell m c b I h d i q t0 t1 t2 kc kx vc vx
    (fun k => (hq k).trans (query_blk m c t b I h i j k eb eI eh))
    (fun k => (h0 k).trans (table_blk m c t I i 0 k eI))
    (fun k => (h1 k).trans (table_blk m c t I i 1 k eI))
    (fun k => (h2 k).trans (table_blk m c t I i 2 k eI))
    (fun x k => (hkc x k).trans (keys_blk m c t b h j k eb eh x))
    (fun x k => (hkx x k).trans (keys_blk' m c t b h j k eb eh x))
    (fun d x => (hvc d x).trans (vals_blk m c t b h j d eb eh x))
    (fun d x => (hvx d x).trans (vals_blk' m c t b h j d eb eh x))

theorem point (c : Dev nD) (t : Fin cfg0.N) (y : S1x1024x256.Idx) (b : Fin 4) (I : Fin 4096) (h : Fin 8) (d : Fin 64)
    (eb : b.val = t.val / 8) (eI : I.val = t.val % 4 * 1024 + (y 1).val)
    (eh : h.val = t.val / 4 % 2 * 4 + (y 2).val / 64) (ed : d.val = (y 2).val % 64) :
    out0_6 (iblk m c 0 t) (iblk m c 1 t) (iblk m c 2 t) (iblk m c 3 t) (iblk m c 4 t) (iblk m c 5 t) y
      = attended m c b I h d := by
  unfold_out out0_6
  generalize e0 : iblk m c 0 t = X0
  generalize e1 : iblk m c 1 t = X1
  generalize e2 : iblk m c 2 t = X2
  generalize e3 : iblk m c 3 t = X3
  generalize e4 : iblk m c 4 t = X4
  generalize e5 : iblk m c 5 t = X5
  canon_tiles x h'
  · rw [head_2, pack_23, pack_at]
    split_ifs with hx
    · obtain rfl : d = ⟨(x 2).val, hx⟩ := Fin.ext (by simp only []; omega)
      refine block_head m c t b I h _ _ 2 eb (by simp only []; omega) (by simp only [Fin.isValue, Fin.val_two]; omega)
        _ _ _ _ _ _ _ _ ?_ ?_ ?_ ?_ ?_ ?_ ?_ ?_
      all_goals (intros; subst e0 e1 e2 e3 e4 e5)
      all_goals refine View.ld_unit_apply_of _ _ _ _ _ _ fun a => ?_
      all_goals (fin_cases a <;> simp)
    · rw [show d = ⟨(x 2).val - 64, Nat.sub_lt_left_of_lt_add (Nat.le_of_not_lt hx) x2_lt⟩ from
        Fin.ext (by simp only []; omega)]
      refine block_head m c t b I h _ _ 3 eb (by simp only []; omega) (by simp only [Fin.isValue, show (3 : Fin 4).val = 3 from rfl]; omega)
        _ _ _ _ _ _ _ _ ?_ ?_ ?_ ?_ ?_ ?_ ?_ ?_
      all_goals (intros; subst e0 e1 e2 e3 e4 e5)
      all_goals refine View.ld_unit_apply_of _ _ _ _ _ _ fun a => ?_
      all_goals (fin_cases a <;> simp)
  · rw [pack_01, pack_at]
    split_ifs with hx
    · obtain rfl : d = ⟨(x 2).val, hx⟩ := Fin.ext (by simp only []; omega)
      refine block_head m c t b I h _ _ 0 eb (by simp only []; omega) (by simp only [Fin.isValue, Fin.val_zero]; omega)
        _ _ _ _ _ _ _ _ ?_ ?_ ?_ ?_ ?_ ?_ ?_ ?_
      all_goals (intros; subst e0 e1 e2 e3 e4 e5)
      all_goals refine View.ld_unit_apply_of _ _ _ _ _ _ fun a => ?_
      all_goals (fin_cases a <;> simp)
    · rw [show d = ⟨(x 2).val - 64, Nat.sub_lt_left_of_lt_add (Nat.le_of_not_lt hx) x2_lt⟩ from
        Fin.ext (by simp only []; omega)]
      refine block_head m c t b I h _ _ 1 eb (by simp only []; omega) (by simp only [Fin.isValue, Fin.val_one]; omega)
        _ _ _ _ _ _ _ _ ?_ ?_ ?_ ?_ ?_ ?_ ?_ ?_
      all_goals (intros; subst e0 e1 e2 e3 e4 e5)
      all_goals refine View.ld_unit_apply_of _ _ _ _ _ _ fun a => ?_
      all_goals (fin_cases a <;> simp)

/-- The result array: at each position the eight heads' means side by side. -/
theorem final (c : Dev nD) : (dats m 0 c).arrAt 6 cfg0.N
    = fun y : S4x4096x512.Idx => attended m c ⟨(y 0).val, (y 0).isLt⟩ ⟨(y 1).val, (y 1).isLt⟩
        ⟨(y 2).val / 64, Nat.div_lt_of_lt_mul (y 2).isLt⟩ ⟨(y 2).val % 64, Nat.mod_lt _ (by omega)⟩ := by
  refine (dats m 0 c).arrAt_eq_of_covers 6 _ (by decide +kernel) fun t hf y => ?_
  blk_simp
  rw [after0_6]
  have ht : t.val < 32 := lt_of_lt_of_eq t.isLt N_0
  refine point m c t y _ _ _ _ ?_ ?_ ?_ ?_
  all_goals (blk_simp [idx t] <;> try omega)
  · change (t.val / 4 % 2 * 256 + (y 2).val) / 64 = _
    omega
  · change (t.val / 4 % 2 * 256 + (y 2).val) % 64 = _
    omega

end Cert.MlaIdeal.Block

end
-- ==== Proof.MlaRef.lean ====
/- The reference attention in stages (normalised query, rotated query, keys, values, scores, weights, output), each read
   at an index. -/
module

public import proofs.«01_k».proof.Proof.Gen.MlaRefIdeal.Run
public import Idealize.ShloMosaic.Lib.Pointwise
public import Idealize.ShloMosaic.Lib.Tactic.CleanTypes

@[expose] public section

set_option maxRecDepth 16384

noncomputable section

namespace Cert.MlaRefIdeal.Attend

open Cert.MlaRefIdeal Cert.MlaRefIdeal.Gen Cert.MlaRefIdeal.Value Idealize.ShloMosaic

variable {F : FTy → Type} [FloatOps F]

/-- The queries' 96 lanes, heads last but one. -/
def lanes (q : FVec F S4x8x128x4096 .bf16) : FVec F S4x4096x8x96 .f32 :=
  transpose S4x4096x8x96 [0, 3, 1, 2] (extractStridedSlice S4x8x96x4096 ![0, 0, 0, 0] (extf .f32 q bitsLt_bf16_f32)
    slices_S4x8x128x4096_S4x8x96x4096_0_0_0_0) transposes_S4x8x96x4096_S4x4096x8x96_0_3_1_2

/-- The queries normalised by their root mean square, times the gain. -/
def normed (x : FVec F S4x4096x8x96 .f32) (g : FVec F S96 .f32) : FVec F S4x4096x8x96 .f32 :=
  mulf (mulf x (broadcastInDim S4x4096x8x96 ![0, 1, 2, 3] bcast_S4x4096x8x1_S4x4096x8x96_0_1_2_3
      (Host.rsqrt (addf
        (Host.divf
          (broadcastInDim S4x4096x8x1 ![0, 1, 2] bcast_S4x4096x8_S4x4096x8x1_0_1_2
            (Host.reduceAdd (mulf x x) (constant S_ .f32 0x00000000#32) reducesTo_S4x4096x8x96_S4x4096x8_d3 h_S_))
          (broadcastInDim S4x4096x8x1 ![] bcast_S_S4x4096x8x1 (constant S_ .f32 0x42C00000#32)))
        (broadcastInDim S4x4096x8x1 ![] bcast_S_S4x4096x8x1 (constant S_ .f32 0x358637BD#32))))))
    (broadcastInDim S4x4096x8x96 ![0, 1, 2, 3] bcast_S1x1x1x96_S4x4096x8x96_0_1_2_3
      (broadcastInDim S1x1x1x96 ![3] bcast_S96_S1x1x1x96_3 g))

/-- An angle table, spread over batch and heads. -/
def angle (t : FVec F S4096x16 .f32) : FVec F S4x4096x8x16 .f32 :=
  broadcastInDim S4x4096x8x16 ![0, 1, 2, 3] bcast_S1x4096x1x16_S4x4096x8x16_0_1_2_3
    (broadcastInDim S1x4096x1x16 ![1, 2, 3] bcast_S4096x1x16_S1x4096x1x16_1_2_3
      (broadcastInDim S4096x1x16 ![0, 2] bcast_S4096x16_S4096x1x16_0_2 t))

/-- Lanes 64 to 79. -/
def lo (x : FVec F S4x4096x8x96 .f32) : FVec F S4x4096x8x16 .f32 :=
  extractStridedSlice S4x4096x8x16 ![0, 0, 0, 0] (extractStridedSlice S4x4096x8x32 ![0, 0, 0, 64] x
    slices_S4x4096x8x96_S4x4096x8x32_0_0_0_64) slices_S4x4096x8x32_S4x4096x8x16_0_0_0_0

/-- Lanes 80 to 95. -/
def hi (x : FVec F S4x4096x8x96 .f32) : FVec F S4x4096x8x16 .f32 :=
  extractStridedSlice S4x4096x8x16 ![0, 0, 0, 16] (extractStridedSlice S4x4096x8x32 ![0, 0, 0, 64] x
    slices_S4x4096x8x96_S4x4096x8x32_0_0_0_64) slices_S4x4096x8x32_S4x4096x8x16_0_0_0_16

/-- The rotary embedding of the last 32 lanes. -/
def rotated (x : FVec F S4x4096x8x96 .f32) (cs sn : FVec F S4096x16 .f32) : FVec F S4x4096x8x96 .f32 :=
  concatenate S4x4096x8x96 3
    [⟨S4x4096x8x64, extractStridedSlice S4x4096x8x64 ![0, 0, 0, 0] x slices_S4x4096x8x96_S4x4096x8x64_0_0_0_0⟩,
     ⟨S4x4096x8x32, concatenate S4x4096x8x32 3
        [⟨S4x4096x8x16, subf (mulf (lo x) (angle cs)) (mulf (hi x) (angle sn))⟩,
         ⟨S4x4096x8x16, addf (mulf (hi x) (angle cs)) (mulf (lo x) (angle sn))⟩]
        concatenates_S4x4096x8x16_S4x4096x8x16_S4x4096x8x32_d3⟩]
    concatenates_S4x4096x8x64_S4x4096x8x32_S4x4096x8x96_d3

/-- The keys' 96 lanes, the cached ones first. -/
def keys (kc : FVec F S4x256x1024 .bf16) (k : FVec F S4x4096x1024 .bf16) : FVec F S4x4352x8x96 .f32 :=
  concatenate S4x4352x8x96 1
    [⟨S4x256x8x96, extractStridedSlice S4x256x8x96 ![0, 0, 0, 0]
        (shapeCast S4x256x8x128 (extf .f32 kc bitsLt_bf16_f32) shapeCasts_S4x256x1024_S4x256x8x128)
        slices_S4x256x8x128_S4x256x8x96_0_0_0_0⟩,
     ⟨S4x4096x8x96, extractStridedSlice S4x4096x8x96 ![0, 0, 0, 0]
        (shapeCast S4x4096x8x128 (extf .f32 k bitsLt_bf16_f32) shapeCasts_S4x4096x1024_S4x4096x8x128)
        slices_S4x4096x8x128_S4x4096x8x96_0_0_0_0⟩]
    concatenates_S4x256x8x96_S4x4096x8x96_S4x4352x8x96_d1

/-- The values' 64 lanes, the cached ones first. -/
def vals (vc : FVec F S4x8x128x256 .bf16) (v : FVec F S4x8x128x4096 .bf16) : FVec F S4x4352x8x64 .f32 :=
  concatenate S4x4352x8x64 1
    [⟨S4x256x8x64, transpose S4x256x8x64 [0, 3, 1, 2]
        (extractStridedSlice S4x8x64x256 ![0, 0, 0, 0] (extf .f32 vc bitsLt_bf16_f32)
          slices_S4x8x128x256_S4x8x64x256_0_0_0_0) transposes_S4x8x64x256_S4x256x8x64_0_3_1_2⟩,
     ⟨S4x4096x8x64, transpose S4x4096x8x64 [0, 3, 1, 2]
        (extractStridedSlice S4x8x64x4096 ![0, 0, 0, 0] (extf .f32 v bitsLt_bf16_f32)
          slices_S4x8x128x4096_S4x8x64x4096_0_0_0_0) transposes_S4x8x64x4096_S4x4096x8x64_0_3_1_2⟩]
    concatenates_S4x256x8x64_S4x4096x8x64_S4x4352x8x64_d1

/-- The scores: keys times queries, over the square root of 96. -/
def scores (K : FVec F S4x4352x8x96 .f32) (R : FVec F S4x4096x8x96 .f32) : FVec F S4x8x1x4096x4352 .f32 :=
  mulf (transpose S4x8x1x4096x4352 [0, 1, 4, 3, 2]
      (Host.dotGeneral dot_S4x4352x8x96_S4x4096x8x1x96_S4x8x4352x4096x1_3_4_1_13_02_02 none K
        (broadcastInDim S4x4096x8x1x96 ![0, 1, 2, 4] bcast_S4x4096x8x96_S4x4096x8x1x96_0_1_2_4 R))
      transposes_S4x8x4352x4096x1_S4x8x1x4096x4352_0_1_4_3_2)
    (broadcastInDim S4x8x1x4096x4352 ![] bcast_S_S4x8x1x4096x4352 (Host.rsqrt (constant S_ .f32 0x42C00000#32)))

/-- A per-query number, spread over the keys. -/
def spread (x : FVec F S4x8x1x4096 .f32) : FVec F S4x8x1x4096x4352 .f32 :=
  broadcastInDim S4x8x1x4096x4352 ![0, 1, 2, 3, 4] bcast_S4x8x1x4096x1_S4x8x1x4096x4352_0_1_2_3_4
    (broadcastInDim S4x8x1x4096x1 ![0, 1, 2, 3] bcast_S4x8x1x4096_S4x8x1x4096x1_0_1_2_3 x)

/-- Each query's largest score. -/
def largest (S : FVec F S4x8x1x4096x4352 .f32) : FVec F S4x8x1x4096 .f32 :=
  maximumf (broadcastInDim S4x8x1x4096 ![] bcast_S_S4x8x1x4096 (constant S_ .f32 0xFF800000#32))
    (Host.reduce FloatOps.maximumf S (constant S_ .f32 0xFF800000#32) reducesTo_S4x8x1x4096x4352_S4x8x1x4096_d4 h_S_)

/-- The exponentials of the scores, each query's less one number. -/
def powers (S : FVec F S4x8x1x4096x4352 .f32) (L : FVec F S4x8x1x4096 .f32) : FVec F S4x8x1x4096x4352 .f32 :=
  Host.exp (subf S (spread L))

/-- The exponentials over their sum. -/
def shares (E : FVec F S4x8x1x4096x4352 .f32) : FVec F S4x8x1x4096x4352 .f32 :=
  Host.divf E (spread (Host.reduceAdd E (constant S_ .f32 0x00000000#32) reducesTo_S4x8x1x4096x4352_S4x8x1x4096_d4 h_S_))

/-- The softmax weights. -/
def weights (S : FVec F S4x8x1x4096x4352 .f32) : FVec F S4x8x1x4096x4352 .f32 := shares (powers S (largest S))

/-- The weighted values, heads side by side. -/
def mixed (V : FVec F S4x4352x8x64 .f32) (P : FVec F S4x8x1x4096x4352 .f32) : FVec F S4x4096x512 .bf16 :=
  truncf .bf16 (shapeCast S4x4096x512 (transpose S4x4096x8x1x64 [0, 4, 1, 3, 2]
      (Host.dotGeneral dot_S4x4352x8x64_S4x8x1x4096x4352_S4x8x64x1x4096_1_4_3_23_02_01 none V P)
      transposes_S4x8x64x1x4096_S4x4096x8x1x64_0_4_1_3_2) shapeCasts_S4x4096x8x1x64_S4x4096x512) bitsLt_bf16_f32

/-- The reference's result is these stages in turn. -/
theorem res_eq (m : (ℓ : Loc nD τ sig) → Buf (Elt F) ℓ) (c : Dev nD) :
    res_main_v72 m c = mixed
      (vals (m ((c.tc : Thread nD τ).loc main_arg5)) (m ((c.tc : Thread nD τ).loc main_arg7)))
      (weights (scores (keys (m ((c.tc : Thread nD τ).loc main_arg4)) (m ((c.tc : Thread nD τ).loc main_arg6)))
        (rotated (normed (lanes (m ((c.tc : Thread nD τ).loc main_arg0))) (m ((c.tc : Thread nD τ).loc main_arg3)))
          (m ((c.tc : Thread nD τ).loc main_arg1)) (m ((c.tc : Thread nD τ).loc main_arg2))))) := by
  unfold res_main_v72; rfl

theorem lanes_at (q : FVec Ideal S4x8x128x4096 .bf16) (b : Fin 4) (i : Fin 4096) (h : Fin 8) (k : Fin 96) :
    lanes q (ix4 b i h k) = q (ix4 b h ⟨k, by omega⟩ i) := by
  pointwise [lanes]

theorem normed_at (x : FVec Ideal S4x4096x8x96 .f32) (g : FVec Ideal S96 .f32) (b : Fin 4) (i : Fin 4096) (h : Fin 8)
    (k : Fin 96) :
    normed x g (ix4 b i h k) = x (ix4 b i h k) * Ideal.rsqrt (Ideal.div (∑ l, x (ix4 b i h l) * x (ix4 b i h l))
      (Ideal.ofBits FTy.f32 0x42C00000#32) + Ideal.ofBits FTy.f32 0x358637BD#32) * g (ix1 k) := by
  pointwise [normed]

theorem rotated_at (x : FVec Ideal S4x4096x8x96 .f32) (cs sn : FVec Ideal S4096x16 .f32) (b : Fin 4) (i : Fin 4096)
    (h : Fin 8) (k : Fin 96) :
    rotated x cs sn (ix4 b i h k) =
      if hk : k.val < 64 then x (ix4 b i h k)
      else if hk' : k.val < 80 then
        x (ix4 b i h k) * cs (ix2 i ⟨k - 64, by omega⟩) - x (ix4 b i h ⟨k + 16, by omega⟩) * sn (ix2 i ⟨k - 64, by omega⟩)
      else
        x (ix4 b i h k) * cs (ix2 i ⟨k - 80, by omega⟩) + x (ix4 b i h ⟨k - 16, by omega⟩) * sn (ix2 i ⟨k - 80, by omega⟩) := by
  pointwise [rotated, angle, lo, hi]
  by_cases h1 : k.val < 64
  · simp only [h1, ↓reduceDIte]
  · by_cases h2 : k.val < 80
    · simp only [h1, h2, show k.val - 64 < 16 by omega, ↓reduceDIte, show 64 + (k.val - 64) = k.val by omega,
        show 64 + (16 + (k.val - 64)) = k.val + 16 by omega, Fin.eta]
    · simp only [h1, h2, show ¬ k.val - 64 < 16 by omega, ↓reduceDIte, show k.val - 64 - 16 = k.val - 80 by omega,
        show 64 + (16 + (k.val - 80)) = k.val by omega, show 64 + (k.val - 80) = k.val - 16 by omega, Fin.eta]

theorem keys_at (kc : FVec Ideal S4x256x1024 .bf16) (kx : FVec Ideal S4x4096x1024 .bf16) (b : Fin 4) (l : Fin 4352)
    (h : Fin 8) (k : Fin 96) :
    keys kc kx (ix4 b l h k) = if hl : l.val < 256 then kc (ix3 b ⟨l, by omega⟩ ⟨h * 128 + k, by omega⟩)
      else kx (ix3 b ⟨l - 256, by omega⟩ ⟨h * 128 + k, by omega⟩) := by
  pointwise [keys]

theorem vals_at (vc : FVec Ideal S4x8x128x256 .bf16) (v : FVec Ideal S4x8x128x4096 .bf16) (b : Fin 4) (l : Fin 4352)
    (h : Fin 8) (d : Fin 64) :
    vals vc v (ix4 b l h d) = if hl : l.val < 256 then vc (ix4 b h ⟨d, by omega⟩ ⟨l, by omega⟩)
      else v (ix4 b h ⟨d, by omega⟩ ⟨l - 256, by omega⟩) := by
  pointwise [vals]

theorem scores_at (K : FVec Ideal S4x4352x8x96 .f32) (R : FVec Ideal S4x4096x8x96 .f32) (b : Fin 4) (h : Fin 8)
    (i : Fin 4096) (l : Fin 4352) :
    scores K R (ix5 b h 0 i l)
      = (∑ k, K (ix4 b l h k) * R (ix4 b i h k)) * Ideal.rsqrt (Ideal.ofBits FTy.f32 0x42C00000#32) := by
  pointwise [scores]

theorem powers_at (S : FVec Ideal S4x8x1x4096x4352 .f32) (L : FVec Ideal S4x8x1x4096 .f32) (b : Fin 4) (h : Fin 8)
    (i : Fin 4096) (l : Fin 4352) :
    powers S L (ix5 b h 0 i l) = Ideal.exp (S (ix5 b h 0 i l) - L (ix4 b h 0 i)) := by
  pointwise [powers, spread]

theorem shares_at (E : FVec Ideal S4x8x1x4096x4352 .f32) (b : Fin 4) (h : Fin 8) (i : Fin 4096) (l : Fin 4352) :
    shares E (ix5 b h 0 i l) = Ideal.div (E (ix5 b h 0 i l)) (∑ x, E (ix5 b h 0 i x)) := by
  pointwise [shares, spread]

theorem mixed_at (V : FVec Ideal S4x4352x8x64 .f32) (P : FVec Ideal S4x8x1x4096x4352 .f32) (b : Fin 4) (i : Fin 4096)
    (j : Fin 512) :
    mixed V P (ix3 b i j) = ∑ l, V (ix4 b l ⟨j / 64, by omega⟩ ⟨j % 64, by omega⟩) * P (ix5 b ⟨j / 64, by omega⟩ 0 i l) := by
  pointwise [mixed]

end Cert.MlaRefIdeal.Attend

end
-- ==== Proof.Largest.lean ====
/- The largest of finitely many real numbers is a real number, at a reduction over one axis. -/
module

public import proofs.«01_k».proof.Proof.Weights
public import Idealize.ShloMosaic.Lib.Pointwise

@[expose] public section

noncomputable section

namespace Cert.Weights

open Idealize.ShloMosaic

/-- The maximum over one axis, from a start below ⊤, of an array of reals. -/
theorem reduce_max_real {s t u : Shape} {a : Fin s.rank} (x : FVec Ideal s .f32) (hx : ∀ i, ∃ r : ℝ, x i = (r : EReal))
    (z : FVec Ideal t .f32) (init : FVec Ideal u .f32) (h' : s.ReducesTo [a] t) (h : s.Reduces [a] t) (hu : 0 < u.numel)
    (j : t.Idx) (hz : z j ≠ ⊤) (hi : init (Shape.Idx.first hu) ≠ ⊤) (hn : 0 < s.size a) :
    ∃ r : ℝ, maximumf z (Host.reduce (FloatOps.maximumf (F := Ideal)) x init h' hu) j = (r : EReal) := by
  have hne : (Finset.univ : Finset (Fin (s.size a))).Nonempty := ⟨⟨0, hn⟩, Finset.mem_univ _⟩
  obtain ⟨r, hr⟩ := fold_max_real Finset.univ (x ∘ h.lift j) (fun i => hx _) (init (Shape.Idx.first hu)) hi hne
  have e : maximumf z (Host.reduce (FloatOps.maximumf (F := Ideal)) x init h' hu) j
      = max (z j) (Host.reduce (FloatOps.maximumf (F := Ideal)) x init h' hu j) := rfl
  rw [e, Host.reduce_eq_fold_single _ x init h' h hu j]
  change ∃ r : ℝ, max (z j) (Finset.univ.fold max (init (Shape.Idx.first hu)) (x ∘ h.lift j)) = r
  rw [hr]
  rcases le_total (z j) (r : EReal) with hle | hle
  · exact ⟨r, max_eq_right hle⟩
  · rw [max_eq_left hle]
    exact ⟨(z j).toReal, (EReal.coe_toReal hz (ne_bot_of_le_ne_bot (EReal.coe_ne_bot r) hle)).symm⟩

end Cert.Weights

end
-- ==== Proof.MlaValue.lean ====
/- The kernel's mean of one head at one position is the reference's softmax attention there. -/
module

public import proofs.«01_k».proof.Proof.MlaMath
public import proofs.«01_k».proof.Proof.MlaRef
public import proofs.«01_k».proof.Proof.Largest
public import Idealize.ShloMosaic.Lib.Pointwise
public import Idealize.ShloMosaic.Lib.Pipeline.ValueKit

@[expose] public section

set_option maxRecDepth 16384

noncomputable section

namespace Cert.MlaRefIdeal.Attend

open Cert.MlaRefIdeal Cert.MlaRefIdeal.Gen Cert.MlaRefIdeal.Value Cert.MlaMath Cert.Weights Idealize.ShloMosaic

/-- The reciprocal root of 96. -/
theorem rsqrt_eq : Ideal.rsqrt (Ideal.ofBits FTy.f32 0x42C00000#32) = (((Real.sqrt 96)⁻¹ : ℝ) : EReal) := by
  rw [ninety_six, Ideal.rsqrt_coe, if_neg (by norm_num), if_neg (by norm_num)]

/-- Each query's largest score is real when the scores are. -/
theorem largest_real (S : FVec Ideal S4x8x1x4096x4352 .f32) (hS : ∀ j, ∃ r : ℝ, S j = (r : EReal)) (j : S4x8x1x4096.Idx) :
    ∃ r : ℝ, largest S j = (r : EReal) := by
  have hinf : Ideal.ofBits FTy.f32 0xFF800000#32 ≠ ⊤ := by
    simp [Ideal.ofBits, Ideal.ieee, -EReal.coe_mul]
  exact reduce_max_real (a := 4) S hS _ (constant S_ .f32 0xFF800000#32) reducesTo_S4x8x1x4096x4352_S4x8x1x4096_d4
    (by decide) h_S_ j hinf hinf (by decide)

/-- A score is real when its key and its query are. -/
theorem score_real (K : FVec Ideal S4x4352x8x96 .f32) (Q : FVec Ideal S4x4096x8x96 .f32) (b : Fin 4) (h : Fin 8)
    (i : Fin 4096) (l : Fin 4352) (κ ρ : Fin 96 → ℝ) (hK : ∀ k, K (ix4 b l h k) = (κ k : EReal))
    (hQ : ∀ k, Q (ix4 b i h k) = (ρ k : EReal)) :
    scores K Q (ix5 b h 0 i l) = (((∑ k, κ k * ρ k) * (Real.sqrt 96)⁻¹ : ℝ) : EReal) := by
  rw [scores_at, rsqrt_eq, EReal.coe_mul, coe_sum]
  simp only [hK, hQ, EReal.coe_mul]

/-- The softmax-weighted values, from real scores: the two lists of keys apart. -/
theorem weighted_eq (vc : FVec Ideal S4x8x128x256 .bf16) (vx : FVec Ideal S4x8x128x4096 .bf16)
    (S : FVec Ideal S4x8x1x4096x4352 .f32) (L : FVec Ideal S4x8x1x4096 .f32) (b : Fin 4) (i : Fin 4096) (h : Fin 8) (d : Fin 64)
    (sc : Fin 256 → ℝ) (sx : Fin 4096 → ℝ) (M : ℝ) (hM : L (ix4 b h 0 i) = (M : EReal))
    (hsc : ∀ x : Fin 256, S (ix5 b h 0 i ⟨x, by omega⟩) = (sc x : EReal))
    (hsx : ∀ x : Fin 4096, S (ix5 b h 0 i ⟨256 + x, by omega⟩) = (sx x : EReal)) :
    ∑ l, vals vc vx (ix4 b l h d) * shares (powers S L) (ix5 b h 0 i l)
      = ∑ x, vc (ix4 b h ⟨d, by omega⟩ x) * Ideal.div (Ideal.exp ((sc x : EReal) - M))
          (∑ x, Ideal.exp ((sc x : EReal) - M) + ∑ x, Ideal.exp ((sx x : EReal) - M))
        + ∑ x, vx (ix4 b h ⟨d, by omega⟩ x) * Ideal.div (Ideal.exp ((sx x : EReal) - M))
          (∑ x, Ideal.exp ((sc x : EReal) - M) + ∑ x, Ideal.exp ((sx x : EReal) - M)) := by
  have split : ∀ f : Fin 4352 → EReal, ∑ l, f l = ∑ x : Fin 256, f ⟨x, by omega⟩ + ∑ x : Fin 4096, f ⟨256 + x, by omega⟩ :=
    fun f => Fin.sum_univ_add (a := 256) (b := 4096) f
  simp only [shares_at, powers_at, hM, vals_at]
  rw [split, split (fun x => Ideal.exp (S (ix5 b h 0 i x) - M))]
  simp only [hsc, hsx, Fin.is_lt, ↓reduceDIte, show ∀ x : ℕ, ¬ 256 + x < 256 by omega, Nat.add_sub_cancel_left, Fin.eta]

/-- What the equation takes of its arrays. -/
structure Slots (q : FVec Ideal S4x8x128x4096 .bf16) (cs sn : FVec Ideal S4096x16 .f32) (g : FVec Ideal S96 .f32)
    (kc : FVec Ideal S4x256x1024 .bf16) (vc : FVec Ideal S4x8x128x256 .bf16) (kx : FVec Ideal S4x4096x1024 .bf16)
    (vx : FVec Ideal S4x8x128x4096 .bf16) : Prop where
  cos_real : ∀ (i : Fin 4096) (k : Fin 16), ∃ r : ℝ, cs (ix2 i k) = (r : EReal)
  sin_real : ∀ (i : Fin 4096) (k : Fin 16), ∃ r : ℝ, sn (ix2 i k) = (r : EReal)
  gain_real : ∀ k : Fin 96, ∃ r : ℝ, g (ix1 k) = (r : EReal)
  cached_key_real : ∀ (b : Fin 4) (x : Fin 256) (j : Fin 8) (k : Fin 97),
    ∃ r : ℝ, kc (ix3 b x ⟨j.val * 128 + k.val, by omega⟩) = (r : EReal)
  key_real : ∀ (b : Fin 4) (x : Fin 4096) (j : Fin 8) (k : Fin 97),
    ∃ r : ℝ, kx (ix3 b x ⟨j.val * 128 + k.val, by omega⟩) = (r : EReal)
  query_pad : ∀ (b : Fin 4) (j : Fin 8) (k : Fin 32) (i : Fin 4096), q (ix4 b j ⟨96 + k.val, by omega⟩ i) = 0
  cached_key_lane : ∀ (b : Fin 4) (x : Fin 256) (j : Fin 8),
    kc (ix3 b x ⟨j.val * 128 + 96, by omega⟩) = kc (ix3 0 0 96)
  key_lane : ∀ (b : Fin 4) (x : Fin 4096) (j : Fin 8), kx (ix3 b x ⟨j.val * 128 + 96, by omega⟩) = kc (ix3 0 0 96)
  cached_val_lane : ∀ (b : Fin 4) (j : Fin 8) (x : Fin 256), vc (ix4 b j 64 x) = 1
  val_lane : ∀ (b : Fin 4) (j : Fin 8) (x : Fin 4096), vx (ix4 b j 64 x) = 1

variable {q : FVec Ideal S4x8x128x4096 .bf16} {cs sn : FVec Ideal S4096x16 .f32} {g : FVec Ideal S96 .f32}
  {kc : FVec Ideal S4x256x1024 .bf16} {vc : FVec Ideal S4x8x128x256 .bf16} {kx : FVec Ideal S4x4096x1024 .bf16}
  {vx : FVec Ideal S4x8x128x4096 .bf16}

/-- The rotated query is real, and the kernel's lanes are its own times the scale. -/
theorem query_real (H : Slots q cs sn g kc vc kx vx) (b : Fin 4) (i : Fin 4096) (h : Fin 8) :
    ∃ R : Fin 96 → ℝ, (∀ k, rotated (normed (lanes q) g) cs sn (ix4 b i h k) = (R k : EReal))
      ∧ (∀ k : Fin 96, lane (fun k => q (ix4 b h k i)) (tab0 (fun k => g (ix1 k)) (fun k => cs (ix2 i k)))
          (tab1 (fun k => g (ix1 k)) (fun k => sn (ix2 i k))) (tab2 (fun k => g (ix1 k)) (fun k => sn (ix2 i k))) ⟨k, by omega⟩
          = ((R k * ((Real.sqrt 96)⁻¹ * (Real.log 2)⁻¹) : ℝ) : EReal))
      ∧ (∀ k : Fin 128, 96 < k.val → lane (fun k => q (ix4 b h k i)) (tab0 (fun k => g (ix1 k)) (fun k => cs (ix2 i k)))
          (tab1 (fun k => g (ix1 k)) (fun k => sn (ix2 i k))) (tab2 (fun k => g (ix1 k)) (fun k => sn (ix2 i k))) k = 0) := by
  obtain ⟨R, h1, h2, h3⟩ := lane_eq (fun k => q (ix4 b h k i))
    (fun k hk => by
      have e := H.query_pad b h ⟨k.val - 96, by omega⟩ i
      simp only [show 96 + (k.val - 96) = k.val by omega, Fin.eta] at e
      exact e)
    (fun k => g (ix1 k)) (fun k => cs (ix2 i k)) (fun k => sn (ix2 i k)) (fun k => H.gain_real k)
    (fun k => H.cos_real i k) (fun k => H.sin_real i k)
  refine ⟨R, fun k => ?_, h2, h3⟩
  rw [← h1 k, rotated_at]
  simp only [normed_at, lanes_at]
  rfl

/-- A product of a key of real lanes with the kernel's lanes. -/
theorem dot_eq (K Q : Fin 128 → EReal) (k : Fin 97 → ℝ) (r : Fin 96 → ℝ) (c : ℝ)
    (hK : ∀ i : Fin 97, K ⟨i, by omega⟩ = (k i : EReal)) (hQ : ∀ i : Fin 96, Q ⟨i, by omega⟩ = ((r i * c : ℝ) : EReal))
    (h1 : Q 96 = 1) (h0 : ∀ i : Fin 128, 96 < i.val → Q i = 0) :
    ∑ i, K i * Q i = (((∑ i : Fin 96, k ⟨i, by omega⟩ * r i) * c + k 96 : ℝ) : EReal) :=
  lanes_dot (n := 96) (j := 31) K Q (fun i => k ⟨i, by omega⟩) r (k 96) c (fun i => hK ⟨i, by omega⟩) hQ (hK 96) h1
    (fun i => h0 _ (by simp [Fin.natAdd]))

/-- One entry of the kernel's result, against the reference's. -/
theorem mean_eq_mixed (H : Slots q cs sn g kc vc kx vx) (b : Fin 4) (i : Fin 4096) (h : Fin 8) (d : Fin 64) :
    mean (fun x k => kc (ix3 b x ⟨h.val * 128 + k.val, by omega⟩)) (fun x k => kx (ix3 b x ⟨h.val * 128 + k.val, by omega⟩))
      (fun d x => vc (ix4 b h d x)) (fun d x => vx (ix4 b h d x))
      (lane (fun k => q (ix4 b h k i)) (tab0 (fun k => g (ix1 k)) (fun k => cs (ix2 i k)))
          (tab1 (fun k => g (ix1 k)) (fun k => sn (ix2 i k))) (tab2 (fun k => g (ix1 k)) (fun k => sn (ix2 i k)))) d
    = ∑ l, vals vc vx (ix4 b l h d)
        * weights (scores (keys kc kx) (rotated (normed (lanes q) g) cs sn)) (ix5 b h 0 i l) := by
  have hQ := query_real H
  have hq1 : ∀ t0 t1 t2 : Fin 128 → EReal, lane (fun k => q (ix4 b h k i)) t0 t1 t2 96 = 1 := fun _ _ _ => if_pos rfl
  generalize rotated (normed (lanes q) g) cs sn = Q at hQ ⊢
  choose KC hKC using H.cached_key_real
  choose KX hKX using H.key_real
  have hK : ∀ b l h, ∃ κ : Fin 96 → ℝ, ∀ k, keys kc kx (ix4 b l h k) = (κ k : EReal) := by
    intro b l h
    have hk : ∀ k : Fin 96, ∃ r : ℝ, keys kc kx (ix4 b l h k) = (r : EReal) := by
      intro k
      rw [keys_at]
      split_ifs
      · exact ⟨_, hKC b _ h ⟨k, by omega⟩⟩
      · exact ⟨_, hKX b _ h ⟨k, by omega⟩⟩
    choose κ hκ using hk
    exact ⟨κ, hκ⟩
  have hkc : ∀ (x : Fin 256) (k : Fin 96), keys kc kx (ix4 b ⟨x, by omega⟩ h k) = (KC b x h ⟨k, by omega⟩ : EReal) := by
    intro x k
    rw [keys_at, dif_pos x.isLt]
    exact hKC b x h ⟨k, by omega⟩
  have hkx : ∀ (x : Fin 4096) (k : Fin 96), keys kc kx (ix4 b ⟨256 + x, by omega⟩ h k) = (KX b x h ⟨k, by omega⟩ : EReal) := by
    intro x k
    rw [keys_at, dif_neg (by simp)]
    simp only [Nat.add_sub_cancel_left]
    exact hKX b x h ⟨k, by omega⟩
  generalize keys kc kx = K at hK hkc hkx ⊢
  have hS : ∀ j, ∃ r : ℝ, scores K Q j = (r : EReal) := by
    intro j
    obtain ⟨b, h, u, i, l, rfl⟩ : ∃ (b : Fin 4) (h : Fin 8) (u : Fin 1) (i : Fin 4096) (l : Fin 4352), j = ix5 b h u i l :=
      ⟨_, _, _, _, _, eq_ix5 j⟩
    obtain rfl : u = 0 := Subsingleton.elim _ _
    obtain ⟨R, hR, -, -⟩ := hQ b i h
    obtain ⟨κ, hκ⟩ := hK b l h
    exact ⟨_, score_real K Q b h i l κ R hκ hR⟩
  obtain ⟨M, hM⟩ := largest_real _ hS (ix4 b h 0 i)
  obtain ⟨R, hR, hL, hZ⟩ := hQ b i h
  have hsc := fun x : Fin 256 => score_real K Q b h i ⟨x, by omega⟩ _ R (hkc x) hR
  have hsx := fun x : Fin 4096 => score_real K Q b h i ⟨256 + x, by omega⟩ _ R (hkx x) hR
  unfold weights
  rw [weighted_eq vc vx _ _ b i h d _ _ M hM hsc hsx]
  have haC : ∀ x, KC b x h 96 = KC 0 0 0 96 := fun x => EReal.coe_injective (by
    rw [← hKC b x h 96, ← hKC 0 0 0 96]
    exact H.cached_key_lane b x h)
  have haX : ∀ x, KX b x h 96 = KC 0 0 0 96 := fun x => EReal.coe_injective (by
    rw [← hKX b x h 96, ← hKC 0 0 0 96]
    exact H.key_lane b x h)
  have hdc := fun x : Fin 256 => dot_eq (fun k => kc (ix3 b x ⟨h.val * 128 + k.val, by omega⟩)) _ (KC b x h) R _
    (fun k => hKC b x h k) hL (hq1 _ _ _) hZ
  have hdx := fun x : Fin 4096 => dot_eq (fun k => kx (ix3 b x ⟨h.val * 128 + k.val, by omega⟩)) _ (KX b x h) R _
    (fun k => hKX b x h k) hL (hq1 _ _ _) hZ
  unfold mean
  simp only [hdc, hdx, haC, haX, ← mul_assoc]
  exact two_lists (by omega) _ _ _ M _ _ _ _ (fun x => H.cached_val_lane b h x) (fun x => H.val_lane b h x)

end Cert.MlaRefIdeal.Attend

end
-- ==== Proof.Words.lean ====
/- What one word of a precondition's array says of the numbers compared. -/
module

public import Idealize.ShloMosaic.Lib.IdealHost
public import Idealize.ShloMosaic.Lib.Pointwise

@[expose] public section

noncomputable section

namespace Cert.Words

open Idealize.ShloMosaic

/-- The pattern of positive infinity. -/
theorem inf_eq : Ideal.ofBits FTy.f32 0x7F800000#32 = ⊤ := by
  simp [Ideal.ofBits, Ideal.ieee, -EReal.coe_mul]

/-- A number whose magnitude is below infinity is real. -/
theorem real_of_word {x : Ideal .f32}
    (h : BitVec.ofBool (decide (FloatOps.absf x < Ideal.ofBits FTy.f32 0x7F800000#32)) = 1#1) : ∃ r : ℝ, x = (r : EReal) := by
  rw [inf_eq] at h
  have h' : (max x (-x) : EReal) < ⊤ := by
    by_contra hn
    have : ¬ (FloatOps.absf x < (⊤ : Ideal .f32)) := hn
    simp [this] at h
  refine ⟨EReal.toReal x, (EReal.coe_toReal ?_ ?_).symm⟩
  · exact fun e => absurd (lt_of_le_of_lt (le_max_left x (-x)) h') (by rw [e]; exact lt_irrefl _)
  · exact fun e => absurd (lt_of_le_of_lt (le_max_right x (-x)) h') (by rw [e]; exact lt_irrefl _)

/-- Two numbers whose equality word is one are equal. -/
theorem eq_of_word {x y : EReal} (h : BitVec.ofBool (decide (x = y)) = 1#1) : x = y := by
  by_contra hn
  simp [hn] at h

end Cert.Words

end
-- ==== Proof.MlaPre.lean ====
/- What the latent attention's precondition says, entry by entry. -/
module

public import proofs.«01_k».proof.Proof.Gen.MlaIdeal.Value
public import proofs.«01_k».proof.Defs
public import proofs.«01_k».proof.Proof.Words
public import Idealize.ShloMosaic.Lib.Pipeline.ValueKit
public import Idealize.ShloMosaic.Lib.Pointwise
public import Idealize.ShloMosaic.Lib.Claim

@[expose] public section

set_option maxRecDepth 16384

noncomputable section

namespace Cert.Pre_mla_slots.Read

open Cert.Pre_mla_slots Cert.Words Idealize.ShloMosaic

variable [Cert.Pre_mla_slots.Facts]

variable (q : FVec Ideal S4x8x128x4096 .bf16) (cs sn : FVec Ideal S4096x16 .f32) (g : FVec Ideal S96 .f32)
  (kc : FVec Ideal S4x256x1024 .bf16) (vc : FVec Ideal S4x8x128x256 .bf16) (kx : FVec Ideal S4x4096x1024 .bf16)
  (vx : FVec Ideal S4x8x128x4096 .bf16)

theorem cos_real (h : (fn q cs sn g kc vc kx vx).1 = fun _ => 1#1) (i : Fin 4096) (k : Fin 16) : ∃ r : ℝ, cs (ix2 i k) = (r : EReal) := by
  have e := congrFun h (ix2 i k)
  unfold fn fn_part1 fn_part2 at e
  dsimp only at e
  pointwise at e
  exact real_of_word e

theorem sin_real (h : (fn q cs sn g kc vc kx vx).2.1 = fun _ => 1#1) (i : Fin 4096) (k : Fin 16) : ∃ r : ℝ, sn (ix2 i k) = (r : EReal) := by
  have e := congrFun h (ix2 i k)
  unfold fn fn_part1 fn_part2 at e
  dsimp only at e
  pointwise at e
  exact real_of_word e

theorem gain_real (h : (fn q cs sn g kc vc kx vx).2.2.1 = fun _ => 1#1) (k : Fin 96) : ∃ r : ℝ, g (ix1 k) = (r : EReal) := by
  have e := congrFun h (ix1 k)
  unfold fn fn_part1 fn_part2 at e
  dsimp only at e
  pointwise at e
  exact real_of_word e

theorem cached_key_real (h : (fn q cs sn g kc vc kx vx).2.2.2.1 = fun _ => 1#1) (b : Fin 4) (x : Fin 256) (j : Fin 8) (k : Fin 97) :
    ∃ r : ℝ, kc (ix3 b x ⟨j.val * 128 + k.val, by omega⟩) = (r : EReal) := by
  have e := congrFun h (ix4 b x j k)
  unfold fn fn_part1 fn_part2 at e
  dsimp only at e
  pointwise at e
  exact real_of_word e

theorem key_real (h : (fn q cs sn g kc vc kx vx).2.2.2.2.1 = fun _ => 1#1) (b : Fin 4) (x : Fin 4096) (j : Fin 8) (k : Fin 97) :
    ∃ r : ℝ, kx (ix3 b x ⟨j.val * 128 + k.val, by omega⟩) = (r : EReal) := by
  have e := congrFun h (ix4 b x j k)
  unfold fn fn_part1 fn_part2 at e
  dsimp only at e
  pointwise at e
  exact real_of_word e

theorem query_pad (h : (fn q cs sn g kc vc kx vx).2.2.2.2.2.1 = fun _ => 1#1) (b : Fin 4) (j : Fin 8) (k : Fin 32) (i : Fin 4096) :
    q (ix4 b j ⟨96 + k.val, by omega⟩ i) = 0 := by
  have e := congrFun h (ix4 b j k i)
  unfold fn fn_part1 fn_part2 at e
  dsimp only at e
  pointwise at e
  exact eq_of_word e

theorem cached_key_lane (h : (fn q cs sn g kc vc kx vx).2.2.2.2.2.2.1 = fun _ => 1#1) (b : Fin 4) (x : Fin 256) (j : Fin 8) :
    kc (ix3 b x ⟨j.val * 128 + 96, by omega⟩) = kc (ix3 0 0 96) := by
  have e := congrFun h (ix3 b x j)
  unfold fn fn_part1 fn_part2 at e
  dsimp only at e
  pointwise at e
  exact eq_of_word e

theorem key_lane (h : (fn q cs sn g kc vc kx vx).2.2.2.2.2.2.2.1 = fun _ => 1#1) (b : Fin 4) (x : Fin 4096) (j : Fin 8) :
    kx (ix3 b x ⟨j.val * 128 + 96, by omega⟩) = kc (ix3 0 0 96) := by
  have e := congrFun h (ix3 b x j)
  unfold fn fn_part1 fn_part2 at e
  dsimp only at e
  pointwise at e
  exact eq_of_word e

theorem cached_val_lane (h : (fn q cs sn g kc vc kx vx).2.2.2.2.2.2.2.2.1 = fun _ => 1#1) (b : Fin 4) (j : Fin 8) (x : Fin 256) :
    vc (ix4 b j 64 x) = 1 := by
  have e := congrFun h (ix3 b j x)
  unfold fn fn_part1 fn_part2 at e
  dsimp only at e
  pointwise at e
  exact eq_of_word e

theorem val_lane (h : (fn q cs sn g kc vc kx vx).2.2.2.2.2.2.2.2.2 = fun _ => 1#1) (b : Fin 4) (j : Fin 8) (x : Fin 4096) :
    vx (ix4 b j 64 x) = 1 := by
  have e := congrFun h (ix3 b j x)
  unfold fn fn_part1 fn_part2 at e
  dsimp only at e
  pointwise at e
  exact eq_of_word e

end Cert.Pre_mla_slots.Read

end
-- ==== Proof.MlaClaim.lean ====
/- The latent attention's kernel and its reference leave the same result. -/
module

public import proofs.«01_k».proof.Proof.MlaFinal
public import proofs.«01_k».proof.Proof.MlaValue
public import proofs.«01_k».proof.Proof.MlaPre

@[expose] public section

set_option maxRecDepth 16384

noncomputable section

namespace Cert.MlaClaim

open Idealize.ShloMosaic Idealize.ShloMosaic.TcCoe Cert.MlaRefIdeal.Attend

variable [Cert.Pre_mla_slots.Facts]

/-- The two result arrays, from memories agreeing on the arguments. -/
theorem value (m : (ℓ : Loc Cert.MlaIdeal.nD Cert.MlaIdeal.τ Cert.MlaIdeal.sig) → Buf (Elt Ideal) ℓ)
    (m' : (ℓ : Loc Cert.MlaRefIdeal.nD Cert.MlaRefIdeal.τ Cert.MlaRefIdeal.sig) → Buf (Elt Ideal) ℓ)
    (hpre : Cert.Pre_MlaIdeal_mla_slots m) (c : Dev Cert.MlaIdeal.nD)
    (h0 : m' ((c.tc : Thread Cert.MlaRefIdeal.nD Cert.MlaRefIdeal.τ).loc Cert.MlaRefIdeal.main_arg0) = m ((c.tc : Thread Cert.MlaIdeal.nD Cert.MlaIdeal.τ).loc Cert.MlaIdeal.main_arg0))
    (h1 : m' ((c.tc : Thread Cert.MlaRefIdeal.nD Cert.MlaRefIdeal.τ).loc Cert.MlaRefIdeal.main_arg1) = m ((c.tc : Thread Cert.MlaIdeal.nD Cert.MlaIdeal.τ).loc Cert.MlaIdeal.main_arg1))
    (h2 : m' ((c.tc : Thread Cert.MlaRefIdeal.nD Cert.MlaRefIdeal.τ).loc Cert.MlaRefIdeal.main_arg2) = m ((c.tc : Thread Cert.MlaIdeal.nD Cert.MlaIdeal.τ).loc Cert.MlaIdeal.main_arg2))
    (h3 : m' ((c.tc : Thread Cert.MlaRefIdeal.nD Cert.MlaRefIdeal.τ).loc Cert.MlaRefIdeal.main_arg3) = m ((c.tc : Thread Cert.MlaIdeal.nD Cert.MlaIdeal.τ).loc Cert.MlaIdeal.main_arg3))
    (h4 : m' ((c.tc : Thread Cert.MlaRefIdeal.nD Cert.MlaRefIdeal.τ).loc Cert.MlaRefIdeal.main_arg4) = m ((c.tc : Thread Cert.MlaIdeal.nD Cert.MlaIdeal.τ).loc Cert.MlaIdeal.main_arg4))
    (h5 : m' ((c.tc : Thread Cert.MlaRefIdeal.nD Cert.MlaRefIdeal.τ).loc Cert.MlaRefIdeal.main_arg5) = m ((c.tc : Thread Cert.MlaIdeal.nD Cert.MlaIdeal.τ).loc Cert.MlaIdeal.main_arg5))
    (h6 : m' ((c.tc : Thread Cert.MlaRefIdeal.nD Cert.MlaRefIdeal.τ).loc Cert.MlaRefIdeal.main_arg6) = m ((c.tc : Thread Cert.MlaIdeal.nD Cert.MlaIdeal.τ).loc Cert.MlaIdeal.main_arg6))
    (h7 : m' ((c.tc : Thread Cert.MlaRefIdeal.nD Cert.MlaRefIdeal.τ).loc Cert.MlaRefIdeal.main_arg7) = m ((c.tc : Thread Cert.MlaIdeal.nD Cert.MlaIdeal.τ).loc Cert.MlaIdeal.main_arg7)) :
    Cert.MlaRefIdeal.Value.res_main_v72 m' c = (Cert.MlaIdeal.Gen.dats m 0 c).arrAt 6 Cert.MlaIdeal.cfg0.N := by
  obtain ⟨p0, p1, p2, p3, p4, p5, p6, p7, p8, p9⟩ := hpre c
  have H : Slots _ _ _ _ _ _ _ _ :=
    ⟨Cert.Pre_mla_slots.Read.cos_real _ _ _ _ _ _ _ _ p0, Cert.Pre_mla_slots.Read.sin_real _ _ _ _ _ _ _ _ p1,
      Cert.Pre_mla_slots.Read.gain_real _ _ _ _ _ _ _ _ p2, Cert.Pre_mla_slots.Read.cached_key_real _ _ _ _ _ _ _ _ p3,
      Cert.Pre_mla_slots.Read.key_real _ _ _ _ _ _ _ _ p4, Cert.Pre_mla_slots.Read.query_pad _ _ _ _ _ _ _ _ p5,
      Cert.Pre_mla_slots.Read.cached_key_lane _ _ _ _ _ _ _ _ p6, Cert.Pre_mla_slots.Read.key_lane _ _ _ _ _ _ _ _ p7,
      Cert.Pre_mla_slots.Read.cached_val_lane _ _ _ _ _ _ _ _ p8, Cert.Pre_mla_slots.Read.val_lane _ _ _ _ _ _ _ _ p9⟩
  rw [Cert.MlaIdeal.Block.final m c, res_eq, h0, h1, h2, h3, h4, h5, h6, h7]
  funext y
  obtain ⟨b, i, j, rfl⟩ : ∃ (b : Fin 4) (i : Fin 4096) (j : Fin 512), y = ix3 b i j := ⟨_, _, _, eq_ix3 y⟩
  exact (mixed_at _ _ b i j).trans (mean_eq_mixed H b i ⟨j.val / 64, by omega⟩ ⟨j.val % 64, by omega⟩).symm

end Cert.MlaClaim

end
-- ==== Proof.GqaMath.lean ====
/- The grouped-query attention's query: the rotated, normalised and scaled lanes of a doubled slot against the plain
   formula. -/
module

public import proofs.«01_k».proof.Proof.MlaMath

@[expose] public section

noncomputable section

namespace Cert.GqaMath

open Idealize.ShloMosaic Cert.Weights

/-- The gain times the rotation's own coefficient. -/
def tab0 (g : Fin 64 → EReal) (cs : Fin 32 → EReal) (k : Fin 128) : EReal :=
  if h : k.val < 32 then g ⟨k, by omega⟩ * cs ⟨k, by omega⟩
  else if h : k.val < 64 then g ⟨k, by omega⟩ * cs ⟨k - 32, by omega⟩
  else 0

/-- The partner lane's gain times its coefficient. -/
def tab1 (g : Fin 64 → EReal) (sn : Fin 32 → EReal) (k : Fin 128) : EReal :=
  if h : k.val < 32 then g ⟨k + 32, by omega⟩ * -sn ⟨k, by omega⟩
  else if h : k.val < 64 then g ⟨k - 32, by omega⟩ * sn ⟨k - 32, by omega⟩
  else 0

/-- The query lanes at one position: rotate the slot by 32 lanes, normalise, scale; lane 64 is one. -/
def lane (q t0 t1 : Fin 128 → EReal) (k : Fin 128) : EReal :=
  if k.val = 64 then 1 else
    (q k * t0 k + (if h : k.val < 32 then q ⟨96 + k, by omega⟩ else q ⟨k - 32, by omega⟩) * t1 k)
      * Ideal.rsqrt ((∑ x, q x * q x) * Ideal.ofBits FTy.f32 0x3C000000#32 + Ideal.ofBits FTy.f32 0x358637BD#32)
      * (((1 / 8) * (Real.log 2)⁻¹ : ℝ) : EReal)

/-- A lane normalised by the root mean square of the 64, times its gain. -/
def normed (x g : Fin 64 → EReal) (k : Fin 64) : EReal :=
  x k * Ideal.rsqrt (Ideal.div (∑ l, x l * x l) (Ideal.ofBits FTy.f32 0x42800000#32) + Ideal.ofBits FTy.f32 0x358637BD#32)
    * g k

/-- The rotary embedding of all 64 lanes. -/
def rotated (n : Fin 64 → EReal) (cs sn : Fin 32 → EReal) (k : Fin 64) : EReal :=
  if hk : k.val < 32 then n k * cs ⟨k, hk⟩ - n ⟨k + 32, by omega⟩ * sn ⟨k, hk⟩
  else n k * cs ⟨k - 32, by omega⟩ + n ⟨k - 32, by omega⟩ * sn ⟨k - 32, by omega⟩

theorem sixty_four : Ideal.ofBits FTy.f32 0x42800000#32 = ((64 : ℝ) : EReal) := by
  simp [Ideal.ofBits, Ideal.ieee, -EReal.coe_mul]
  norm_num

theorem inv_lanes : Ideal.ofBits FTy.f32 0x3C000000#32 = ((1 / 128 : ℝ) : EReal) := by
  simp [Ideal.ofBits, Ideal.ieee, -EReal.coe_mul]
  norm_num

/-- The square sum of a slot that holds its lanes twice, over 128: the lanes' own over 64. -/
theorem mean_square (q : Fin 128 → EReal) (hq : ∀ k : Fin 64, q ⟨64 + k, by omega⟩ = q ⟨k, by omega⟩) :
    (∑ x, q x * q x) * ((1 / 128 : ℝ) : EReal)
      = (∑ x : Fin 64, q ⟨x, by omega⟩ * q ⟨x, by omega⟩) * ((1 / 64 : ℝ) : EReal) := by
  have h : ∑ x, q x * q x = (∑ x : Fin 64, q ⟨x, by omega⟩ * q ⟨x, by omega⟩)
      + ∑ x : Fin 64, q ⟨x, by omega⟩ * q ⟨x, by omega⟩ := by
    refine (Fin.sum_univ_add (a := 64) (b := 64) (fun x : Fin (64 + 64) => q x * q x)).trans ?_
    refine congrArg₂ (· + ·) rfl (Finset.sum_congr rfl fun x _ => ?_)
    have e : q (Fin.natAdd 64 x) = q ⟨x, by omega⟩ := hq x
    rw [e]
  have hs : 0 ≤ ∑ x : Fin 64, q ⟨x, by omega⟩ * q ⟨x, by omega⟩ := by
    refine Finset.sum_nonneg fun x _ => ?_
    induction q ⟨x, by omega⟩ with
    | bot => simp
    | top => simp
    | coe r => rw [← EReal.coe_mul]; exact_mod_cast mul_self_nonneg r
  rw [h]
  generalize (∑ x : Fin 64, q ⟨x, by omega⟩ * q ⟨x, by omega⟩) = S at hs
  induction S with
  | bot => exact absurd hs (by simp)
  | top => rw [EReal.top_add_top, EReal.top_mul_coe_of_pos (by norm_num), EReal.top_mul_coe_of_pos (by norm_num)]
  | coe s =>
    norm_cast
    ring

/-- The kernel's lanes are the plain query's, times the score scale, with a one at lane 64 and zeros past it. -/
theorem lane_eq (q : Fin 128 → EReal) (hq : ∀ k : Fin 64, q ⟨64 + k, by omega⟩ = q ⟨k, by omega⟩) (g : Fin 64 → EReal)
    (cs sn : Fin 32 → EReal) (hg : ∀ k, ∃ r : ℝ, g k = r) (hcs : ∀ k, ∃ r : ℝ, cs k = r) (hsn : ∀ k, ∃ r : ℝ, sn k = r) :
    ∃ R : Fin 64 → ℝ,
      (∀ k, rotated (normed (fun k => q ⟨k, by omega⟩) g) cs sn k = (R k : EReal))
      ∧ (∀ k : Fin 64, lane q (tab0 g cs) (tab1 g sn) ⟨k, by omega⟩ = ((R k * ((1 / 8) * (Real.log 2)⁻¹) : ℝ) : EReal))
      ∧ (∀ k : Fin 128, 64 < k.val → lane q (tab0 g cs) (tab1 g sn) k = 0) := by
  obtain ⟨e, he, hε⟩ := Cert.MlaMath.eps_real
  choose γ hγ using hg
  choose C hC using hcs
  choose S hS using hsn
  have hdiv : Ideal.div (∑ x : Fin 64, q ⟨x, by omega⟩ * q ⟨x, by omega⟩) (Ideal.ofBits FTy.f32 0x42800000#32)
      = (∑ x : Fin 64, q ⟨x, by omega⟩ * q ⟨x, by omega⟩) * ((1 / 64 : ℝ) : EReal) := by
    rw [sixty_four, Ideal.div_coe (by norm_num)]
  have hlane0 : ∀ k : Fin 128, 64 < k.val → lane q (tab0 g cs) (tab1 g sn) k = 0 := by
    intro k hk
    unfold lane tab0 tab1
    rw [if_neg (by omega)]
    simp only [show ¬ k.val < 32 by omega, show ¬ k.val < 64 by omega, ↓reduceDIte, mul_zero, add_zero, zero_mul]
  rcases inv_rms_cases (fun x : Fin 64 => q ⟨x, by omega⟩) (c := 1 / 64) (e := e) (by norm_num) he with h0 | ⟨hx, ρ, hρ⟩
  · refine ⟨fun _ => 0, fun k => ?_, fun k => ?_, hlane0⟩
    · unfold rotated normed
      simp only [hdiv, hε, h0, mul_zero, zero_mul, sub_zero, add_zero, EReal.coe_zero, dite_eq_ite, ite_self]
    · unfold lane
      rw [if_neg (by simp only; omega), inv_lanes, mean_square q hq, hε, h0]
      simp
  · choose x hx using hx
    refine ⟨fun k => if hk : k.val < 32 then
        x k * ρ * γ k * C ⟨k, hk⟩ - x ⟨k + 32, by omega⟩ * ρ * γ ⟨k + 32, by omega⟩ * S ⟨k, hk⟩
      else x k * ρ * γ k * C ⟨k - 32, by omega⟩ + x ⟨k - 32, by omega⟩ * ρ * γ ⟨k - 32, by omega⟩ * S ⟨k - 32, by omega⟩,
      fun k => ?_, fun k => ?_, hlane0⟩
    · have hn : ∀ k, normed (fun k => q ⟨k, by omega⟩) g k = ((x k * ρ * γ k : ℝ) : EReal) := by
        intro k
        unfold normed
        simp only [hdiv, hε, hρ]
        simp only [hx, hγ]
        push_cast
        rfl
      unfold rotated
      simp only [hn, hC, hS]
      split_ifs <;> push_cast <;> rfl
    · have hxk : q ⟨k, by omega⟩ = x k := hx k
      unfold lane tab0 tab1
      rw [if_neg (by simp only; omega), inv_lanes, mean_square q hq, hε, hρ]
      by_cases h1 : k.val < 32
      · have hx' : q ⟨96 + k, by omega⟩ = x ⟨k + 32, by omega⟩ := by
          rw [← hx]
          have h := hq ⟨k + 32, by omega⟩
          simp only [show 64 + (k.val + 32) = 96 + k.val by omega] at h
          exact h
        simp only [h1, ↓reduceDIte, hγ, hC, hS, hxk, hx']
        norm_cast
        ring_nf
      · have hx' : q ⟨k - 32, by omega⟩ = x ⟨k - 32, by omega⟩ := hx ⟨k.val - 32, by omega⟩
        simp only [h1, ↓reduceDIte, hγ, hC, hS, hxk, hx', k.isLt]
        norm_cast
        ring_nf

end Cert.GqaMath

end
-- ==== Proof.GqaBlock.lean ====
/- One head of the grouped-query attention's block, read entry by entry, and the block's two stores as pairs of heads. -/
module

public import proofs.«01_k».proof.Proof.Gen.GqaIdeal.Value
public import proofs.«01_k».proof.Proof.GqaMath
public import proofs.«01_k».proof.Proof.MlaBlock

@[expose] public section

set_option maxRecDepth 16384

noncomputable section

namespace Cert.GqaIdeal.Block

open Cert.GqaIdeal Cert.GqaIdeal.Gen Cert.GqaMath Cert.Weights Idealize.ShloMosaic
open Cert.MlaIdeal.Block (pack)

theorem score_scale_eq : (Named.named κ "score_scale" 0x3E38AA3B#32 : Ideal .f32)
    = (((1 / 8) * (Real.log 2)⁻¹ : ℝ) : EReal) := rfl

theorem query_at (q : Vec Ideal S1x1x128x1024 .bf16) (t0 t1 : Vec Ideal S1x128x1024 .f32) (k : Fin 128) (i : Fin 1024) :
    k0_pay2 q t0 t1 (ix2 k i)
      = lane (fun k => q (ix4 0 0 k i)) (fun k => t0 (ix3 0 k i)) (fun k => t1 (ix3 0 k i)) k := by
  pointwise [k0_pay2, k0_pay1]
  rw [score_scale_eq]
  unfold lane
  have hw : ∀ k : Fin 128, IntOp.cmpi CmpIPredicate.eq (BitVec.ofNat 32 k.val) 64#32 = if k.val = 64 then 1#1 else 0#1 := by
    decide
  rw [hw k]
  split_ifs <;> rfl

variable {F : FTy → Type} [FloatOps F] [Named F]

/-- One head's outputs, from its loads: query, tables, keys and values. -/
def head (q : Vec F S1x1x128x1024 .bf16) (t0 t1 : Vec F S1x128x1024 .f32) (kc : Vec F S1x256x128 .bf16)
    (kx : Vec F S1x4096x128 .bf16) (vc : Vec F S1x1x128x256 .bf16) (vx : Vec F S1x1x128x4096 .bf16) :
    FVec F S64x1024 .f32 :=
  k0_pay4 (k0_pay2 q t0 t1) (k0_pay3 q t0 t1 kc) kx vc vx

theorem head_at (q : Vec Ideal S1x1x128x1024 .bf16) (t0 t1 : Vec Ideal S1x128x1024 .f32) (kc : Vec Ideal S1x256x128 .bf16)
    (kx : Vec Ideal S1x4096x128 .bf16) (vc : Vec Ideal S1x1x128x256 .bf16) (vx : Vec Ideal S1x1x128x4096 .bf16)
    (d : Fin 64) (i : Fin 1024) :
    head q t0 t1 kc kx vc vx (ix2 d i)
      = mean (fun x k => kc (ix3 0 x k)) (fun x k => kx (ix3 0 x k)) (fun d x => vc (ix4 0 0 d x))
          (fun d x => vx (ix4 0 0 d x))
          (lane (fun k => q (ix4 0 0 k i)) (fun k => t0 (ix3 0 k i)) (fun k => t1 (ix3 0 k i))) d := by
  have e := query_at q t0 t1
  unfold head k0_pay3
  generalize k0_pay2 q t0 t1 = Q at e ⊢
  pointwise [k0_pay4]
  unfold mean
  simp only [← e]
  rfl

/-- The first store's payload is the pair of heads 0 and 1. -/
theorem pack_01 (a : FVec F S64x1024 .f32) (q : Vec F S1x1x128x1024 .bf16) (t0 t1 : Vec F S1x128x1024 .f32)
    (kc : Vec F S1x256x128 .bf16) (kx : Vec F S1x4096x128 .bf16)
    (vc : Vec F S1x1x128x256 .bf16) (vx : Vec F S1x1x128x4096 .bf16) :
    k0_pay8 k0_pay1 a (k0_pay6 q t0 t1) (k0_pay7 q) (Scalar.ofBits .f32 0x358637BD#32) kc kx vc vx
      = pack a (head q t0 t1 kc kx vc vx) := rfl

/-- Head 2. -/
theorem head_2 (q : Vec F S1x1x128x1024 .bf16) (t0 t1 : Vec F S1x128x1024 .f32)
    (kc : Vec F S1x256x128 .bf16) (kx : Vec F S1x4096x128 .bf16)
    (vc : Vec F S1x1x128x256 .bf16) (vx : Vec F S1x1x128x4096 .bf16) :
    k0_pay12 (k0_pay10 k0_pay1 q t0 t1 kc) (k0_pay11 k0_pay1 q t0 t1 kx) vc vx = head q t0 t1 kc kx vc vx := rfl

/-- The second store's payload is the pair of heads 2 and 3. -/
theorem pack_23 (a : FVec F S64x1024 .f32) (q : Vec F S1x1x128x1024 .bf16) (t0 t1 : Vec F S1x128x1024 .f32)
    (kc : Vec F S1x256x128 .bf16) (kx : Vec F S1x4096x128 .bf16)
    (vc : Vec F S1x1x128x256 .bf16) (vx : Vec F S1x1x128x4096 .bf16) :
    k0_pay14 k0_pay1 a (k0_pay13 q t0 t1) (Named.named κ "score_scale" 0x3E38AA3B#32) kc kx vc vx
      = pack a (head q t0 t1 kc kx vc vx) := rfl

end Cert.GqaIdeal.Block

end
-- ==== Proof.GqaTables.lean ====
/- The grouped-query attention's query tables, read at an index: gain times rotation coefficient at each lane. -/
module

public import proofs.«01_k».proof.Proof.Gen.GqaIdeal.Value
public import proofs.«01_k».proof.Proof.GqaMath
public import Idealize.ShloMosaic.Lib.Pipeline.ValueKit
public import Idealize.ShloMosaic.Lib.Pointwise
public import Idealize.ShloMosaic.Lib.Claim
public import Idealize.ShloMosaic.Lib.StableHlo.ReadAt

@[expose] public section

set_option maxRecDepth 16384

noncomputable section

namespace Cert.GqaIdeal.Block

open Cert.GqaIdeal Cert.GqaIdeal.Gen Cert.GqaMath Idealize.ShloMosaic Idealize.ShloMosaic.TcCoe

variable (m : (ℓ : Loc nD τ sig) → Buf (Elt Ideal) ℓ)

/-- The gain the host was given. -/
abbrev gain (c : Dev nD) (k : Fin 64) : EReal := m ((c : Thread nD τ).loc main_arg3) (ix1 k)
/-- The cosines at one position. -/
abbrev cosine (c : Dev nD) (i : Fin 4096) (k : Fin 32) : EReal := m ((c : Thread nD τ).loc main_arg1) (ix2 i k)
/-- The sines at one position. -/
abbrev sine (c : Dev nD) (i : Fin 4096) (k : Fin 32) : EReal := m ((c : Thread nD τ).loc main_arg2) (ix2 i k)

theorem tab0_at (c : Dev nD) (k : Fin 128) (i : Fin 4096) :
    V m c main_v52 (ix3 0 k i) = tab0 (gain m c) (cosine m c i) k := by
  unfold V
  repeat (first | after_reads_at | simp only [StableHlo.unary_result', StableHlo.nullary_result',
    StableHlo.binary_result', StableHlo.nary_result', StableHlo.reshape_result'])
  unfold tab0
  by_cases h1 : k.val < 32
  · simp only [h1, show k.val < 64 by omega, ↓reduceDIte]
  by_cases h2 : k.val < 64
  · simp only [h1, h2, show k.val - 32 < 32 by omega, ↓reduceDIte]
  · simp only [h1, h2, show ¬ k.val - 32 < 32 by omega, ↓reduceDIte, mul_zero]

theorem tab1_at (c : Dev nD) (k : Fin 128) (i : Fin 4096) :
    V m c main_v52 (ix3 1 k i) = tab1 (gain m c) (sine m c i) k := by
  unfold V
  repeat (first | after_reads_at | simp only [StableHlo.unary_result', StableHlo.nullary_result',
    StableHlo.binary_result', StableHlo.nary_result', StableHlo.reshape_result'])
  unfold tab1
  by_cases h1 : k.val < 32
  · simp only [h1, Nat.not_lt_zero, show 32 + k.val = k.val + 32 by omega, show k.val + 32 < 64 by omega, ↓reduceDIte]
  by_cases h2 : k.val < 64
  · simp only [h1, h2, Nat.not_lt_zero, show k.val - 32 < 32 by omega, show k.val - 32 < 64 by omega, ↓reduceDIte]
  · simp only [h1, h2, show ¬ k.val - 32 < 32 by omega, ↓reduceDIte, mul_zero]

end Cert.GqaIdeal.Block

end
-- ==== Proof.GqaFinal.lean ====
/- The grouped-query attention's result array, entry by entry: the softmax mean of one head at one position, over its
   group's keys and values. -/
module

public import proofs.«01_k».proof.Proof.GqaBlock
public import proofs.«01_k».proof.Proof.GqaTables

@[expose] public section

set_option maxRecDepth 16384

noncomputable section

namespace Cert.GqaIdeal.Block

open Cert.GqaIdeal Cert.GqaIdeal.Gen Cert.GqaMath Cert.Weights Idealize.ShloMosaic
  Idealize.ShloMosaic.TcCoe
open Cert.MlaIdeal.Block (pack pack_at)

variable (m : (ℓ : Loc nD τ sig) → Buf (Elt Ideal) ℓ)

/-- Head `n` of group `j` at position `i` of list `b`, lane `d`: the softmax mean the kernel forms of its arguments. -/
def attended (c : Dev nD) (b : Fin 4) (i : Fin 4096) (j : Fin 2) (n : Fin 4) (d : Fin 64) : EReal :=
  mean (fun x k => m ((c : Thread nD τ).loc main_arg4) (ix3 b x ⟨j.val * 128 + k.val, by omega⟩))
    (fun x k => m ((c : Thread nD τ).loc main_arg6) (ix3 b x ⟨j.val * 128 + k.val, by omega⟩))
    (fun d x => m ((c : Thread nD τ).loc main_arg5) (ix4 b j d x))
    (fun d x => m ((c : Thread nD τ).loc main_arg7) (ix4 b j d x))
    (lane (fun k => m ((c : Thread nD τ).loc main_arg0) (ix4 b ⟨j.val * 4 + n.val, by omega⟩ k i))
      (tab0 (gain m c) (cosine m c i)) (tab1 (gain m c) (sine m c i))) d

theorem idx : ∀ t : Fin cfg0.N, win0_0.index t = ![0, 0, t.val % 4] ∧ win0_1.index t = ![t.val / 8, t.val / 4 % 2, 0, t.val % 4]
    ∧ win0_2.index t = ![t.val / 8, 0, t.val / 4 % 2] ∧ win0_3.index t = ![t.val / 8, t.val / 4 % 2, 0, 0]
    ∧ win0_4.index t = ![t.val / 8, 0, t.val / 4 % 2] ∧ win0_5.index t = ![t.val / 8, t.val / 4 % 2, 0, 0]
    ∧ win0_6.index t = ![t.val / 8, t.val % 4, t.val / 4 % 2] :=
  (by decide +kernel : ∀ t : Fin grid0.N, _)

theorem table_blk (c : Dev nD) (t : Fin cfg0.N) (I : Fin 4096) (i : Fin 1024) (r : Fin 2) (k : Fin 128)
    (eI : I.val = t.val % 4 * 1024 + i.val) : iblk m c 0 t (ix3 r k i) = V m c main_v52 (ix3 r k I) := by
  blk_ext [iblk, idx t]

theorem query_blk (c : Dev nD) (t : Fin cfg0.N) (b : Fin 4) (I : Fin 4096) (j : Fin 2) (i : Fin 1024) (n : Fin 4) (k : Fin 128)
    (eb : b.val = t.val / 8) (eI : I.val = t.val % 4 * 1024 + i.val) (ej : j.val = t.val / 4 % 2) :
    iblk m c 1 t (ix4 0 n k i) = m ((c : Thread nD τ).loc main_arg0) (ix4 b ⟨j.val * 4 + n.val, by omega⟩ k I) := by
  rw [← V_main_arg0 m c]
  blk_ext [iblk, idx t]

theorem cached_keys_blk (c : Dev nD) (t : Fin cfg0.N) (b : Fin 4) (j : Fin 2) (k : Fin 128)
    (eb : b.val = t.val / 8) (ej : j.val = t.val / 4 % 2) (x : Fin 256) :
    iblk m c 2 t (ix3 0 x k) = m ((c : Thread nD τ).loc main_arg4) (ix3 b x ⟨j.val * 128 + k.val, by omega⟩) := by
  rw [← V_main_arg4 m c]
  blk_ext [iblk, idx t]

theorem keys_blk (c : Dev nD) (t : Fin cfg0.N) (b : Fin 4) (j : Fin 2) (k : Fin 128)
    (eb : b.val = t.val / 8) (ej : j.val = t.val / 4 % 2) (x : Fin 4096) :
    iblk m c 4 t (ix3 0 x k) = m ((c : Thread nD τ).loc main_arg6) (ix3 b x ⟨j.val * 128 + k.val, by omega⟩) := by
  rw [← V_main_arg6 m c]
  blk_ext [iblk, idx t]

theorem cached_vals_blk (c : Dev nD) (t : Fin cfg0.N) (b : Fin 4) (j : Fin 2) (d : Fin 128)
    (eb : b.val = t.val / 8) (ej : j.val = t.val / 4 % 2) (x : Fin 256) :
    iblk m c 3 t (ix4 0 0 d x) = m ((c : Thread nD τ).loc main_arg5) (ix4 b j d x) := by
  rw [← V_main_arg5 m c]
  blk_ext [iblk, idx t]

theorem vals_blk (c : Dev nD) (t : Fin cfg0.N) (b : Fin 4) (j : Fin 2) (d : Fin 128)
    (eb : b.val = t.val / 8) (ej : j.val = t.val / 4 % 2) (x : Fin 4096) :
    iblk m c 5 t (ix4 0 0 d x) = m ((c : Thread nD τ).loc main_arg7) (ix4 b j d x) := by
  rw [← V_main_arg7 m c]
  blk_ext [iblk, idx t]

/-- One head of a block, from loads that hold its query slot, the tables and the group's keys and values. -/
theorem block_head (c : Dev nD) (t : Fin cfg0.N) (b : Fin 4) (I : Fin 4096) (j : Fin 2) (d : Fin 64) (i : Fin 1024) (n : Fin 4)
    (eb : b.val = t.val / 8) (eI : I.val = t.val % 4 * 1024 + i.val) (ej : j.val = t.val / 4 % 2)
    (q : Vec Ideal S1x1x128x1024 .bf16) (t0 t1 : Vec Ideal S1x128x1024 .f32) (kc : Vec Ideal S1x256x128 .bf16)
    (kx : Vec Ideal S1x4096x128 .bf16) (vc : Vec Ideal S1x1x128x256 .bf16) (vx : Vec Ideal S1x1x128x4096 .bf16)
    (hq : ∀ k, q (ix4 0 0 k i) = iblk m c 1 t (ix4 0 n k i))
    (h0 : ∀ k, t0 (ix3 0 k i) = iblk m c 0 t (ix3 0 k i))
    (h1 : ∀ k, t1 (ix3 0 k i) = iblk m c 0 t (ix3 1 k i))
    (hkc : ∀ x k, kc (ix3 0 x k) = iblk m c 2 t (ix3 0 x k))
    (hkx : ∀ x k, kx (ix3 0 x k) = iblk m c 4 t (ix3 0 x k))
    (hvc : ∀ d x, vc (ix4 0 0 d x) = iblk m c 3 t (ix4 0 0 d x))
    (hvx : ∀ d x, vx (ix4 0 0 d x) = iblk m c 5 t (ix4 0 0 d x)) :
    head q t0 t1 kc kx vc vx (ix2 d i) = attended m c b I j n d := by
  have e0 : (fun k => t0 (ix3 0 k i)) = tab0 (gain m c) (cosine m c I) :=
    funext fun k => ((h0 k).trans (table_blk m c t I i 0 k eI)).trans (tab0_at m c k I)
  have e1 : (fun k => t1 (ix3 0 k i)) = tab1 (gain m c) (sine m c I) :=
    funext fun k => ((h1 k).trans (table_blk m c t I i 1 k eI)).trans (tab1_at m c k I)
  rw [head_at]
  unfold attended
  simp only [e0, e1, fun k => (hq k).trans (query_blk m c t b I j i n k eb eI ej),
    fun x k => (hkc x k).trans (cached_keys_blk m c t b j k eb ej x), fun x k => (hkx x k).trans (keys_blk m c t b j k eb ej x),
    fun d x => (hvc d x).trans (cached_vals_blk m c t b j d eb ej x), fun d x => (hvx d x).trans (vals_blk m c t b j d eb ej x)]

/-- A pair of heads side by side, read at an entry of the block. -/
theorem pair_at (c : Dev nD) (b : Fin 4) (I : Fin 4096) (j : Fin 2) (n : Fin 4) (d : Fin 64) (p : ℕ)
    (a a' : FVec Ideal S64x1024 .f32) (x : S1x1024x128.Idx)
    (h0 : n.val = 2 * p → ∀ d : Fin 64, a (ix2 d ⟨(x 1).val, (x 1).isLt⟩) = attended m c b I j n d)
    (h1 : n.val = 2 * p + 1 → ∀ d : Fin 64, a' (ix2 d ⟨(x 1).val, (x 1).isLt⟩) = attended m c b I j n d)
    (en : n.val = 2 * p + (x 2).val / 64) (ed : d.val = (x 2).val % 64) :
    pack a a' x = attended m c b I j n d := by
  have hx2 : (x 2).val < 128 := (x 2).isLt
  rw [pack_at]
  split_ifs with hx
  · rw [show d = ⟨(x 2).val, hx⟩ from Fin.ext (by simp only []; omega)]
    exact h0 (by omega) _
  · rw [show d = ⟨(x 2).val - 64, Nat.sub_lt_left_of_lt_add (Nat.le_of_not_lt hx) (x 2).isLt⟩ from
      Fin.ext (by simp only []; omega)]
    exact h1 (by omega) _

theorem point (c : Dev nD) (t : Fin cfg0.N) (y : S1x1024x256.Idx) (b : Fin 4) (I : Fin 4096) (j : Fin 2) (n : Fin 4) (d : Fin 64)
    (eb : b.val = t.val / 8) (eI : I.val = t.val % 4 * 1024 + (y 1).val) (ej : j.val = t.val / 4 % 2)
    (en : n.val = (y 2).val / 64) (ed : d.val = (y 2).val % 64) :
    out0_6 (iblk m c 0 t) (iblk m c 1 t) (iblk m c 2 t) (iblk m c 3 t) (iblk m c 4 t) (iblk m c 5 t) y
      = attended m c b I j n d := by
  unfold_out out0_6
  generalize e0 : iblk m c 0 t = X0
  generalize e1 : iblk m c 1 t = X1
  generalize e2 : iblk m c 2 t = X2
  generalize e3 : iblk m c 3 t = X3
  generalize e4 : iblk m c 4 t = X4
  generalize e5 : iblk m c 5 t = X5
  canon_tiles x h'
  · rw [head_2, pack_23]
    refine pair_at m c b I j n d 1 _ _ x (fun hn d => ?_) (fun hn d => ?_) (by omega) (by omega)
    · obtain rfl : n = 2 := Fin.ext hn
      refine block_head m c t b I j d _ 2 eb (by simp only []; omega) ej _ _ _ _ _ _ _ ?_ ?_ ?_ ?_ ?_ ?_ ?_
      all_goals (intros; subst e0 e1 e2 e3 e4 e5)
      all_goals refine View.ld_unit_apply_of _ _ _ _ _ _ fun a => ?_
      all_goals (fin_cases a <;> simp)
    · obtain rfl : n = 3 := Fin.ext hn
      refine block_head m c t b I j d _ 3 eb (by simp only []; omega) ej _ _ _ _ _ _ _ ?_ ?_ ?_ ?_ ?_ ?_ ?_
      all_goals (intros; subst e0 e1 e2 e3 e4 e5)
      all_goals refine View.ld_unit_apply_of _ _ _ _ _ _ fun a => ?_
      all_goals (fin_cases a <;> simp)
  · rw [pack_01]
    refine pair_at m c b I j n d 0 _ _ x (fun hn d => ?_) (fun hn d => ?_) (by omega) (by omega)
    · obtain rfl : n = 0 := Fin.ext hn
      refine block_head m c t b I j d _ 0 eb (by simp only []; omega) ej _ _ _ _ _ _ _ ?_ ?_ ?_ ?_ ?_ ?_ ?_
      all_goals (intros; subst e0 e1 e2 e3 e4 e5)
      all_goals refine View.ld_unit_apply_of _ _ _ _ _ _ fun a => ?_
      all_goals (fin_cases a <;> simp)
    · obtain rfl : n = 1 := Fin.ext hn
      refine block_head m c t b I j d _ 1 eb (by simp only []; omega) ej _ _ _ _ _ _ _ ?_ ?_ ?_ ?_ ?_ ?_ ?_
      all_goals (intros; subst e0 e1 e2 e3 e4 e5)
      all_goals refine View.ld_unit_apply_of _ _ _ _ _ _ fun a => ?_
      all_goals (fin_cases a <;> simp)

/-- The result array: at each position the two groups' four heads' means side by side. -/
theorem final (c : Dev nD) : (dats m 0 c).arrAt 6 cfg0.N
    = fun y : S4x4096x512.Idx => attended m c ⟨(y 0).val, (y 0).isLt⟩ ⟨(y 1).val, (y 1).isLt⟩
        ⟨(y 2).val / 256, Nat.div_lt_of_lt_mul (y 2).isLt⟩ ⟨(y 2).val / 64 % 4, Nat.mod_lt _ (by omega)⟩
        ⟨(y 2).val % 64, Nat.mod_lt _ (by omega)⟩ := by
  refine (dats m 0 c).arrAt_eq_of_covers 6 _ (by decide +kernel) fun t hf y => ?_
  blk_simp
  rw [after0_6]
  have ht : t.val < 32 := lt_of_lt_of_eq t.isLt N_0
  have hy : (y 2).val < 256 := (y 2).isLt
  refine point m c t y _ _ _ _ _ ?_ ?_ ?_ ?_ ?_
  all_goals (blk_simp [idx t] <;> try omega)
  · change (t.val / 4 % 2 * 256 + (y 2).val) / 256 = _
    omega
  · change (t.val / 4 % 2 * 256 + (y 2).val) / 64 % 4 = _
    omega
  · change (t.val / 4 % 2 * 256 + (y 2).val) % 64 = _
    omega

end Cert.GqaIdeal.Block

end
-- ==== Proof.GqaRef.lean ====
/- The reference grouped-query attention in stages, each read at an index. -/
module

public import proofs.«01_k».proof.Proof.Gen.GqaRefIdeal.Run
public import Idealize.ShloMosaic.Lib.Pointwise
public import Idealize.ShloMosaic.Lib.Tactic.CleanTypes

@[expose] public section

set_option maxRecDepth 16384

noncomputable section

namespace Cert.GqaRefIdeal.Attend

open Cert.GqaRefIdeal Cert.GqaRefIdeal.Gen Cert.GqaRefIdeal.Value Idealize.ShloMosaic

variable {F : FTy → Type} [FloatOps F]

/-- The queries' 64 lanes, heads last but one. -/
def lanes (q : FVec F S4x8x128x4096 .bf16) : FVec F S4x4096x8x64 .f32 :=
  transpose S4x4096x8x64 [0, 3, 1, 2] (extractStridedSlice S4x8x64x4096 ![0, 0, 0, 0] (extf .f32 q bitsLt_bf16_f32)
    slices_S4x8x128x4096_S4x8x64x4096_0_0_0_0) transposes_S4x8x64x4096_S4x4096x8x64_0_3_1_2

/-- The queries normalised by their root mean square, times the gain. -/
def normed (x : FVec F S4x4096x8x64 .f32) (g : FVec F S64 .f32) : FVec F S4x4096x8x64 .f32 :=
  mulf (mulf x (broadcastInDim S4x4096x8x64 ![0, 1, 2, 3] bcast_S4x4096x8x1_S4x4096x8x64_0_1_2_3
      (Host.rsqrt (addf
        (Host.divf
          (broadcastInDim S4x4096x8x1 ![0, 1, 2] bcast_S4x4096x8_S4x4096x8x1_0_1_2
            (Host.reduceAdd (mulf x x) (constant S_ .f32 0x00000000#32) reducesTo_S4x4096x8x64_S4x4096x8_d3 h_S_))
          (broadcastInDim S4x4096x8x1 ![] bcast_S_S4x4096x8x1 (constant S_ .f32 0x42800000#32)))
        (broadcastInDim S4x4096x8x1 ![] bcast_S_S4x4096x8x1 (constant S_ .f32 0x358637BD#32))))))
    (broadcastInDim S4x4096x8x64 ![0, 1, 2, 3] bcast_S1x1x1x64_S4x4096x8x64_0_1_2_3
      (broadcastInDim S1x1x1x64 ![3] bcast_S64_S1x1x1x64_3 g))

/-- An angle table, spread over batch and heads. -/
def angle (t : FVec F S4096x32 .f32) : FVec F S4x4096x8x32 .f32 :=
  broadcastInDim S4x4096x8x32 ![0, 1, 2, 3] bcast_S1x4096x1x32_S4x4096x8x32_0_1_2_3
    (broadcastInDim S1x4096x1x32 ![1, 2, 3] bcast_S4096x1x32_S1x4096x1x32_1_2_3
      (broadcastInDim S4096x1x32 ![0, 2] bcast_S4096x32_S4096x1x32_0_2 t))

/-- The rotary embedding: the two halves of a head's lanes. -/
def rotated (x : FVec F S4x4096x8x64 .f32) (cs sn : FVec F S4096x32 .f32) : FVec F S4x4096x8x64 .f32 :=
  concatenate S4x4096x8x64 3
    [⟨S4x4096x8x32, subf
        (mulf (extractStridedSlice S4x4096x8x32 ![0, 0, 0, 0] x slices_S4x4096x8x64_S4x4096x8x32_0_0_0_0) (angle cs))
        (mulf (extractStridedSlice S4x4096x8x32 ![0, 0, 0, 32] x slices_S4x4096x8x64_S4x4096x8x32_0_0_0_32) (angle sn))⟩,
     ⟨S4x4096x8x32, addf
        (mulf (extractStridedSlice S4x4096x8x32 ![0, 0, 0, 32] x slices_S4x4096x8x64_S4x4096x8x32_0_0_0_32) (angle cs))
        (mulf (extractStridedSlice S4x4096x8x32 ![0, 0, 0, 0] x slices_S4x4096x8x64_S4x4096x8x32_0_0_0_0) (angle sn))⟩]
    concatenates_S4x4096x8x32_S4x4096x8x32_S4x4096x8x64_d3

/-- The keys' 64 lanes for the two groups, the cached ones first. -/
def keys (kc : FVec F S4x256x256 .bf16) (k : FVec F S4x4096x256 .bf16) : FVec F S4x4352x2x64 .f32 :=
  concatenate S4x4352x2x64 1
    [⟨S4x256x2x64, extractStridedSlice S4x256x2x64 ![0, 0, 0, 0]
        (shapeCast S4x256x2x128 (extf .f32 kc bitsLt_bf16_f32) shapeCasts_S4x256x256_S4x256x2x128)
        slices_S4x256x2x128_S4x256x2x64_0_0_0_0⟩,
     ⟨S4x4096x2x64, extractStridedSlice S4x4096x2x64 ![0, 0, 0, 0]
        (shapeCast S4x4096x2x128 (extf .f32 k bitsLt_bf16_f32) shapeCasts_S4x4096x256_S4x4096x2x128)
        slices_S4x4096x2x128_S4x4096x2x64_0_0_0_0⟩]
    concatenates_S4x256x2x64_S4x4096x2x64_S4x4352x2x64_d1

/-- The values' 64 lanes for the two groups, the cached ones first. -/
def vals (vc : FVec F S4x2x128x256 .bf16) (v : FVec F S4x2x128x4096 .bf16) : FVec F S4x4352x2x64 .f32 :=
  concatenate S4x4352x2x64 1
    [⟨S4x256x2x64, transpose S4x256x2x64 [0, 3, 1, 2]
        (extractStridedSlice S4x2x64x256 ![0, 0, 0, 0] (extf .f32 vc bitsLt_bf16_f32)
          slices_S4x2x128x256_S4x2x64x256_0_0_0_0) transposes_S4x2x64x256_S4x256x2x64_0_3_1_2⟩,
     ⟨S4x4096x2x64, transpose S4x4096x2x64 [0, 3, 1, 2]
        (extractStridedSlice S4x2x64x4096 ![0, 0, 0, 0] (extf .f32 v bitsLt_bf16_f32)
          slices_S4x2x128x4096_S4x2x64x4096_0_0_0_0) transposes_S4x2x64x4096_S4x4096x2x64_0_3_1_2⟩]
    concatenates_S4x256x2x64_S4x4096x2x64_S4x4352x2x64_d1

/-- The scores: a group's keys times its four heads' queries, over eight. -/
def scores (K : FVec F S4x4352x2x64 .f32) (R : FVec F S4x4096x8x64 .f32) : FVec F S4x2x4x4096x4352 .f32 :=
  mulf (transpose S4x2x4x4096x4352 [0, 1, 4, 3, 2]
      (Host.dotGeneral dot_S4x4352x2x64_S4x4096x2x4x64_S4x2x4352x4096x4_3_4_1_13_02_02 none K
        (shapeCast S4x4096x2x4x64 R shapeCasts_S4x4096x8x64_S4x4096x2x4x64))
      transposes_S4x2x4352x4096x4_S4x2x4x4096x4352_0_1_4_3_2)
    (broadcastInDim S4x2x4x4096x4352 ![] bcast_S_S4x2x4x4096x4352 (constant S_ .f32 0x3E000000#32))

/-- A per-query number, spread over the keys. -/
def spread (x : FVec F S4x2x4x4096 .f32) : FVec F S4x2x4x4096x4352 .f32 :=
  broadcastInDim S4x2x4x4096x4352 ![0, 1, 2, 3, 4] bcast_S4x2x4x4096x1_S4x2x4x4096x4352_0_1_2_3_4
    (broadcastInDim S4x2x4x4096x1 ![0, 1, 2, 3] bcast_S4x2x4x4096_S4x2x4x4096x1_0_1_2_3 x)

/-- Each query's largest score. -/
def largest (S : FVec F S4x2x4x4096x4352 .f32) : FVec F S4x2x4x4096 .f32 :=
  maximumf (broadcastInDim S4x2x4x4096 ![] bcast_S_S4x2x4x4096 (constant S_ .f32 0xFF800000#32))
    (Host.reduce FloatOps.maximumf S (constant S_ .f32 0xFF800000#32) reducesTo_S4x2x4x4096x4352_S4x2x4x4096_d4 h_S_)

/-- The exponentials of the scores, each query's less one number. -/
def powers (S : FVec F S4x2x4x4096x4352 .f32) (L : FVec F S4x2x4x4096 .f32) : FVec F S4x2x4x4096x4352 .f32 :=
  Host.exp (subf S (spread L))

/-- The exponentials over their sum. -/
def shares (E : FVec F S4x2x4x4096x4352 .f32) : FVec F S4x2x4x4096x4352 .f32 :=
  Host.divf E (spread (Host.reduceAdd E (constant S_ .f32 0x00000000#32) reducesTo_S4x2x4x4096x4352_S4x2x4x4096_d4 h_S_))

/-- The weighted values, heads side by side. -/
def mixed (V : FVec F S4x4352x2x64 .f32) (P : FVec F S4x2x4x4096x4352 .f32) : FVec F S4x4096x512 .bf16 :=
  truncf .bf16 (shapeCast S4x4096x512 (transpose S4x4096x2x4x64 [0, 4, 1, 3, 2]
      (Host.dotGeneral dot_S4x4352x2x64_S4x2x4x4096x4352_S4x2x64x4x4096_1_4_3_23_02_01 none V P)
      transposes_S4x2x64x4x4096_S4x4096x2x4x64_0_4_1_3_2) shapeCasts_S4x4096x2x4x64_S4x4096x512) bitsLt_bf16_f32

/-- The softmax weights. -/
def weights (S : FVec F S4x2x4x4096x4352 .f32) : FVec F S4x2x4x4096x4352 .f32 := shares (powers S (largest S))

/-- The reference's result is these stages in turn. -/
theorem res_eq (m : (ℓ : Loc nD τ sig) → Buf (Elt F) ℓ) (c : Dev nD) :
    res_main_v68 m c = mixed
      (vals (m ((c.tc : Thread nD τ).loc main_arg5)) (m ((c.tc : Thread nD τ).loc main_arg7)))
      (weights (scores (keys (m ((c.tc : Thread nD τ).loc main_arg4)) (m ((c.tc : Thread nD τ).loc main_arg6)))
        (rotated (normed (lanes (m ((c.tc : Thread nD τ).loc main_arg0))) (m ((c.tc : Thread nD τ).loc main_arg3)))
          (m ((c.tc : Thread nD τ).loc main_arg1)) (m ((c.tc : Thread nD τ).loc main_arg2))))) := by
  unfold res_main_v68; rfl

theorem lanes_at (q : FVec Ideal S4x8x128x4096 .bf16) (b : Fin 4) (i : Fin 4096) (h : Fin 8) (k : Fin 64) :
    lanes q (ix4 b i h k) = q (ix4 b h ⟨k, by omega⟩ i) := by
  pointwise [lanes]

theorem normed_at (x : FVec Ideal S4x4096x8x64 .f32) (g : FVec Ideal S64 .f32) (b : Fin 4) (i : Fin 4096) (h : Fin 8)
    (k : Fin 64) :
    normed x g (ix4 b i h k) = x (ix4 b i h k) * Ideal.rsqrt (Ideal.div (∑ l, x (ix4 b i h l) * x (ix4 b i h l))
      (Ideal.ofBits FTy.f32 0x42800000#32) + Ideal.ofBits FTy.f32 0x358637BD#32) * g (ix1 k) := by
  pointwise [normed]

theorem rotated_at (x : FVec Ideal S4x4096x8x64 .f32) (cs sn : FVec Ideal S4096x32 .f32) (b : Fin 4) (i : Fin 4096)
    (h : Fin 8) (k : Fin 64) :
    rotated x cs sn (ix4 b i h k) =
      if hk : k.val < 32 then
        x (ix4 b i h k) * cs (ix2 i ⟨k, hk⟩) - x (ix4 b i h ⟨k + 32, by omega⟩) * sn (ix2 i ⟨k, hk⟩)
      else
        x (ix4 b i h k) * cs (ix2 i ⟨k - 32, by omega⟩) + x (ix4 b i h ⟨k - 32, by omega⟩) * sn (ix2 i ⟨k - 32, by omega⟩) := by
  pointwise [rotated, angle]
  by_cases h1 : k.val < 32
  · simp only [h1, ↓reduceDIte, show 32 + k.val = k.val + 32 by omega]
  · simp only [h1, ↓reduceDIte, show 32 + (k.val - 32) = k.val by omega, Fin.eta]

theorem keys_at (kc : FVec Ideal S4x256x256 .bf16) (kx : FVec Ideal S4x4096x256 .bf16) (b : Fin 4) (l : Fin 4352)
    (j : Fin 2) (k : Fin 64) :
    keys kc kx (ix4 b l j k) = if hl : l.val < 256 then kc (ix3 b ⟨l, by omega⟩ ⟨j * 128 + k, by omega⟩)
      else kx (ix3 b ⟨l - 256, by omega⟩ ⟨j * 128 + k, by omega⟩) := by
  pointwise [keys]

theorem vals_at (vc : FVec Ideal S4x2x128x256 .bf16) (v : FVec Ideal S4x2x128x4096 .bf16) (b : Fin 4) (l : Fin 4352)
    (j : Fin 2) (d : Fin 64) :
    vals vc v (ix4 b l j d) = if hl : l.val < 256 then vc (ix4 b j ⟨d, by omega⟩ ⟨l, by omega⟩)
      else v (ix4 b j ⟨d, by omega⟩ ⟨l - 256, by omega⟩) := by
  pointwise [vals]

theorem scores_at (K : FVec Ideal S4x4352x2x64 .f32) (R : FVec Ideal S4x4096x8x64 .f32) (b : Fin 4) (j : Fin 2) (g : Fin 4)
    (i : Fin 4096) (l : Fin 4352) :
    scores K R (ix5 b j g i l)
      = (∑ k, K (ix4 b l j k) * R (ix4 b i ⟨j * 4 + g, by omega⟩ k)) * Ideal.ofBits FTy.f32 0x3E000000#32 := by
  pointwise [scores]

theorem powers_at (S : FVec Ideal S4x2x4x4096x4352 .f32) (L : FVec Ideal S4x2x4x4096 .f32) (b : Fin 4) (j : Fin 2) (g : Fin 4)
    (i : Fin 4096) (l : Fin 4352) :
    powers S L (ix5 b j g i l) = Ideal.exp (S (ix5 b j g i l) - L (ix4 b j g i)) := by
  pointwise [powers, spread]

theorem shares_at (E : FVec Ideal S4x2x4x4096x4352 .f32) (b : Fin 4) (j : Fin 2) (g : Fin 4) (i : Fin 4096) (l : Fin 4352) :
    shares E (ix5 b j g i l) = Ideal.div (E (ix5 b j g i l)) (∑ x, E (ix5 b j g i x)) := by
  pointwise [shares, spread]

theorem mixed_at (V : FVec Ideal S4x4352x2x64 .f32) (P : FVec Ideal S4x2x4x4096x4352 .f32) (b : Fin 4) (i : Fin 4096)
    (j : Fin 2) (g : Fin 4) (d : Fin 64) :
    mixed V P (ix3 b i ⟨(j * 4 + g) * 64 + d, by omega⟩) = ∑ l, V (ix4 b l j d) * P (ix5 b j g i l) := by
  pointwise [mixed]

end Cert.GqaRefIdeal.Attend

end
-- ==== Proof.GqaPre.lean ====
/- What the grouped-query attention's precondition says of its arrays, entry by entry. -/
module

public import proofs.«01_k».proof.Proof.Gen.GqaIdeal.Value
public import proofs.«01_k».proof.Defs
public import proofs.«01_k».proof.Proof.Words
public import Idealize.ShloMosaic.Lib.Pipeline.ValueKit
public import Idealize.ShloMosaic.Lib.Pointwise
public import Idealize.ShloMosaic.Lib.Claim

@[expose] public section

set_option maxRecDepth 16384

noncomputable section

namespace Cert.Pre_gqa_slots.Read

open Cert.Pre_gqa_slots Cert.Words Idealize.ShloMosaic

variable (q : FVec Ideal S4x8x128x4096 .bf16) (cs sn : FVec Ideal S4096x32 .f32) (g : FVec Ideal S64 .f32)
  (kc : FVec Ideal S4x256x256 .bf16) (vc : FVec Ideal S4x2x128x256 .bf16) (kx : FVec Ideal S4x4096x256 .bf16)
  (vx : FVec Ideal S4x2x128x4096 .bf16)

/-- What the equation takes of its arrays: finite angles, gain and keys, a query slot twice its 64 lanes, one value at
    lane 64 of the keys, ones at row 64 of the values. -/
structure Slots : Prop where
  cos_real : ∀ (i : Fin 4096) (k : Fin 32), ∃ r : ℝ, cs (ix2 i k) = (r : EReal)
  sin_real : ∀ (i : Fin 4096) (k : Fin 32), ∃ r : ℝ, sn (ix2 i k) = (r : EReal)
  gain_real : ∀ k : Fin 64, ∃ r : ℝ, g (ix1 k) = (r : EReal)
  cached_key_real : ∀ (b : Fin 4) (x : Fin 256) (j : Fin 2) (k : Fin 65),
    ∃ r : ℝ, kc (ix3 b x ⟨j.val * 128 + k.val, by omega⟩) = (r : EReal)
  key_real : ∀ (b : Fin 4) (x : Fin 4096) (j : Fin 2) (k : Fin 65),
    ∃ r : ℝ, kx (ix3 b x ⟨j.val * 128 + k.val, by omega⟩) = (r : EReal)
  query_twice : ∀ (b : Fin 4) (h : Fin 8) (k : Fin 64) (i : Fin 4096),
    q (ix4 b h ⟨64 + k.val, by omega⟩ i) = q (ix4 b h ⟨k.val, by omega⟩ i)
  cached_key_lane : ∀ (b : Fin 4) (x : Fin 256) (j : Fin 2), kc (ix3 b x ⟨j.val * 128 + 64, by omega⟩) = kc (ix3 0 0 64)
  key_lane : ∀ (b : Fin 4) (x : Fin 4096) (j : Fin 2), kx (ix3 b x ⟨j.val * 128 + 64, by omega⟩) = kc (ix3 0 0 64)
  cached_val_lane : ∀ (b : Fin 4) (j : Fin 2) (x : Fin 256), vc (ix4 b j 64 x) = 1
  val_lane : ∀ (b : Fin 4) (j : Fin 2) (x : Fin 4096), vx (ix4 b j 64 x) = 1

variable [Cert.Pre_gqa_slots.Facts]

/-- The ten arrays of the precondition, all ones, give the ten facts. -/
theorem slots (p0 : (fn q cs sn g kc vc kx vx).1 = fun _ => 1#1) (p1 : (fn q cs sn g kc vc kx vx).2.1 = fun _ => 1#1)
    (p2 : (fn q cs sn g kc vc kx vx).2.2.1 = fun _ => 1#1) (p3 : (fn q cs sn g kc vc kx vx).2.2.2.1 = fun _ => 1#1)
    (p4 : (fn q cs sn g kc vc kx vx).2.2.2.2.1 = fun _ => 1#1) (p5 : (fn q cs sn g kc vc kx vx).2.2.2.2.2.1 = fun _ => 1#1)
    (p6 : (fn q cs sn g kc vc kx vx).2.2.2.2.2.2.1 = fun _ => 1#1)
    (p7 : (fn q cs sn g kc vc kx vx).2.2.2.2.2.2.2.1 = fun _ => 1#1)
    (p8 : (fn q cs sn g kc vc kx vx).2.2.2.2.2.2.2.2.1 = fun _ => 1#1)
    (p9 : (fn q cs sn g kc vc kx vx).2.2.2.2.2.2.2.2.2 = fun _ => 1#1) : Slots q cs sn g kc vc kx vx := by
  unfold fn fn_part1 fn_part2 at p0 p1 p2 p3 p4 p5 p6 p7 p8 p9
  dsimp only at p0 p1 p2 p3 p4 p5 p6 p7 p8 p9
  constructor
  · intro i k
    have e := congrFun p0 (ix2 i k)
    pointwise at e
    exact real_of_word e
  · intro i k
    have e := congrFun p1 (ix2 i k)
    pointwise at e
    exact real_of_word e
  · intro k
    have e := congrFun p2 (ix1 k)
    pointwise at e
    exact real_of_word e
  · intro b x j k
    have e := congrFun p3 (ix4 b x j k)
    pointwise at e
    exact real_of_word e
  · intro b x j k
    have e := congrFun p4 (ix4 b x j k)
    pointwise at e
    exact real_of_word e
  · intro b h k i
    have e := congrFun p5 (ix4 b h k i)
    pointwise at e
    exact eq_of_word e
  · intro b x j
    have e := congrFun p6 (ix3 b x j)
    pointwise at e
    exact eq_of_word e
  · intro b x j
    have e := congrFun p7 (ix3 b x j)
    pointwise at e
    exact eq_of_word e
  · intro b j x
    have e := congrFun p8 (ix3 b j x)
    pointwise at e
    exact eq_of_word e
  · intro b j x
    have e := congrFun p9 (ix3 b j x)
    pointwise at e
    exact eq_of_word e

end Cert.Pre_gqa_slots.Read

end
-- ==== Proof.GqaValue.lean ====
/- The kernel's mean of one head at one position is the reference's grouped softmax attention there. -/
module

public import proofs.«01_k».proof.Proof.GqaMath
public import proofs.«01_k».proof.Proof.GqaRef
public import proofs.«01_k».proof.Proof.GqaPre
public import proofs.«01_k».proof.Proof.Largest

@[expose] public section

set_option maxRecDepth 16384

noncomputable section

namespace Cert.GqaRefIdeal.Attend

open Cert.GqaRefIdeal Cert.GqaRefIdeal.Gen Cert.GqaRefIdeal.Value Cert.GqaMath Cert.Weights Idealize.ShloMosaic
open Cert.Pre_gqa_slots.Read (Slots)

theorem eighth : Ideal.ofBits FTy.f32 0x3E000000#32 = ((1 / 8 : ℝ) : EReal) := by
  simp [Ideal.ofBits, Ideal.ieee, -EReal.coe_mul]
  norm_num

/-- Each query's largest score is real when the scores are. -/
theorem largest_real (S : FVec Ideal S4x2x4x4096x4352 .f32) (hS : ∀ j, ∃ r : ℝ, S j = (r : EReal)) (j : S4x2x4x4096.Idx) :
    ∃ r : ℝ, largest S j = (r : EReal) := by
  have hinf : Ideal.ofBits FTy.f32 0xFF800000#32 ≠ ⊤ := by
    simp [Ideal.ofBits, Ideal.ieee, -EReal.coe_mul]
  exact reduce_max_real (a := 4) S hS _ (constant S_ .f32 0xFF800000#32) reducesTo_S4x2x4x4096x4352_S4x2x4x4096_d4
    (by decide) h_S_ j hinf hinf (by decide)

/-- A score is real when its key and its query are. -/
theorem score_real (K : FVec Ideal S4x4352x2x64 .f32) (Q : FVec Ideal S4x4096x8x64 .f32) (b : Fin 4) (j : Fin 2) (n : Fin 4)
    (i : Fin 4096) (l : Fin 4352) (κ ρ : Fin 64 → ℝ) (hK : ∀ k, K (ix4 b l j k) = (κ k : EReal))
    (hQ : ∀ k, Q (ix4 b i ⟨j * 4 + n, by omega⟩ k) = (ρ k : EReal)) :
    scores K Q (ix5 b j n i l) = (((∑ k, κ k * ρ k) * (1 / 8) : ℝ) : EReal) := by
  rw [scores_at, eighth, EReal.coe_mul, coe_sum]
  simp only [hK, hQ, EReal.coe_mul]

/-- The softmax-weighted values, from real scores: cached and fresh keys apart. -/
theorem weighted_eq (vc : FVec Ideal S4x2x128x256 .bf16) (vx : FVec Ideal S4x2x128x4096 .bf16)
    (S : FVec Ideal S4x2x4x4096x4352 .f32) (L : FVec Ideal S4x2x4x4096 .f32) (b : Fin 4) (i : Fin 4096) (j : Fin 2) (n : Fin 4)
    (d : Fin 64) (sc : Fin 256 → ℝ) (sx : Fin 4096 → ℝ) (M : ℝ) (hM : L (ix4 b j n i) = (M : EReal))
    (hsc : ∀ x : Fin 256, S (ix5 b j n i ⟨x, by omega⟩) = (sc x : EReal))
    (hsx : ∀ x : Fin 4096, S (ix5 b j n i ⟨256 + x, by omega⟩) = (sx x : EReal)) :
    ∑ l, vals vc vx (ix4 b l j d) * shares (powers S L) (ix5 b j n i l)
      = ∑ x, vc (ix4 b j ⟨d, by omega⟩ x) * Ideal.div (Ideal.exp ((sc x : EReal) - M))
          (∑ x, Ideal.exp ((sc x : EReal) - M) + ∑ x, Ideal.exp ((sx x : EReal) - M))
        + ∑ x, vx (ix4 b j ⟨d, by omega⟩ x) * Ideal.div (Ideal.exp ((sx x : EReal) - M))
          (∑ x, Ideal.exp ((sc x : EReal) - M) + ∑ x, Ideal.exp ((sx x : EReal) - M)) := by
  have split : ∀ f : Fin 4352 → EReal, ∑ l, f l = ∑ x : Fin 256, f ⟨x, by omega⟩ + ∑ x : Fin 4096, f ⟨256 + x, by omega⟩ :=
    fun f => Fin.sum_univ_add (a := 256) (b := 4096) f
  simp only [shares_at, powers_at, hM, vals_at]
  rw [split, split (fun x => Ideal.exp (S (ix5 b j n i x) - M))]
  simp only [hsc, hsx, Fin.is_lt, ↓reduceDIte, show ∀ x : ℕ, ¬ 256 + x < 256 by omega, Nat.add_sub_cancel_left, Fin.eta]

variable {q : FVec Ideal S4x8x128x4096 .bf16} {cs sn : FVec Ideal S4096x32 .f32} {g : FVec Ideal S64 .f32}
  {kc : FVec Ideal S4x256x256 .bf16} {vc : FVec Ideal S4x2x128x256 .bf16} {kx : FVec Ideal S4x4096x256 .bf16}
  {vx : FVec Ideal S4x2x128x4096 .bf16}

/-- The kernel's query lanes of head `h` at position `i` of list `b`. -/
def klane (q : FVec Ideal S4x8x128x4096 .bf16) (cs sn : FVec Ideal S4096x32 .f32) (g : FVec Ideal S64 .f32) (b : Fin 4)
    (h : Fin 8) (i : Fin 4096) : Fin 128 → EReal :=
  lane (fun k => q (ix4 b h k i)) (tab0 (fun k => g (ix1 k)) (fun k => cs (ix2 i k)))
    (tab1 (fun k => g (ix1 k)) (fun k => sn (ix2 i k)))

/-- The rotated query is real, and the kernel's lanes are its own times the scale. -/
theorem query_real (H : Slots q cs sn g kc vc kx vx) (b : Fin 4) (i : Fin 4096) (h : Fin 8) :
    ∃ R : Fin 64 → ℝ, (∀ k, rotated (normed (lanes q) g) cs sn (ix4 b i h k) = (R k : EReal))
      ∧ (∀ k : Fin 64, klane q cs sn g b h i ⟨k, by omega⟩ = ((R k * ((1 / 8) * (Real.log 2)⁻¹) : ℝ) : EReal))
      ∧ (∀ k : Fin 128, 64 < k.val → klane q cs sn g b h i k = 0) := by
  obtain ⟨R, h1, h2, h3⟩ := lane_eq (fun k => q (ix4 b h k i)) (fun k => H.query_twice b h k i)
    (fun k => g (ix1 k)) (fun k => cs (ix2 i k)) (fun k => sn (ix2 i k)) (fun k => H.gain_real k)
    (fun k => H.cos_real i k) (fun k => H.sin_real i k)
  refine ⟨R, fun k => ?_, h2, h3⟩
  rw [← h1 k, rotated_at]
  simp only [normed_at, lanes_at]
  rfl

/-- A product of a key of real lanes with the kernel's lanes. -/
theorem dot_eq (K Q : Fin 128 → EReal) (k : Fin 65 → ℝ) (r : Fin 64 → ℝ) (c : ℝ)
    (hK : ∀ i : Fin 65, K ⟨i, by omega⟩ = (k i : EReal)) (hQ : ∀ i : Fin 64, Q ⟨i, by omega⟩ = ((r i * c : ℝ) : EReal))
    (h1 : Q 64 = 1) (h0 : ∀ i : Fin 128, 64 < i.val → Q i = 0) :
    ∑ i, K i * Q i = (((∑ i : Fin 64, k ⟨i, by omega⟩ * r i) * c + k 64 : ℝ) : EReal) :=
  lanes_dot (n := 64) (j := 63) K Q (fun i => k ⟨i, by omega⟩) r (k 64) c (fun i => hK ⟨i, by omega⟩) hQ (hK 64) h1
    (fun i => h0 _ (by simp [Fin.natAdd]))

/-- One entry of the kernel's result, against the reference's. -/
theorem mean_eq_mixed (H : Slots q cs sn g kc vc kx vx) (b : Fin 4) (i : Fin 4096) (j : Fin 2) (n : Fin 4) (d : Fin 64) :
    mean (fun x k => kc (ix3 b x ⟨j.val * 128 + k.val, by omega⟩)) (fun x k => kx (ix3 b x ⟨j.val * 128 + k.val, by omega⟩))
      (fun d x => vc (ix4 b j d x)) (fun d x => vx (ix4 b j d x)) (klane q cs sn g b ⟨j.val * 4 + n.val, by omega⟩ i) d
    = ∑ l, vals vc vx (ix4 b l j d)
        * weights (scores (keys kc kx) (rotated (normed (lanes q) g) cs sn)) (ix5 b j n i l) := by
  have hQ := query_real H
  generalize rotated (normed (lanes q) g) cs sn = Q at hQ ⊢
  choose KC hKC using H.cached_key_real
  choose KX hKX using H.key_real
  have hkc : ∀ (b : Fin 4) (j : Fin 2) (x : Fin 256) (k : Fin 64),
      keys kc kx (ix4 b ⟨x, by omega⟩ j k) = (KC b x j ⟨k, by omega⟩ : EReal) := by
    intro b j x k
    rw [keys_at, dif_pos x.isLt]
    exact hKC b x j ⟨k, by omega⟩
  have hkx : ∀ (b : Fin 4) (j : Fin 2) (x : Fin 4096) (k : Fin 64),
      keys kc kx (ix4 b ⟨256 + x, by omega⟩ j k) = (KX b x j ⟨k, by omega⟩ : EReal) := by
    intro b j x k
    rw [keys_at, dif_neg (by simp)]
    simp only [Nat.add_sub_cancel_left]
    exact hKX b x j ⟨k, by omega⟩
  generalize keys kc kx = K at hkc hkx ⊢
  have hS : ∀ y, ∃ r : ℝ, scores K Q y = (r : EReal) := by
    intro y
    obtain ⟨b, j, n, i, l, rfl⟩ : ∃ (b : Fin 4) (j : Fin 2) (n : Fin 4) (i : Fin 4096) (l : Fin 4352), y = ix5 b j n i l :=
      ⟨_, _, _, _, _, eq_ix5 y⟩
    obtain ⟨R, hR, -, -⟩ := hQ b i ⟨j * 4 + n, by omega⟩
    by_cases hl : l.val < 256
    · exact ⟨_, score_real K Q b j n i l _ R (hkc b j ⟨l, hl⟩) hR⟩
    · rw [show l = ⟨256 + (l.val - 256), by omega⟩ from Fin.ext (by simp only []; omega)]
      exact ⟨_, score_real K Q b j n i _ _ R (hkx b j ⟨l.val - 256, by omega⟩) hR⟩
  obtain ⟨M, hM⟩ := largest_real _ hS (ix4 b j n i)
  obtain ⟨R, hR, hL, hZ⟩ := hQ b i ⟨j * 4 + n, by omega⟩
  have hO : klane q cs sn g b ⟨j * 4 + n, by omega⟩ i 64 = 1 := by
    unfold klane lane
    exact if_pos rfl
  have hsc := fun x : Fin 256 => score_real K Q b j n i ⟨x, by omega⟩ _ R (hkc b j x) hR
  have hsx := fun x : Fin 4096 => score_real K Q b j n i ⟨256 + x, by omega⟩ _ R (hkx b j x) hR
  unfold weights
  rw [weighted_eq vc vx _ _ b i j n d _ _ M hM hsc hsx]
  have haC : ∀ x, KC b x j 64 = KC 0 0 0 64 := fun x => EReal.coe_injective (by
    rw [← hKC b x j 64, ← hKC 0 0 0 64]
    exact H.cached_key_lane b x j)
  have haX : ∀ x, KX b x j 64 = KC 0 0 0 64 := fun x => EReal.coe_injective (by
    rw [← hKX b x j 64, ← hKC 0 0 0 64]
    exact H.key_lane b x j)
  have hdc := fun x : Fin 256 => dot_eq (fun k => kc (ix3 b x ⟨j.val * 128 + k.val, by omega⟩)) _ (KC b x j) R _
    (fun k => hKC b x j k) hL hO hZ
  have hdx := fun x : Fin 4096 => dot_eq (fun k => kx (ix3 b x ⟨j.val * 128 + k.val, by omega⟩)) _ (KX b x j) R _
    (fun k => hKX b x j k) hL hO hZ
  unfold mean
  simp only [hdc, hdx, haC, haX, ← mul_assoc]
  exact two_lists (by omega) _ _ _ M _ _ _ _ (fun x => H.cached_val_lane b j x) (fun x => H.val_lane b j x)

end Cert.GqaRefIdeal.Attend

end
-- ==== Proof.GqaClaim.lean ====
/- The grouped-query attention's kernel and its reference leave the same result. -/
module

public import proofs.«01_k».proof.Proof.GqaFinal
public import proofs.«01_k».proof.Proof.GqaValue
public import proofs.«01_k».proof.Proof.GqaPre

@[expose] public section

set_option maxRecDepth 16384

noncomputable section

namespace Cert.GqaClaim

open Idealize.ShloMosaic Idealize.ShloMosaic.TcCoe Cert.GqaRefIdeal.Attend

variable [Cert.Pre_gqa_slots.Facts]

/-- The two result arrays, from memories agreeing on the arguments. -/
theorem value (m : (ℓ : Loc Cert.GqaIdeal.nD Cert.GqaIdeal.τ Cert.GqaIdeal.sig) → Buf (Elt Ideal) ℓ)
    (m' : (ℓ : Loc Cert.GqaRefIdeal.nD Cert.GqaRefIdeal.τ Cert.GqaRefIdeal.sig) → Buf (Elt Ideal) ℓ)
    (hpre : Cert.Pre_GqaIdeal_gqa_slots m) (c : Dev Cert.GqaIdeal.nD)
    (h0 : m' ((c.tc : Thread Cert.GqaRefIdeal.nD Cert.GqaRefIdeal.τ).loc Cert.GqaRefIdeal.main_arg0) = m ((c.tc : Thread Cert.GqaIdeal.nD Cert.GqaIdeal.τ).loc Cert.GqaIdeal.main_arg0))
    (h1 : m' ((c.tc : Thread Cert.GqaRefIdeal.nD Cert.GqaRefIdeal.τ).loc Cert.GqaRefIdeal.main_arg1) = m ((c.tc : Thread Cert.GqaIdeal.nD Cert.GqaIdeal.τ).loc Cert.GqaIdeal.main_arg1))
    (h2 : m' ((c.tc : Thread Cert.GqaRefIdeal.nD Cert.GqaRefIdeal.τ).loc Cert.GqaRefIdeal.main_arg2) = m ((c.tc : Thread Cert.GqaIdeal.nD Cert.GqaIdeal.τ).loc Cert.GqaIdeal.main_arg2))
    (h3 : m' ((c.tc : Thread Cert.GqaRefIdeal.nD Cert.GqaRefIdeal.τ).loc Cert.GqaRefIdeal.main_arg3) = m ((c.tc : Thread Cert.GqaIdeal.nD Cert.GqaIdeal.τ).loc Cert.GqaIdeal.main_arg3))
    (h4 : m' ((c.tc : Thread Cert.GqaRefIdeal.nD Cert.GqaRefIdeal.τ).loc Cert.GqaRefIdeal.main_arg4) = m ((c.tc : Thread Cert.GqaIdeal.nD Cert.GqaIdeal.τ).loc Cert.GqaIdeal.main_arg4))
    (h5 : m' ((c.tc : Thread Cert.GqaRefIdeal.nD Cert.GqaRefIdeal.τ).loc Cert.GqaRefIdeal.main_arg5) = m ((c.tc : Thread Cert.GqaIdeal.nD Cert.GqaIdeal.τ).loc Cert.GqaIdeal.main_arg5))
    (h6 : m' ((c.tc : Thread Cert.GqaRefIdeal.nD Cert.GqaRefIdeal.τ).loc Cert.GqaRefIdeal.main_arg6) = m ((c.tc : Thread Cert.GqaIdeal.nD Cert.GqaIdeal.τ).loc Cert.GqaIdeal.main_arg6))
    (h7 : m' ((c.tc : Thread Cert.GqaRefIdeal.nD Cert.GqaRefIdeal.τ).loc Cert.GqaRefIdeal.main_arg7) = m ((c.tc : Thread Cert.GqaIdeal.nD Cert.GqaIdeal.τ).loc Cert.GqaIdeal.main_arg7)) :
    Cert.GqaRefIdeal.Value.res_main_v68 m' c = (Cert.GqaIdeal.Gen.dats m 0 c).arrAt 6 Cert.GqaIdeal.cfg0.N := by
  obtain ⟨p0, p1, p2, p3, p4, p5, p6, p7, p8, p9⟩ := hpre c
  have H := Cert.Pre_gqa_slots.Read.slots _ _ _ _ _ _ _ _ p0 p1 p2 p3 p4 p5 p6 p7 p8 p9
  rw [Cert.GqaIdeal.Block.final m c, res_eq, h0, h1, h2, h3, h4, h5, h6, h7]
  funext y
  obtain ⟨b, i, j, rfl⟩ : ∃ (b : Fin 4) (i : Fin 4096) (j : Fin 512), y = ix3 b i j := ⟨_, _, _, eq_ix3 y⟩
  have e : j = ⟨(j.val / 256 * 4 + j.val / 64 % 4) * 64 + j.val % 64, by omega⟩ := Fin.ext (by simp only []; omega)
  refine Eq.trans ?_ (mean_eq_mixed H b i ⟨j.val / 256, by omega⟩ ⟨j.val / 64 % 4, by omega⟩ ⟨j.val % 64, by omega⟩).symm
  exact (congrArg (fun j => mixed _ _ (ix3 b i j)) e).trans (mixed_at _ _ b i ⟨j.val / 256, by omega⟩
    ⟨j.val / 64 % 4, by omega⟩ ⟨j.val % 64, by omega⟩)

end Cert.GqaClaim

end
-- ==== Proof.FfnMath.lean ====
/- The gated convolutional feed-forward at one position, and the modulated norm that it shares with the branch merge. -/
module

public import Idealize.ShloMosaic.Lib.Pointwise

@[expose] public section

noncomputable section

namespace Cert.FfnMath

open Idealize.ShloMosaic

/-- A row divided by its root mean square, times the gain, modulated by scale and shift. -/
def modulated (x g sc sh : Fin 1024 → EReal) (k : Fin 1024) : EReal :=
  x k * Ideal.rsqrt (Ideal.div (∑ l, x l * x l) (Ideal.ofBits FTy.f32 0x44800000#32) + Ideal.ofBits FTy.f32 0x358637BD#32)
    * g k * (1 + sc k) + sh k

/-- Multiplying by the literal 1/1024 is dividing by the literal 1024. -/
theorem mul_inv_eq_div (x : EReal) :
    x * Ideal.ofBits FTy.f32 0x3A800000#32 = Ideal.div x (Ideal.ofBits FTy.f32 0x44800000#32) := by
  have h1 : Ideal.ofBits FTy.f32 0x44800000#32 = ((1024 : ℝ) : EReal) := by
    simp [Ideal.ofBits, Ideal.ieee, -EReal.coe_mul]
    norm_num
  have h2 : Ideal.ofBits FTy.f32 0x3A800000#32 = ((1 / 1024 : ℝ) : EReal) := by
    simp [Ideal.ofBits, Ideal.ieee, -EReal.coe_mul]
    norm_num
  rw [h1, h2, Ideal.div_coe (by norm_num)]

/-- Column `n` of the up-projection at position `P`. -/
def up (X : Fin 4096 → Fin 1024 → EReal) (g sc sh : Fin 1024 → EReal) (w : Fin 1024 → Fin 5632 → EReal)
    (P : Fin 4096) (n : Fin 5632) : EReal :=
  ∑ k, modulated (X P) g sc sh k * w k n

/-- The value one position before, zero before the first. -/
def before (u : Fin 4096 → EReal) (P : Fin 4096) : EReal :=
  if h : P.val = 0 then 0 else u ⟨P.val - 1, by omega⟩

/-- The value one position after, zero after the last. -/
def after (u : Fin 4096 → EReal) (P : Fin 4096) : EReal :=
  if h : P.val = 4095 then 0 else u ⟨P.val + 1, by omega⟩

/-- The three-tap convolution along the positions. -/
def conv (u : Fin 4096 → Fin 5632 → EReal) (w : Fin 3 → Fin 5632 → EReal) (b : Fin 5632 → EReal)
    (P : Fin 4096) (n : Fin 5632) : EReal :=
  w 0 n * before (fun P => u P n) P + w 1 n * u P n + w 2 n * after (fun P => u P n) P + b n

/-- The gated activation of a convolved row. -/
def gated (r : Fin 5632 → EReal) (f : Fin 2816) : EReal :=
  r ⟨f.val, by omega⟩ * Ideal.div 1 (1 + Ideal.exp (-r ⟨f.val, by omega⟩)) * r ⟨2816 + f.val, by omega⟩

/-- The feed-forward's output at position `P`, lane `d`. -/
def ffn (X : Fin 4096 → Fin 1024 → EReal) (g sc sh gt : Fin 1024 → EReal) (wu : Fin 1024 → Fin 5632 → EReal)
    (cw : Fin 3 → Fin 5632 → EReal) (cb : Fin 5632 → EReal) (wd : Fin 2816 → Fin 1024 → EReal)
    (P : Fin 4096) (d : Fin 1024) : EReal :=
  X P d + gt d * ∑ f, gated (conv (up X g sc sh wu) cw cb P) f * wd f d

end Cert.FfnMath

end
-- ==== Proof.InprojMath.lean ====
/- The input projection at one position: the 128-lane slots of projected rows and keys, and the plain lanes they hold. -/
module

public import proofs.«01_k».proof.Proof.FfnMath
public import proofs.«01_k».proof.Proof.MlaMath
public import proofs.«01_k».proof.Proof.GqaMath

@[expose] public section

noncomputable section

namespace Cert.InprojMath

open Idealize.ShloMosaic

/-- The 1952 projected lanes laid out in slots: the shared rotary key at lanes 64 to 95 of its slot, each grouped key
    and each grouped query twice in its slot, each grouped value in the first half of its slot. -/
def place (q : Fin 1952 → EReal) (J : Fin 2816) : EReal :=
  if h : J.val < 256 then q ⟨J.val, by omega⟩
  else if h : J.val < 384 then (if h' : 320 ≤ J.val ∧ J.val < 352 then q ⟨J.val - 64, by omega⟩ else 0)
  else if h : J.val < 640 then q ⟨288 + ((J.val - 384) / 128 * 64 + J.val % 64), by omega⟩
  else if h : J.val < 896 then
    (if h' : J.val % 128 < 64 then q ⟨416 + ((J.val - 640) / 128 * 64 + J.val % 64), by omega⟩ else 0)
  else if h : J.val < 1280 then q ⟨544 + (J.val - 896), by omega⟩
  else if h : J.val < 2304 then q ⟨928 + ((J.val - 1280) / 128 * 64 + J.val % 64), by omega⟩
  else q ⟨1440 + (J.val - 2304), by omega⟩

/-- The latent keys' and values' lanes in slots: eight slots of keys, then eight of values, 64 lanes of each filled. -/
def placeKv (u : Fin 1024 → EReal) (J : Fin 2048) : EReal :=
  if h : J.val % 128 < 64 then u ⟨J.val / 128 % 8 * 128 + (J.val / 1024 * 64 + J.val % 128), by omega⟩ else 0

/-- The latent queries' lanes in slots, 96 lanes of each filled. -/
def placeQ (u : Fin 768 → EReal) (J : Fin 1024) : EReal :=
  if h : J.val % 128 < 96 then u ⟨J.val / 128 * 96 + J.val % 128, by omega⟩ else 0

/-- A row's product with slotted weights is the slotted product. -/
theorem sum_place {n : ℕ} (h : Fin n → EReal) (w : Fin n → Fin 1952 → EReal) (J : Fin 2816) :
    ∑ k, h k * place (w k) J = place (fun j => ∑ k, h k * w k j) J := by
  unfold place
  split_ifs <;> simp

theorem sum_placeKv {n : ℕ} (h : Fin n → EReal) (w : Fin n → Fin 1024 → EReal) (J : Fin 2048) :
    ∑ k, h k * placeKv (w k) J = placeKv (fun j => ∑ k, h k * w k j) J := by
  unfold placeKv
  split_ifs <;> simp

theorem sum_placeQ {n : ℕ} (h : Fin n → EReal) (w : Fin n → Fin 768 → EReal) (J : Fin 1024) :
    ∑ k, h k * placeQ (w k) J = placeQ (fun j => ∑ k, h k * w k j) J := by
  unfold placeQ
  split_ifs <;> simp

/-- A square is not negative. -/
theorem square_nonneg (x : EReal) : 0 ≤ x * x := by
  induction x with
  | bot => simp
  | top => simp
  | coe r => rw [← EReal.coe_mul]; exact_mod_cast mul_self_nonneg r

/-- An inverse root mean square is a real that is not negative. -/
theorem inv_rms_range {S : EReal} (hS : 0 ≤ S) {c : ℝ} (hc : 0 < c) :
    0 ≤ Ideal.rsqrt (S * (c : EReal) + Ideal.ofBits FTy.f32 0x358637BD#32)
      ∧ Ideal.rsqrt (S * (c : EReal) + Ideal.ofBits FTy.f32 0x358637BD#32) ≠ ⊤ := by
  obtain ⟨e, he, hε⟩ := Cert.MlaMath.eps_real
  rw [hε]
  induction S with
  | bot => exact absurd hS (by simp)
  | top => rw [EReal.top_mul_coe_of_pos hc, EReal.top_add_coe, Ideal.rsqrt_top]; simp
  | coe s =>
    have hs : (0 : ℝ) ≤ s := by exact_mod_cast hS
    rw [← EReal.coe_mul, ← EReal.coe_add, Ideal.rsqrt_coe]
    have h : 0 < s * c + e := by positivity
    rw [if_neg (not_lt.mpr h.le), if_neg h.ne']
    exact ⟨by exact_mod_cast inv_nonneg.mpr (Real.sqrt_nonneg _), EReal.coe_ne_top _⟩

/-- A latent key in its slot, as the kernel forms it of the key's own lanes `s` and the shared rotary lanes `p`. -/
def mlaKey (s p g t0 t1 t2 a : Fin 128 → EReal) (k : Fin 128) : EReal :=
  (s k * g k + (p k * g k * t0 k
      + (if h : k.val < 112 then p ⟨16 + k, by omega⟩ * g ⟨16 + k, by omega⟩ else p ⟨k - 112, by omega⟩ * g ⟨k - 112, by omega⟩) * t1 k
      + (if h : k.val < 16 then p ⟨112 + k, by omega⟩ * g ⟨112 + k, by omega⟩ else p ⟨k - 16, by omega⟩ * g ⟨k - 16, by omega⟩) * t2 k))
    * Ideal.rsqrt (((∑ x, s x * s x) + ∑ x, p x * p x) * ((1 / 96 : ℝ) : EReal) + Ideal.ofBits FTy.f32 0x358637BD#32)
    + a k

/-- A latent key in its slot, as the plain key: normalised, its last 32 lanes rotated, the shared score at lane 96. -/
def mlaSlot (x g : Fin 96 → EReal) (cs sn : Fin 16 → EReal) (z : EReal) (k : Fin 128) : EReal :=
  if h : k.val < 96 then Cert.MlaMath.rotated (Cert.MlaMath.normed x g) cs sn ⟨k, h⟩ else if k.val = 96 then z else 0

/-- A grouped key in its slot, as the kernel forms it of the doubled lanes `p`. -/
def gqaKey (p g g' t0 t1 a : Fin 128 → EReal) (k : Fin 128) : EReal :=
  (p k * (g k * t0 k) + (if h : k.val < 32 then p ⟨96 + k, by omega⟩ else p ⟨k - 32, by omega⟩) * (g' k * t1 k))
    * Ideal.rsqrt ((∑ x, p x * p x) * Ideal.ofBits FTy.f32 0x3C000000#32 + Ideal.ofBits FTy.f32 0x358637BD#32) + a k

/-- A grouped key in its slot, as the plain key: normalised, rotated, the shared score at lane 64. -/
def gqaSlot (x g : Fin 64 → EReal) (cs sn : Fin 32 → EReal) (z : EReal) (k : Fin 128) : EReal :=
  if h : k.val < 64 then Cert.GqaMath.rotated (Cert.GqaMath.normed x g) cs sn ⟨k, h⟩ else if k.val = 64 then z else 0

/-- What one position's projection is made of: its row, the modulation, the weights, the gains, its angles and the two
    shared scores. -/
structure Row where
  x : Fin 1024 → EReal
  g : Fin 1024 → EReal
  sc : Fin 1024 → EReal
  sh : Fin 1024 → EReal
  w : Fin 1024 → Fin 1952 → EReal
  gkv : Fin 256 → EReal
  gq : Fin 384 → EReal
  wkv : Fin 256 → Fin 1024 → EReal
  wq : Fin 384 → Fin 768 → EReal
  gm : Fin 96 → EReal
  gg : Fin 64 → EReal
  cm : Fin 16 → EReal
  sm : Fin 16 → EReal
  cg : Fin 32 → EReal
  sg : Fin 32 → EReal
  zm : EReal
  zg : EReal

namespace Row

variable (r : Row)

/-- The projected lanes. -/
def proj (j : Fin 1952) : EReal := ∑ k, Cert.FfnMath.modulated r.x r.g r.sc r.sh k * r.w k j

/-- A row over its root mean square, `N` being the count of its lanes, times the gain. -/
def normed {n : ℕ} (N : EReal) (y g : Fin n → EReal) (k : Fin n) : EReal :=
  y k * Ideal.rsqrt (Ideal.div (∑ l, y l * y l) N + Ideal.ofBits FTy.f32 0x358637BD#32) * g k

/-- The latent keys' and values' lanes. -/
def kv (j : Fin 1024) : EReal :=
  ∑ k, normed (Ideal.ofBits FTy.f32 0x43800000#32) (fun k => r.proj ⟨k, by omega⟩) r.gkv k * r.wkv k j

/-- The latent queries' lanes. -/
def lq (j : Fin 768) : EReal :=
  ∑ k, normed (Ideal.ofBits FTy.f32 0x43C00000#32) (fun k => r.proj ⟨544 + k, by omega⟩) r.gq k * r.wq k j

/-- The 96 lanes of a latent key before its normalisation: its own 64 and the shared 32. -/
def mlaLanes (h : Fin 8) (k : Fin 96) : EReal :=
  if hk : k.val < 64 then r.kv ⟨h * 128 + k, by omega⟩ else r.proj ⟨256 + (k - 64), by omega⟩

/-- A latent key in its slot. -/
def km (h : Fin 8) (k : Fin 128) : EReal := mlaSlot (r.mlaLanes h) r.gm r.cm r.sm r.zm k

/-- A latent value in its slot: its 64 lanes, then a one, then zeros. -/
def vm (h : Fin 8) (k : Fin 128) : EReal :=
  if hk : k.val < 64 then r.kv ⟨h * 128 + (64 + k), by omega⟩ else if k.val = 64 then 1 else 0

/-- A grouped key in its slot. -/
def kg (h : Fin 2) (k : Fin 128) : EReal :=
  gqaSlot (fun k => r.proj ⟨288 + (h * 64 + k), by omega⟩) r.gg r.cg r.sg r.zg k

/-- A grouped value in its slot: its 64 lanes, then a one, then zeros. -/
def vg (h : Fin 2) (k : Fin 128) : EReal :=
  if hk : k.val < 64 then r.proj ⟨416 + (h * 64 + k), by omega⟩ else if k.val = 64 then 1 else 0

/-- A latent query in its slot: its 96 lanes, then zeros. -/
def qm (h : Fin 8) (k : Fin 128) : EReal := if hk : k.val < 96 then r.lq ⟨h * 96 + k, by omega⟩ else 0

/-- A grouped query in its slot: its 64 lanes, twice. -/
def qg (h : Fin 8) (k : Fin 128) : EReal := r.proj ⟨928 + (h * 64 + k % 64), by omega⟩

/-- The lanes of the Fourier branch. -/
def four (j : Fin 512) : EReal := r.proj ⟨1440 + j, by omega⟩

end Row

theorem mlaKey_eq (s p g t0 t1 t2 a : Fin 128 → EReal) (x G : Fin 96 → EReal) (cs sn : Fin 16 → EReal) (z : EReal)
    (hs : ∀ k, s k = if h : k.val < 64 then x ⟨k, by omega⟩ else 0)
    (hp : ∀ k, p k = if h : 64 ≤ k.val ∧ k.val < 96 then x ⟨k, h.2⟩ else 0)
    (hg : ∀ k, g k = if h : k.val < 96 then G ⟨k, h⟩ else 0)
    (h0 : ∀ k, t0 k = if h : k.val < 64 then 1 else if h : k.val < 80 then cs ⟨k - 64, by omega⟩
      else if h : k.val < 96 then cs ⟨k - 80, by omega⟩ else 1)
    (h1 : ∀ k, t1 k = if h : 64 ≤ k.val ∧ k.val < 80 then -sn ⟨k - 64, by omega⟩ else 0)
    (h2 : ∀ k, t2 k = if h : 80 ≤ k.val ∧ k.val < 96 then sn ⟨k - 80, by omega⟩ else 0)
    (ha : ∀ k, a k = if k.val = 96 then z else 0) (k : Fin 128) :
    mlaKey s p g t0 t1 t2 a k = mlaSlot x G cs sn z k := by
  have hsum : (∑ x, s x * s x) + ∑ x, p x * p x = ∑ l, x l * x l := by
    have e1 : ∑ y, s y * s y = ∑ y : Fin 64, x ⟨y, by omega⟩ * x ⟨y, by omega⟩ := by
      refine (Fin.sum_univ_add (a := 64) (b := 64) (fun y : Fin (64 + 64) => s y * s y)).trans ?_
      rw [Finset.sum_eq_zero (s := Finset.univ) (f := fun y : Fin 64 => s (Fin.natAdd 64 y) * s (Fin.natAdd 64 y)), add_zero]
      · refine Finset.sum_congr rfl fun y _ => ?_
        rw [hs, dif_pos (by simp [Fin.castAdd])]
        rfl
      · intro y _
        rw [hs, dif_neg (by simp [Fin.natAdd]), mul_zero]
    have e2 : ∑ y, p y * p y = ∑ y : Fin 32, x ⟨64 + y, by omega⟩ * x ⟨64 + y, by omega⟩ := by
      refine (Fin.sum_univ_add (a := 64) (b := 64) (fun y : Fin (64 + 64) => p y * p y)).trans ?_
      rw [Finset.sum_eq_zero (s := Finset.univ) (f := fun y : Fin 64 => p (Fin.castAdd 64 y) * p (Fin.castAdd 64 y)), zero_add]
      · refine (Fin.sum_univ_add (a := 32) (b := 32) (fun y : Fin (32 + 32) => p (Fin.natAdd 64 y) * p (Fin.natAdd 64 y))).trans ?_
        rw [Finset.sum_eq_zero (s := Finset.univ)
          (f := fun y : Fin 32 => p (Fin.natAdd 64 (Fin.natAdd 32 y)) * p (Fin.natAdd 64 (Fin.natAdd 32 y))), add_zero]
        · refine Finset.sum_congr rfl fun y _ => ?_
          rw [hp, dif_pos (by constructor <;> simp [Fin.natAdd, Fin.castAdd] <;> omega)]
          rfl
        · intro y _
          rw [hp, dif_neg (by simp [Fin.natAdd]; omega), mul_zero]
      · intro y _
        rw [hp, dif_neg (by simp [Fin.castAdd]), mul_zero]
    have e3 : ∑ l, x l * x l = (∑ y : Fin 64, x ⟨y, by omega⟩ * x ⟨y, by omega⟩)
        + ∑ y : Fin 32, x ⟨64 + y, by omega⟩ * x ⟨64 + y, by omega⟩ :=
      Fin.sum_univ_add (a := 64) (b := 32) (fun y : Fin (64 + 32) => x y * x y)
    rw [e1, e2, e3]
  have hdiv : Ideal.div (∑ l, x l * x l) (Ideal.ofBits FTy.f32 0x42C00000#32) = (∑ l, x l * x l) * ((1 / 96 : ℝ) : EReal) := by
    rw [Cert.MlaMath.ninety_six, Ideal.div_coe (by norm_num)]
  obtain ⟨r0, r1⟩ := inv_rms_range (S := ∑ l, x l * x l) (Finset.sum_nonneg fun l _ => square_nonneg _) (c := 1 / 96)
    (by norm_num)
  unfold mlaKey mlaSlot Cert.MlaMath.rotated Cert.MlaMath.normed
  simp only [hsum, hdiv]
  generalize Ideal.rsqrt ((∑ l, x l * x l) * ((1 / 96 : ℝ) : EReal) + Ideal.ofBits FTy.f32 0x358637BD#32) = r at r0 r1
  have dist : ∀ u v : EReal, (u + v) * r = u * r + v * r := fun u v => by
    rw [mul_comm, EReal.left_distrib_of_nonneg_of_ne_top r0 r1, mul_comm r u, mul_comm r v]
  simp only [hs, hp, hg, h0, h1, h2, ha]
  by_cases c1 : k.val < 64
  · have : ¬ 64 ≤ k.val := by omega
    simp only [c1, this, show k.val < 96 by omega, show ¬ 80 ≤ k.val by omega, show k.val ≠ 96 by omega, ↓reduceDIte, ↓reduceIte,
      false_and, mul_zero, zero_mul, add_zero]
    rw [mul_assoc, mul_assoc, mul_comm (G _)]
  by_cases c2 : k.val < 80
  · simp only [c1, c2, show 64 ≤ k.val by omega, show k.val < 96 by omega, show k.val < 112 by omega, show 64 ≤ 16 + k.val by omega,
      show 16 + k.val < 96 by omega, show ¬ 80 ≤ k.val by omega, show k.val ≠ 96 by omega, ↓reduceDIte, ↓reduceIte,
      false_and, and_self, mul_zero, zero_mul, add_zero, zero_add]
    rw [dist, sub_eq_add_neg, show (⟨16 + k.val, by omega⟩ : Fin 96) = ⟨k.val + 16, by omega⟩ from Fin.ext (by simp; omega)]
    congr 1
    · ac_rfl
    · rw [mul_neg, neg_mul]
      congr 1
      ac_rfl
  by_cases c3 : k.val < 96
  · simp only [c1, c2, c3, show 64 ≤ k.val by omega, show ¬ k.val < 16 by omega, show 64 ≤ k.val - 16 by omega,
      show k.val - 16 < 96 by omega, show 80 ≤ k.val by omega, show k.val ≠ 96 by omega, ↓reduceDIte, ↓reduceIte,
      and_false, and_self, mul_zero, zero_mul, add_zero, zero_add]
    rw [dist]
    congr 1 <;> ac_rfl
  · simp only [c1, c2, c3, ↓reduceDIte, and_false, mul_zero, zero_mul, add_zero, zero_add]

theorem gqaKey_eq (p g g' t0 t1 a : Fin 128 → EReal) (x G : Fin 64 → EReal) (cs sn : Fin 32 → EReal) (z : EReal)
    (hp : ∀ k : Fin 128, p k = x ⟨k % 64, by omega⟩)
    (hg : ∀ k, g k = if h : k.val < 64 then G ⟨k, h⟩ else 0)
    (hg' : ∀ k, g' k = if h : k.val < 32 then G ⟨k + 32, by omega⟩ else if h : k.val < 64 then G ⟨k - 32, by omega⟩ else 0)
    (h0 : ∀ k, t0 k = if h : k.val < 32 then cs ⟨k, by omega⟩ else if h : k.val < 64 then cs ⟨k - 32, by omega⟩ else 0)
    (h1 : ∀ k, t1 k = if h : k.val < 32 then -sn ⟨k, by omega⟩ else if h : k.val < 64 then sn ⟨k - 32, by omega⟩ else 0)
    (ha : ∀ k, a k = if k.val = 64 then z else 0) (k : Fin 128) :
    gqaKey p g g' t0 t1 a k = gqaSlot x G cs sn z k := by
  have hsq := Cert.GqaMath.mean_square p fun k => by
    rw [hp, hp]
    exact congrArg x (Fin.ext (by simp))
  have hx : ∀ y : Fin 64, p ⟨y, by omega⟩ = x y := fun y => by
    rw [hp]
    exact congrArg x (Fin.ext (Nat.mod_eq_of_lt y.isLt))
  simp only [hx] at hsq
  have hdiv : Ideal.div (∑ l, x l * x l) (Ideal.ofBits FTy.f32 0x42800000#32) = (∑ l, x l * x l) * ((1 / 64 : ℝ) : EReal) := by
    rw [Cert.GqaMath.sixty_four, Ideal.div_coe (by norm_num)]
  obtain ⟨r0, r1⟩ := inv_rms_range (S := ∑ l, x l * x l) (Finset.sum_nonneg fun l _ => square_nonneg _) (c := 1 / 64)
    (by norm_num)
  unfold gqaKey gqaSlot Cert.GqaMath.rotated Cert.GqaMath.normed
  simp only [Cert.GqaMath.inv_lanes, hsq, hdiv]
  generalize Ideal.rsqrt ((∑ l, x l * x l) * ((1 / 64 : ℝ) : EReal) + Ideal.ofBits FTy.f32 0x358637BD#32) = r at r0 r1
  have dist : ∀ u v : EReal, (u + v) * r = u * r + v * r := fun u v => by
    rw [mul_comm, EReal.left_distrib_of_nonneg_of_ne_top r0 r1, mul_comm r u, mul_comm r v]
  simp only [hp, hg, hg', h0, h1, ha]
  by_cases c1 : k.val < 32
  · simp only [c1, show k.val < 64 by omega, show k.val ≠ 64 by omega, ↓reduceDIte, ↓reduceIte, add_zero]
    rw [dist, sub_eq_add_neg, show (⟨(96 + k.val) % 64, by omega⟩ : Fin 64) = ⟨k.val + 32, by omega⟩ from Fin.ext (by simp; omega),
      show (⟨k.val % 64, by omega⟩ : Fin 64) = ⟨k.val, by omega⟩ from Fin.ext (by simp; omega)]
    congr 1
    · ac_rfl
    · rw [mul_neg, mul_neg, neg_mul]
      congr 1
      ac_rfl
  by_cases c2 : k.val < 64
  · simp only [c1, c2, show k.val ≠ 64 by omega, ↓reduceDIte, ↓reduceIte, add_zero]
    rw [dist, show (⟨(k.val - 32) % 64, by omega⟩ : Fin 64) = ⟨k.val - 32, by omega⟩ from Fin.ext (by simp; omega),
      show (⟨k.val % 64, by omega⟩ : Fin 64) = ⟨k.val, by omega⟩ from Fin.ext (by simp; omega)]
    congr 1 <;> ac_rfl
  · simp only [c1, c2, ↓reduceDIte, mul_zero, zero_mul, add_zero, zero_add]

end Cert.InprojMath

end
-- ==== Proof.InprojBlock.lean ====
/- The input projection's block: each 128-lane slot that the kernel writes, read at an index. -/
module

public import proofs.«01_k».proof.Proof.Gen.InprojIdeal.Skeleton
public import proofs.«01_k».proof.Proof.InprojMath
public import Idealize.ShloMosaic.Lib.Pointwise
public import Idealize.ShloMosaic.Lib.Tactic.CleanTypes

@[expose] public section

set_option maxRecDepth 16384

noncomputable section

namespace Cert.InprojIdeal.Block

open Cert.InprojIdeal Cert.InprojIdeal.Gen Cert.FfnMath Cert.InprojMath Idealize.ShloMosaic

theorem inv_dim_eq : (Named.named (F := Ideal) κ "inv_dim" 0x3C2AAAAB#32 : Ideal .f32) = ((1 / 96 : ℝ) : EReal) := rfl

theorem inv_rank_eq : (Named.named (F := Ideal) κ "inv_rank" 0x3B2AAAAB#32 : Ideal .f32) = ((1 / 384 : ℝ) : EReal) := rfl

/-- The sums of a slot's squares. -/
def squares (S : FVec Ideal S1024x128 .f32) : FVec Ideal S1024x1 .f32 :=
  shapeCast S1024x1 (multiReduction .add [1] S1024 (mulf S S) 0x00000000#32 reduces_S1024x128_S1024 (.inl rfl) rfl)
    shapeCasts_S1024_S1024x1

/-- A slot, turned. -/
def turned (S : FVec Ideal S1024x128 .f32) : FVec Ideal S1x1x128x1024 .bf16 :=
  shapeCast S1x1x128x1024 (truncf .bf16 (transpose S128x1024 [1, 0] S transposes_S1024x128_p1_0_S128x1024) bitsLt_bf16_f32)
    shapeCasts_S128x1024_S1x1x128x1024

/-- A slot of values: a row added, then turned. -/
def valued (S : FVec Ideal S1024x128 .f32) (a : FVec Ideal S1x128 .f32) : FVec Ideal S1x1x128x1024 .bf16 :=
  turned (addf S (broadcastTo S1024x128 a broadcasts_S1x128_S1024x128))

/-- A latent key's slot of its own lanes, the gain, the rotated shared lanes, the sums of their squares, and the row to add. -/
def latentKey (S : FVec Ideal S1024x128 .f32) (g : FVec Ideal S1x128 .f32) (kr : FVec Ideal S1024x128 .f32)
    (ss : FVec Ideal S1024x1 .f32) (a : FVec Ideal S1x128 .f32) : FVec Ideal S1x1024x128 .bf16 :=
  k0_pay18 g kr S (addf (squares S) ss) k0_pay17 a

/-- A grouped key's slot. -/
def groupedKey (S : FVec Ideal S1024x128 .f32) (g : FVec Ideal S1x128 .f32) (t0 : FVec Ideal S1x1024x128 .f32)
    (g' : FVec Ideal S1x128 .f32) (t1 : FVec Ideal S1x1024x128 .f32) (a : FVec Ideal S1x128 .f32) : FVec Ideal S1x1024x128 .bf16 :=
  k0_pay45 S (mulf (squares S) (broadcast S1024x1 (Scalar.ofBits (F := Ideal) .f32 0x3C000000#32))) g t0 g' t1 a

theorem squares_at (S : FVec Ideal S1024x128 .f32) (p : Fin 1024) :
    squares S (ix2 p 0) = ∑ k, S (ix2 p k) * S (ix2 p k) := by
  pointwise [squares]

theorem turned_at (S : FVec Ideal S1024x128 .f32) (k : Fin 128) (p : Fin 1024) : turned S (ix4 0 0 k p) = S (ix2 p k) := by
  pointwise [turned]

theorem valued_at (S : FVec Ideal S1024x128 .f32) (a : FVec Ideal S1x128 .f32) (k : Fin 128) (p : Fin 1024) :
    valued S a (ix4 0 0 k p) = S (ix2 p k) + a (ix2 0 k) := by
  pointwise [valued, turned]

theorem latentKey_at (S : FVec Ideal S1024x128 .f32) (g : FVec Ideal S1x128 .f32) (kr : FVec Ideal S1024x128 .f32)
    (ss : FVec Ideal S1024x1 .f32) (a : FVec Ideal S1x128 .f32) (p : Fin 1024) (k : Fin 128) :
    latentKey S g kr ss a (ix3 0 p k) = (S (ix2 p k) * g (ix2 0 k) + kr (ix2 p k))
      * Ideal.rsqrt (((∑ x, S (ix2 p x) * S (ix2 p x)) + ss (ix2 p 0)) * ((1 / 96 : ℝ) : EReal) + Ideal.ofBits FTy.f32 0x358637BD#32)
      + a (ix2 0 k) := by
  pointwise [latentKey, squares, k0_pay18, k0_pay17, inv_dim_eq]

/-- A lane `n` places before, round the slot. -/
theorem roll (f : Fin 128 → EReal) (n : ℕ) (hn : n ≤ 128) (k : Fin 128) :
    f ⟨(k.val + 128 - n) % 128, Nat.mod_lt _ (by omega)⟩
      = if h : k.val < n then f ⟨(128 - n) + k, by omega⟩ else f ⟨k - n, by omega⟩ := by
  split_ifs <;> exact congrArg f (Fin.ext (by simp only []; omega))

/-- The shared lanes, times the gain, rotated. -/
theorem rotated_at (P : FVec Ideal S1024x2816 .f32) (g : FVec Ideal S1x128 .f32) (t0 t1 t2 : FVec Ideal S1x1024x128 .f32)
    (p : Fin 1024) (k : Fin 128) :
    k0_pay13 P g t0 t1 t2 (ix2 p k)
      = k0_pay11 P (ix2 p k) * g (ix2 0 k) * t0 (ix3 0 p k)
        + (if h : k.val < 112 then k0_pay11 P (ix2 p ⟨16 + k, by omega⟩) * g (ix2 0 ⟨16 + k, by omega⟩)
            else k0_pay11 P (ix2 p ⟨k - 112, by omega⟩) * g (ix2 0 ⟨k - 112, by omega⟩)) * t1 (ix3 0 p k)
        + (if h : k.val < 16 then k0_pay11 P (ix2 p ⟨112 + k, by omega⟩) * g (ix2 0 ⟨112 + k, by omega⟩)
            else k0_pay11 P (ix2 p ⟨k - 16, by omega⟩) * g (ix2 0 ⟨k - 16, by omega⟩)) * t2 (ix3 0 p k) := by
  unfold k0_pay13
  generalize k0_pay11 P = S
  pointwise [k0_pay12]
  exact congrArg₂ (· + ·) (congrArg₂ (· + ·) rfl
      (congrArg₂ (· * ·) (roll (fun x => S (ix2 p x) * g (ix2 0 x)) 112 (by omega) k) rfl))
    (congrArg₂ (· * ·) (roll (fun x => S (ix2 p x) * g (ix2 0 x)) 16 (by omega) k) rfl)

theorem shared_squares (P : FVec Ideal S1024x2816 .f32) : k0_pay14 P = squares (k0_pay11 P) := rfl

theorem groupedKey_at (S : FVec Ideal S1024x128 .f32) (g : FVec Ideal S1x128 .f32) (t0 : FVec Ideal S1x1024x128 .f32)
    (g' : FVec Ideal S1x128 .f32) (t1 : FVec Ideal S1x1024x128 .f32) (a : FVec Ideal S1x128 .f32) (p : Fin 1024) (k : Fin 128) :
    groupedKey S g t0 g' t1 a (ix3 0 p k)
      = gqaKey (fun k => S (ix2 p k)) (fun k => g (ix2 0 k)) (fun k => g' (ix2 0 k)) (fun k => t0 (ix3 0 p k))
          (fun k => t1 (ix3 0 p k)) (fun k => a (ix2 0 k)) k := by
  unfold gqaKey
  pointwise [groupedKey, squares, k0_pay45]
  rw [roll (fun x => S (ix2 p x)) 32 (by omega) k]

/-- The projected lanes of a block's row, from what the loads bring. -/
theorem proj_pay (sh sc : FVec Ideal S1x1024 .f32) (x : FVec Ideal S1x1024x1024 .f32) (g : FVec Ideal S1x1024 .f32)
    (w : FVec Ideal S2816x1024 .bf16) (p : Fin 1024) (J : Fin 2816) :
    k0_pay5 (F := Ideal) sh sc x g w (ix2 p J)
      = ∑ k, modulated (fun k => x (ix3 0 p k)) (fun k => g (ix2 0 k)) (fun k => sc (ix2 0 k)) (fun k => sh (ix2 0 k)) k * w (ix2 J k) := by
  unfold modulated
  simp only [← mul_inv_eq_div]
  pointwise [k0_pay5]

/-- The latent keys' and values' slots of a block's row. -/
theorem kv_pay (C : FVec Ideal S1024x256 .f32) (g : FVec Ideal S1x256 .f32) (w : FVec Ideal S256x2048 .bf16) (cst : Ideal .f32)
    (p : Fin 1024) (J : Fin 2048) :
    k0_pay10 C (k0_pay8 g) (shapeCast S1024x1 (multiReduction .add [1] S1024 (mulf C C) 0x00000000#32 reduces_S1024x256_S1024
        (.inl rfl) rfl) shapeCasts_S1024_S1024x1) cst w (ix2 p J)
      = ∑ k, (C (ix2 p k) * Ideal.rsqrt ((∑ l, C (ix2 p l) * C (ix2 p l)) * cst + Ideal.ofBits FTy.f32 0x358637BD#32)
          * g (ix2 0 k)) * w (ix2 k J) := by
  pointwise [k0_pay10, k0_pay8]

/-- The latent queries' slots of a block's row. -/
theorem q_pay (P : FVec Ideal S1024x2816 .f32) (g : FVec Ideal S1x384 .f32) (w : FVec Ideal S384x1024 .bf16)
    (p : Fin 1024) (J : Fin 1024) :
    k0_pay50 P g w (ix2 p J)
      = ∑ k : Fin 384, (P (ix2 p ⟨896 + k, by omega⟩)
          * Ideal.rsqrt ((∑ l : Fin 384, P (ix2 p ⟨896 + l, by omega⟩) * P (ix2 p ⟨896 + l, by omega⟩)) * ((1 / 384 : ℝ) : EReal)
            + Ideal.ofBits FTy.f32 0x358637BD#32) * g (ix2 0 k)) * w (ix2 k J) := by
  pointwise [k0_pay50, inv_rank_eq]

end Cert.InprojIdeal.Block

end
-- ==== Proof.InprojSlots.lean ====
/- The input projection's slots: what each 128-lane slot of the laid-out rows holds. -/
module

public import proofs.«01_k».proof.Proof.InprojMath

@[expose] public section

noncomputable section

namespace Cert.InprojMath.Row

open Idealize.ShloMosaic

variable (r : Row)

theorem qm_slot (h : Fin 8) (k : Fin 128) (J : Fin 1024) (e : J.val = h.val * 128 + k.val) : placeQ r.lq J = r.qm h k := by
  unfold placeQ qm
  by_cases hk : k.val < 96
  · rw [dif_pos (by omega), dif_pos hk]
    exact congrArg r.lq (Fin.ext (by simp only []; omega))
  · rw [dif_neg (by omega), dif_neg hk]

theorem qg_slot (h : Fin 8) (k : Fin 128) (J : Fin 2816) (e : J.val = 1280 + (h.val * 128 + k.val)) :
    place r.proj J = r.qg h k := by
  unfold place qg
  rw [dif_neg (by omega), dif_neg (by omega), dif_neg (by omega), dif_neg (by omega), dif_neg (by omega), dif_pos (by omega)]
  exact congrArg r.proj (Fin.ext (by simp only []; omega))

theorem four_slot (j : Fin 512) (J : Fin 2816) (e : J.val = 2304 + j.val) : place r.proj J = r.four j := by
  unfold place four
  rw [dif_neg (by omega), dif_neg (by omega), dif_neg (by omega), dif_neg (by omega), dif_neg (by omega), dif_neg (by omega)]
  exact congrArg r.proj (Fin.ext (by simp only []; omega))

theorem latent_slot (k : Fin 256) (J : Fin 2816) (e : J.val = k.val) : place r.proj J = r.proj ⟨k, by omega⟩ := by
  unfold place
  rw [dif_pos (by omega)]
  exact congrArg r.proj (Fin.ext e)

theorem query_slot (k : Fin 384) (J : Fin 2816) (e : J.val = 896 + k.val) : place r.proj J = r.proj ⟨544 + k, by omega⟩ := by
  unfold place
  rw [dif_neg (by omega), dif_neg (by omega), dif_neg (by omega), dif_neg (by omega), dif_pos (by omega)]
  exact congrArg r.proj (Fin.ext (by simp only []; omega))

theorem vm_slot (h : Fin 8) (k : Fin 128) (J : Fin 2048) (e : J.val = 1024 + (h.val * 128 + k.val)) :
    placeKv r.kv J + (if k.val = 64 then 1 else 0) = r.vm h k := by
  unfold placeKv vm
  by_cases hk : k.val < 64
  · rw [dif_pos (by omega), dif_pos hk, if_neg (by omega), add_zero]
    exact congrArg r.kv (Fin.ext (by simp only []; omega))
  · rw [dif_neg (by omega), dif_neg hk, zero_add]

theorem vg_slot (h : Fin 2) (k : Fin 128) (J : Fin 2816) (e : J.val = 640 + (h.val * 128 + k.val)) :
    place r.proj J + (if k.val = 64 then 1 else 0) = r.vg h k := by
  unfold place vg
  rw [dif_neg (by omega), dif_neg (by omega), dif_neg (by omega), dif_pos (by omega)]
  by_cases hk : k.val < 64
  · rw [dif_pos (by omega), dif_pos hk, if_neg (by omega), add_zero]
    exact congrArg r.proj (Fin.ext (by simp only []; omega))
  · rw [dif_neg (by omega), dif_neg hk, zero_add]

theorem own_slot (h : Fin 8) (k : Fin 128) (J : Fin 2048) (e : J.val = h.val * 128 + k.val) :
    placeKv r.kv J = if hk : k.val < 64 then r.mlaLanes h ⟨k, by omega⟩ else 0 := by
  unfold placeKv mlaLanes
  by_cases hk : k.val < 64
  · rw [dif_pos (by omega), dif_pos hk, dif_pos hk]
    exact congrArg r.kv (Fin.ext (by simp only []; omega))
  · rw [dif_neg (by omega), dif_neg hk]

theorem shared_slot (h : Fin 8) (k : Fin 128) (J : Fin 2816) (e : J.val = 256 + k.val) :
    place r.proj J = if hk : 64 ≤ k.val ∧ k.val < 96 then r.mlaLanes h ⟨k, hk.2⟩ else 0 := by
  unfold place mlaLanes
  rw [dif_neg (by omega), dif_pos (by omega)]
  by_cases hk : 64 ≤ k.val ∧ k.val < 96
  · rw [dif_pos (by omega), dif_pos hk, dif_neg (by simp only []; omega)]
    exact congrArg r.proj (Fin.ext (by simp only []; omega))
  · rw [dif_neg (by omega), dif_neg hk]

theorem grouped_slot (h : Fin 2) (k : Fin 128) (J : Fin 2816) (e : J.val = 384 + (h.val * 128 + k.val)) :
    place r.proj J = r.proj ⟨288 + (h * 64 + k % 64), by omega⟩ := by
  unfold place
  rw [dif_neg (by omega), dif_neg (by omega), dif_pos (by omega)]
  exact congrArg r.proj (Fin.ext (by simp only []; omega))

end Cert.InprojMath.Row

end
-- ==== Proof.InprojTables.lean ====
/- The arrays that the host lays out for the input projection, read at an index: weights in slots, gains, angles. -/
module

public import proofs.«01_k».proof.Proof.Gen.InprojIdeal.Value
public import proofs.«01_k».proof.Proof.InprojMath
public import Idealize.ShloMosaic.Lib.Pipeline.ValueKit
public import Idealize.ShloMosaic.Lib.Pointwise
public import Idealize.ShloMosaic.Lib.Claim
public import Idealize.ShloMosaic.Lib.StableHlo.ReadAt
public import Idealize.ShloMosaic.Lib.Routing.OpsOne

@[expose] public section

set_option maxRecDepth 16384

noncomputable section

namespace Cert.InprojIdeal.Block

open Cert.InprojIdeal Cert.InprojIdeal.Gen Cert.InprojMath Idealize.ShloMosaic Idealize.ShloMosaic.TcCoe Idealize.ShloMosaic.Routing

variable (m : (ℓ : Loc nD τ sig) → Buf (Elt Ideal) ℓ)

/-- What the projection of batch `b`'s position `P` is made of. -/
def row (c : Dev nD) (b : Fin 4) (P : Fin 4096) : Row where
  x k := m ((c : Thread nD τ).loc main_arg0) (ix3 b P k)
  g k := m ((c : Thread nD τ).loc main_arg2) (ix2 0 k)
  sc k := m ((c : Thread nD τ).loc main_arg1) (ix2 ⟨b.val, by omega⟩ ⟨1024 + k.val, by omega⟩)
  sh k := m ((c : Thread nD τ).loc main_arg1) (ix2 ⟨b.val, by omega⟩ ⟨k.val, by omega⟩)
  w k j := m ((c : Thread nD τ).loc main_arg3) (ix3 0 k ⟨j.val, by omega⟩)
  gkv k := m ((c : Thread nD τ).loc main_arg4) (ix2 0 k)
  gq k := m ((c : Thread nD τ).loc main_arg5) (ix2 0 k)
  wkv k j := m ((c : Thread nD τ).loc main_arg6) (ix3 0 k j)
  wq k j := m ((c : Thread nD τ).loc main_arg7) (ix3 0 k j)
  gm k := m ((c : Thread nD τ).loc main_arg8) (ix2 0 k)
  gg k := m ((c : Thread nD τ).loc main_arg9) (ix2 0 k)
  cm k := m ((c : Thread nD τ).loc main_arg10) (ix2 P k)
  sm k := m ((c : Thread nD τ).loc main_arg11) (ix2 P k)
  cg k := m ((c : Thread nD τ).loc main_arg12) (ix2 P k)
  sg k := m ((c : Thread nD τ).loc main_arg13) (ix2 P k)
  zm := m ((c : Thread nD τ).loc main_arg14) (ix1 0)
  zg := m ((c : Thread nD τ).loc main_arg15) (ix1 0)

/-- An integer zero converted. -/
theorem zero_word : (FloatOps.sitofp FTy.f32 0#32 : Ideal .f32) = 0 := by
  show ((((0#32 : BitVec 32).toInt : ℝ)) : EReal) = 0
  simp

theorem zero_word' : (FloatOps.sitofp FTy.bf16 0#32 : Ideal .bf16) = 0 := by
  show ((((0#32 : BitVec 32).toInt : ℝ)) : EReal) = 0
  simp

theorem cos_buf (c : Dev nD) (b : Fin 4) (P : Fin 4096) (k : Fin 128) :
    V m c main_v120 (ix3 0 P k) = if h : k.val < 64 then 1
      else if h : k.val < 80 then (row m c b P).cm ⟨k - 64, by omega⟩
      else if h : k.val < 96 then (row m c b P).cm ⟨k - 80, by omega⟩ else 1 := by
  unfold V
  repeat (first | after_reads_at | simp only [StableHlo.unary_result', StableHlo.nullary_result',
    StableHlo.binary_result', StableHlo.nary_result', StableHlo.reshape_result', StableHlo.ternary_result'])
  unfold row
  by_cases h1 : k.val < 64
  · simp only [h1, show ¬ 64 ≤ k.val by omega, show ¬ 80 ≤ k.val by omega, ↓reduceDIte, false_and]
  by_cases h2 : k.val < 80
  · simp only [h1, h2, show 64 ≤ k.val by omega, show ¬ 80 ≤ k.val by omega, show k.val - 64 < 16 by omega, ↓reduceDIte, and_self, false_and]
  by_cases h3 : k.val < 96
  · simp only [h1, h2, h3, show 80 ≤ k.val by omega, show ¬ k.val - 64 < 16 by omega, show k.val - 64 - 16 < 16 by omega,
      show k.val - 64 - 16 = k.val - 80 by omega, show k.val - 80 < 16 by omega, ↓reduceDIte, and_self, and_false]
  · simp only [h1, h2, h3, show ¬ k.val - 64 < 16 by omega, show ¬ k.val - 64 - 16 < 16 by omega, ↓reduceDIte, and_false]

theorem sin_buf (c : Dev nD) (b : Fin 4) (P : Fin 4096) (k : Fin 128) :
    V m c main_v120 (ix3 1 P k) = if h : 64 ≤ k.val ∧ k.val < 80
      then -(row m c b P).sm ⟨k - 64, by omega⟩ else 0 := by
  unfold V
  repeat (first | after_reads_at | simp only [StableHlo.unary_result', StableHlo.nullary_result',
    StableHlo.binary_result', StableHlo.nary_result', StableHlo.reshape_result', StableHlo.ternary_result'])
  unfold row
  by_cases h1 : k.val < 64
  · simp only [h1, show ¬ 64 ≤ k.val by omega, show ¬ 80 ≤ k.val by omega, ↓reduceDIte, false_and]
  by_cases h2 : k.val < 80
  · simp only [h1, h2, show 64 ≤ k.val by omega, show ¬ 80 ≤ k.val by omega, show k.val - 64 < 16 by omega, ↓reduceDIte, and_self, false_and]
  by_cases h3 : k.val < 96
  · simp only [h1, h2, h3, show 80 ≤ k.val by omega, show ¬ k.val - 64 < 16 by omega, show k.val - 64 - 16 < 16 by omega,
      show k.val - 64 - 16 = k.val - 80 by omega, show k.val - 80 < 16 by omega, ↓reduceDIte, and_self, and_false]
  · simp only [h1, h2, h3, show ¬ k.val - 64 < 16 by omega, show ¬ k.val - 64 - 16 < 16 by omega, ↓reduceDIte, and_false]

theorem sin_buf' (c : Dev nD) (b : Fin 4) (P : Fin 4096) (k : Fin 128) :
    V m c main_v120 (ix3 2 P k) = if h : 80 ≤ k.val ∧ k.val < 96
      then (row m c b P).sm ⟨k - 80, by omega⟩ else 0 := by
  unfold V
  repeat (first | after_reads_at | simp only [StableHlo.unary_result', StableHlo.nullary_result',
    StableHlo.binary_result', StableHlo.nary_result', StableHlo.reshape_result', StableHlo.ternary_result'])
  unfold row
  by_cases h1 : k.val < 64
  · simp only [h1, show ¬ 64 ≤ k.val by omega, show ¬ 80 ≤ k.val by omega, ↓reduceDIte, false_and]
  by_cases h2 : k.val < 80
  · simp only [h1, h2, show 64 ≤ k.val by omega, show ¬ 80 ≤ k.val by omega, show k.val - 64 < 16 by omega, ↓reduceDIte, and_self, false_and]
  by_cases h3 : k.val < 96
  · simp only [h1, h2, h3, show 80 ≤ k.val by omega, show ¬ k.val - 64 < 16 by omega, show k.val - 64 - 16 < 16 by omega,
      show k.val - 64 - 16 = k.val - 80 by omega, show k.val - 80 < 16 by omega, ↓reduceDIte, and_self, and_false]
  · simp only [h1, h2, h3, show ¬ k.val - 64 < 16 by omega, show ¬ k.val - 64 - 16 < 16 by omega, ↓reduceDIte, and_false]

theorem kv_buf (c : Dev nD) (b : Fin 4) (P : Fin 4096) (k : Fin 256) (J : Fin 2048) :
    V m c main_v46 (ix2 k J) = placeKv ((row m c b P).wkv k) J := by
  unfold V
  repeat (first | after_reads_at | simp only [StableHlo.unary_result', StableHlo.nullary_result',
    StableHlo.binary_result', StableHlo.nary_result', StableHlo.reshape_result', StableHlo.ternary_result'])
  unfold row
  simp only [zero_word]
  unfold placeKv
  by_cases h1 : J.val < 1024
  · by_cases h2 : J.val % 128 < 64
    · simp only [h1, h2, show J.val / 128 < 8 by omega, and_self, ↓reduceDIte]
      exact congrArg (fun j => m ((c : Thread nD τ).loc main_arg6) (ix3 0 k j)) (Fin.ext (by simp only []; omega))
    · simp only [h1, h2, and_false, ↓reduceDIte]
  · by_cases h2 : J.val % 128 < 64
    · simp only [h1, h2, show (J.val - 1024) / 128 < 8 by omega, show (J.val - 1024) % 128 < 64 by omega, and_self, ↓reduceDIte]
      exact congrArg (fun j => m ((c : Thread nD τ).loc main_arg6) (ix3 0 k j)) (Fin.ext (by simp only []; omega))
    · simp only [h1, h2, show ¬ (J.val - 1024) % 128 < 64 by omega, and_false, ↓reduceDIte]

theorem q_buf (c : Dev nD) (b : Fin 4) (P : Fin 4096) (k : Fin 384) (J : Fin 1024) :
    V m c main_v52 (ix2 k J) = placeQ ((row m c b P).wq k) J := by
  unfold V
  repeat (first | after_reads_at | simp only [StableHlo.unary_result', StableHlo.nullary_result',
    StableHlo.binary_result', StableHlo.nary_result', StableHlo.reshape_result', StableHlo.ternary_result'])
  unfold row
  simp only [zero_word]
  unfold placeQ
  simp only [show J.val / 128 < 8 by omega, true_and]

theorem cosine_buf (c : Dev nD) (b : Fin 4) (P : Fin 4096) (k : Fin 128) :
    V m c main_v127 (ix3 0 P k) = if h : k.val < 32 then (row m c b P).cg ⟨k, by omega⟩
      else if h : k.val < 64 then (row m c b P).cg ⟨k - 32, by omega⟩ else 0 := by
  unfold V
  repeat (first | after_reads_at | simp only [StableHlo.unary_result', StableHlo.nullary_result',
    StableHlo.binary_result', StableHlo.nary_result', StableHlo.reshape_result', StableHlo.ternary_result'])
  unfold row
  by_cases h1 : k.val < 32
  · simp only [h1, ↓reduceDIte]
  by_cases h2 : k.val < 64
  · simp only [h1, h2, show k.val - 32 < 32 by omega, ↓reduceDIte]
  · simp only [h1, h2, show ¬ k.val - 32 < 32 by omega, ↓reduceDIte]

theorem sine_buf (c : Dev nD) (b : Fin 4) (P : Fin 4096) (k : Fin 128) :
    V m c main_v127 (ix3 1 P k) = if h : k.val < 32 then -(row m c b P).sg ⟨k, by omega⟩
      else if h : k.val < 64 then (row m c b P).sg ⟨k - 32, by omega⟩ else 0 := by
  unfold V
  repeat (first | after_reads_at | simp only [StableHlo.unary_result', StableHlo.nullary_result',
    StableHlo.binary_result', StableHlo.nary_result', StableHlo.reshape_result', StableHlo.ternary_result'])
  unfold row
  by_cases h1 : k.val < 32
  · simp only [h1, ↓reduceDIte]
  by_cases h2 : k.val < 64
  · simp only [h1, h2, show k.val - 32 < 32 by omega, ↓reduceDIte]
  · simp only [h1, h2, show ¬ k.val - 32 < 32 by omega, ↓reduceDIte]

theorem gain_buf (c : Dev nD) (b : Fin 4) (P : Fin 4096) (k : Fin 1024) :
    V m c main_v98 (ix2 0 k) = (row m c b P).g k := by
  unfold V
  repeat (first | after_reads_at | simp only [StableHlo.unary_result', StableHlo.nullary_result',
    StableHlo.binary_result', StableHlo.nary_result', StableHlo.reshape_result', StableHlo.ternary_result'])
  rfl

theorem gain_kv_buf (c : Dev nD) (b : Fin 4) (P : Fin 4096) (k : Fin 256) :
    V m c main_v101 (ix2 0 k) = (row m c b P).gkv k := by
  unfold V
  repeat (first | after_reads_at | simp only [StableHlo.unary_result', StableHlo.nullary_result',
    StableHlo.binary_result', StableHlo.nary_result', StableHlo.reshape_result', StableHlo.ternary_result'])
  rfl

theorem gain_q_buf (c : Dev nD) (b : Fin 4) (P : Fin 4096) (k : Fin 384) :
    V m c main_v104 (ix2 0 k) = (row m c b P).gq k := by
  unfold V
  repeat (first | after_reads_at | simp only [StableHlo.unary_result', StableHlo.nullary_result',
    StableHlo.binary_result', StableHlo.nary_result', StableHlo.reshape_result', StableHlo.ternary_result'])
  rfl

/-- A scatter of one entry leaves the update there, the operand elsewhere. -/
theorem scattered (x : FVec Ideal S128 .f32) (n : BitVec 32) (u : FVec Ideal S_ .f32) (k : Fin 128) (hn : n.toNat < 128)
    (hs : n.toInt = n.toNat) :
    Host.scatter scatter_S128_S1_S__n_0_0_0 (fun x b => b) x (broadcastInDim S1 ![] bcast_S_S1 (constantI S_ 32 n)) u (ix1 k)
      = if k.val = n.toNat then u ix0 else x (ix1 k) := by
  have hl := lands_one scatter_S128_S1_S__n_0_0_0 rfl rfl (broadcastInDim S1 ![] bcast_S_S1 (constantI S_ 32 n)) ⟨n.toNat, hn⟩ hs
  by_cases h : k.val = n.toNat
  · rw [if_pos h]
    exact scatter_set_hit _ x _ u _ _ (fun j _ => congrArg u (ValueIdx.eq_ix0 j)) ix0 ((hl k).2 (Fin.ext h))
  · rw [if_neg h]
    exact scatter_set_miss _ x _ u _ fun j hj => h (congrArg Fin.val ((hl k).1 (by rw [← ValueIdx.eq_ix0 j]; exact hj)))

theorem one_at : constant (F := Ideal) S_ FTy.f32 0x3F800000#32 ix0 = 1 := by
  pointwise []

theorem zero_at (k : Fin 128) : broadcastInDim S128 ![] bcast_S_S128 (constant (F := Ideal) S_ FTy.f32 0x00000000#32) (ix1 k) = 0 := by
  pointwise []

theorem key_gain_buf (c : Dev nD) (b : Fin 4) (P : Fin 4096) (k : Fin 128) :
    V m c main_v95 (ix2 0 k) = if h : k.val < 96 then (row m c b P).gm ⟨k, h⟩ else 0 := by
  unfold V
  repeat (first | after_reads_at | simp only [StableHlo.unary_result', StableHlo.nullary_result',
    StableHlo.binary_result', StableHlo.nary_result', StableHlo.reshape_result', StableHlo.ternary_result'])
  unfold row
  simp only [zero_word]

theorem grouped_gain_buf (c : Dev nD) (b : Fin 4) (P : Fin 4096) (k : Fin 128) :
    V m c main_v95 (ix2 3 k) = if h : k.val < 64 then (row m c b P).gg ⟨k, h⟩ else 0 := by
  unfold V
  repeat (first | after_reads_at | simp only [StableHlo.unary_result', StableHlo.nullary_result',
    StableHlo.binary_result', StableHlo.nary_result', StableHlo.reshape_result', StableHlo.ternary_result'])
  unfold row
  simp only [zero_word]

theorem swapped_gain_buf (c : Dev nD) (b : Fin 4) (P : Fin 4096) (k : Fin 128) :
    V m c main_v95 (ix2 4 k) = if h : k.val < 32 then (row m c b P).gg ⟨k + 32, by omega⟩
      else if h : k.val < 64 then (row m c b P).gg ⟨k - 32, by omega⟩ else 0 := by
  unfold V
  repeat (first | after_reads_at | simp only [StableHlo.unary_result', StableHlo.nullary_result',
    StableHlo.binary_result', StableHlo.nary_result', StableHlo.reshape_result', StableHlo.ternary_result'])
  unfold row
  simp only [zero_word, Nat.not_lt_zero, ↓reduceDIte]
  by_cases h1 : k.val < 32
  · simp only [h1, show 32 + k.val = k.val + 32 by omega, show k.val + 32 < 64 by omega, ↓reduceDIte]
  by_cases h2 : k.val < 64
  · simp only [h1, h2, show k.val - 32 < 32 by omega, show k.val - 32 < 64 by omega, ↓reduceDIte]
  · simp only [h1, h2, show ¬ k.val - 32 < 32 by omega, ↓reduceDIte]

theorem key_score_buf (c : Dev nD) (b : Fin 4) (P : Fin 4096) (k : Fin 128) :
    V m c main_v95 (ix2 7 k) = if k.val = 96 then (row m c b P).zm else 0 := by
  unfold V
  repeat (first | after_reads_at | simp only [StableHlo.unary_result', StableHlo.nullary_result',
    StableHlo.binary_result', StableHlo.nary_result', StableHlo.reshape_result', StableHlo.ternary_result'])
  unfold row
  rw [scattered _ _ _ k (by decide) (by decide), show (96#32).toNat = 96 from rfl]
  by_cases h : k.val = 96
  · rw [if_pos h, if_pos h, one_at]
    exact one_mul _
  · rw [if_neg h, if_neg h, zero_at, zero_mul]

theorem grouped_score_buf (c : Dev nD) (b : Fin 4) (P : Fin 4096) (k : Fin 128) :
    V m c main_v95 (ix2 8 k) = if k.val = 64 then (row m c b P).zg else 0 := by
  unfold V
  repeat (first | after_reads_at | simp only [StableHlo.unary_result', StableHlo.nullary_result',
    StableHlo.binary_result', StableHlo.nary_result', StableHlo.reshape_result', StableHlo.ternary_result'])
  unfold row
  rw [scattered _ _ _ k (by decide) (by decide), show (64#32).toNat = 64 from rfl]
  by_cases h : k.val = 64
  · rw [if_pos h, if_pos h, one_at]
    exact one_mul _
  · rw [if_neg h, if_neg h, zero_at, zero_mul]

theorem value_one_buf (c : Dev nD) (b : Fin 4) (P : Fin 4096) (k : Fin 128) :
    V m c main_v95 (ix2 9 k) = if k.val = 64 then (1 : EReal) else 0 := by
  unfold V
  repeat (first | after_reads_at | simp only [StableHlo.unary_result', StableHlo.nullary_result',
    StableHlo.binary_result', StableHlo.nary_result', StableHlo.reshape_result', StableHlo.ternary_result'])
  rw [scattered _ _ _ k (by decide) (by decide), show (64#32).toNat = 64 from rfl, one_at, zero_at]

end Cert.InprojIdeal.Block

end
-- ==== Proof.InprojWeights.lean ====
/- The input projection's host arrays: projecting weights in slots. -/
module

public import proofs.«01_k».proof.Proof.InprojTables
public import proofs.«01_k».proof.Proof.InprojMath
public import Idealize.ShloMosaic.Lib.Pipeline.ValueKit
public import Idealize.ShloMosaic.Lib.Pointwise
public import Idealize.ShloMosaic.Lib.Claim
public import Idealize.ShloMosaic.Lib.StableHlo.ReadAt
public import Idealize.ShloMosaic.Lib.Routing.OpsOne

@[expose] public section

set_option maxRecDepth 16384

noncomputable section

namespace Cert.InprojIdeal.Block

open Cert.InprojIdeal Cert.InprojIdeal.Gen Cert.InprojMath Idealize.ShloMosaic Idealize.ShloMosaic.TcCoe

variable (m : (ℓ : Loc nD τ sig) → Buf (Elt Ideal) ℓ)

/-- Rows padded after themselves and before themselves, added: every row twice in its slot. -/
theorem doubled (w : Fin 5024 → EReal) (a N x j : ℕ) (hj : j < 5024) (hx : x / 128 < N) (ha : a + N * 64 ≤ 5024)
    (ej : j = a + (x / 128 * 64 + x % 64)) :
    (if h' : x / 128 < N ∧ x % 128 < 64 then w ⟨a + (x / 128 * 64 + x % 128), by omega⟩ else 0)
      + (if h' : x / 128 < N ∧ 64 ≤ x % 128 ∧ x % 128 - 64 < 64 then w ⟨a + (x / 128 * 64 + (x % 128 - 64)), by omega⟩ else 0)
      = w ⟨j, hj⟩ := by
  by_cases h : x % 128 < 64
  · rw [dif_pos (show x / 128 < N ∧ x % 128 < 64 by omega),
      dif_neg (show ¬ (x / 128 < N ∧ 64 ≤ x % 128 ∧ x % 128 - 64 < 64) by omega), add_zero]
    exact congrArg w (Fin.ext (by dsimp only; omega))
  · rw [dif_neg (show ¬ (x / 128 < N ∧ x % 128 < 64) by omega),
      dif_pos (show x / 128 < N ∧ 64 ≤ x % 128 ∧ x % 128 - 64 < 64 by omega), zero_add]
    exact congrArg w (Fin.ext (by dsimp only; omega))

/-- The seven groups of weight rows, one after another and padded into slots, are the slotted rows. -/
theorem placed (w : Fin 5024 → EReal) (J : Fin 2816) :
    (if h : J.val < 256 then w ⟨J.val, by omega⟩
    else if h : J.val - 256 < 128 then
      (if h' : 64 ≤ J.val - 256 ∧ J.val - 256 - 64 < 32 then w ⟨256 + (J.val - 256 - 64), by omega⟩ else 0)
    else if h : J.val - 256 - 128 < 256 then
      (if h' : (J.val - 256 - 128) / 128 < 2 ∧ (J.val - 256 - 128) % 128 < 64 then w ⟨288 + ((J.val - 256 - 128) / 128 * 64 + (J.val - 256 - 128) % 128), by omega⟩ else 0)
        + (if h' : (J.val - 256 - 128) / 128 < 2 ∧ 64 ≤ (J.val - 256 - 128) % 128 ∧ (J.val - 256 - 128) % 128 - 64 < 64 then
          w ⟨288 + ((J.val - 256 - 128) / 128 * 64 + ((J.val - 256 - 128) % 128 - 64)), by omega⟩ else 0)
    else if h : J.val - 256 - 128 - 256 < 256 then
      (if h' : (J.val - 256 - 128 - 256) / 128 < 2 ∧ (J.val - 256 - 128 - 256) % 128 < 64 then w ⟨416 + ((J.val - 256 - 128 - 256) / 128 * 64 + (J.val - 256 - 128 - 256) % 128), by omega⟩ else 0)
    else if h : J.val - 256 - 128 - 256 - 256 < 384 then w ⟨544 + (J.val - 256 - 128 - 256 - 256), by omega⟩
    else if h : J.val - 256 - 128 - 256 - 256 - 384 < 1024 then
      (if h' : (J.val - 256 - 128 - 256 - 256 - 384) / 128 < 8 ∧ (J.val - 256 - 128 - 256 - 256 - 384) % 128 < 64 then w ⟨928 + ((J.val - 256 - 128 - 256 - 256 - 384) / 128 * 64 + (J.val - 256 - 128 - 256 - 256 - 384) % 128), by omega⟩ else 0)
        + (if h' : (J.val - 256 - 128 - 256 - 256 - 384) / 128 < 8 ∧ 64 ≤ (J.val - 256 - 128 - 256 - 256 - 384) % 128 ∧ (J.val - 256 - 128 - 256 - 256 - 384) % 128 - 64 < 64 then
          w ⟨928 + ((J.val - 256 - 128 - 256 - 256 - 384) / 128 * 64 + ((J.val - 256 - 128 - 256 - 256 - 384) % 128 - 64)), by omega⟩ else 0)
    else w ⟨1440 + (J.val - 256 - 128 - 256 - 256 - 384 - 1024), by omega⟩)
    = place (fun j : Fin 1952 => w ⟨j.val, by omega⟩) J := by
  simp only [Nat.sub_sub, Nat.reduceAdd]
  unfold place
  by_cases h1 : J.val < 256
  · rw [dif_pos h1, dif_pos h1]
  rw [dif_neg h1, dif_neg h1]
  by_cases h2 : J.val < 384
  · rw [dif_pos (show J.val - 256 < 128 by omega), dif_pos h2]
    by_cases h' : 320 ≤ J.val ∧ J.val < 352
    · rw [dif_pos (show 64 ≤ J.val - 256 ∧ J.val - 320 < 32 by omega), dif_pos h']
      exact congrArg w (Fin.ext (by dsimp only; omega))
    · rw [dif_neg (show ¬ (64 ≤ J.val - 256 ∧ J.val - 320 < 32) by omega), dif_neg h']
  rw [dif_neg (show ¬ J.val - 256 < 128 by omega), dif_neg h2]
  by_cases h3 : J.val < 640
  · rw [dif_pos (show J.val - 384 < 256 by omega), dif_pos h3]
    exact doubled w 288 2 (J.val - 384) _ _ (by omega) (by omega) (by dsimp only; omega)
  rw [dif_neg (show ¬ J.val - 384 < 256 by omega), dif_neg h3]
  by_cases h4 : J.val < 896
  · rw [dif_pos (show J.val - 640 < 256 by omega), dif_pos h4]
    by_cases h' : J.val % 128 < 64
    · rw [dif_pos (show (J.val - 640) / 128 < 2 ∧ (J.val - 640) % 128 < 64 by omega), dif_pos h']
      exact congrArg w (Fin.ext (by dsimp only; omega))
    · rw [dif_neg (show ¬ ((J.val - 640) / 128 < 2 ∧ (J.val - 640) % 128 < 64) by omega), dif_neg h']
  rw [dif_neg (show ¬ J.val - 640 < 256 by omega), dif_neg h4]
  by_cases h5 : J.val < 1280
  · rw [dif_pos (show J.val - 896 < 384 by omega), dif_pos h5]
  rw [dif_neg (show ¬ J.val - 896 < 384 by omega), dif_neg h5]
  by_cases h6 : J.val < 2304
  · rw [dif_pos (show J.val - 1280 < 1024 by omega), dif_pos h6]
    exact doubled w 928 8 (J.val - 1280) _ _ (by omega) (by omega) (by dsimp only; omega)
  · rw [dif_neg (show ¬ J.val - 1280 < 1024 by omega), dif_neg h6]

set_option maxHeartbeats 4000000 in
theorem w_buf (c : Dev nD) (b : Fin 4) (P : Fin 4096) (k : Fin 1024) (J : Fin 2816) :
    V m c main_v31 (ix2 J k) = place ((row m c b P).w k) J := by
  unfold V
  repeat (first | after_reads_at | simp only [StableHlo.unary_result', StableHlo.nullary_result',
    StableHlo.binary_result', StableHlo.nary_result', StableHlo.reshape_result', StableHlo.ternary_result'])
  unfold row
  simp only [zero_word']
  exact placed (fun j => m ((c : Thread nD τ).loc main_arg3) (ix3 0 k j)) J

end Cert.InprojIdeal.Block

end
-- ==== Proof.InprojLoads.lean ====
/- The input projection's block: what its loads bring, and its projected rows slot by slot. -/
module

public import proofs.«01_k».proof.Proof.InprojBlock
public import proofs.«01_k».proof.Proof.InprojSlots
public import proofs.«01_k».proof.Proof.InprojTables
public import proofs.«01_k».proof.Proof.InprojWeights

@[expose] public section

set_option maxRecDepth 16384

noncomputable section

namespace Cert.InprojIdeal.Block

open Cert.InprojIdeal Cert.InprojIdeal.Gen Cert.FfnMath Cert.InprojMath Idealize.ShloMosaic Idealize.ShloMosaic.TcCoe

variable (m : (ℓ : Loc nD τ sig) → Buf (Elt Ideal) ℓ)

theorem idx : ∀ t : Fin cfg0.N, win0_0.index t = ![0, 0] ∧ win0_1.index t = ![t.val / 4, t.val % 4, 0]
    ∧ win0_2.index t = ![0, 0] ∧ win0_3.index t = ![0, 0] ∧ win0_4.index t = ![0, 0] ∧ win0_5.index t = ![0, 0]
    ∧ win0_6.index t = ![0, 0] ∧ win0_7.index t = ![0, 0] ∧ win0_8.index t = ![0, 0]
    ∧ win0_9.index t = ![0, t.val % 4, 0] ∧ win0_10.index t = ![0, t.val % 4, 0]
    ∧ win0_11.index t = ![t.val / 4, t.val % 4, 0] ∧ win0_12.index t = ![t.val / 4, 0, 0, t.val % 4]
    ∧ win0_13.index t = ![t.val / 4, t.val % 4, 0] ∧ win0_14.index t = ![t.val / 4, 0, 0, t.val % 4]
    ∧ win0_15.index t = ![t.val / 4, 0, 0, t.val % 4] ∧ win0_16.index t = ![t.val / 4, 0, 0, t.val % 4]
    ∧ win0_17.index t = ![t.val / 4, t.val % 4, 0] :=
  (by decide +kernel : ∀ t : Fin grid0.N, _)

theorem coords : ∀ t : Fin cfg0.N,
    (BitVec.toNat (Scalar.indexCast (BitVec.ofNat 32 (grid0.coords t 0).val)) : Nat) = t.val / 4 :=
  (by decide +kernel : ∀ t : Fin grid0.N, _)

theorem mod_blk (c : Dev nD) (t : Fin cfg0.N) (a : Fin 8) (k : Fin 6144) :
    iblk m c 0 t (ix2 a k) = m ((c : Thread nD τ).loc main_arg1) (ix2 a k) := by
  rw [← V_main_arg1 m c]
  blk_ext [iblk, idx t]

theorem x_blk (c : Dev nD) (t : Fin cfg0.N) (b : Fin 4) (P : Fin 4096) (p : Fin 1024) (k : Fin 1024)
    (eb : b.val = t.val / 4) (eP : P.val = t.val % 4 * 1024 + p.val) :
    iblk m c 1 t (ix3 0 p k) = m ((c : Thread nD τ).loc main_arg0) (ix3 b P k) := by
  rw [← V_main_arg0 m c]
  blk_ext [iblk, idx t]

theorem gain_blk (c : Dev nD) (t : Fin cfg0.N) (k : Fin 1024) : iblk m c 2 t (ix2 0 k) = V m c main_v98 (ix2 0 k) := by
  blk_ext [iblk, idx t]

theorem w_blk (c : Dev nD) (t : Fin cfg0.N) (J : Fin 2816) (k : Fin 1024) : iblk m c 3 t (ix2 J k) = V m c main_v31 (ix2 J k) := by
  blk_ext [iblk, idx t]

theorem gain_kv_blk (c : Dev nD) (t : Fin cfg0.N) (k : Fin 256) : iblk m c 4 t (ix2 0 k) = V m c main_v101 (ix2 0 k) := by
  blk_ext [iblk, idx t]

theorem gain_q_blk (c : Dev nD) (t : Fin cfg0.N) (k : Fin 384) : iblk m c 5 t (ix2 0 k) = V m c main_v104 (ix2 0 k) := by
  blk_ext [iblk, idx t]

theorem kv_blk (c : Dev nD) (t : Fin cfg0.N) (k : Fin 256) (J : Fin 2048) : iblk m c 6 t (ix2 k J) = V m c main_v46 (ix2 k J) := by
  blk_ext [iblk, idx t]

theorem q_blk (c : Dev nD) (t : Fin cfg0.N) (k : Fin 384) (J : Fin 1024) : iblk m c 7 t (ix2 k J) = V m c main_v52 (ix2 k J) := by
  blk_ext [iblk, idx t]

theorem rows_blk (c : Dev nD) (t : Fin cfg0.N) (a : Fin 16) (k : Fin 128) : iblk m c 8 t (ix2 a k) = V m c main_v95 (ix2 a k) := by
  blk_ext [iblk, idx t]

theorem angles_blk (c : Dev nD) (t : Fin cfg0.N) (a : Fin 3) (P : Fin 4096) (p : Fin 1024) (k : Fin 128)
    (eP : P.val = t.val % 4 * 1024 + p.val) : iblk m c 9 t (ix3 a p k) = V m c main_v120 (ix3 a P k) := by
  blk_ext [iblk, idx t]

theorem turns_blk (c : Dev nD) (t : Fin cfg0.N) (a : Fin 2) (P : Fin 4096) (p : Fin 1024) (k : Fin 128)
    (eP : P.val = t.val % 4 * 1024 + p.val) : iblk m c 10 t (ix3 a p k) = V m c main_v127 (ix3 a P k) := by
  blk_ext [iblk, idx t]

/-- The row of gains or of additions numbered `a`, as loaded. -/
def rowLd (c : Dev nD) (t : Fin cfg0.N) (a : ℕ) (ha : ∀ i, (![a, 0] : Fin 2 → ℕ) i + S1x128.size i ≤ S16x128.size i) :
    FVec Ideal S1x128 .f32 :=
  View.ld (iblk m c 8 t) (Rect.unit (s := S16x128) ![a, 0] S1x128.size ha)

theorem rowLd_at (c : Dev nD) (t : Fin cfg0.N) (a : Fin 16) (ha) (k : Fin 128) :
    rowLd m c t a ha (ix2 0 k) = V m c main_v95 (ix2 a k) := by
  unfold rowLd
  refine (View.ld_unit_apply_of _ _ _ _ _ (ix2 a k) fun i => ?_).trans (rows_blk m c t a k)
  fin_cases i <;> simp

/-- The latent keys' table numbered `a`, as loaded. -/
def angleLd (c : Dev nD) (t : Fin cfg0.N) (a : ℕ)
    (ha : ∀ i, (![a, 0, 0] : Fin 3 → ℕ) i + S1x1024x128.size i ≤ S3x1024x128.size i) : FVec Ideal S1x1024x128 .f32 :=
  View.ld (iblk m c 9 t) (Rect.unit (s := S3x1024x128) ![a, 0, 0] S1x1024x128.size ha)

theorem angleLd_at (c : Dev nD) (t : Fin cfg0.N) (a : Fin 3) (ha) (P : Fin 4096) (p : Fin 1024) (k : Fin 128)
    (eP : P.val = t.val % 4 * 1024 + p.val) : angleLd m c t a ha (ix3 0 p k) = V m c main_v120 (ix3 a P k) := by
  unfold angleLd
  refine (View.ld_unit_apply_of _ _ _ _ _ (ix3 a p k) fun i => ?_).trans (angles_blk m c t a P p k eP)
  fin_cases i <;> simp

/-- The grouped keys' table numbered `a`, as loaded. -/
def turnLd (c : Dev nD) (t : Fin cfg0.N) (a : ℕ)
    (ha : ∀ i, (![a, 0, 0] : Fin 3 → ℕ) i + S1x1024x128.size i ≤ S2x1024x128.size i) : FVec Ideal S1x1024x128 .f32 :=
  View.ld (iblk m c 10 t) (Rect.unit (s := S2x1024x128) ![a, 0, 0] S1x1024x128.size ha)

theorem turnLd_at (c : Dev nD) (t : Fin cfg0.N) (a : Fin 2) (ha) (P : Fin 4096) (p : Fin 1024) (k : Fin 128)
    (eP : P.val = t.val % 4 * 1024 + p.val) : turnLd m c t a ha (ix3 0 p k) = V m c main_v127 (ix3 a P k) := by
  unfold turnLd
  refine (View.ld_unit_apply_of _ _ _ _ _ (ix3 a p k) fun i => ?_).trans (turns_blk m c t a P p k eP)
  fin_cases i <;> simp

/-- The block's projected rows. -/
def projBlk (c : Dev nD) (t : Fin cfg0.N) : FVec Ideal S1024x2816 .f32 :=
  k0_pay5 (F := Ideal) (View.ld (iblk m c 0 t) (Rect.unit (s := S8x6144) (k0_off1 (grid0.coords t)) S1x1024.size (k0_off1_inb (grid0.coords t))))
    (View.ld (iblk m c 0 t) (Rect.unit (s := S8x6144) (k0_off2 (grid0.coords t)) S1x1024.size (k0_off2_inb (grid0.coords t))))
    (View.ld (iblk m c 1 t) (Rect.unit (s := S1x1024x1024) ![0, 0, 0] S1x1024x1024.size inb_S1x1024x1024_S1x1024x1024_0_0_0))
    (View.ld (iblk m c 2 t) (Rect.unit (s := S1x1024) ![0, 0] S1x1024.size inb_S1x1024_S1x1024_0_0))
    (View.ld (iblk m c 3 t) (Rect.unit (s := S2816x1024) ![0, 0] S2816x1024.size inb_S2816x1024_S2816x1024_0_0))

/-- The block's latent rows before their normalisation. -/
def latentBlk (c : Dev nD) (t : Fin cfg0.N) : FVec Ideal S1024x256 .f32 :=
  extractStridedSlice S1024x256 ![0, 0] (projBlk m c t) slices_S1024x2816_o0_0_S1024x256

/-- The block's latent keys and values. -/
def kvBlk (c : Dev nD) (t : Fin cfg0.N) : FVec Ideal S1024x2048 .f32 :=
  k0_pay10 (latentBlk m c t)
    (k0_pay8 (View.ld (iblk m c 4 t) (Rect.unit (s := S1x256) ![0, 0] S1x256.size inb_S1x256_S1x256_0_0)))
    (shapeCast S1024x1 (multiReduction .add [1] S1024 (mulf (latentBlk m c t) (latentBlk m c t)) 0x00000000#32
      reduces_S1024x256_S1024 (.inl rfl) rfl) shapeCasts_S1024_S1024x1)
    (Scalar.ofBits (F := Ideal) .f32 0x3B800000#32)
    (View.ld (iblk m c 6 t) (Rect.unit (s := S256x2048) ![0, 0] S256x2048.size inb_S256x2048_S256x2048_0_0))

/-- The block's latent queries. -/
def qBlk (c : Dev nD) (t : Fin cfg0.N) : FVec Ideal S1024x1024 .f32 :=
  k0_pay50 (projBlk m c t) (View.ld (iblk m c 5 t) (Rect.unit (s := S1x384) ![0, 0] S1x384.size inb_S1x384_S1x384_0_0))
    (View.ld (iblk m c 7 t) (Rect.unit (s := S384x1024) ![0, 0] S384x1024.size inb_S384x1024_S384x1024_0_0))

theorem projBlk_at (c : Dev nD) (t : Fin cfg0.N) (b : Fin 4) (P : Fin 4096) (p : Fin 1024) (eb : b.val = t.val / 4)
    (eP : P.val = t.val % 4 * 1024 + p.val) (J : Fin 2816) :
    projBlk m c t (ix2 p J) = place (row m c b P).proj J := by
  have hb := coords t
  have hsh : ∀ k : Fin 1024, View.ld (iblk m c 0 t) (Rect.unit (s := S8x6144) (k0_off1 (grid0.coords t)) S1x1024.size
      (k0_off1_inb (grid0.coords t))) (ix2 0 k) = (row m c b P).sh k := fun k => by
    refine (View.ld_unit_apply_of _ _ _ _ _ (ix2 ⟨b.val, by omega⟩ ⟨k.val, by omega⟩) fun a => ?_).trans (mod_blk m c t _ _)
    fin_cases a <;> simp [k0_off1, hb, eb]
  have hsc : ∀ k : Fin 1024, View.ld (iblk m c 0 t) (Rect.unit (s := S8x6144) (k0_off2 (grid0.coords t)) S1x1024.size
      (k0_off2_inb (grid0.coords t))) (ix2 0 k) = (row m c b P).sc k := fun k => by
    refine (View.ld_unit_apply_of _ _ _ _ _ (ix2 ⟨b.val, by omega⟩ ⟨1024 + k.val, by omega⟩) fun a => ?_).trans (mod_blk m c t _ _)
    fin_cases a <;> simp [k0_off2, hb, eb]
  have hx : ∀ k : Fin 1024, View.ld (iblk m c 1 t) (Rect.unit (s := S1x1024x1024) ![0, 0, 0] S1x1024x1024.size
      inb_S1x1024x1024_S1x1024x1024_0_0_0) (ix3 0 p k) = (row m c b P).x k := fun k => by
    refine (View.ld_unit_apply_of _ _ _ _ _ (ix3 0 p k) fun a => ?_).trans (x_blk m c t b P p k eb eP)
    fin_cases a <;> simp
  have hg : ∀ k : Fin 1024, View.ld (iblk m c 2 t) (Rect.unit (s := S1x1024) ![0, 0] S1x1024.size inb_S1x1024_S1x1024_0_0)
      (ix2 0 k) = (row m c b P).g k := fun k => by
    refine (View.ld_unit_apply_of _ _ _ _ _ (ix2 0 k) fun a => ?_).trans ((gain_blk m c t k).trans (gain_buf m c b P k))
    fin_cases a <;> simp
  have hw : ∀ k : Fin 1024, View.ld (iblk m c 3 t) (Rect.unit (s := S2816x1024) ![0, 0] S2816x1024.size
      inb_S2816x1024_S2816x1024_0_0) (ix2 J k) = place ((row m c b P).w k) J := fun k => by
    refine (View.ld_unit_apply_of _ _ _ _ _ (ix2 J k) fun a => ?_).trans ((w_blk m c t J k).trans (w_buf m c b P k J))
    fin_cases a <;> simp
  unfold projBlk
  refine (proj_pay _ _ _ _ _ p J).trans ?_
  refine Eq.trans ?_ (sum_place (modulated (row m c b P).x (row m c b P).g (row m c b P).sc (row m c b P).sh) (row m c b P).w J)
  simp only [hsh, hsc, hx, hg, hw]

theorem two_hundred_fifty_six : Ideal.ofBits FTy.f32 0x43800000#32 = ((256 : ℝ) : EReal) := by
  simp [Ideal.ofBits, Ideal.ieee, -EReal.coe_mul]
  norm_num

theorem inv_latent : Ideal.ofBits FTy.f32 0x3B800000#32 = ((1 / 256 : ℝ) : EReal) := by
  simp [Ideal.ofBits, Ideal.ieee, -EReal.coe_mul]
  norm_num

theorem three_hundred_eighty_four : Ideal.ofBits FTy.f32 0x43C00000#32 = ((384 : ℝ) : EReal) := by
  simp [Ideal.ofBits, Ideal.ieee, -EReal.coe_mul]
  norm_num

/-- A slice of columns, at an index. -/
theorem slice_at {N W n : ℕ} (Q : FVec Ideal (⟨2, ![1024, N]⟩ : Shape) .f32) (hs : (⟨2, ![1024, N]⟩ : Shape).Slices ![0, n] (⟨2, ![1024, W]⟩ : Shape))
    (p : Fin 1024) (k : Fin W) (J : Fin N) (hJ : J.val = n + k.val) :
    extractStridedSlice (⟨2, ![1024, W]⟩ : Shape) ![0, n] Q hs (ix2 p k) = Q (ix2 p J) := by
  refine congrArg Q (funext fun a => ?_)
  fin_cases a
  · exact Fin.ext (Nat.zero_add _)
  · exact Fin.ext hJ.symm

theorem kvBlk_at (c : Dev nD) (t : Fin cfg0.N) (b : Fin 4) (P : Fin 4096) (p : Fin 1024) (eb : b.val = t.val / 4)
    (eP : P.val = t.val % 4 * 1024 + p.val) (J : Fin 2048) :
    kvBlk m c t (ix2 p J) = placeKv (row m c b P).kv J := by
  have hC : ∀ k : Fin 256, latentBlk m c t (ix2 p k) = (row m c b P).proj ⟨k, by omega⟩ := fun k =>
    (slice_at (projBlk m c t) slices_S1024x2816_o0_0_S1024x256 p k ⟨k, by omega⟩ (Nat.zero_add _).symm).trans
      ((projBlk_at m c t b P p eb eP _).trans ((row m c b P).latent_slot k _ rfl))
  have hg : ∀ k : Fin 256, View.ld (iblk m c 4 t) (Rect.unit (s := S1x256) ![0, 0] S1x256.size inb_S1x256_S1x256_0_0)
      (ix2 0 k) = (row m c b P).gkv k := fun k => by
    refine (View.ld_unit_apply_of _ _ _ _ _ (ix2 0 k) fun a => ?_).trans ((gain_kv_blk m c t k).trans (gain_kv_buf m c b P k))
    fin_cases a <;> simp
  have hw : ∀ k : Fin 256, View.ld (iblk m c 6 t) (Rect.unit (s := S256x2048) ![0, 0] S256x2048.size
      inb_S256x2048_S256x2048_0_0) (ix2 k J) = placeKv ((row m c b P).wkv k) J := fun k => by
    refine (View.ld_unit_apply_of _ _ _ _ _ (ix2 k J) fun a => ?_).trans ((kv_blk m c t k J).trans (kv_buf m c b P k J))
    fin_cases a <;> simp
  unfold kvBlk
  refine (kv_pay _ _ _ _ p J).trans ?_
  refine Eq.trans ?_ (sum_placeKv (Row.normed (Ideal.ofBits FTy.f32 0x43800000#32)
    (fun k : Fin 256 => (row m c b P).proj ⟨k, by omega⟩) (row m c b P).gkv) (row m c b P).wkv J)
  simp only [hC, hg, hw]
  unfold Row.normed
  rw [two_hundred_fifty_six, Ideal.div_coe (by norm_num), show Scalar.ofBits (F := Ideal) .f32 0x3B800000#32 = _ from inv_latent]

theorem qBlk_at (c : Dev nD) (t : Fin cfg0.N) (b : Fin 4) (P : Fin 4096) (p : Fin 1024) (eb : b.val = t.val / 4)
    (eP : P.val = t.val % 4 * 1024 + p.val) (J : Fin 1024) :
    qBlk m c t (ix2 p J) = placeQ (row m c b P).lq J := by
  have hC : ∀ k : Fin 384, projBlk m c t (ix2 p ⟨896 + k, by omega⟩) = (row m c b P).proj ⟨544 + k, by omega⟩ := fun k =>
    (projBlk_at m c t b P p eb eP _).trans ((row m c b P).query_slot k _ rfl)
  have hg : ∀ k : Fin 384, View.ld (iblk m c 5 t) (Rect.unit (s := S1x384) ![0, 0] S1x384.size inb_S1x384_S1x384_0_0)
      (ix2 0 k) = (row m c b P).gq k := fun k => by
    refine (View.ld_unit_apply_of _ _ _ _ _ (ix2 0 k) fun a => ?_).trans ((gain_q_blk m c t k).trans (gain_q_buf m c b P k))
    fin_cases a <;> simp
  have hw : ∀ k : Fin 384, View.ld (iblk m c 7 t) (Rect.unit (s := S384x1024) ![0, 0] S384x1024.size
      inb_S384x1024_S384x1024_0_0) (ix2 k J) = placeQ ((row m c b P).wq k) J := fun k => by
    refine (View.ld_unit_apply_of _ _ _ _ _ (ix2 k J) fun a => ?_).trans ((q_blk m c t k J).trans (q_buf m c b P k J))
    fin_cases a <;> simp
  unfold qBlk
  refine (q_pay _ _ _ p J).trans ?_
  refine Eq.trans ?_ (sum_placeQ (Row.normed (Ideal.ofBits FTy.f32 0x43C00000#32)
    (fun k : Fin 384 => (row m c b P).proj ⟨544 + k, by omega⟩) (row m c b P).gq) (row m c b P).wq J)
  simp only [hC, hg, hw]
  unfold Row.normed
  rw [three_hundred_eighty_four, Ideal.div_coe (by norm_num)]

end Cert.InprojIdeal.Block

end
-- ==== Proof.InprojTiles.lean ====
/- The input projection's stores: the slot that each of them writes, of the block's rows. -/
module

public import proofs.«01_k».proof.Proof.InprojLoads

@[expose] public section

set_option maxRecDepth 16384

noncomputable section

namespace Cert.InprojIdeal.Block

open Cert.InprojIdeal Cert.InprojIdeal.Gen Cert.InprojMath Idealize.ShloMosaic Idealize.ShloMosaic.TcCoe

variable (m : (ℓ : Loc nD τ sig) → Buf (Elt Ideal) ℓ)

/-- A turned slot's index, by its position and its lane. -/
theorem turned_idx (x : S1x1x128x1024.Idx) (k : Fin 128) (p : Fin 1024) (hk : k.val = (x 2).val) (hp : p.val = (x 3).val) :
    x = ix4 0 0 k p := by
  funext a
  fin_cases a
  · exact Fin.ext (Nat.lt_one_iff.mp (x 0).isLt)
  · exact Fin.ext (Nat.lt_one_iff.mp (x 1).isLt)
  · exact Fin.ext hk.symm
  · exact Fin.ext hp.symm

/-- A key slot's index, by its position and its lane. -/
theorem key_idx (x : S1x1024x128.Idx) (p : Fin 1024) (k : Fin 128) (hp : p.val = (x 1).val) (hk : k.val = (x 2).val) :
    x = ix3 0 p k := by
  funext a
  fin_cases a
  · exact Fin.ext (Nat.lt_one_iff.mp (x 0).isLt)
  · exact Fin.ext hp.symm
  · exact Fin.ext hk.symm

variable (c : Dev nD) (t : Fin cfg0.N) (b : Fin 4) (P : Fin 4096)

theorem qm_tile (h : Fin 8) (k : Fin 128) (n : ℕ) (hs : S1024x1024.Slices ![0, n] S1024x128) (x : S1x1x128x1024.Idx)
    (eb : b.val = t.val / 4) (eP : P.val = t.val % 4 * 1024 + (x 3).val) (en : n = h.val * 128) (ek : k.val = (x 2).val) :
    turned (extractStridedSlice S1024x128 ![0, n] (qBlk m c t) hs) x = (row m c b P).qm h k := by
  have hx3 : (x 3).val < 1024 := (x 3).isLt
  rw [turned_idx x k ⟨(x 3).val, hx3⟩ ek rfl, turned_at]
  exact (slice_at (qBlk m c t) hs _ k ⟨n + k.val, by omega⟩ rfl).trans ((qBlk_at m c t b P _ eb eP _).trans
    ((row m c b P).qm_slot h k _ (by simp only []; omega)))

theorem qg_tile (h : Fin 8) (k : Fin 128) (n : ℕ) (hs : S1024x2816.Slices ![0, n] S1024x128) (x : S1x1x128x1024.Idx)
    (eb : b.val = t.val / 4) (eP : P.val = t.val % 4 * 1024 + (x 3).val) (en : n = 1280 + h.val * 128) (ek : k.val = (x 2).val) :
    turned (extractStridedSlice S1024x128 ![0, n] (projBlk m c t) hs) x = (row m c b P).qg h k := by
  have hx3 : (x 3).val < 1024 := (x 3).isLt
  rw [turned_idx x k ⟨(x 3).val, hx3⟩ ek rfl, turned_at]
  exact (slice_at (projBlk m c t) hs _ k ⟨n + k.val, by omega⟩ rfl).trans ((projBlk_at m c t b P _ eb eP _).trans
    ((row m c b P).qg_slot h k _ (by simp only []; omega)))

theorem four_tile (j : Fin 512) (y : S1x1024x512.Idx)
    (eb : b.val = t.val / 4) (eP : P.val = t.val % 4 * 1024 + (y 1).val) (ej : j.val = (y 2).val) :
    k0_pay4 (projBlk m c t) y = (row m c b P).four j := by
  have hy1 : (y 1).val < 1024 := (y 1).isLt
  have hy : y = ix3 0 ⟨(y 1).val, hy1⟩ j := by
    funext a
    fin_cases a
    · exact Fin.ext (Nat.lt_one_iff.mp (y 0).isLt)
    · rfl
    · exact Fin.ext ej.symm
  have hp : ∀ (Q : FVec Ideal S1024x2816 .f32) (p : Fin 1024), k0_pay4 Q (ix3 0 p j) = Q (ix2 p ⟨2304 + j, by omega⟩) :=
    fun Q p => by pointwise [k0_pay4]
  rw [hy, hp]
  exact (projBlk_at m c t b P _ eb eP _).trans ((row m c b P).four_slot j _ rfl)

theorem one_at' (Q : FVec Ideal S1x128 .f32) (k : Fin 128) : k0_pay6 Q (ix2 0 k) = Q (ix2 0 k) := by
  pointwise [k0_pay6]

theorem gain_at (Q : FVec Ideal S1x128 .f32) (k : Fin 128) : k0_pay12 Q (ix2 0 k) = Q (ix2 0 k) := by
  pointwise [k0_pay12]

theorem vm_tile (h : Fin 8) (k : Fin 128) (n : ℕ) (hs : S1024x2048.Slices ![0, n] S1024x128) (x : S1x1x128x1024.Idx)
    (eb : b.val = t.val / 4) (eP : P.val = t.val % 4 * 1024 + (x 3).val) (en : n = 1024 + h.val * 128) (ek : k.val = (x 2).val) :
    valued (extractStridedSlice S1024x128 ![0, n] (kvBlk m c t) hs) (k0_pay6 (rowLd m c t 9 inb_S16x128_S1x128_9_0)) x
      = (row m c b P).vm h k := by
  have hx3 : (x 3).val < 1024 := (x 3).isLt
  rw [turned_idx x k ⟨(x 3).val, hx3⟩ ek rfl, valued_at, one_at']
  exact (congrArg₂ (· + ·) ((slice_at (kvBlk m c t) hs _ k ⟨n + k.val, by omega⟩ rfl).trans (kvBlk_at m c t b P _ eb eP _))
    ((rowLd_at m c t 9 _ k).trans (value_one_buf m c b P k))).trans ((row m c b P).vm_slot h k _ (by simp only []; omega))

theorem vg_tile (h : Fin 2) (k : Fin 128) (n : ℕ) (hs : S1024x2816.Slices ![0, n] S1024x128) (x : S1x1x128x1024.Idx)
    (eb : b.val = t.val / 4) (eP : P.val = t.val % 4 * 1024 + (x 3).val) (en : n = 640 + h.val * 128) (ek : k.val = (x 2).val) :
    valued (extractStridedSlice S1024x128 ![0, n] (projBlk m c t) hs) (k0_pay6 (rowLd m c t 9 inb_S16x128_S1x128_9_0)) x
      = (row m c b P).vg h k := by
  have hx3 : (x 3).val < 1024 := (x 3).isLt
  rw [turned_idx x k ⟨(x 3).val, hx3⟩ ek rfl, valued_at, one_at']
  exact (congrArg₂ (· + ·) ((slice_at (projBlk m c t) hs _ k ⟨n + k.val, by omega⟩ rfl).trans (projBlk_at m c t b P _ eb eP _))
    ((rowLd_at m c t 9 _ k).trans (value_one_buf m c b P k))).trans ((row m c b P).vg_slot h k _ (by simp only []; omega))

theorem kg_tile (h : Fin 2) (k : Fin 128) (n : ℕ) (hs : S1024x2816.Slices ![0, n] S1024x128) (x : S1x1024x128.Idx)
    (eb : b.val = t.val / 4) (eP : P.val = t.val % 4 * 1024 + (x 1).val) (en : n = 384 + h.val * 128) (ek : k.val = (x 2).val) :
    groupedKey (extractStridedSlice S1024x128 ![0, n] (projBlk m c t) hs) (rowLd m c t 3 inb_S16x128_S1x128_3_0)
        (turnLd m c t 0 inb_S2x1024x128_S1x1024x128_0_0_0) (rowLd m c t 4 inb_S16x128_S1x128_4_0)
        (turnLd m c t 1 inb_S2x1024x128_S1x1024x128_1_0_0) (rowLd m c t 8 inb_S16x128_S1x128_8_0) x
      = (row m c b P).kg h k := by
  have hx1 : (x 1).val < 1024 := (x 1).isLt
  rw [key_idx x ⟨(x 1).val, hx1⟩ k rfl ek, groupedKey_at]
  refine gqaKey_eq _ _ _ _ _ _ (fun k : Fin 64 => (row m c b P).proj ⟨288 + (h * 64 + k), by omega⟩) (row m c b P).gg
    (row m c b P).cg (row m c b P).sg (row m c b P).zg (fun k => ?_) (fun k => ?_) (fun k => ?_) (fun k => ?_) (fun k => ?_)
    (fun k => ?_) k
  · exact (slice_at (projBlk m c t) hs _ k ⟨n + k.val, by omega⟩ rfl).trans ((projBlk_at m c t b P _ eb eP _).trans
      ((row m c b P).grouped_slot h k _ (by simp only []; omega)))
  · exact (rowLd_at m c t 3 _ k).trans (grouped_gain_buf m c b P k)
  · exact (rowLd_at m c t 4 _ k).trans (swapped_gain_buf m c b P k)
  · exact (turnLd_at m c t 0 _ P _ k eP).trans (cosine_buf m c b P k)
  · exact (turnLd_at m c t 1 _ P _ k eP).trans (sine_buf m c b P k)
  · exact (rowLd_at m c t 8 _ k).trans (grouped_score_buf m c b P k)

theorem km_tile (h : Fin 8) (k : Fin 128) (n : ℕ) (hs : S1024x2048.Slices ![0, n] S1024x128) (x : S1x1024x128.Idx)
    (eb : b.val = t.val / 4) (eP : P.val = t.val % 4 * 1024 + (x 1).val) (en : n = h.val * 128) (ek : k.val = (x 2).val) :
    latentKey (extractStridedSlice S1024x128 ![0, n] (kvBlk m c t) hs) (k0_pay12 (rowLd m c t 0 inb_S16x128_S1x128_0_0))
        (k0_pay13 (projBlk m c t) (rowLd m c t 0 inb_S16x128_S1x128_0_0) (angleLd m c t 0 inb_S3x1024x128_S1x1024x128_0_0_0)
          (angleLd m c t 1 inb_S3x1024x128_S1x1024x128_1_0_0) (angleLd m c t 2 inb_S3x1024x128_S1x1024x128_2_0_0))
        (k0_pay14 (projBlk m c t)) (rowLd m c t 7 inb_S16x128_S1x128_7_0) x
      = (row m c b P).km h k := by
  have hx1 : (x 1).val < 1024 := (x 1).isLt
  rw [key_idx x ⟨(x 1).val, hx1⟩ k rfl ek, latentKey_at, rotated_at, shared_squares, squares_at, gain_at]
  refine Eq.trans ?_ (mlaKey_eq (fun k => extractStridedSlice S1024x128 ![0, n] (kvBlk m c t) hs (ix2 ⟨(x 1).val, hx1⟩ k))
    (fun k => k0_pay11 (projBlk m c t) (ix2 ⟨(x 1).val, hx1⟩ k))
    (fun k => rowLd m c t 0 inb_S16x128_S1x128_0_0 (ix2 0 k))
    (fun k => angleLd m c t 0 inb_S3x1024x128_S1x1024x128_0_0_0 (ix3 0 ⟨(x 1).val, hx1⟩ k))
    (fun k => angleLd m c t 1 inb_S3x1024x128_S1x1024x128_1_0_0 (ix3 0 ⟨(x 1).val, hx1⟩ k))
    (fun k => angleLd m c t 2 inb_S3x1024x128_S1x1024x128_2_0_0 (ix3 0 ⟨(x 1).val, hx1⟩ k))
    (fun k => rowLd m c t 7 inb_S16x128_S1x128_7_0 (ix2 0 k)) ((row m c b P).mlaLanes h) (row m c b P).gm
    (row m c b P).cm (row m c b P).sm (row m c b P).zm (fun k => ?_) (fun k => ?_) (fun k => ?_) (fun k => ?_) (fun k => ?_)
    (fun k => ?_) (fun k => ?_) k)
  · rfl
  · exact (slice_at (kvBlk m c t) hs _ k ⟨n + k.val, by omega⟩ rfl).trans ((kvBlk_at m c t b P _ eb eP _).trans
      ((row m c b P).own_slot h k _ (by simp only []; omega)))
  · exact (slice_at (projBlk m c t) slices_S1024x2816_o0_256_S1024x128 _ k ⟨256 + k.val, by omega⟩ rfl).trans
      ((projBlk_at m c t b P _ eb eP _).trans ((row m c b P).shared_slot h k _ rfl))
  · exact (rowLd_at m c t 0 _ k).trans (key_gain_buf m c b P k)
  · exact (angleLd_at m c t 0 _ P _ k eP).trans (cos_buf m c b P k)
  · exact (angleLd_at m c t 1 _ P _ k eP).trans (sin_buf m c b P k)
  · exact (angleLd_at m c t 2 _ P _ k eP).trans (sin_buf' m c b P k)
  · exact (rowLd_at m c t 7 _ k).trans (key_score_buf m c b P k)

end Cert.InprojIdeal.Block

end
-- ==== Proof.InprojFinal.lean ====
/- The input projection's latent queries, grouped queries, values and Fourier lanes, entry by entry. -/
module

public import proofs.«01_k».proof.Proof.InprojTiles

@[expose] public section

set_option maxRecDepth 16384

noncomputable section

namespace Cert.InprojIdeal.Block

open Cert.InprojIdeal Cert.InprojIdeal.Gen Cert.InprojMath Idealize.ShloMosaic Idealize.ShloMosaic.TcCoe

variable (m : (ℓ : Loc nD τ sig) → Buf (Elt Ideal) ℓ)

/-- The latent queries' block at an index. -/
theorem qm_point (c : Dev nD) (t : Fin cfg0.N) (y : S1x8x128x1024.Idx) (b : Fin 4) (P : Fin 4096) (h : Fin 8) (k : Fin 128)
    (eb : b.val = t.val / 4) (eP : P.val = t.val % 4 * 1024 + (y 3).val) (eh : h.val = (y 1).val) (ek : k.val = (y 2).val) :
    (outsAt0 m c t).2.2.2.2.1 y = (row m c b P).qm h k := by
  unfold outsAt0 out0_A_15
  dsimp only
  rw [View.read_writes_eq_canon _ _ _ (cover0_A_15 c (grid0.coords t)
    (ms0_0 t) (hs0_0 t) (ms0_1 t) (hs0_1 t) (ms0_2 t) (hs0_2 t) (ms0_3 t) (hs0_3 t) (ms0_4 t) (hs0_4 t) (ms0_5 t) (hs0_5 t)
    (ms0_6 t) (hs0_6 t) (ms0_7 t) (hs0_7 t) (ms0_8 t) (hs0_8 t) (ms0_9 t) (hs0_9 t) (ms0_10 t) (hs0_10 t) (ms0_11 t) (hs0_11 t)
    (ms0_12 t) (hs0_12 t) (ms0_13 t) (hs0_13 t) (ms0_14 t) (hs0_14 t) (ms0_15 t) (hs0_15 t) (ms0_16 t) (hs0_16 t) (ms0_17 t)
    (hs0_17 t)
    (iblk m c 0 t) (iblk m c 1 t) (iblk m c 2 t) (iblk m c 3 t) (iblk m c 4 t) (iblk m c 5 t) (iblk m c 6 t) (iblk m c 7 t)
    (iblk m c 8 t) (iblk m c 9 t) (iblk m c 10 t))]
  unfold kernelRun0_A
  dsimp only
  sl_unfold_words
  simp only [View.readAt_eq_ld, (hs0_0 t).read_unread, (hs0_1 t).read_unread, (hs0_2 t).read_unread, (hs0_3 t).read_unread, (hs0_4 t).read_unread, (hs0_5
    t).read_unread, (hs0_6 t).read_unread, (hs0_7 t).read_unread, (hs0_8 t).read_unread, (hs0_9 t).read_unread, (hs0_10
    t).read_unread]
  canon_tiles x h'
  · exact qm_tile m c t b P h k 896 _ x eb (by omega) (by omega) (by omega)
  · exact qm_tile m c t b P h k 768 _ x eb (by omega) (by omega) (by omega)
  · exact qm_tile m c t b P h k 640 _ x eb (by omega) (by omega) (by omega)
  · exact qm_tile m c t b P h k 512 _ x eb (by omega) (by omega) (by omega)
  · exact qm_tile m c t b P h k 384 _ x eb (by omega) (by omega) (by omega)
  · exact qm_tile m c t b P h k 256 _ x eb (by omega) (by omega) (by omega)
  · exact qm_tile m c t b P h k 128 _ x eb (by omega) (by omega) (by omega)
  · exact qm_tile m c t b P h k 0 _ x eb (by omega) (by omega) (by omega)

theorem qm_final (c : Dev nD) : (dats m 0 c).arrAt 15 cfg0.N = fun y : S4x8x128x4096.Idx =>
    (row m c ⟨(y 0).val, (y 0).isLt⟩ ⟨(y 3).val, (y 3).isLt⟩).qm ⟨(y 1).val, (y 1).isLt⟩ ⟨(y 2).val, (y 2).isLt⟩ := by
  refine (dats m 0 c).arrAt_eq_of_covers 15 _ (by decide +kernel) fun t hf y => ?_
  blk_simp
  rw [after0_15]
  have ht : t.val < 16 := lt_of_lt_of_eq t.isLt N_0
  refine qm_point m c t y _ _ _ _ ?_ ?_ ?_ ?_
  all_goals (blk_simp [idx t] <;> try omega)

/-- The grouped queries' block at an index. -/
theorem qg_point (c : Dev nD) (t : Fin cfg0.N) (y : S1x8x128x1024.Idx) (b : Fin 4) (P : Fin 4096) (h : Fin 8) (k : Fin 128)
    (eb : b.val = t.val / 4) (eP : P.val = t.val % 4 * 1024 + (y 3).val) (eh : h.val = (y 1).val) (ek : k.val = (y 2).val) :
    (outsAt0 m c t).2.2.2.2.2.1 y = (row m c b P).qg h k := by
  unfold outsAt0 out0_A_16
  dsimp only
  rw [View.read_writes_eq_canon _ _ _ (cover0_A_16 c (grid0.coords t)
    (ms0_0 t) (hs0_0 t) (ms0_1 t) (hs0_1 t) (ms0_2 t) (hs0_2 t) (ms0_3 t) (hs0_3 t) (ms0_4 t) (hs0_4 t) (ms0_5 t) (hs0_5 t)
    (ms0_6 t) (hs0_6 t) (ms0_7 t) (hs0_7 t) (ms0_8 t) (hs0_8 t) (ms0_9 t) (hs0_9 t) (ms0_10 t) (hs0_10 t) (ms0_11 t) (hs0_11 t)
    (ms0_12 t) (hs0_12 t) (ms0_13 t) (hs0_13 t) (ms0_14 t) (hs0_14 t) (ms0_15 t) (hs0_15 t) (ms0_16 t) (hs0_16 t) (ms0_17 t)
    (hs0_17 t)
    (iblk m c 0 t) (iblk m c 1 t) (iblk m c 2 t) (iblk m c 3 t) (iblk m c 4 t) (iblk m c 5 t) (iblk m c 6 t) (iblk m c 7 t)
    (iblk m c 8 t) (iblk m c 9 t) (iblk m c 10 t))]
  unfold kernelRun0_A
  dsimp only
  sl_unfold_words
  simp only [View.readAt_eq_ld, (hs0_0 t).read_unread, (hs0_1 t).read_unread, (hs0_2 t).read_unread, (hs0_3 t).read_unread, (hs0_4 t).read_unread, (hs0_5
    t).read_unread, (hs0_6 t).read_unread, (hs0_7 t).read_unread, (hs0_8 t).read_unread, (hs0_9 t).read_unread, (hs0_10
    t).read_unread]
  canon_tiles x h'
  · exact qg_tile m c t b P h k 2176 _ x eb (by omega) (by omega) (by omega)
  · exact qg_tile m c t b P h k 2048 _ x eb (by omega) (by omega) (by omega)
  · exact qg_tile m c t b P h k 1920 _ x eb (by omega) (by omega) (by omega)
  · exact qg_tile m c t b P h k 1792 _ x eb (by omega) (by omega) (by omega)
  · exact qg_tile m c t b P h k 1664 _ x eb (by omega) (by omega) (by omega)
  · exact qg_tile m c t b P h k 1536 _ x eb (by omega) (by omega) (by omega)
  · exact qg_tile m c t b P h k 1408 _ x eb (by omega) (by omega) (by omega)
  · exact qg_tile m c t b P h k 1280 _ x eb (by omega) (by omega) (by omega)

theorem qg_final (c : Dev nD) : (dats m 0 c).arrAt 16 cfg0.N = fun y : S4x8x128x4096.Idx =>
    (row m c ⟨(y 0).val, (y 0).isLt⟩ ⟨(y 3).val, (y 3).isLt⟩).qg ⟨(y 1).val, (y 1).isLt⟩ ⟨(y 2).val, (y 2).isLt⟩ := by
  refine (dats m 0 c).arrAt_eq_of_covers 16 _ (by decide +kernel) fun t hf y => ?_
  blk_simp
  rw [after0_16]
  have ht : t.val < 16 := lt_of_lt_of_eq t.isLt N_0
  refine qg_point m c t y _ _ _ _ ?_ ?_ ?_ ?_
  all_goals (blk_simp [idx t] <;> try omega)

/-- The latent values' block at an index. -/
theorem vm_point (c : Dev nD) (t : Fin cfg0.N) (y : S1x8x128x1024.Idx) (b : Fin 4) (P : Fin 4096) (h : Fin 8) (k : Fin 128)
    (eb : b.val = t.val / 4) (eP : P.val = t.val % 4 * 1024 + (y 3).val) (eh : h.val = (y 1).val) (ek : k.val = (y 2).val) :
    (outsAt0 m c t).2.1 y = (row m c b P).vm h k := by
  unfold outsAt0 out0_A_12
  dsimp only
  rw [View.read_writes_eq_canon _ _ _ (cover0_A_12 c (grid0.coords t)
    (ms0_0 t) (hs0_0 t) (ms0_1 t) (hs0_1 t) (ms0_2 t) (hs0_2 t) (ms0_3 t) (hs0_3 t) (ms0_4 t) (hs0_4 t) (ms0_5 t) (hs0_5 t)
    (ms0_6 t) (hs0_6 t) (ms0_7 t) (hs0_7 t) (ms0_8 t) (hs0_8 t) (ms0_9 t) (hs0_9 t) (ms0_10 t) (hs0_10 t) (ms0_11 t) (hs0_11 t)
    (ms0_12 t) (hs0_12 t) (ms0_13 t) (hs0_13 t) (ms0_14 t) (hs0_14 t) (ms0_15 t) (hs0_15 t) (ms0_16 t) (hs0_16 t) (ms0_17 t)
    (hs0_17 t)
    (iblk m c 0 t) (iblk m c 1 t) (iblk m c 2 t) (iblk m c 3 t) (iblk m c 4 t) (iblk m c 5 t) (iblk m c 6 t) (iblk m c 7 t)
    (iblk m c 8 t) (iblk m c 9 t) (iblk m c 10 t))]
  unfold kernelRun0_A
  dsimp only
  sl_unfold_words
  simp only [View.readAt_eq_ld, (hs0_0 t).read_unread, (hs0_1 t).read_unread, (hs0_2 t).read_unread, (hs0_3 t).read_unread, (hs0_4 t).read_unread, (hs0_5
    t).read_unread, (hs0_6 t).read_unread, (hs0_7 t).read_unread, (hs0_8 t).read_unread, (hs0_9 t).read_unread, (hs0_10
    t).read_unread]
  canon_tiles x h'
  · exact vm_tile m c t b P h k 1920 _ x eb (by omega) (by omega) (by omega)
  · exact vm_tile m c t b P h k 1792 _ x eb (by omega) (by omega) (by omega)
  · exact vm_tile m c t b P h k 1664 _ x eb (by omega) (by omega) (by omega)
  · exact vm_tile m c t b P h k 1536 _ x eb (by omega) (by omega) (by omega)
  · exact vm_tile m c t b P h k 1408 _ x eb (by omega) (by omega) (by omega)
  · exact vm_tile m c t b P h k 1280 _ x eb (by omega) (by omega) (by omega)
  · exact vm_tile m c t b P h k 1152 _ x eb (by omega) (by omega) (by omega)
  · exact vm_tile m c t b P h k 1024 _ x eb (by omega) (by omega) (by omega)

theorem vm_final (c : Dev nD) : (dats m 0 c).arrAt 12 cfg0.N = fun y : S4x8x128x4096.Idx =>
    (row m c ⟨(y 0).val, (y 0).isLt⟩ ⟨(y 3).val, (y 3).isLt⟩).vm ⟨(y 1).val, (y 1).isLt⟩ ⟨(y 2).val, (y 2).isLt⟩ := by
  refine (dats m 0 c).arrAt_eq_of_covers 12 _ (by decide +kernel) fun t hf y => ?_
  blk_simp
  rw [after0_12]
  have ht : t.val < 16 := lt_of_lt_of_eq t.isLt N_0
  refine vm_point m c t y _ _ _ _ ?_ ?_ ?_ ?_
  all_goals (blk_simp [idx t] <;> try omega)

/-- The grouped values' block at an index. -/
theorem vg_point (c : Dev nD) (t : Fin cfg0.N) (y : S1x2x128x1024.Idx) (b : Fin 4) (P : Fin 4096) (h : Fin 2) (k : Fin 128)
    (eb : b.val = t.val / 4) (eP : P.val = t.val % 4 * 1024 + (y 3).val) (eh : h.val = (y 1).val) (ek : k.val = (y 2).val) :
    (outsAt0 m c t).2.2.2.1 y = (row m c b P).vg h k := by
  unfold outsAt0 out0_A_14
  dsimp only
  rw [View.read_writes_eq_canon _ _ _ (cover0_A_14 c (grid0.coords t)
    (ms0_0 t) (hs0_0 t) (ms0_1 t) (hs0_1 t) (ms0_2 t) (hs0_2 t) (ms0_3 t) (hs0_3 t) (ms0_4 t) (hs0_4 t) (ms0_5 t) (hs0_5 t)
    (ms0_6 t) (hs0_6 t) (ms0_7 t) (hs0_7 t) (ms0_8 t) (hs0_8 t) (ms0_9 t) (hs0_9 t) (ms0_10 t) (hs0_10 t) (ms0_11 t) (hs0_11 t)
    (ms0_12 t) (hs0_12 t) (ms0_13 t) (hs0_13 t) (ms0_14 t) (hs0_14 t) (ms0_15 t) (hs0_15 t) (ms0_16 t) (hs0_16 t) (ms0_17 t)
    (hs0_17 t)
    (iblk m c 0 t) (iblk m c 1 t) (iblk m c 2 t) (iblk m c 3 t) (iblk m c 4 t) (iblk m c 5 t) (iblk m c 6 t) (iblk m c 7 t)
    (iblk m c 8 t) (iblk m c 9 t) (iblk m c 10 t))]
  unfold kernelRun0_A
  dsimp only
  sl_unfold_words
  simp only [View.readAt_eq_ld, (hs0_0 t).read_unread, (hs0_1 t).read_unread, (hs0_2 t).read_unread, (hs0_3 t).read_unread, (hs0_4 t).read_unread, (hs0_5
    t).read_unread, (hs0_6 t).read_unread, (hs0_7 t).read_unread, (hs0_8 t).read_unread, (hs0_9 t).read_unread, (hs0_10
    t).read_unread]
  canon_tiles x h'
  · exact vg_tile m c t b P h k 768 _ x eb (by omega) (by omega) (by omega)
  · exact vg_tile m c t b P h k 640 _ x eb (by omega) (by omega) (by omega)

theorem vg_final (c : Dev nD) : (dats m 0 c).arrAt 14 cfg0.N = fun y : S4x2x128x4096.Idx =>
    (row m c ⟨(y 0).val, (y 0).isLt⟩ ⟨(y 3).val, (y 3).isLt⟩).vg ⟨(y 1).val, (y 1).isLt⟩ ⟨(y 2).val, (y 2).isLt⟩ := by
  refine (dats m 0 c).arrAt_eq_of_covers 14 _ (by decide +kernel) fun t hf y => ?_
  blk_simp
  rw [after0_14]
  have ht : t.val < 16 := lt_of_lt_of_eq t.isLt N_0
  refine vg_point m c t y _ _ _ _ ?_ ?_ ?_ ?_
  all_goals (blk_simp [idx t] <;> try omega)

/-- The Fourier lanes' block at an index. -/
theorem four_point (c : Dev nD) (t : Fin cfg0.N) (y : S1x1024x512.Idx) (b : Fin 4) (P : Fin 4096) (j : Fin 512)
    (eb : b.val = t.val / 4) (eP : P.val = t.val % 4 * 1024 + (y 1).val) (ej : j.val = (y 2).val) :
    (outsAt0 m c t).2.2.2.2.2.2 y = (row m c b P).four j := by
  unfold outsAt0 out0_A_17
  dsimp only
  rw [View.read_writes_eq_canon _ _ _ (cover0_A_17 c (grid0.coords t)
    (ms0_0 t) (hs0_0 t) (ms0_1 t) (hs0_1 t) (ms0_2 t) (hs0_2 t) (ms0_3 t) (hs0_3 t) (ms0_4 t) (hs0_4 t) (ms0_5 t) (hs0_5 t)
    (ms0_6 t) (hs0_6 t) (ms0_7 t) (hs0_7 t) (ms0_8 t) (hs0_8 t) (ms0_9 t) (hs0_9 t) (ms0_10 t) (hs0_10 t) (ms0_11 t) (hs0_11 t)
    (ms0_12 t) (hs0_12 t) (ms0_13 t) (hs0_13 t) (ms0_14 t) (hs0_14 t) (ms0_15 t) (hs0_15 t) (ms0_16 t) (hs0_16 t) (ms0_17 t)
    (hs0_17 t)
    (iblk m c 0 t) (iblk m c 1 t) (iblk m c 2 t) (iblk m c 3 t) (iblk m c 4 t) (iblk m c 5 t) (iblk m c 6 t) (iblk m c 7 t)
    (iblk m c 8 t) (iblk m c 9 t) (iblk m c 10 t))]
  unfold kernelRun0_A
  dsimp only
  sl_unfold_words
  simp only [View.readAt_eq_ld, (hs0_0 t).read_unread, (hs0_1 t).read_unread, (hs0_2 t).read_unread, (hs0_3 t).read_unread, (hs0_4 t).read_unread, (hs0_5
    t).read_unread, (hs0_6 t).read_unread, (hs0_7 t).read_unread, (hs0_8 t).read_unread, (hs0_9 t).read_unread, (hs0_10
    t).read_unread]
  refine (congrFun (View.canon_cons_unit_lit (S := S1x1024x512) inb_S1x1024x512_S1x1024x512_0_0_0 _ []
    (by intro a; fin_cases a <;> rfl)) y).trans ?_
  exact four_tile m c t b P j y eb eP ej

theorem four_final (c : Dev nD) : (dats m 0 c).arrAt 17 cfg0.N = fun y : S4x4096x512.Idx =>
    (row m c ⟨(y 0).val, (y 0).isLt⟩ ⟨(y 1).val, (y 1).isLt⟩).four ⟨(y 2).val, (y 2).isLt⟩ := by
  refine (dats m 0 c).arrAt_eq_of_covers 17 _ (by decide +kernel) fun t hf y => ?_
  blk_simp
  rw [after0_17]
  have ht : t.val < 16 := lt_of_lt_of_eq t.isLt N_0
  refine four_point m c t y _ _ _ ?_ ?_ ?_
  all_goals (blk_simp [idx t] <;> try omega)

end Cert.InprojIdeal.Block

end
-- ==== Proof.InprojKeys.lean ====
/- The input projection's keys, entry by entry. -/
module

public import proofs.«01_k».proof.Proof.InprojTiles

@[expose] public section

set_option maxRecDepth 16384

noncomputable section

namespace Cert.InprojIdeal.Block

open Cert.InprojIdeal Cert.InprojIdeal.Gen Cert.InprojMath Idealize.ShloMosaic Idealize.ShloMosaic.TcCoe

variable (m : (ℓ : Loc nD τ sig) → Buf (Elt Ideal) ℓ)

/-- The grouped keys' block at an index. -/
theorem kg_point (c : Dev nD) (t : Fin cfg0.N) (y : S1x1024x256.Idx) (b : Fin 4) (P : Fin 4096) (h : Fin 2) (k : Fin 128)
    (eb : b.val = t.val / 4) (eP : P.val = t.val % 4 * 1024 + (y 1).val) (eJ : h.val * 128 + k.val = (y 2).val) :
    (outsAt0 m c t).2.2.1 y = (row m c b P).kg h k := by
  unfold outsAt0 out0_A_13
  dsimp only
  rw [View.read_writes_eq_canon _ _ _ (cover0_A_13 c (grid0.coords t)
    (ms0_0 t) (hs0_0 t) (ms0_1 t) (hs0_1 t) (ms0_2 t) (hs0_2 t) (ms0_3 t) (hs0_3 t) (ms0_4 t) (hs0_4 t) (ms0_5 t) (hs0_5 t)
    (ms0_6 t) (hs0_6 t) (ms0_7 t) (hs0_7 t) (ms0_8 t) (hs0_8 t) (ms0_9 t) (hs0_9 t) (ms0_10 t) (hs0_10 t) (ms0_11 t) (hs0_11 t)
    (ms0_12 t) (hs0_12 t) (ms0_13 t) (hs0_13 t) (ms0_14 t) (hs0_14 t) (ms0_15 t) (hs0_15 t) (ms0_16 t) (hs0_16 t) (ms0_17 t)
    (hs0_17 t)
    (iblk m c 0 t) (iblk m c 1 t) (iblk m c 2 t) (iblk m c 3 t) (iblk m c 4 t) (iblk m c 5 t) (iblk m c 6 t) (iblk m c 7 t)
    (iblk m c 8 t) (iblk m c 9 t) (iblk m c 10 t))]
  unfold kernelRun0_A
  dsimp only
  sl_unfold_words
  simp only [View.readAt_eq_ld, (hs0_0 t).read_unread, (hs0_1 t).read_unread, (hs0_2 t).read_unread, (hs0_3 t).read_unread, (hs0_4 t).read_unread, (hs0_5
    t).read_unread, (hs0_6 t).read_unread, (hs0_7 t).read_unread, (hs0_8 t).read_unread, (hs0_9 t).read_unread, (hs0_10
    t).read_unread]
  canon_tiles x h'
  · exact kg_tile m c t b P h k 512 slices_S1024x2816_o0_512_S1024x128 x eb (by omega) (by omega) (by omega)
  · exact kg_tile m c t b P h k 384 slices_S1024x2816_o0_384_S1024x128 x eb (by omega) (by omega) (by omega)

theorem kg_final (c : Dev nD) : (dats m 0 c).arrAt 13 cfg0.N = fun y : S4x4096x256.Idx =>
    (row m c ⟨(y 0).val, (y 0).isLt⟩ ⟨(y 1).val, (y 1).isLt⟩).kg
      ⟨(y 2).val / 128, by have : (y 2).val < 256 := (y 2).isLt; omega⟩ ⟨(y 2).val % 128, by omega⟩ := by
  refine (dats m 0 c).arrAt_eq_of_covers 13 _ (by decide +kernel) fun t hf y => ?_
  blk_simp
  rw [after0_13]
  have ht : t.val < 16 := lt_of_lt_of_eq t.isLt N_0
  refine kg_point m c t y _ _ _ _ ?_ ?_ ?_
  all_goals (blk_simp [idx t] <;> first | omega | exact Nat.div_add_mod' _ _)

/-- The latent keys' block at an index. -/
theorem km_point (c : Dev nD) (t : Fin cfg0.N) (y : S1x1024x1024.Idx) (b : Fin 4) (P : Fin 4096) (h : Fin 8) (k : Fin 128)
    (eb : b.val = t.val / 4) (eP : P.val = t.val % 4 * 1024 + (y 1).val) (eJ : h.val * 128 + k.val = (y 2).val) :
    (outsAt0 m c t).1 y = (row m c b P).km h k := by
  unfold outsAt0 out0_A_11
  dsimp only
  rw [View.read_writes_eq_canon _ _ _ (cover0_A_11 c (grid0.coords t)
    (ms0_0 t) (hs0_0 t) (ms0_1 t) (hs0_1 t) (ms0_2 t) (hs0_2 t) (ms0_3 t) (hs0_3 t) (ms0_4 t) (hs0_4 t) (ms0_5 t) (hs0_5 t)
    (ms0_6 t) (hs0_6 t) (ms0_7 t) (hs0_7 t) (ms0_8 t) (hs0_8 t) (ms0_9 t) (hs0_9 t) (ms0_10 t) (hs0_10 t) (ms0_11 t) (hs0_11 t)
    (ms0_12 t) (hs0_12 t) (ms0_13 t) (hs0_13 t) (ms0_14 t) (hs0_14 t) (ms0_15 t) (hs0_15 t) (ms0_16 t) (hs0_16 t) (ms0_17 t)
    (hs0_17 t)
    (iblk m c 0 t) (iblk m c 1 t) (iblk m c 2 t) (iblk m c 3 t) (iblk m c 4 t) (iblk m c 5 t) (iblk m c 6 t) (iblk m c 7 t)
    (iblk m c 8 t) (iblk m c 9 t) (iblk m c 10 t))]
  unfold kernelRun0_A
  dsimp only
  sl_unfold_words
  simp only [View.readAt_eq_ld, (hs0_0 t).read_unread, (hs0_1 t).read_unread, (hs0_2 t).read_unread, (hs0_3 t).read_unread, (hs0_4 t).read_unread, (hs0_5
    t).read_unread, (hs0_6 t).read_unread, (hs0_7 t).read_unread, (hs0_8 t).read_unread, (hs0_9 t).read_unread, (hs0_10
    t).read_unread]
  canon_tiles x h'
  · exact km_tile m c t b P h k 896 slices_S1024x2048_o0_896_S1024x128 x eb (by omega) (by omega) (by omega)
  · exact km_tile m c t b P h k 768 slices_S1024x2048_o0_768_S1024x128 x eb (by omega) (by omega) (by omega)
  · exact km_tile m c t b P h k 640 slices_S1024x2048_o0_640_S1024x128 x eb (by omega) (by omega) (by omega)
  · exact km_tile m c t b P h k 512 slices_S1024x2048_o0_512_S1024x128 x eb (by omega) (by omega) (by omega)
  · exact km_tile m c t b P h k 384 slices_S1024x2048_o0_384_S1024x128 x eb (by omega) (by omega) (by omega)
  · exact km_tile m c t b P h k 256 slices_S1024x2048_o0_256_S1024x128 x eb (by omega) (by omega) (by omega)
  · exact km_tile m c t b P h k 128 slices_S1024x2048_o0_128_S1024x128 x eb (by omega) (by omega) (by omega)
  · exact km_tile m c t b P h k 0 slices_S1024x2048_o0_0_S1024x128 x eb (by omega) (by omega) (by omega)

theorem km_final (c : Dev nD) : (dats m 0 c).arrAt 11 cfg0.N = fun y : S4x4096x1024.Idx =>
    (row m c ⟨(y 0).val, (y 0).isLt⟩ ⟨(y 1).val, (y 1).isLt⟩).km
      ⟨(y 2).val / 128, by have : (y 2).val < 1024 := (y 2).isLt; omega⟩ ⟨(y 2).val % 128, by omega⟩ := by
  refine (dats m 0 c).arrAt_eq_of_covers 11 _ (by decide +kernel) fun t hf y => ?_
  blk_simp
  rw [after0_11]
  have ht : t.val < 16 := lt_of_lt_of_eq t.isLt N_0
  refine km_point m c t y _ _ _ _ ?_ ?_ ?_
  all_goals (blk_simp [idx t] <;> first | omega | exact Nat.div_add_mod' _ _)

end Cert.InprojIdeal.Block

end
-- ==== Proof.InprojRef.lean ====
/- The reference input projection, each of its arrays read at an index. -/
module

public import proofs.«01_k».proof.Proof.Gen.InprojRefIdeal.Run
public import proofs.«01_k».proof.Proof.InprojMath
public import Idealize.ShloMosaic.Lib.Pointwise
public import Idealize.ShloMosaic.Lib.Tactic.CleanTypes

@[expose] public section

set_option maxRecDepth 16384

noncomputable section

namespace Cert.InprojRefIdeal.Stages

open Cert.InprojRefIdeal Cert.InprojRefIdeal.Gen Cert.InprojRefIdeal.Value Cert.FfnMath Cert.InprojMath Idealize.ShloMosaic

variable (V0 : Valuation τ sig (Elt Ideal))

/-- What the projection of batch `b`'s position `P` is made of. -/
def row (b : Fin 4) (P : Fin 4096) : Row where
  x k := V0 (Proc.devRef .tc main_arg0) (ix3 b P k)
  g k := V0 (Proc.devRef .tc main_arg2) (ix2 0 k)
  sc k := V0 (Proc.devRef .tc main_arg1) (ix2 ⟨b.val, by omega⟩ ⟨1024 + k.val, by omega⟩)
  sh k := V0 (Proc.devRef .tc main_arg1) (ix2 ⟨b.val, by omega⟩ ⟨k.val, by omega⟩)
  w k j := V0 (Proc.devRef .tc main_arg3) (ix3 0 k ⟨j.val, by omega⟩)
  gkv k := V0 (Proc.devRef .tc main_arg4) (ix2 0 k)
  gq k := V0 (Proc.devRef .tc main_arg5) (ix2 0 k)
  wkv k j := V0 (Proc.devRef .tc main_arg6) (ix3 0 k j)
  wq k j := V0 (Proc.devRef .tc main_arg7) (ix3 0 k j)
  gm k := V0 (Proc.devRef .tc main_arg8) (ix2 0 k)
  gg k := V0 (Proc.devRef .tc main_arg9) (ix2 0 k)
  cm k := V0 (Proc.devRef .tc main_arg10) (ix2 P k)
  sm k := V0 (Proc.devRef .tc main_arg11) (ix2 P k)
  cg k := V0 (Proc.devRef .tc main_arg12) (ix2 P k)
  sg k := V0 (Proc.devRef .tc main_arg13) (ix2 P k)
  zm := V0 (Proc.devRef .tc main_arg14) (ix1 0)
  zg := V0 (Proc.devRef .tc main_arg15) (ix1 0)

theorem proj_at (b : Fin 4) (P : Fin 4096) (j : Fin 1952) : res_main_v32 V0 (ix3 b P j) = (row V0 b P).proj j := by
  unfold Row.proj row modulated
  pointwise [res_main_v32, res_main_v1]

theorem kv_at (b : Fin 4) (P : Fin 4096) (h : Fin 8) (k : Fin 128) :
    res_main_v58 V0 (ix4 b P h k) = (row V0 b P).kv ⟨h * 128 + k, by omega⟩ := by
  have e : ∀ k : Fin 256, res_main_v33 V0 (ix3 b P k) = (row V0 b P).proj ⟨k, by omega⟩ := fun k => by
    rw [← proj_at]
    pointwise [res_main_v33]
  unfold Row.kv Row.normed
  simp only [← e]
  unfold row
  pointwise [res_main_v58]

theorem lanes_at (b : Fin 4) (P : Fin 4096) (h : Fin 8) (k : Fin 96) :
    res_main_v63 V0 (ix4 b P h k) = (row V0 b P).mlaLanes h k := by
  unfold Row.mlaLanes
  simp only [← proj_at]
  rw [show (if hk : k.val < 64 then (row V0 b P).kv ⟨h * 128 + k, by omega⟩ else res_main_v32 V0 (ix3 b P ⟨256 + (k - 64), by omega⟩))
    = if hk : k.val < 64 then res_main_v58 V0 (ix4 b P h ⟨k, by omega⟩) else res_main_v32 V0 (ix3 b P ⟨256 + (k - 64), by omega⟩) from by
      split_ifs <;> [rw [kv_at]; rfl]]
  pointwise [res_main_v63]

theorem normed_at (b : Fin 4) (P : Fin 4096) (h : Fin 8) (k : Fin 96) :
    res_main_v78 V0 (ix4 b P h k) = Cert.MlaMath.normed ((row V0 b P).mlaLanes h) (row V0 b P).gm k := by
  unfold Cert.MlaMath.normed
  simp only [← lanes_at]
  unfold row
  pointwise [res_main_v78]

theorem grouped_at (b : Fin 4) (P : Fin 4096) (h : Fin 2) (k : Fin 64) :
    res_main_v79 V0 (ix4 b P h k) = (row V0 b P).proj ⟨288 + (h * 64 + k), by omega⟩ := by
  rw [← proj_at]
  pointwise [res_main_v79]

theorem grouped_normed_at (b : Fin 4) (P : Fin 4096) (h : Fin 2) (k : Fin 64) :
    res_main_v94 V0 (ix4 b P h k)
      = Cert.GqaMath.normed (fun k => (row V0 b P).proj ⟨288 + (h * 64 + k), by omega⟩) (row V0 b P).gg k := by
  unfold Cert.GqaMath.normed
  simp only [← grouped_at]
  unfold row
  pointwise [res_main_v94]

theorem km_at (b : Fin 4) (P : Fin 4096) (h : Fin 8) (k : Fin 128) :
    val4 V0 (Proc.devRef .tc main_v164) (ix3 b P ⟨h * 128 + k, by omega⟩) = (row V0 b P).km h k := by
  rw [val4_main_v164]
  unfold Row.km mlaSlot Cert.MlaMath.rotated
  simp only [← normed_at]
  unfold row
  pointwise [res_main_v100, res_main_v101, res_main_v98, res_main_v99, res_main_v97]
  by_cases h1 : k.val < 64
  · simp only [h1, show k.val < 96 by omega, ↓reduceDIte]
  by_cases h2 : k.val < 80
  · simp only [h1, h2, show k.val < 96 by omega, show k.val - 64 < 16 by omega, show 64 + (k.val - 64) = k.val by omega,
      show 64 + (16 + (k.val - 64)) = k.val + 16 by omega, ↓reduceDIte]
  by_cases h3 : k.val < 96
  · simp only [h1, h2, h3, show ¬ k.val - 64 < 16 by omega, show 64 + (16 + (k.val - 64 - 16)) = k.val by omega,
      show k.val - 64 - 16 = k.val - 80 by omega, show 64 + (16 + (k.val - 80)) = k.val by omega,
      show 64 + (k.val - 80) = k.val - 16 by omega, ↓reduceDIte]
  by_cases h4 : k.val = 96
  · simp only [h4, ↓reduceDIte, ↓reduceIte, Nat.lt_irrefl, Nat.sub_self, Nat.zero_lt_one]
  · simp only [h3, h4, show ¬ k.val - 96 < 1 by omega, ↓reduceDIte, ↓reduceIte]

theorem kg_at (b : Fin 4) (P : Fin 4096) (h : Fin 2) (k : Fin 128) :
    val4 V0 (Proc.devRef .tc main_v177) (ix3 b P ⟨h * 128 + k, by omega⟩) = (row V0 b P).kg h k := by
  rw [val4_main_v177]
  unfold Row.kg gqaSlot Cert.GqaMath.rotated
  simp only [← grouped_normed_at]
  unfold row
  pointwise [res_main_v120, res_main_v121, res_main_v118, res_main_v119]
  by_cases h1 : k.val < 32
  · simp only [h1, show k.val < 64 by omega, show 32 + k.val = k.val + 32 by omega, ↓reduceDIte]
  by_cases h2 : k.val < 64
  · simp only [h1, h2, show 32 + (k.val - 32) = k.val by omega, ↓reduceDIte]
  by_cases h3 : k.val = 64
  · simp only [h3, ↓reduceDIte, ↓reduceIte, Nat.lt_irrefl, Nat.sub_self, Nat.zero_lt_one]
  · simp only [h2, h3, show ¬ k.val - 64 < 1 by omega, ↓reduceDIte, ↓reduceIte]

theorem vm_at (b : Fin 4) (P : Fin 4096) (h : Fin 8) (k : Fin 128) :
    val4 V0 (Proc.devRef .tc main_v169) (ix4 b h k P) = (row V0 b P).vm h k := by
  rw [val4_main_v169]
  unfold Row.vm
  have e : ∀ hk : k.val < 64, (row V0 b P).kv ⟨h * 128 + (64 + k), by omega⟩ = res_main_v58 V0 (ix4 b P h ⟨64 + k, by omega⟩) :=
    fun hk => (kv_at V0 b P h ⟨64 + k, by omega⟩).symm
  generalize (row V0 b P).kv = f at e
  pointwise []
  by_cases h2 : k.val < 64
  · simp only [h2, ↓reduceDIte]
    exact (e h2).symm
  by_cases h3 : k.val = 64
  · simp only [h3, ↓reduceDIte, ↓reduceIte, Nat.lt_irrefl, Nat.sub_self, Nat.zero_lt_one]
  · simp only [h2, h3, show ¬ k.val - 64 < 1 by omega, ↓reduceDIte, ↓reduceIte]

theorem vg_at (b : Fin 4) (P : Fin 4096) (h : Fin 2) (k : Fin 128) :
    val4 V0 (Proc.devRef .tc main_v182) (ix4 b h k P) = (row V0 b P).vg h k := by
  rw [val4_main_v182]
  unfold Row.vg
  simp only [← proj_at]
  pointwise []
  by_cases h2 : k.val < 64
  · simp only [h2, ↓reduceDIte]
  by_cases h3 : k.val = 64
  · simp only [h3, ↓reduceDIte, ↓reduceIte, Nat.lt_irrefl, Nat.sub_self, Nat.zero_lt_one]
  · simp only [h2, h3, show ¬ k.val - 64 < 1 by omega, ↓reduceDIte, ↓reduceIte]

theorem qm_at (b : Fin 4) (P : Fin 4096) (h : Fin 8) (k : Fin 128) :
    val4 V0 (Proc.devRef .tc main_v186) (ix4 b h k P) = (row V0 b P).qm h k := by
  have e : ∀ k : Fin 384, res_main_v37 V0 (ix3 b P k) = (row V0 b P).proj ⟨544 + k, by omega⟩ := fun k => by
    rw [← proj_at]
    pointwise [res_main_v37]
  rw [val4_main_v186]
  unfold Row.qm Row.lq Row.normed
  simp only [← e]
  unfold row
  pointwise []

theorem qg_at (b : Fin 4) (P : Fin 4096) (h : Fin 8) (k : Fin 128) :
    val4 V0 (Proc.devRef .tc main_v189) (ix4 b h k P) = (row V0 b P).qg h k := by
  rw [val4_main_v189]
  unfold Row.qg
  simp only [← proj_at]
  pointwise [res_main_v156]
  by_cases h1 : k.val < 64
  · simp only [h1, show k.val % 64 = k.val by omega, ↓reduceDIte]
  · simp only [h1, show k.val % 64 = k.val - 64 by omega, ↓reduceDIte]

theorem four_at (b : Fin 4) (P : Fin 4096) (j : Fin 512) :
    val4 V0 (Proc.devRef .tc main_v39) (ix3 b P j) = (row V0 b P).four j := by
  rw [val4_main_v39]
  unfold Row.four
  rw [← proj_at]
  pointwise []

end Cert.InprojRefIdeal.Stages

end
-- ==== Proof.InprojClaim.lean ====
/- The input projection's kernel and its reference leave the same results. -/
module

public import proofs.«01_k».proof.Proof.InprojFinal
public import proofs.«01_k».proof.Proof.InprojKeys
public import proofs.«01_k».proof.Proof.InprojRef

@[expose] public section

set_option maxRecDepth 16384

noncomputable section

namespace Cert.InprojClaim

open Idealize.ShloMosaic Idealize.ShloMosaic.StableHlo Idealize.ShloMosaic.TcCoe Cert.InprojRefIdeal.Value Cert.InprojMath

variable (m : (ℓ : Loc Cert.InprojIdeal.nD Cert.InprojIdeal.τ Cert.InprojIdeal.sig) → Buf (Elt Ideal) ℓ)
  (m' : (ℓ : Loc Cert.InprojRefIdeal.nD Cert.InprojRefIdeal.τ Cert.InprojRefIdeal.sig) → Buf (Elt Ideal) ℓ)
  (c : Dev Cert.InprojIdeal.nD)

/-- From memories agreeing on the arguments, both projections are made of the same rows. -/
theorem rows_eq
    (h0 : m' ((c.tc : Thread Cert.InprojRefIdeal.nD Cert.InprojRefIdeal.τ).loc Cert.InprojRefIdeal.main_arg0)
      = m ((c.tc : Thread Cert.InprojIdeal.nD Cert.InprojIdeal.τ).loc Cert.InprojIdeal.main_arg0))
    (h1 : m' ((c.tc : Thread Cert.InprojRefIdeal.nD Cert.InprojRefIdeal.τ).loc Cert.InprojRefIdeal.main_arg1)
      = m ((c.tc : Thread Cert.InprojIdeal.nD Cert.InprojIdeal.τ).loc Cert.InprojIdeal.main_arg1))
    (h2 : m' ((c.tc : Thread Cert.InprojRefIdeal.nD Cert.InprojRefIdeal.τ).loc Cert.InprojRefIdeal.main_arg2)
      = m ((c.tc : Thread Cert.InprojIdeal.nD Cert.InprojIdeal.τ).loc Cert.InprojIdeal.main_arg2))
    (h3 : m' ((c.tc : Thread Cert.InprojRefIdeal.nD Cert.InprojRefIdeal.τ).loc Cert.InprojRefIdeal.main_arg3)
      = m ((c.tc : Thread Cert.InprojIdeal.nD Cert.InprojIdeal.τ).loc Cert.InprojIdeal.main_arg3))
    (h4 : m' ((c.tc : Thread Cert.InprojRefIdeal.nD Cert.InprojRefIdeal.τ).loc Cert.InprojRefIdeal.main_arg4)
      = m ((c.tc : Thread Cert.InprojIdeal.nD Cert.InprojIdeal.τ).loc Cert.InprojIdeal.main_arg4))
    (h5 : m' ((c.tc : Thread Cert.InprojRefIdeal.nD Cert.InprojRefIdeal.τ).loc Cert.InprojRefIdeal.main_arg5)
      = m ((c.tc : Thread Cert.InprojIdeal.nD Cert.InprojIdeal.τ).loc Cert.InprojIdeal.main_arg5))
    (h6 : m' ((c.tc : Thread Cert.InprojRefIdeal.nD Cert.InprojRefIdeal.τ).loc Cert.InprojRefIdeal.main_arg6)
      = m ((c.tc : Thread Cert.InprojIdeal.nD Cert.InprojIdeal.τ).loc Cert.InprojIdeal.main_arg6))
    (h7 : m' ((c.tc : Thread Cert.InprojRefIdeal.nD Cert.InprojRefIdeal.τ).loc Cert.InprojRefIdeal.main_arg7)
      = m ((c.tc : Thread Cert.InprojIdeal.nD Cert.InprojIdeal.τ).loc Cert.InprojIdeal.main_arg7))
    (h8 : m' ((c.tc : Thread Cert.InprojRefIdeal.nD Cert.InprojRefIdeal.τ).loc Cert.InprojRefIdeal.main_arg8)
      = m ((c.tc : Thread Cert.InprojIdeal.nD Cert.InprojIdeal.τ).loc Cert.InprojIdeal.main_arg8))
    (h9 : m' ((c.tc : Thread Cert.InprojRefIdeal.nD Cert.InprojRefIdeal.τ).loc Cert.InprojRefIdeal.main_arg9)
      = m ((c.tc : Thread Cert.InprojIdeal.nD Cert.InprojIdeal.τ).loc Cert.InprojIdeal.main_arg9))
    (h10 : m' ((c.tc : Thread Cert.InprojRefIdeal.nD Cert.InprojRefIdeal.τ).loc Cert.InprojRefIdeal.main_arg10)
      = m ((c.tc : Thread Cert.InprojIdeal.nD Cert.InprojIdeal.τ).loc Cert.InprojIdeal.main_arg10))
    (h11 : m' ((c.tc : Thread Cert.InprojRefIdeal.nD Cert.InprojRefIdeal.τ).loc Cert.InprojRefIdeal.main_arg11)
      = m ((c.tc : Thread Cert.InprojIdeal.nD Cert.InprojIdeal.τ).loc Cert.InprojIdeal.main_arg11))
    (h12 : m' ((c.tc : Thread Cert.InprojRefIdeal.nD Cert.InprojRefIdeal.τ).loc Cert.InprojRefIdeal.main_arg12)
      = m ((c.tc : Thread Cert.InprojIdeal.nD Cert.InprojIdeal.τ).loc Cert.InprojIdeal.main_arg12))
    (h13 : m' ((c.tc : Thread Cert.InprojRefIdeal.nD Cert.InprojRefIdeal.τ).loc Cert.InprojRefIdeal.main_arg13)
      = m ((c.tc : Thread Cert.InprojIdeal.nD Cert.InprojIdeal.τ).loc Cert.InprojIdeal.main_arg13))
    (h14 : m' ((c.tc : Thread Cert.InprojRefIdeal.nD Cert.InprojRefIdeal.τ).loc Cert.InprojRefIdeal.main_arg14)
      = m ((c.tc : Thread Cert.InprojIdeal.nD Cert.InprojIdeal.τ).loc Cert.InprojIdeal.main_arg14))
    (h15 : m' ((c.tc : Thread Cert.InprojRefIdeal.nD Cert.InprojRefIdeal.τ).loc Cert.InprojRefIdeal.main_arg15)
      = m ((c.tc : Thread Cert.InprojIdeal.nD Cert.InprojIdeal.τ).loc Cert.InprojIdeal.main_arg15))
    (b : Fin 4) (P : Fin 4096) :
    Cert.InprojRefIdeal.Stages.row (launchContents m' c) b P = Cert.InprojIdeal.Block.row m c b P := by
  simp only [Cert.InprojRefIdeal.Stages.row, Cert.InprojIdeal.Block.row, Row.mk.injEq]
  exact ⟨funext fun _ => congrFun h0 _, funext fun _ => congrFun h2 _, funext fun _ => congrFun h1 _,
    funext fun _ => congrFun h1 _, funext fun _ => funext fun _ => congrFun h3 _, funext fun _ => congrFun h4 _,
    funext fun _ => congrFun h5 _, funext fun _ => funext fun _ => congrFun h6 _, funext fun _ => funext fun _ => congrFun h7 _,
    funext fun _ => congrFun h8 _, funext fun _ => congrFun h9 _, funext fun _ => congrFun h10 _,
    funext fun _ => congrFun h11 _, funext fun _ => congrFun h12 _, funext fun _ => congrFun h13 _,
    congrFun h14 _, congrFun h15 _⟩

theorem km_eq (e : ∀ (b : Fin 4) (P : Fin 4096),
      Cert.InprojRefIdeal.Stages.row (launchContents m' c) b P = Cert.InprojIdeal.Block.row m c b P) :
    val4 (launchContents m' c) (Proc.devRef .tc Cert.InprojRefIdeal.main_v164)
      = (Cert.InprojIdeal.Gen.dats m 0 c).arrAt 11 Cert.InprojIdeal.cfg0.N := by
  rw [Cert.InprojIdeal.Block.km_final m c]
  funext y
  obtain ⟨b, P, j, rfl⟩ : ∃ (b : Fin 4) (P : Fin 4096) (j : Fin 1024), y = ix3 b P j := ⟨_, _, _, eq_ix3 y⟩
  obtain ⟨h, k, rfl⟩ : ∃ (h : Fin 8) (k : Fin 128), j = ⟨h * 128 + k, by omega⟩ :=
    ⟨⟨j / 128, by omega⟩, ⟨j % 128, by omega⟩, Fin.ext (by simp only []; omega)⟩
  refine (Cert.InprojRefIdeal.Stages.km_at _ b P h k).trans ((congrArg (fun r : Row => r.km h k) (e b P)).trans ?_)
  exact congrArg₂ (Cert.InprojIdeal.Block.row m c b P).km (Fin.ext (by show h.val = (h.val * 128 + k.val) / 128; omega))
    (Fin.ext (by show k.val = (h.val * 128 + k.val) % 128; omega))

theorem vm_eq (e : ∀ (b : Fin 4) (P : Fin 4096),
      Cert.InprojRefIdeal.Stages.row (launchContents m' c) b P = Cert.InprojIdeal.Block.row m c b P) :
    val4 (launchContents m' c) (Proc.devRef .tc Cert.InprojRefIdeal.main_v169)
      = (Cert.InprojIdeal.Gen.dats m 0 c).arrAt 12 Cert.InprojIdeal.cfg0.N := by
  rw [Cert.InprojIdeal.Block.vm_final m c]
  funext y
  obtain ⟨b, h, k, P, rfl⟩ : ∃ (b : Fin 4) (h : Fin 8) (k : Fin 128) (P : Fin 4096), y = ix4 b h k P := ⟨_, _, _, _, eq_ix4 y⟩
  exact (Cert.InprojRefIdeal.Stages.vm_at _ b P h k).trans (congrArg (fun r : Row => r.vm h k) (e b P))

theorem kg_eq (e : ∀ (b : Fin 4) (P : Fin 4096),
      Cert.InprojRefIdeal.Stages.row (launchContents m' c) b P = Cert.InprojIdeal.Block.row m c b P) :
    val4 (launchContents m' c) (Proc.devRef .tc Cert.InprojRefIdeal.main_v177)
      = (Cert.InprojIdeal.Gen.dats m 0 c).arrAt 13 Cert.InprojIdeal.cfg0.N := by
  rw [Cert.InprojIdeal.Block.kg_final m c]
  funext y
  obtain ⟨b, P, j, rfl⟩ : ∃ (b : Fin 4) (P : Fin 4096) (j : Fin 256), y = ix3 b P j := ⟨_, _, _, eq_ix3 y⟩
  obtain ⟨h, k, rfl⟩ : ∃ (h : Fin 2) (k : Fin 128), j = ⟨h * 128 + k, by omega⟩ :=
    ⟨⟨j / 128, by omega⟩, ⟨j % 128, by omega⟩, Fin.ext (by simp only []; omega)⟩
  refine (Cert.InprojRefIdeal.Stages.kg_at _ b P h k).trans ((congrArg (fun r : Row => r.kg h k) (e b P)).trans ?_)
  exact congrArg₂ (Cert.InprojIdeal.Block.row m c b P).kg (Fin.ext (by show h.val = (h.val * 128 + k.val) / 128; omega))
    (Fin.ext (by show k.val = (h.val * 128 + k.val) % 128; omega))

theorem vg_eq (e : ∀ (b : Fin 4) (P : Fin 4096),
      Cert.InprojRefIdeal.Stages.row (launchContents m' c) b P = Cert.InprojIdeal.Block.row m c b P) :
    val4 (launchContents m' c) (Proc.devRef .tc Cert.InprojRefIdeal.main_v182)
      = (Cert.InprojIdeal.Gen.dats m 0 c).arrAt 14 Cert.InprojIdeal.cfg0.N := by
  rw [Cert.InprojIdeal.Block.vg_final m c]
  funext y
  obtain ⟨b, h, k, P, rfl⟩ : ∃ (b : Fin 4) (h : Fin 2) (k : Fin 128) (P : Fin 4096), y = ix4 b h k P := ⟨_, _, _, _, eq_ix4 y⟩
  exact (Cert.InprojRefIdeal.Stages.vg_at _ b P h k).trans (congrArg (fun r : Row => r.vg h k) (e b P))

theorem qm_eq (e : ∀ (b : Fin 4) (P : Fin 4096),
      Cert.InprojRefIdeal.Stages.row (launchContents m' c) b P = Cert.InprojIdeal.Block.row m c b P) :
    val4 (launchContents m' c) (Proc.devRef .tc Cert.InprojRefIdeal.main_v186)
      = (Cert.InprojIdeal.Gen.dats m 0 c).arrAt 15 Cert.InprojIdeal.cfg0.N := by
  rw [Cert.InprojIdeal.Block.qm_final m c]
  funext y
  obtain ⟨b, h, k, P, rfl⟩ : ∃ (b : Fin 4) (h : Fin 8) (k : Fin 128) (P : Fin 4096), y = ix4 b h k P := ⟨_, _, _, _, eq_ix4 y⟩
  exact (Cert.InprojRefIdeal.Stages.qm_at _ b P h k).trans (congrArg (fun r : Row => r.qm h k) (e b P))

theorem qg_eq (e : ∀ (b : Fin 4) (P : Fin 4096),
      Cert.InprojRefIdeal.Stages.row (launchContents m' c) b P = Cert.InprojIdeal.Block.row m c b P) :
    val4 (launchContents m' c) (Proc.devRef .tc Cert.InprojRefIdeal.main_v189)
      = (Cert.InprojIdeal.Gen.dats m 0 c).arrAt 16 Cert.InprojIdeal.cfg0.N := by
  rw [Cert.InprojIdeal.Block.qg_final m c]
  funext y
  obtain ⟨b, h, k, P, rfl⟩ : ∃ (b : Fin 4) (h : Fin 8) (k : Fin 128) (P : Fin 4096), y = ix4 b h k P := ⟨_, _, _, _, eq_ix4 y⟩
  exact (Cert.InprojRefIdeal.Stages.qg_at _ b P h k).trans (congrArg (fun r : Row => r.qg h k) (e b P))

theorem four_eq (e : ∀ (b : Fin 4) (P : Fin 4096),
      Cert.InprojRefIdeal.Stages.row (launchContents m' c) b P = Cert.InprojIdeal.Block.row m c b P) :
    val4 (launchContents m' c) (Proc.devRef .tc Cert.InprojRefIdeal.main_v39)
      = (Cert.InprojIdeal.Gen.dats m 0 c).arrAt 17 Cert.InprojIdeal.cfg0.N := by
  rw [Cert.InprojIdeal.Block.four_final m c]
  funext y
  obtain ⟨b, P, j, rfl⟩ : ∃ (b : Fin 4) (P : Fin 4096) (j : Fin 512), y = ix3 b P j := ⟨_, _, _, eq_ix3 y⟩
  exact (Cert.InprojRefIdeal.Stages.four_at _ b P j).trans (congrArg (fun r : Row => r.four j) (e b P))

end Cert.InprojClaim

end
-- ==== Proof.MergeMath.lean ====
/- The branch merge at one position: three gated projections, summed, projected and added to the input. -/
module

public import proofs.«01_k».proof.Proof.FfnMath

@[expose] public section

noncomputable section

namespace Cert.MergeMath

open Idealize.ShloMosaic Cert.FfnMath

/-- Gate `j` of a modulated row `h`. -/
def opening (h : Fin 1024 → EReal) (w : Fin 1024 → Fin 3072 → EReal) (j : Fin 3072) : EReal :=
  Ideal.div 1 (1 + Ideal.exp (-∑ k, h k * w k j))

/-- The three branches' projections at lane `e`, each times its gate. -/
def blend (h : Fin 1024 → EReal) (w : Fin 1024 → Fin 3072 → EReal) (A B C : Fin 512 → EReal)
    (wa wb wc : Fin 512 → Fin 1024 → EReal) (e : Fin 1024) : EReal :=
  opening h w ⟨e.val, by omega⟩ * (∑ l, A l * wa l e) + opening h w ⟨1024 + e.val, by omega⟩ * (∑ l, B l * wb l e)
    + opening h w ⟨2048 + e.val, by omega⟩ * ∑ l, C l * wc l e

/-- The merge's output at lane `d`. -/
def merged (x g sc sh gt : Fin 1024 → EReal) (w : Fin 1024 → Fin 3072 → EReal) (A B C : Fin 512 → EReal)
    (wa wb wc : Fin 512 → Fin 1024 → EReal) (wo : Fin 1024 → Fin 1024 → EReal) (d : Fin 1024) : EReal :=
  x d + gt d * ∑ e, blend (modulated x g sc sh) w A B C wa wb wc e * wo e d

end Cert.MergeMath

end
-- ==== Proof.MergeBlock.lean ====
/- One block of the branch merge, read entry by entry from what its loads hold. -/
module

public import proofs.«01_k».proof.Proof.Gen.MergeIdeal.Value
public import proofs.«01_k».proof.Proof.MergeMath
public import Idealize.ShloMosaic.Lib.Pipeline.ValueKit
public import Idealize.ShloMosaic.Lib.Pointwise

@[expose] public section

set_option maxRecDepth 16384

noncomputable section

namespace Cert.MergeIdeal.Block

open Cert.MergeIdeal Cert.MergeIdeal.Gen Cert.FfnMath Cert.MergeMath Idealize.ShloMosaic

/-- A modulated row of a block. -/
theorem row_at (v1 v3 : Vec Ideal S1x1024 .f32) (v6 : Vec Ideal S1x1024x1024 .f32) (v8 : Vec Ideal S1x1024 .f32)
    (p k : Fin 1024) :
    k0_pay3 v1 v3 v6 v8 (ix2 p k)
      = modulated (fun k => v6 (ix3 0 p k)) (fun k => v8 (ix2 0 k)) (fun k => v3 (ix2 0 k)) (fun k => v1 (ix2 0 k)) k := by
  unfold modulated
  pointwise [k0_pay3, k0_pay2]
  rw [mul_inv_eq_div]

/-- The first two branches' part of the blend. -/
theorem two_at (v28 : FVec Ideal S1024x1024 .bf16) (v29 v31 : Vec Ideal S1x1024x512 .bf16) (v36 v50 : Vec Ideal S1024x1024 .bf16)
    (v46 v60 : Vec Ideal S1x512x1024 .bf16) (p e : Fin 1024) :
    k0_pay7 v28 (k0_pay4 v29) (k0_pay5 v31) v36 v46 v50 v60 (ix2 p e)
      = Ideal.div 1 (1 + Ideal.exp (-∑ k, v28 (ix2 p k) * v36 (ix2 e k))) * (∑ l, v29 (ix3 0 p l) * v46 (ix3 0 l e))
        + Ideal.div 1 (1 + Ideal.exp (-∑ k, v28 (ix2 p k) * v50 (ix2 e k))) * ∑ l, v31 (ix3 0 p l) * v60 (ix3 0 l e) := by
  pointwise [k0_pay7, k0_pay4, k0_pay5]
  simp only [zero_sub]

/-- The stored block from the modulated rows. -/
theorem out_at (v5 : Vec Ideal S1x1024 .f32) (v6 : Vec Ideal S1x1024x1024 .f32) (v33 : Vec Ideal S1x1024x512 .f32)
    (v64 : FVec Ideal S1024x1024 .f32) (v28 : FVec Ideal S1024x1024 .bf16) (v65 : Vec Ideal S1024x1024 .bf16)
    (v75 : Vec Ideal S1x512x1024 .bf16) (v81 : Vec Ideal S1x1024x1024 .bf16) (p d : Fin 1024) :
    k0_pay1 v5 (k0_pay2 v6) (k0_pay6 v33) v64 (k0_pay8 v28 v65) k0_pay9 v75 v81 (ix3 0 p d)
      = v6 (ix3 0 p d) + v5 (ix2 0 d) * ∑ e, (v64 (ix2 p e)
          + Ideal.div 1 (1 + Ideal.exp (-∑ k, v28 (ix2 p k) * v65 (ix2 e k))) * ∑ l, v33 (ix3 0 p l) * v75 (ix3 0 l e))
          * v81 (ix3 0 e d) := by
  pointwise [k0_pay1, k0_pay2, k0_pay6, k0_pay8, k0_pay9]
  simp only [zero_sub]

/-- The stored block is the merge of its positions, from what the loads hold. -/
theorem block_at (x g sc sh gt : Fin 1024 → EReal) (w : Fin 1024 → Fin 3072 → EReal) (A B C : Fin 512 → EReal)
    (wa wb wc : Fin 512 → Fin 1024 → EReal) (wo : Fin 1024 → Fin 1024 → EReal)
    (v1 v3 v5 : Vec Ideal S1x1024 .f32) (v6 : Vec Ideal S1x1024x1024 .f32) (v8 : Vec Ideal S1x1024 .f32)
    (v29 v31 : Vec Ideal S1x1024x512 .bf16) (v33 : Vec Ideal S1x1024x512 .f32) (v36 v50 v65 : Vec Ideal S1024x1024 .bf16)
    (v46 v60 v75 : Vec Ideal S1x512x1024 .bf16) (v81 : Vec Ideal S1x1024x1024 .bf16) (p d : Fin 1024)
    (h1 : ∀ k, v1 (ix2 0 k) = sh k) (h3 : ∀ k, v3 (ix2 0 k) = sc k) (h5 : ∀ k, v5 (ix2 0 k) = gt k)
    (h6 : ∀ k, v6 (ix3 0 p k) = x k) (h8 : ∀ k, v8 (ix2 0 k) = g k)
    (h29 : ∀ l, v29 (ix3 0 p l) = A l) (h31 : ∀ l, v31 (ix3 0 p l) = B l) (h33 : ∀ l, v33 (ix3 0 p l) = C l)
    (h36 : ∀ e k, v36 (ix2 e k) = w k ⟨e.val, by omega⟩) (h50 : ∀ e k, v50 (ix2 e k) = w k ⟨1024 + e.val, by omega⟩)
    (h65 : ∀ e k, v65 (ix2 e k) = w k ⟨2048 + e.val, by omega⟩)
    (h46 : ∀ l e, v46 (ix3 0 l e) = wa l e) (h60 : ∀ l e, v60 (ix3 0 l e) = wb l e) (h75 : ∀ l e, v75 (ix3 0 l e) = wc l e)
    (h81 : ∀ e d, v81 (ix3 0 e d) = wo e d) :
    k0_pay1 v5 (k0_pay2 v6) (k0_pay6 v33)
        (k0_pay7 (k0_pay3 v1 v3 v6 v8) (k0_pay4 v29) (k0_pay5 v31) v36 v46 v50 v60)
        (k0_pay8 (k0_pay3 v1 v3 v6 v8) v65) k0_pay9 v75 v81 (ix3 0 p d)
      = merged x g sc sh gt w A B C wa wb wc wo d := by
  have e1 : (fun k => v1 (ix2 0 k)) = sh := funext h1
  have e3 : (fun k => v3 (ix2 0 k)) = sc := funext h3
  have e6 : (fun k => v6 (ix3 0 p k)) = x := funext h6
  have e8 : (fun k => v8 (ix2 0 k)) = g := funext h8
  rw [out_at, h6, h5]
  simp only [two_at, row_at, e1, e3, e6, e8, h29, h31, h33, h36, h50, h65, h46, h60, h75, h81]
  rfl

end Cert.MergeIdeal.Block

end
-- ==== Proof.MergeFinal.lean ====
/- The branch merge's result array, entry by entry. -/
module

public import proofs.«01_k».proof.Proof.MergeBlock
public import Idealize.ShloMosaic.Lib.Claim
public import Idealize.ShloMosaic.Lib.StableHlo.ReadAt
public import Idealize.ShloMosaic.Lib.Pipeline.ValueKit
public import Idealize.ShloMosaic.Lib.Pointwise

@[expose] public section

set_option maxRecDepth 16384

noncomputable section

namespace Cert.MergeIdeal.Block

open Cert.MergeIdeal Cert.MergeIdeal.Gen Cert.FfnMath Cert.MergeMath Idealize.ShloMosaic Idealize.ShloMosaic.TcCoe

variable (m : (ℓ : Loc nD τ sig) → Buf (Elt Ideal) ℓ)

/-- The result at batch `b`, position `P`, channel `d`: the merge of the arguments. -/
def joined (c : Dev nD) (b : Fin 4) (P : Fin 4096) (d : Fin 1024) : EReal :=
  merged (fun k => m ((c : Thread nD τ).loc main_arg0) (ix3 b P k)) (fun k => m ((c : Thread nD τ).loc main_arg2) (ix2 0 k))
    (fun k => m ((c : Thread nD τ).loc main_arg1) (ix2 ⟨b.val, by omega⟩ ⟨1024 + k.val, by omega⟩))
    (fun k => m ((c : Thread nD τ).loc main_arg1) (ix2 ⟨b.val, by omega⟩ ⟨k.val, by omega⟩))
    (fun k => m ((c : Thread nD τ).loc main_arg1) (ix2 ⟨b.val, by omega⟩ ⟨2048 + k.val, by omega⟩))
    (fun k j => m ((c : Thread nD τ).loc main_arg6) (ix3 0 k ⟨1952 + j.val, by omega⟩))
    (fun l => m ((c : Thread nD τ).loc main_arg3) (ix3 b P l)) (fun l => m ((c : Thread nD τ).loc main_arg4) (ix3 b P l))
    (fun l => m ((c : Thread nD τ).loc main_arg5) (ix3 b P l)) (fun l e => m ((c : Thread nD τ).loc main_arg7) (ix3 0 l e))
    (fun l e => m ((c : Thread nD τ).loc main_arg8) (ix3 0 l e)) (fun l e => m ((c : Thread nD τ).loc main_arg9) (ix3 0 l e))
    (fun e d => m ((c : Thread nD τ).loc main_arg10) (ix3 0 e d)) d

theorem gain_buf (c : Dev nD) (k : Fin 1024) : V m c main_v6 (ix2 0 k) = m ((c : Thread nD τ).loc main_arg2) (ix2 0 k) := by
  unfold V
  repeat (first | after_reads_at | simp only [StableHlo.unary_result', StableHlo.nullary_result', StableHlo.binary_result',
    StableHlo.nary_result', StableHlo.reshape_result'])

theorem gate_buf (c : Dev nD) (j : Fin 3072) (k : Fin 1024) : V m c main_v7 (ix2 j k) = m ((c : Thread nD τ).loc main_arg6) (ix3 0 k ⟨1952 + j.val, by omega⟩) := by
  unfold V
  repeat (first | after_reads_at | simp only [StableHlo.unary_result', StableHlo.nullary_result', StableHlo.binary_result',
    StableHlo.nary_result', StableHlo.reshape_result'])

theorem mla_buf (c : Dev nD) (a : Fin 2) (l : Fin 512) (e : Fin 1024) : V m c main_v8 (ix3 a l e) = m ((c : Thread nD τ).loc main_arg7) (ix3 a l e) := by
  unfold V
  repeat (first | after_reads_at | simp only [StableHlo.unary_result', StableHlo.nullary_result', StableHlo.binary_result',
    StableHlo.nary_result', StableHlo.reshape_result'])

theorem gqa_buf (c : Dev nD) (a : Fin 2) (l : Fin 512) (e : Fin 1024) : V m c main_v9 (ix3 a l e) = m ((c : Thread nD τ).loc main_arg8) (ix3 a l e) := by
  unfold V
  repeat (first | after_reads_at | simp only [StableHlo.unary_result', StableHlo.nullary_result', StableHlo.binary_result',
    StableHlo.nary_result', StableHlo.reshape_result'])

theorem four_buf (c : Dev nD) (a : Fin 2) (l : Fin 512) (e : Fin 1024) : V m c main_v10 (ix3 a l e) = m ((c : Thread nD τ).loc main_arg9) (ix3 a l e) := by
  unfold V
  repeat (first | after_reads_at | simp only [StableHlo.unary_result', StableHlo.nullary_result', StableHlo.binary_result',
    StableHlo.nary_result', StableHlo.reshape_result'])

theorem last_buf (c : Dev nD) (a : Fin 2) (e d : Fin 1024) : V m c main_v11 (ix3 a e d) = m ((c : Thread nD τ).loc main_arg10) (ix3 a e d) := by
  unfold V
  repeat (first | after_reads_at | simp only [StableHlo.unary_result', StableHlo.nullary_result', StableHlo.binary_result',
    StableHlo.nary_result', StableHlo.reshape_result'])

theorem idx : ∀ t : Fin cfg0.N, win0_0.index t = ![0, 0] ∧ win0_1.index t = ![t.val / 4, t.val % 4, 0]
    ∧ win0_2.index t = ![0, 0] ∧ win0_3.index t = ![t.val / 4, t.val % 4, 0] ∧ win0_4.index t = ![t.val / 4, t.val % 4, 0]
    ∧ win0_5.index t = ![t.val / 4, t.val % 4, 0] ∧ win0_6.index t = ![0, 0] ∧ win0_7.index t = ![0, 0, 0]
    ∧ win0_8.index t = ![0, 0, 0] ∧ win0_9.index t = ![0, 0, 0] ∧ win0_10.index t = ![0, 0, 0]
    ∧ win0_11.index t = ![t.val / 4, t.val % 4, 0] :=
  (by decide +kernel : ∀ t : Fin grid0.N, _)

theorem coords : ∀ t : Fin cfg0.N,
    (BitVec.toNat (Scalar.indexCast (BitVec.ofNat 32 (grid0.coords t 0).val)) : Nat) = t.val / 4 :=
  (by decide +kernel : ∀ t : Fin grid0.N, _)

theorem mod_blk (c : Dev nD) (t : Fin cfg0.N) (a : Fin 8) (k : Fin 6144) :
    iblk m c 0 t (ix2 a k) = m ((c : Thread nD τ).loc main_arg1) (ix2 a k) := by
  rw [← V_main_arg1 m c]
  blk_ext [iblk, idx t]

theorem x_blk (c : Dev nD) (t : Fin cfg0.N) (b : Fin 4) (P : Fin 4096) (p : Fin 1024) (k : Fin 1024)
    (eb : b.val = t.val / 4) (eP : P.val = t.val % 4 * 1024 + p.val) :
    iblk m c 1 t (ix3 0 p k) = m ((c : Thread nD τ).loc main_arg0) (ix3 b P k) := by
  rw [← V_main_arg0 m c]
  blk_ext [iblk, idx t]

theorem o_mla_blk (c : Dev nD) (t : Fin cfg0.N) (b : Fin 4) (P : Fin 4096) (p : Fin 1024) (k : Fin 512)
    (eb : b.val = t.val / 4) (eP : P.val = t.val % 4 * 1024 + p.val) :
    iblk m c 3 t (ix3 0 p k) = m ((c : Thread nD τ).loc main_arg3) (ix3 b P k) := by
  rw [← V_main_arg3 m c]
  blk_ext [iblk, idx t]

theorem o_gqa_blk (c : Dev nD) (t : Fin cfg0.N) (b : Fin 4) (P : Fin 4096) (p : Fin 1024) (k : Fin 512)
    (eb : b.val = t.val / 4) (eP : P.val = t.val % 4 * 1024 + p.val) :
    iblk m c 4 t (ix3 0 p k) = m ((c : Thread nD τ).loc main_arg4) (ix3 b P k) := by
  rw [← V_main_arg4 m c]
  blk_ext [iblk, idx t]

theorem o_four_blk (c : Dev nD) (t : Fin cfg0.N) (b : Fin 4) (P : Fin 4096) (p : Fin 1024) (k : Fin 512)
    (eb : b.val = t.val / 4) (eP : P.val = t.val % 4 * 1024 + p.val) :
    iblk m c 5 t (ix3 0 p k) = m ((c : Thread nD τ).loc main_arg5) (ix3 b P k) := by
  rw [← V_main_arg5 m c]
  blk_ext [iblk, idx t]

theorem gain_blk (c : Dev nD) (t : Fin cfg0.N) (k : Fin 1024) :
    iblk m c 2 t (ix2 0 k) = m ((c : Thread nD τ).loc main_arg2) (ix2 0 k) := by
  rw [← gain_buf m c]
  blk_ext [iblk, idx t]

theorem gate_blk (c : Dev nD) (t : Fin cfg0.N) (j : Fin 3072) (k : Fin 1024) :
    iblk m c 6 t (ix2 j k) = m ((c : Thread nD τ).loc main_arg6) (ix3 0 k ⟨1952 + j.val, by omega⟩) := by
  rw [← gate_buf m c]
  blk_ext [iblk, idx t]

theorem mla_blk (c : Dev nD) (t : Fin cfg0.N) (l : Fin 512) (e : Fin 1024) :
    iblk m c 7 t (ix3 0 l e) = m ((c : Thread nD τ).loc main_arg7) (ix3 0 l e) := by
  rw [← mla_buf m c]
  blk_ext [iblk, idx t]

theorem gqa_blk (c : Dev nD) (t : Fin cfg0.N) (l : Fin 512) (e : Fin 1024) :
    iblk m c 8 t (ix3 0 l e) = m ((c : Thread nD τ).loc main_arg8) (ix3 0 l e) := by
  rw [← gqa_buf m c]
  blk_ext [iblk, idx t]

theorem four_blk (c : Dev nD) (t : Fin cfg0.N) (l : Fin 512) (e : Fin 1024) :
    iblk m c 9 t (ix3 0 l e) = m ((c : Thread nD τ).loc main_arg9) (ix3 0 l e) := by
  rw [← four_buf m c]
  blk_ext [iblk, idx t]

theorem last_blk (c : Dev nD) (t : Fin cfg0.N) (e d : Fin 1024) :
    iblk m c 10 t (ix3 0 e d) = m ((c : Thread nD τ).loc main_arg10) (ix3 0 e d) := by
  rw [← last_buf m c]
  blk_ext [iblk, idx t]

/-- One entry of one block of the result. -/
theorem point (c : Dev nD) (t : Fin cfg0.N) (p d : Fin 1024) (b : Fin 4) (P : Fin 4096)
    (eb : b.val = t.val / 4) (eP : P.val = t.val % 4 * 1024 + p.val) :
    outsAt0 m c t (ix3 0 p d) = joined m c b P d := by
  have hb := coords t
  unfold outsAt0 out0_A_11
  rw [View.read_writes_eq_canon _ _ _ (cover0_A_11 c (grid0.coords t) (ms0_0 t) (hs0_0 t) (ms0_1 t) (hs0_1 t) (ms0_2 t)
    (hs0_2 t) (ms0_3 t) (hs0_3 t) (ms0_4 t) (hs0_4 t) (ms0_5 t) (hs0_5 t) (ms0_6 t) (hs0_6 t) (ms0_7 t) (hs0_7 t)
    (ms0_8 t) (hs0_8 t) (ms0_9 t) (hs0_9 t) (ms0_10 t) (hs0_10 t) (ms0_11 t) (hs0_11 t) (iblk m c 0 t) (iblk m c 1 t)
    (iblk m c 2 t) (iblk m c 3 t) (iblk m c 4 t) (iblk m c 5 t) (iblk m c 6 t) (iblk m c 7 t) (iblk m c 8 t) (iblk m c 9 t)
    (iblk m c 10 t))]
  unfold kernelRun0_A
  dsimp only
  sl_unfold_words
  simp only [View.readAt_eq_ld, (hs0_0 t).read_unread, (hs0_1 t).read_unread, (hs0_2 t).read_unread, (hs0_3 t).read_unread,
    (hs0_4 t).read_unread, (hs0_5 t).read_unread, (hs0_6 t).read_unread, (hs0_7 t).read_unread, (hs0_8 t).read_unread,
    (hs0_9 t).read_unread, (hs0_10 t).read_unread]
  refine (congrFun (View.canon_cons_unit_lit (S := S1x1024x1024) inb_S1x1024x1024_S1x1024x1024_0_0_0 _ []
    (by intro a; fin_cases a <;> rfl)) (ix3 0 p d)).trans ?_
  unfold joined
  refine block_at _ _ _ _ _ _ _ _ _ _ _ _ _ _ _ _ _ _ _ _ _ _ _ _ _ _ _ _ p d
    ?_ ?_ ?_ ?_ ?_ ?_ ?_ ?_ ?_ ?_ ?_ ?_ ?_ ?_ ?_
  · intro k
    refine (View.ld_unit_apply_of _ _ _ _ _ (ix2 ⟨b.val, by omega⟩ ⟨k.val, by omega⟩) fun a => ?_).trans (mod_blk m c t _ _)
    fin_cases a <;> simp [hb, eb]
  · intro k
    refine (View.ld_unit_apply_of _ _ _ _ _ (ix2 ⟨b.val, by omega⟩ ⟨1024 + k.val, by omega⟩) fun a => ?_).trans (mod_blk m c t _ _)
    fin_cases a <;> simp [hb, eb]
  · intro k
    refine (View.ld_unit_apply_of _ _ _ _ _ (ix2 ⟨b.val, by omega⟩ ⟨2048 + k.val, by omega⟩) fun a => ?_).trans (mod_blk m c t _ _)
    fin_cases a <;> simp [hb, eb]
  · intro k
    refine (View.ld_unit_apply_of _ _ _ _ _ (ix3 0 p k) fun a => ?_).trans (x_blk m c t b P p k eb eP)
    fin_cases a <;> simp
  · intro k
    refine (View.ld_unit_apply_of _ _ _ _ _ (ix2 0 k) fun a => ?_).trans (gain_blk m c t k)
    fin_cases a <;> simp
  · intro l
    refine (View.ld_unit_apply_of _ _ _ _ _ (ix3 0 p l) fun a => ?_).trans (o_mla_blk m c t b P p l eb eP)
    fin_cases a <;> simp
  · intro l
    refine (View.ld_unit_apply_of _ _ _ _ _ (ix3 0 p l) fun a => ?_).trans (o_gqa_blk m c t b P p l eb eP)
    fin_cases a <;> simp
  · intro l
    refine (View.ld_unit_apply_of _ _ _ _ _ (ix3 0 p l) fun a => ?_).trans (o_four_blk m c t b P p l eb eP)
    fin_cases a <;> simp
  · intro e k
    refine (View.ld_unit_apply_of _ _ _ _ _ (ix2 ⟨e.val, by omega⟩ k) fun a => ?_).trans (gate_blk m c t _ k)
    fin_cases a <;> simp
  · intro e k
    refine (View.ld_unit_apply_of _ _ _ _ _ (ix2 ⟨1024 + e.val, by omega⟩ k) fun a => ?_).trans (gate_blk m c t _ k)
    fin_cases a <;> simp
  · intro e k
    refine (View.ld_unit_apply_of _ _ _ _ _ (ix2 ⟨2048 + e.val, by omega⟩ k) fun a => ?_).trans (gate_blk m c t _ k)
    fin_cases a <;> simp
  · intro l e
    refine (View.ld_unit_apply_of _ _ _ _ _ (ix3 0 l e) fun a => ?_).trans (mla_blk m c t l e)
    fin_cases a <;> simp
  · intro l e
    refine (View.ld_unit_apply_of _ _ _ _ _ (ix3 0 l e) fun a => ?_).trans (gqa_blk m c t l e)
    fin_cases a <;> simp
  · intro l e
    refine (View.ld_unit_apply_of _ _ _ _ _ (ix3 0 l e) fun a => ?_).trans (four_blk m c t l e)
    fin_cases a <;> simp
  · intro e d
    refine (View.ld_unit_apply_of _ _ _ _ _ (ix3 0 e d) fun a => ?_).trans (last_blk m c t e d)
    fin_cases a <;> simp

/-- One entry of one block, the block's index given whole. -/
theorem point' (c : Dev nD) (t : Fin cfg0.N) (y : S1x1024x1024.Idx) (b : Fin 4) (P : Fin 4096) (d : Fin 1024)
    (eb : b.val = t.val / 4) (eP : P.val = t.val % 4 * 1024 + (y 1).val) (ed : d.val = (y 2).val) :
    outsAt0 m c t y = joined m c b P d := by
  have hy : y = ix3 (0 : Fin 1) ⟨(y 1).val, (y 1).isLt⟩ d := by
    funext a
    fin_cases a
    · exact Fin.ext (Nat.lt_one_iff.mp (y 0).isLt)
    · rfl
    · exact Fin.ext ed.symm
  exact (congrArg (outsAt0 m c t) hy).trans (point m c t _ _ _ _ eb eP)

/-- The result array: the merge of every batch, position and channel. -/
theorem final (c : Dev nD) : (dats m 0 c).arrAt 11 cfg0.N
    = fun y : S4x4096x1024.Idx => joined m c ⟨(y 0).val, (y 0).isLt⟩ ⟨(y 1).val, (y 1).isLt⟩ ⟨(y 2).val, (y 2).isLt⟩ := by
  refine (dats m 0 c).arrAt_eq_of_covers 11 _ (by decide +kernel) fun t hf y => ?_
  blk_simp
  rw [after0_11]
  have ht : t.val < 16 := lt_of_lt_of_eq t.isLt N_0
  refine point' m c t y _ _ _ ?_ ?_ ?_
  all_goals (blk_simp [idx t] <;> try omega)

end Cert.MergeIdeal.Block

end
-- ==== Proof.MergeRef.lean ====
/- The reference branch merge in stages (modulated rows, gates, projections), each read at an index. -/
module

public import proofs.«01_k».proof.Proof.Gen.MergeRefIdeal.Run
public import proofs.«01_k».proof.Proof.MergeMath
public import Idealize.ShloMosaic.Lib.Pointwise
public import Idealize.ShloMosaic.Lib.Tactic.CleanTypes

@[expose] public section

set_option maxRecDepth 16384

noncomputable section

namespace Cert.MergeRefIdeal.Stages

open Cert.MergeRefIdeal Cert.MergeRefIdeal.Gen Cert.MergeRefIdeal.Value Cert.FfnMath Cert.MergeMath Idealize.ShloMosaic

variable {F : FTy → Type} [FloatOps F]

/-- The modulation rows of the four batches. -/
def mods (a : FVec F S8x6144 .f32) : FVec F S4x1x6144 .f32 :=
  broadcastInDim S4x1x6144 ![0, 2] bcast_S4x6144_S4x1x6144_0_2 (extractStridedSlice S4x6144 ![0, 0] a slices_S8x6144_S4x6144_0_0)

/-- One modulation number of every batch and channel, spread over the positions. -/
def spread (x : FVec F S4x1x1024 .f32) : FVec F S4x4096x1024 .f32 :=
  broadcastInDim S4x4096x1024 ![0, 1, 2] bcast_S4x1x1024_S4x4096x1024_0_1_2 x

/-- The inverse root mean square of every row. -/
def scales (x : FVec F S4x4096x1024 .f32) : FVec F S4x4096x1 .f32 :=
  Host.rsqrt (addf
      (Host.divf (broadcastInDim S4x4096x1 ![0, 1] bcast_S4x4096_S4x4096x1_0_1 (Host.reduceAdd (mulf x x)
        (constant S_ .f32 0x00000000#32) reducesTo_S4x4096x1024_S4x4096_d2 h_S_))
        (broadcastInDim S4x4096x1 ![] bcast_S_S4x4096x1 (constant S_ .f32 0x44800000#32)))
      (broadcastInDim S4x4096x1 ![] bcast_S_S4x4096x1 (constant S_ .f32 0x358637BD#32)))

/-- The rows, normalised, scaled and shifted. -/
def rows (x : FVec F S4x4096x1024 .f32) (a : FVec F S4x1x6144 .f32) (g : FVec F S2x1024 .f32) : FVec F S4x4096x1024 .f32 :=
  addf (mulf (mulf (mulf x (broadcastInDim S4x4096x1024 ![0, 1, 2] bcast_S4x4096x1_S4x4096x1024_0_1_2 (scales x)))
    (broadcastInDim S4x4096x1024 ![0, 1, 2] bcast_S1x1x1024_S4x4096x1024_0_1_2 (broadcastInDim S1x1x1024 ![2]
      bcast_S1024_S1x1x1024_2 (shapeCast _ (extractStridedSlice S1x1024 ![0, 0] g slices_S2x1024_S1x1024_0_0)
        shapeCasts_S1x1024_S1024))))
    (spread (addf (broadcastInDim S4x1x1024 ![] bcast_S_S4x1x1024 (constant S_ .f32 0x3F800000#32))
      (extractStridedSlice S4x1x1024 ![0, 0, 1024] a slices_S4x1x6144_S4x1x1024_0_0_1024))))
    (spread (extractStridedSlice S4x1x1024 ![0, 0, 0] a slices_S4x1x6144_S4x1x1024_0_0_0))

/-- The number one, everywhere. -/
def ones : FVec F S4x4096x3072 .f32 := broadcastInDim S4x4096x3072 ![] bcast_S_S4x4096x3072 (constant S_ .f32 0x3F800000#32)

/-- The gates of every position. -/
def openings (r : FVec F S4x4096x1024 .f32) (w : FVec F S2x1024x5024 .f32) : FVec F S4x4096x3072 .f32 :=
  Host.divf ones (addf ones (Host.exp (Host.negf (Host.dotGeneral dot_S4x4096x1024_S1024x3072_S4x4096x3072_2_0_01_1_n_n none r
    (extractStridedSlice S1024x3072 ![0, 1952] (shapeCast _ (extractStridedSlice S1x1024x5024 ![0, 0, 0] w
      slices_S2x1024x5024_S1x1024x5024_0_0_0) shapeCasts_S1x1024x5024_S1024x5024) slices_S1024x5024_S1024x3072_0_1952)))))

/-- One branch's projection. -/
def branch (o : FVec F S4x4096x512 .f32) (w : FVec F S2x512x1024 .f32) : FVec F S4x4096x1024 .f32 :=
  Host.dotGeneral dot_S4x4096x512_S512x1024_S4x4096x1024_2_0_01_1_n_n none o
    (shapeCast _ (extractStridedSlice S1x512x1024 ![0, 0, 0] w slices_S2x512x1024_S1x512x1024_0_0_0)
      shapeCasts_S1x512x1024_S512x1024)

/-- The branches' projections, each times its gate, summed. -/
def blends (g : FVec F S4x4096x3072 .f32) (a b c : FVec F S4x4096x1024 .f32) : FVec F S4x4096x1024 .f32 :=
  addf (addf (mulf (extractStridedSlice S4x4096x1024 ![0, 0, 0] g slices_S4x4096x3072_S4x4096x1024_0_0_0) a)
    (mulf (extractStridedSlice S4x4096x1024 ![0, 0, 1024] g slices_S4x4096x3072_S4x4096x1024_0_0_1024) b))
    (mulf (extractStridedSlice S4x4096x1024 ![0, 0, 2048] g slices_S4x4096x3072_S4x4096x1024_0_0_2048) c)

/-- The blend projected, gated and added to the input. -/
def out (x : FVec F S4x4096x1024 .f32) (a : FVec F S4x1x6144 .f32) (y : FVec F S4x4096x1024 .f32) (w : FVec F S2x1024x1024 .f32) :
    FVec F S4x4096x1024 .f32 :=
  addf x (mulf (spread (extractStridedSlice S4x1x1024 ![0, 0, 2048] a slices_S4x1x6144_S4x1x1024_0_0_2048))
    (Host.dotGeneral dot_S4x4096x1024_S1024x1024_S4x4096x1024_2_0_01_1_n_n none y
      (shapeCast _ (extractStridedSlice S1x1024x1024 ![0, 0, 0] w slices_S2x1024x1024_S1x1024x1024_0_0_0)
        shapeCasts_S1x1024x1024_S1024x1024)))

theorem res_eq (m : (ℓ : Loc nD τ sig) → Buf (Elt F) ℓ) (c : Dev nD) :
    res_main_v63 m c = out (m ((c.tc : Thread nD τ).loc main_arg0)) (mods (m ((c.tc : Thread nD τ).loc main_arg1)))
      (blends (openings (rows (m ((c.tc : Thread nD τ).loc main_arg0)) (mods (m ((c.tc : Thread nD τ).loc main_arg1)))
          (m ((c.tc : Thread nD τ).loc main_arg2))) (m ((c.tc : Thread nD τ).loc main_arg6)))
        (branch (extf .f32 (m ((c.tc : Thread nD τ).loc main_arg3)) bitsLt_bf16_f32) (m ((c.tc : Thread nD τ).loc main_arg7)))
        (branch (extf .f32 (m ((c.tc : Thread nD τ).loc main_arg4)) bitsLt_bf16_f32) (m ((c.tc : Thread nD τ).loc main_arg8)))
        (branch (m ((c.tc : Thread nD τ).loc main_arg5)) (m ((c.tc : Thread nD τ).loc main_arg9))))
      (m ((c.tc : Thread nD τ).loc main_arg10)) := by
  unfold res_main_v63; rfl

theorem rows_at (x : FVec Ideal S4x4096x1024 .f32) (a : FVec Ideal S8x6144 .f32) (g : FVec Ideal S2x1024 .f32)
    (b : Fin 4) (P : Fin 4096) (k : Fin 1024) :
    rows x (mods a) g (ix3 b P k) = modulated (fun k => x (ix3 b P k)) (fun k => g (ix2 0 k))
      (fun k => a (ix2 ⟨b.val, by omega⟩ ⟨1024 + k.val, by omega⟩)) (fun k => a (ix2 ⟨b.val, by omega⟩ ⟨k.val, by omega⟩)) k := by
  unfold modulated
  pointwise [rows, scales, mods, spread]

theorem openings_at (r : FVec Ideal S4x4096x1024 .f32) (w : FVec Ideal S2x1024x5024 .f32) (b : Fin 4) (P : Fin 4096) (j : Fin 3072) :
    openings r w (ix3 b P j) = opening (fun k => r (ix3 b P k)) (fun k j => w (ix3 0 k ⟨1952 + j.val, by omega⟩)) j := by
  unfold opening
  pointwise [openings, ones]

theorem branch_at (o : FVec Ideal S4x4096x512 .f32) (w : FVec Ideal S2x512x1024 .f32) (b : Fin 4) (P : Fin 4096) (e : Fin 1024) :
    branch o w (ix3 b P e) = ∑ l, o (ix3 b P l) * w (ix3 0 l e) := by
  pointwise [branch]

theorem wide_at (o : FVec Ideal S4x4096x512 .bf16) (b : Fin 4) (P : Fin 4096) (l : Fin 512) :
    extf .f32 o bitsLt_bf16_f32 (ix3 b P l) = o (ix3 b P l) := by
  pointwise []

theorem blends_at (g : FVec Ideal S4x4096x3072 .f32) (a b c : FVec Ideal S4x4096x1024 .f32) (B : Fin 4) (P : Fin 4096) (e : Fin 1024) :
    blends g a b c (ix3 B P e) = g (ix3 B P ⟨e.val, by omega⟩) * a (ix3 B P e) + g (ix3 B P ⟨1024 + e.val, by omega⟩) * b (ix3 B P e)
      + g (ix3 B P ⟨2048 + e.val, by omega⟩) * c (ix3 B P e) := by
  pointwise [blends]

theorem out_at (x : FVec Ideal S4x4096x1024 .f32) (a : FVec Ideal S8x6144 .f32) (y : FVec Ideal S4x4096x1024 .f32)
    (w : FVec Ideal S2x1024x1024 .f32) (b : Fin 4) (P : Fin 4096) (d : Fin 1024) :
    out x (mods a) y w (ix3 b P d) = x (ix3 b P d) + a (ix2 ⟨b.val, by omega⟩ ⟨2048 + d.val, by omega⟩)
      * ∑ e, y (ix3 b P e) * w (ix3 0 e d) := by
  pointwise [out, mods, spread]

/-- The stages together: the merge of the arguments. -/
theorem all_at (x : FVec Ideal S4x4096x1024 .f32) (a : FVec Ideal S8x6144 .f32) (g : FVec Ideal S2x1024 .f32)
    (A B : FVec Ideal S4x4096x512 .bf16) (C : FVec Ideal S4x4096x512 .f32) (w : FVec Ideal S2x1024x5024 .f32)
    (wa wb wc : FVec Ideal S2x512x1024 .f32) (wo : FVec Ideal S2x1024x1024 .f32) (b : Fin 4) (P : Fin 4096) (d : Fin 1024) :
    out x (mods a) (blends (openings (rows x (mods a) g) w) (branch (extf .f32 A bitsLt_bf16_f32) wa)
        (branch (extf .f32 B bitsLt_bf16_f32) wb) (branch C wc)) wo (ix3 b P d)
      = merged (fun k => x (ix3 b P k)) (fun k => g (ix2 0 k))
          (fun k => a (ix2 ⟨b.val, by omega⟩ ⟨1024 + k.val, by omega⟩)) (fun k => a (ix2 ⟨b.val, by omega⟩ ⟨k.val, by omega⟩))
          (fun k => a (ix2 ⟨b.val, by omega⟩ ⟨2048 + k.val, by omega⟩)) (fun k j => w (ix3 0 k ⟨1952 + j.val, by omega⟩))
          (fun l => A (ix3 b P l)) (fun l => B (ix3 b P l)) (fun l => C (ix3 b P l)) (fun l e => wa (ix3 0 l e))
          (fun l e => wb (ix3 0 l e)) (fun l e => wc (ix3 0 l e)) (fun e d => wo (ix3 0 e d)) d := by
  rw [out_at]
  simp only [blends_at, openings_at, rows_at, branch_at, wide_at]
  rfl

end Cert.MergeRefIdeal.Stages

end
-- ==== Proof.MergeClaim.lean ====
/- The branch merge's kernel and its reference leave the same result. -/
module

public import proofs.«01_k».proof.Proof.MergeFinal
public import proofs.«01_k».proof.Proof.MergeRef

@[expose] public section

set_option maxRecDepth 16384

noncomputable section

namespace Cert.MergeClaim

open Idealize.ShloMosaic Idealize.ShloMosaic.TcCoe Cert.MergeRefIdeal.Stages

/-- The two result arrays, from memories agreeing on the arguments. -/
theorem value (m : (ℓ : Loc Cert.MergeIdeal.nD Cert.MergeIdeal.τ Cert.MergeIdeal.sig) → Buf (Elt Ideal) ℓ)
    (m' : (ℓ : Loc Cert.MergeRefIdeal.nD Cert.MergeRefIdeal.τ Cert.MergeRefIdeal.sig) → Buf (Elt Ideal) ℓ)
    (c : Dev Cert.MergeIdeal.nD)
    (h0 : m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0))
    (h1 : m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1))
    (h2 : m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2))
    (h3 : m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3))
    (h4 : m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4))
    (h5 : m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5))
    (h6 : m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6))
    (h7 : m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7))
    (h8 : m' ((c.tc : Thread Cert.MergeRefIdeal.nD Cert.MergeRefIdeal.τ).loc Cert.MergeRefIdeal.main_arg8) = m ((c.tc : Thread Cert.MergeIdeal.nD Cert.MergeIdeal.τ).loc Cert.MergeIdeal.main_arg8))
    (h9 : m' ((c.tc : Thread Cert.MergeRefIdeal.nD Cert.MergeRefIdeal.τ).loc Cert.MergeRefIdeal.main_arg9) = m ((c.tc : Thread Cert.MergeIdeal.nD Cert.MergeIdeal.τ).loc Cert.MergeIdeal.main_arg9))
    (h10 : m' ((c.tc : Thread Cert.MergeRefIdeal.nD Cert.MergeRefIdeal.τ).loc Cert.MergeRefIdeal.main_arg10) = m ((c.tc : Thread Cert.MergeIdeal.nD Cert.MergeIdeal.τ).loc Cert.MergeIdeal.main_arg10)) :
    Cert.MergeRefIdeal.Value.res_main_v63 m' c = (Cert.MergeIdeal.Gen.dats m 0 c).arrAt 11 Cert.MergeIdeal.cfg0.N := by
  rw [Cert.MergeIdeal.Block.final m c, res_eq, h0, h1, h2, h3, h4, h5, h6, h7, h8, h9, h10]
  funext y
  obtain ⟨b, P, d, rfl⟩ : ∃ (b : Fin 4) (P : Fin 4096) (d : Fin 1024), y = ix3 b P d := ⟨_, _, _, eq_ix3 y⟩
  exact all_at _ _ _ _ _ _ _ _ _ _ _ b P d

end Cert.MergeClaim

end
-- ==== Proof.FfnBlock.lean ====
/- One block of the feed-forward, read entry by entry from what its loads hold. -/
module

public import proofs.«01_k».proof.Proof.Gen.FfnIdeal.Value
public import proofs.«01_k».proof.Proof.FfnMath
public import Idealize.ShloMosaic.Lib.Pipeline.ValueKit
public import Idealize.ShloMosaic.Lib.Pointwise

@[expose] public section

set_option maxRecDepth 16384

noncomputable section

namespace Cert.FfnIdeal.Block

open Cert.FfnIdeal Cert.FfnIdeal.Gen Cert.FfnMath Idealize.ShloMosaic

/-- Row `r` of a block with its halo is the modulated row of position `P`, eight rows further back. -/
theorem row_at (X : Fin 4096 → Fin 1024 → EReal) (I : Fin 4) (P : Fin 4096) (r : Fin 1040) (hP : P.val + 8 = I.val * 1024 + r.val)
    (v1 v3 : Vec Ideal S1x1024 .f32) (v6 : Vec Ideal S1x1024x1024 .f32) (v8 v10 : Vec Ideal S1x8x1024 .f32)
    (v13 : Vec Ideal S1x1024 .f32)
    (h6 : ∀ (P : Fin 4096) (p : Fin 1024) k, P.val = I.val * 1024 + p.val → v6 (ix3 0 p k) = X P k)
    (h8 : ∀ (P : Fin 4096) (p : Fin 8) k, P.val + 8 = I.val * 1024 + p.val → v8 (ix3 0 p k) = X P k)
    (h10 : ∀ (P : Fin 4096) (p : Fin 8) k, P.val = (I.val + 1) * 1024 + p.val → v10 (ix3 0 p k) = X P k) (k : Fin 1024) :
    k0_pay3 v1 v3 v6 v8 v10 v13 (ix2 r k)
      = modulated (X P) (fun k => v13 (ix2 0 k)) (fun k => v3 (ix2 0 k)) (fun k => v1 (ix2 0 k)) k := by
  pointwise [k0_pay3, k0_pay2]
  have e : ∀ j, (if h : r.val < 8 then v8 (ix3 0 ⟨r.val, h⟩ j)
      else if h : r.val - 8 < 1024 then v6 (ix3 0 ⟨r.val - 8, h⟩ j)
        else v10 (ix3 0 ⟨r.val - 8 - 1024, by omega⟩ j)) = X P j := by
    intro j
    split_ifs with h h'
    · exact h8 P _ j (by simp only []; omega)
    · exact h6 P _ j (by simp only []; omega)
    · exact h10 P _ j (by simp only []; omega)
  simp only [e]
  unfold modulated
  rw [← mul_inv_eq_div]

/-- A halo row is masked at the first block and at the last. -/
theorem mask_at : ∀ (I : Fin 4) (r : Fin 1040),
    IntOp.ori (IntOp.andi (IntOp.cmpi CmpIPredicate.slt (BitVec.ofNat 32 r.val) 8#32)
        (Scalar.cmpi CmpIPredicate.eq (BitVec.ofNat 32 I.val) 0#32))
      (IntOp.andi (IntOp.cmpi CmpIPredicate.sge (BitVec.ofNat 32 r.val) 1032#32)
        (Scalar.cmpi CmpIPredicate.eq (BitVec.ofNat 32 I.val) 3#32))
      = if (r.val < 8 ∧ I.val = 0) ∨ (1032 ≤ r.val ∧ I.val = 3) then 1#1 else 0#1 := by
  decide +kernel

/-- The masked product of row `r` is the up-projection at its position. -/
theorem inside (X : Fin 4096 → Fin 1024 → EReal) (g sc sh : Fin 1024 → EReal) (I : Fin 4) (v : Fin 1024 → EReal)
    (w : Fin 1024 → Fin 5632 → EReal) (n : Fin 5632) (P : Fin 4096) (r : Nat) (hr : r < 1040) (hP : P.val + 8 = I.val * 1024 + r)
    (hv : ∀ k, v k = modulated (X P) g sc sh k) :
    (∑ x, Scalar.select (IntOp.ori (IntOp.andi (IntOp.cmpi CmpIPredicate.slt (BitVec.ofNat 32 r) 8#32)
        (Scalar.cmpi CmpIPredicate.eq (BitVec.ofNat 32 I.val) 0#32))
      (IntOp.andi (IntOp.cmpi CmpIPredicate.sge (BitVec.ofNat 32 r) 1032#32)
        (Scalar.cmpi CmpIPredicate.eq (BitVec.ofNat 32 I.val) 3#32))) 0 (v x * w x n)) = up X g sc sh w P n := by
  have e := mask_at I ⟨r, hr⟩
  rw [if_neg (by simp only []; omega)] at e
  simp only [e, hv]
  rfl

/-- The masked product of a halo row outside the positions is zero. -/
theorem outside (I : Fin 4) (v w : Fin 1024 → EReal) (r : Nat) (hr : r < 1040)
    (h : (r < 8 ∧ I.val = 0) ∨ (1032 ≤ r ∧ I.val = 3)) :
    (∑ x, Scalar.select (IntOp.ori (IntOp.andi (IntOp.cmpi CmpIPredicate.slt (BitVec.ofNat 32 r) 8#32)
        (Scalar.cmpi CmpIPredicate.eq (BitVec.ofNat 32 I.val) 0#32))
      (IntOp.andi (IntOp.cmpi CmpIPredicate.sge (BitVec.ofNat 32 r) 1032#32)
        (Scalar.cmpi CmpIPredicate.eq (BitVec.ofNat 32 I.val) 3#32))) 0 (v x * w x)) = 0 := by
  have e := mask_at I ⟨r, hr⟩
  rw [if_pos h] at e
  simp only [e]
  exact Finset.sum_const_zero

/-- The convolved block at row `p`, from the up-projection of its rows. -/
theorem conv_at (X : Fin 4096 → Fin 1024 → EReal) (g sc sh : Fin 1024 → EReal) (i : grid0.Coords) (I : Fin 4) (hI : (i 1).val = I.val)
    (v32 : FVec Ideal S1040x1024 .f32)
    (h32 : ∀ (P : Fin 4096) (r : Fin 1040) k, P.val + 8 = I.val * 1024 + r.val → v32 (ix2 r k) = modulated (X P) g sc sh k)
    (v50 : Vec Ideal S1x1024x5632 .bf16) (v57 v61 v67 v72 : Vec Ideal S1x5632 .f32) (P : Fin 4096) (p : Fin 1024) (n : Fin 5632)
    (hP : P.val = I.val * 1024 + p.val) :
    k0_pay6 (BitVec.ofNat 32 (i 1).val) v32 (iota .tc S1040x1 32 [0] iota_S1040x1_d0_w32) k0_pay4 (k0_pay5 i)
        v50 v57 v61 v67 v72 (ix2 p n)
      = conv (up X g sc sh fun k n => v50 (ix3 0 k n))
          ![fun n => v57 (ix2 0 n), fun n => v61 (ix2 0 n), fun n => v67 (ix2 0 n)] (fun n => v72 (ix2 0 n)) P n := by
  pointwise [k0_pay6, k0_pay5, k0_pay4]
  rw [hI, inside X g sc sh I (fun x => v32 (ix2 ⟨8 + p.val, by omega⟩ x)) (fun k n => v50 (ix3 0 k n)) n P (8 + p.val)
    (by omega) (by omega) (fun k => h32 P _ k (by simp only []; omega))]
  unfold conv
  refine congrArg₂ (· + ·) (congrArg₂ (· + ·) (congrArg₂ (· + ·) (congrArg₂ (· * ·) rfl ?_) rfl) (congrArg₂ (· * ·) rfl ?_)) rfl
  · unfold before
    split_ifs with h0
    · exact outside I (fun x => v32 (ix2 ⟨(8 + p.val + 1040 - 1) % 1040, by omega⟩ x)) (fun k => v50 (ix3 0 k n)) _ (by omega)
        (by omega)
    · exact inside X g sc sh I (fun x => v32 (ix2 ⟨(8 + p.val + 1040 - 1) % 1040, by omega⟩ x)) (fun k n => v50 (ix3 0 k n)) n
        ⟨P.val - 1, by omega⟩ _ (by omega) (by simp only []; omega) (fun k => h32 _ _ k (by simp only []; omega))
  · unfold after
    split_ifs with h0
    · exact outside I (fun x => v32 (ix2 ⟨(8 + p.val + 1040 - 1039) % 1040, by omega⟩ x)) (fun k => v50 (ix3 0 k n)) _ (by omega)
        (by omega)
    · exact inside X g sc sh I (fun x => v32 (ix2 ⟨(8 + p.val + 1040 - 1039) % 1040, by omega⟩ x)) (fun k n => v50 (ix3 0 k n)) n
        ⟨P.val + 1, by omega⟩ _ (by omega) (by simp only []; omega) (fun k => h32 _ _ k (by simp only []; omega))

/-- The stored block from the convolved one. -/
theorem out_at (v5 : Vec Ideal S1x1024 .f32) (v6 : Vec Ideal S1x1024x1024 .f32) (a1 : BitVec 32) (v32 : FVec Ideal S1040x1024 .f32)
    (v33 : IVec S1040x1 32) (v35 v37 : IVec S1040x1 1)
    (v50 : Vec Ideal S1x1024x5632 .bf16) (v57 v61 v67 v72 : Vec Ideal S1x5632 .f32)
    (v88 : Vec Ideal S1x2816x1024 .bf16) (p d : Fin 1024) :
    k0_pay1 v5 (k0_pay2 v6) (k0_pay7 a1 v32 v33 v35 v37 v50 v57 v61 v67 v72) (k0_pay8 a1 v32 v33 v35 v37 v50 v57 v61 v67 v72)
        (k0_pay9 a1 v32 v33 v35 v37 v50 v57 v61 v67 v72) v88 (ix3 0 p d)
      = v6 (ix3 0 p d) + v5 (ix2 0 d) * ∑ f, gated (fun n => k0_pay6 a1 v32 v33 v35 v37 v50 v57 v61 v67 v72 (ix2 p n)) f
          * v88 (ix3 0 f d) := by
  pointwise [k0_pay1, k0_pay2, k0_pay7, k0_pay8, k0_pay9]
  simp only [zero_sub]
  rfl

/-- The stored block is the feed-forward of its positions, from what the loads hold. -/
theorem block_at (X : Fin 4096 → Fin 1024 → EReal) (g sc sh gt : Fin 1024 → EReal) (wu : Fin 1024 → Fin 5632 → EReal)
    (cw : Fin 3 → Fin 5632 → EReal) (cb : Fin 5632 → EReal) (wd : Fin 2816 → Fin 1024 → EReal)
    (i : grid0.Coords) (I : Fin 4) (hI : (i 1).val = I.val)
    (v1 v3 v5 : Vec Ideal S1x1024 .f32) (v6 : Vec Ideal S1x1024x1024 .f32) (v8 v10 : Vec Ideal S1x8x1024 .f32)
    (v13 : Vec Ideal S1x1024 .f32) (v50 : Vec Ideal S1x1024x5632 .bf16) (v57 v61 v67 v72 : Vec Ideal S1x5632 .f32)
    (v88 : Vec Ideal S1x2816x1024 .bf16) (p d : Fin 1024) (P : Fin 4096)
    (hP : P.val = I.val * 1024 + p.val)
    (h1 : ∀ k, v1 (ix2 0 k) = sh k) (h3 : ∀ k, v3 (ix2 0 k) = sc k) (h5 : ∀ k, v5 (ix2 0 k) = gt k)
    (h6 : ∀ (P : Fin 4096) (p : Fin 1024) k, P.val = I.val * 1024 + p.val → v6 (ix3 0 p k) = X P k)
    (h8 : ∀ (P : Fin 4096) (p : Fin 8) k, P.val + 8 = I.val * 1024 + p.val → v8 (ix3 0 p k) = X P k)
    (h10 : ∀ (P : Fin 4096) (p : Fin 8) k, P.val = (I.val + 1) * 1024 + p.val → v10 (ix3 0 p k) = X P k)
    (h13 : ∀ k, v13 (ix2 0 k) = g k) (h50 : ∀ k n, v50 (ix3 0 k n) = wu k n)
    (h57 : ∀ n, v57 (ix2 0 n) = cw 0 n) (h61 : ∀ n, v61 (ix2 0 n) = cw 1 n) (h67 : ∀ n, v67 (ix2 0 n) = cw 2 n)
    (h72 : ∀ n, v72 (ix2 0 n) = cb n) (h88 : ∀ f d, v88 (ix3 0 f d) = wd f d) :
    k0_pay1 v5 (k0_pay2 v6)
        (k0_pay7 (BitVec.ofNat 32 (i 1).val) (k0_pay3 v1 v3 v6 v8 v10 v13) (iota .tc S1040x1 32 [0] iota_S1040x1_d0_w32) k0_pay4 (k0_pay5 i) v50 v57 v61 v67 v72)
        (k0_pay8 (BitVec.ofNat 32 (i 1).val) (k0_pay3 v1 v3 v6 v8 v10 v13) (iota .tc S1040x1 32 [0] iota_S1040x1_d0_w32) k0_pay4 (k0_pay5 i) v50 v57 v61 v67 v72)
        (k0_pay9 (BitVec.ofNat 32 (i 1).val) (k0_pay3 v1 v3 v6 v8 v10 v13) (iota .tc S1040x1 32 [0] iota_S1040x1_d0_w32) k0_pay4 (k0_pay5 i) v50 v57 v61 v67 v72)
        v88 (ix3 0 p d) = ffn X g sc sh gt wu cw cb wd P d := by
  have e1 : (fun k => v1 (ix2 0 k)) = sh := funext h1
  have e3 : (fun k => v3 (ix2 0 k)) = sc := funext h3
  have e13 : (fun k => v13 (ix2 0 k)) = g := funext h13
  have e50 : (fun k n => v50 (ix3 0 k n)) = wu := funext fun k => funext (h50 k)
  have e72 : (fun n => v72 (ix2 0 n)) = cb := funext h72
  have ew : (![fun n => v57 (ix2 0 n), fun n => v61 (ix2 0 n), fun n => v67 (ix2 0 n)] : Fin 3 → Fin 5632 → EReal) = cw := by
    rw [funext h57, funext h61, funext h67]
    funext a
    fin_cases a <;> rfl
  have ec := fun n => conv_at X g sc sh i I hI (k0_pay3 v1 v3 v6 v8 v10 v13)
    (fun P r k h => (row_at X I P r h v1 v3 v6 v8 v10 v13 h6 h8 h10 k).trans (by rw [e1, e3, e13]))
    v50 v57 v61 v67 v72 P p n hP
  rw [out_at, h6 P p _ hP, h5]
  simp only [ec, h88, e50, e72, ew]
  rfl

end Cert.FfnIdeal.Block

end
-- ==== Proof.FfnFinal.lean ====
/- The feed-forward's result array, entry by entry. -/
module

public import proofs.«01_k».proof.Proof.FfnBlock
public import Idealize.ShloMosaic.Lib.Claim
public import Idealize.ShloMosaic.Lib.StableHlo.ReadAt
public import Idealize.ShloMosaic.Lib.Pipeline.ValueKit
public import Idealize.ShloMosaic.Lib.Pointwise

@[expose] public section

set_option maxRecDepth 16384

noncomputable section

namespace Cert.FfnIdeal.Block

open Cert.FfnIdeal Cert.FfnIdeal.Gen Cert.FfnMath Idealize.ShloMosaic Idealize.ShloMosaic.TcCoe

variable (m : (ℓ : Loc nD τ sig) → Buf (Elt Ideal) ℓ)

/-- The result at batch `b`, position `P`, channel `d`: the feed-forward of the arguments. -/
def fed (c : Dev nD) (b : Fin 4) (P : Fin 4096) (d : Fin 1024) : EReal :=
  ffn (fun P k => m ((c : Thread nD τ).loc main_arg0) (ix3 b P k)) (fun k => m ((c : Thread nD τ).loc main_arg2) (ix2 0 k))
    (fun k => m ((c : Thread nD τ).loc main_arg1) (ix2 ⟨b.val, by omega⟩ ⟨4096 + k.val, by omega⟩))
    (fun k => m ((c : Thread nD τ).loc main_arg1) (ix2 ⟨b.val, by omega⟩ ⟨3072 + k.val, by omega⟩))
    (fun k => m ((c : Thread nD τ).loc main_arg1) (ix2 ⟨b.val, by omega⟩ ⟨5120 + k.val, by omega⟩))
    (fun k n => m ((c : Thread nD τ).loc main_arg3) (ix3 0 k n)) (fun a n => m ((c : Thread nD τ).loc main_arg4) (ix3 0 a n))
    (fun n => m ((c : Thread nD τ).loc main_arg5) (ix2 0 n)) (fun f d => m ((c : Thread nD τ).loc main_arg6) (ix3 0 f d)) P d

theorem gain_buf (c : Dev nD) (k : Fin 1024) : V m c main_v2 (ix2 0 k) = m ((c : Thread nD τ).loc main_arg2) (ix2 0 k) := by
  unfold V
  repeat (first | after_reads_at | simp only [StableHlo.unary_result', StableHlo.nullary_result', StableHlo.binary_result',
    StableHlo.nary_result', StableHlo.reshape_result'])

theorem up_buf (c : Dev nD) (a : Fin 2) (k : Fin 1024) (n : Fin 5632) :
    V m c main_v3 (ix3 a k n) = m ((c : Thread nD τ).loc main_arg3) (ix3 a k n) := by
  unfold V
  repeat (first | after_reads_at | simp only [StableHlo.unary_result', StableHlo.nullary_result', StableHlo.binary_result',
    StableHlo.nary_result', StableHlo.reshape_result'])

theorem taps_buf (c : Dev nD) (a : Fin 3) (n : Fin 5632) :
    V m c main_v5 (ix2 a n) = m ((c : Thread nD τ).loc main_arg4) (ix3 0 a n) := by
  unfold V
  repeat (first | after_reads_at | simp only [StableHlo.unary_result', StableHlo.nullary_result', StableHlo.binary_result',
    StableHlo.nary_result', StableHlo.reshape_result'])

theorem bias_buf (c : Dev nD) (n : Fin 5632) :
    V m c main_v8 (ix2 0 n) = m ((c : Thread nD τ).loc main_arg5) (ix2 0 n) := by
  unfold V
  repeat (first | after_reads_at | simp only [StableHlo.unary_result', StableHlo.nullary_result', StableHlo.binary_result',
    StableHlo.nary_result', StableHlo.reshape_result'])

theorem down_buf (c : Dev nD) (a : Fin 2) (f : Fin 2816) (d : Fin 1024) :
    V m c main_v9 (ix3 a f d) = m ((c : Thread nD τ).loc main_arg6) (ix3 a f d) := by
  unfold V
  repeat (first | after_reads_at | simp only [StableHlo.unary_result', StableHlo.nullary_result', StableHlo.binary_result',
    StableHlo.nary_result', StableHlo.reshape_result'])

theorem idx : ∀ t : Fin cfg0.N, win0_0.index t = ![0, 0] ∧ win0_1.index t = ![t.val / 4, t.val % 4 * 128 - 1, 0]
    ∧ win0_2.index t = ![t.val / 4, t.val % 4, 0] ∧ win0_3.index t = ![t.val / 4, min ((t.val % 4 + 1) * 128) 511, 0]
    ∧ win0_4.index t = ![0, 0] ∧ win0_5.index t = ![0, 0, 0] ∧ win0_6.index t = ![0, 0] ∧ win0_7.index t = ![0, 0]
    ∧ win0_8.index t = ![0, 0, 0] ∧ win0_9.index t = ![t.val / 4, t.val % 4, 0] :=
  (by decide +kernel : ∀ t : Fin grid0.N, _)

theorem coords : ∀ t : Fin cfg0.N,
    (BitVec.toNat (Scalar.indexCast (BitVec.ofNat 32 (grid0.coords t 0).val)) : Nat) = t.val / 4
      ∧ (grid0.coords t 1).val = t.val % 4 :=
  (by decide +kernel : ∀ t : Fin grid0.N, _)

theorem mod_blk (c : Dev nD) (t : Fin cfg0.N) (a : Fin 8) (k : Fin 6144) :
    iblk m c 0 t (ix2 a k) = m ((c : Thread nD τ).loc main_arg1) (ix2 a k) := by
  rw [← V_main_arg1 m c]
  blk_ext [iblk, idx t]

theorem before_blk (c : Dev nD) (t : Fin cfg0.N) (b : Fin 4) (P : Fin 4096) (p : Fin 8) (k : Fin 1024)
    (eb : b.val = t.val / 4) (eP : P.val + 8 = t.val % 4 * 1024 + p.val) :
    iblk m c 1 t (ix3 0 p k) = m ((c : Thread nD τ).loc main_arg0) (ix3 b P k) := by
  rw [← V_main_arg0 m c]
  blk_ext [iblk, idx t]

theorem here_blk (c : Dev nD) (t : Fin cfg0.N) (b : Fin 4) (P : Fin 4096) (p : Fin 1024) (k : Fin 1024)
    (eb : b.val = t.val / 4) (eP : P.val = t.val % 4 * 1024 + p.val) :
    iblk m c 2 t (ix3 0 p k) = m ((c : Thread nD τ).loc main_arg0) (ix3 b P k) := by
  rw [← V_main_arg0 m c]
  blk_ext [iblk, idx t]

theorem after_blk (c : Dev nD) (t : Fin cfg0.N) (b : Fin 4) (P : Fin 4096) (p : Fin 8) (k : Fin 1024)
    (eb : b.val = t.val / 4) (eP : P.val = (t.val % 4 + 1) * 1024 + p.val) :
    iblk m c 3 t (ix3 0 p k) = m ((c : Thread nD τ).loc main_arg0) (ix3 b P k) := by
  rw [← V_main_arg0 m c]
  blk_ext [iblk, idx t]

theorem gain_blk (c : Dev nD) (t : Fin cfg0.N) (k : Fin 1024) :
    iblk m c 4 t (ix2 0 k) = m ((c : Thread nD τ).loc main_arg2) (ix2 0 k) := by
  rw [← gain_buf m c]
  blk_ext [iblk, idx t]

theorem up_blk (c : Dev nD) (t : Fin cfg0.N) (k : Fin 1024) (n : Fin 5632) :
    iblk m c 5 t (ix3 0 k n) = m ((c : Thread nD τ).loc main_arg3) (ix3 0 k n) := by
  rw [← up_buf m c]
  blk_ext [iblk, idx t]

theorem taps_blk (c : Dev nD) (t : Fin cfg0.N) (a : Fin 3) (n : Fin 5632) :
    iblk m c 6 t (ix2 a n) = m ((c : Thread nD τ).loc main_arg4) (ix3 0 a n) := by
  rw [← taps_buf m c]
  blk_ext [iblk, idx t]

theorem bias_blk (c : Dev nD) (t : Fin cfg0.N) (n : Fin 5632) :
    iblk m c 7 t (ix2 0 n) = m ((c : Thread nD τ).loc main_arg5) (ix2 0 n) := by
  rw [← bias_buf m c]
  blk_ext [iblk, idx t]

theorem down_blk (c : Dev nD) (t : Fin cfg0.N) (f : Fin 2816) (d : Fin 1024) :
    iblk m c 8 t (ix3 0 f d) = m ((c : Thread nD τ).loc main_arg6) (ix3 0 f d) := by
  rw [← down_buf m c]
  blk_ext [iblk, idx t]

/-- One entry of one block of the result. -/
theorem point (c : Dev nD) (t : Fin cfg0.N) (p d : Fin 1024) (b : Fin 4) (P : Fin 4096)
    (eb : b.val = t.val / 4) (eP : P.val = t.val % 4 * 1024 + p.val) :
    outsAt0 m c t (ix3 0 p d) = fed m c b P d := by
  have hb := (coords t).1
  have hI := (coords t).2
  unfold outsAt0 out0_A_9
  rw [View.read_writes_eq_canon _ _ _ (cover0_A_9 c (grid0.coords t) (ms0_0 t) (hs0_0 t) (ms0_1 t) (hs0_1 t) (ms0_2 t)
    (hs0_2 t) (ms0_3 t) (hs0_3 t) (ms0_4 t) (hs0_4 t) (ms0_5 t) (hs0_5 t) (ms0_6 t) (hs0_6 t) (ms0_7 t) (hs0_7 t)
    (ms0_8 t) (hs0_8 t) (ms0_9 t) (hs0_9 t) (iblk m c 0 t) (iblk m c 1 t) (iblk m c 2 t) (iblk m c 3 t) (iblk m c 4 t)
    (iblk m c 5 t) (iblk m c 6 t) (iblk m c 7 t) (iblk m c 8 t))]
  unfold kernelRun0_A
  dsimp only
  sl_unfold_words
  simp only [View.readAt_eq_ld, (hs0_0 t).read_unread, (hs0_1 t).read_unread, (hs0_2 t).read_unread, (hs0_3 t).read_unread,
    (hs0_4 t).read_unread, (hs0_5 t).read_unread, (hs0_6 t).read_unread, (hs0_7 t).read_unread, (hs0_8 t).read_unread]
  refine (congrFun (View.canon_cons_unit_lit (S := S1x1024x1024) inb_S1x1024x1024_S1x1024x1024_0_0_0 _ []
    (by intro a; fin_cases a <;> rfl)) (ix3 0 p d)).trans ?_
  unfold fed
  refine block_at _ _ _ _ _ _ _ _ _ (grid0.coords t) ⟨t.val % 4, Nat.mod_lt _ (by omega)⟩ hI
    _ _ _ _ _ _ _ _ _ _ _ _ _ p d P eP ?_ ?_ ?_ ?_ ?_ ?_ ?_ ?_ ?_ ?_ ?_ ?_ ?_
  · intro k
    refine (View.ld_unit_apply_of _ _ _ _ _ (ix2 ⟨b.val, by omega⟩ ⟨3072 + k.val, by omega⟩) fun a => ?_).trans (mod_blk m c t _ _)
    fin_cases a <;> simp [hb, eb]
  · intro k
    refine (View.ld_unit_apply_of _ _ _ _ _ (ix2 ⟨b.val, by omega⟩ ⟨4096 + k.val, by omega⟩) fun a => ?_).trans (mod_blk m c t _ _)
    fin_cases a <;> simp [hb, eb]
  · intro k
    refine (View.ld_unit_apply_of _ _ _ _ _ (ix2 ⟨b.val, by omega⟩ ⟨5120 + k.val, by omega⟩) fun a => ?_).trans (mod_blk m c t _ _)
    fin_cases a <;> simp [hb, eb]
  · intro P p k h
    refine (View.ld_unit_apply_of _ _ _ _ _ (ix3 0 p k) fun a => ?_).trans (here_blk m c t b P p k eb h)
    fin_cases a <;> simp
  · intro P p k h
    refine (View.ld_unit_apply_of _ _ _ _ _ (ix3 0 p k) fun a => ?_).trans (before_blk m c t b P p k eb h)
    fin_cases a <;> simp
  · intro P p k h
    refine (View.ld_unit_apply_of _ _ _ _ _ (ix3 0 p k) fun a => ?_).trans (after_blk m c t b P p k eb h)
    fin_cases a <;> simp
  · intro k
    refine (View.ld_unit_apply_of _ _ _ _ _ (ix2 0 k) fun a => ?_).trans (gain_blk m c t k)
    fin_cases a <;> simp
  · intro k n
    refine (View.ld_unit_apply_of _ _ _ _ _ (ix3 0 k n) fun a => ?_).trans (up_blk m c t k n)
    fin_cases a <;> simp
  · intro n
    refine (View.ld_unit_apply_of _ _ _ _ _ (ix2 0 n) fun a => ?_).trans (taps_blk m c t 0 n)
    fin_cases a <;> simp
  · intro n
    refine (View.ld_unit_apply_of _ _ _ _ _ (ix2 1 n) fun a => ?_).trans (taps_blk m c t 1 n)
    fin_cases a <;> simp
  · intro n
    refine (View.ld_unit_apply_of _ _ _ _ _ (ix2 2 n) fun a => ?_).trans (taps_blk m c t 2 n)
    fin_cases a <;> simp
  · intro n
    refine (View.ld_unit_apply_of _ _ _ _ _ (ix2 0 n) fun a => ?_).trans (bias_blk m c t n)
    fin_cases a <;> simp
  · intro f d
    refine (View.ld_unit_apply_of _ _ _ _ _ (ix3 0 f d) fun a => ?_).trans (down_blk m c t f d)
    fin_cases a <;> simp

/-- One entry of one block, the block's index given whole. -/
theorem point' (c : Dev nD) (t : Fin cfg0.N) (y : S1x1024x1024.Idx) (b : Fin 4) (P : Fin 4096) (d : Fin 1024)
    (eb : b.val = t.val / 4) (eP : P.val = t.val % 4 * 1024 + (y 1).val) (ed : d.val = (y 2).val) :
    outsAt0 m c t y = fed m c b P d := by
  have hy : y = ix3 (0 : Fin 1) ⟨(y 1).val, (y 1).isLt⟩ d := by
    funext a
    fin_cases a
    · exact Fin.ext (Nat.lt_one_iff.mp (y 0).isLt)
    · rfl
    · exact Fin.ext ed.symm
  exact (congrArg (outsAt0 m c t) hy).trans (point m c t _ _ _ _ eb eP)

/-- The result array: the feed-forward of every batch, position and channel. -/
theorem final (c : Dev nD) : (dats m 0 c).arrAt 9 cfg0.N
    = fun y : S4x4096x1024.Idx => fed m c ⟨(y 0).val, (y 0).isLt⟩ ⟨(y 1).val, (y 1).isLt⟩ ⟨(y 2).val, (y 2).isLt⟩ := by
  refine (dats m 0 c).arrAt_eq_of_covers 9 _ (by decide +kernel) fun t hf y => ?_
  blk_simp
  rw [after0_9]
  have ht : t.val < 16 := lt_of_lt_of_eq t.isLt N_0
  refine point' m c t y _ _ _ ?_ ?_ ?_
  all_goals (blk_simp [idx t] <;> try omega)

end Cert.FfnIdeal.Block

end
-- ==== Proof.FfnRef.lean ====
/- The reference feed-forward in stages (modulated rows, up-projection, convolution, gate, down-projection), each read at an
   index. -/
module

public import proofs.«01_k».proof.Proof.Gen.FfnRefIdeal.Run
public import proofs.«01_k».proof.Proof.FfnMath
public import Idealize.ShloMosaic.Lib.Pointwise
public import Idealize.ShloMosaic.Lib.Tactic.CleanTypes

@[expose] public section

set_option maxRecDepth 16384

noncomputable section

namespace Cert.FfnRefIdeal.Stages

open Cert.FfnRefIdeal Cert.FfnRefIdeal.Gen Cert.FfnRefIdeal.Value Cert.FfnMath Idealize.ShloMosaic

variable {F : FTy → Type} [FloatOps F]

/-- The modulation rows of the four batches. -/
def mods (a : FVec F S8x6144 .f32) : FVec F S4x1x6144 .f32 :=
  broadcastInDim S4x1x6144 ![0, 2] bcast_S4x6144_S4x1x6144_0_2 (extractStridedSlice S4x6144 ![0, 0] a slices_S8x6144_S4x6144_0_0)

/-- One modulation number of every batch and channel, spread over the positions. -/
def spread (x : FVec F S4x1x1024 .f32) : FVec F S4x4096x1024 .f32 :=
  broadcastInDim S4x4096x1024 ![0, 1, 2] bcast_S4x1x1024_S4x4096x1024_0_1_2 x

/-- The rows, normalised, scaled and shifted. -/
def rows (x : FVec F S4x4096x1024 .f32) (a : FVec F S4x1x6144 .f32) (g : FVec F S2x1024 .f32) : FVec F S4x4096x1024 .f32 :=
  addf (mulf (mulf (mulf x (broadcastInDim S4x4096x1024 ![0, 1, 2] bcast_S4x4096x1_S4x4096x1024_0_1_2 (Host.rsqrt (addf
      (Host.divf (broadcastInDim S4x4096x1 ![0, 1] bcast_S4x4096_S4x4096x1_0_1 (Host.reduceAdd (mulf x x)
        (constant S_ .f32 0x00000000#32) reducesTo_S4x4096x1024_S4x4096_d2 h_S_))
        (broadcastInDim S4x4096x1 ![] bcast_S_S4x4096x1 (constant S_ .f32 0x44800000#32)))
      (broadcastInDim S4x4096x1 ![] bcast_S_S4x4096x1 (constant S_ .f32 0x358637BD#32))))))
    (broadcastInDim S4x4096x1024 ![0, 1, 2] bcast_S1x1x1024_S4x4096x1024_0_1_2 (broadcastInDim S1x1x1024 ![2]
      bcast_S1024_S1x1x1024_2 (shapeCast _ (extractStridedSlice S1x1024 ![0, 0] g slices_S2x1024_S1x1024_0_0)
        shapeCasts_S1x1024_S1024))))
    (spread (addf (broadcastInDim S4x1x1024 ![] bcast_S_S4x1x1024 (constant S_ .f32 0x3F800000#32))
      (extractStridedSlice S4x1x1024 ![0, 0, 4096] a slices_S4x1x6144_S4x1x1024_0_0_4096))))
    (spread (extractStridedSlice S4x1x1024 ![0, 0, 3072] a slices_S4x1x6144_S4x1x1024_0_0_3072))

/-- The up-projection. -/
def ups (r : FVec F S4x4096x1024 .f32) (w : FVec F S2x1024x5632 .f32) : FVec F S4x4096x5632 .f32 :=
  Host.dotGeneral dot_S4x4096x1024_S1024x5632_S4x4096x5632_2_0_01_1_n_n none r
    (shapeCast _ (extractStridedSlice S1x1024x5632 ![0, 0, 0] w slices_S2x1024x5632_S1x1024x5632_0_0_0)
      shapeCasts_S1x1024x5632_S1024x5632)

/-- One number per channel, spread over batches and positions. -/
def perChannel (w : FVec F S5632 .f32) : FVec F S4x4096x5632 .f32 :=
  broadcastInDim S4x4096x5632 ![0, 1, 2] bcast_S1x1x5632_S4x4096x5632_0_1_2 (broadcastInDim S1x1x5632 ![2] bcast_S5632_S1x1x5632_2 w)

/-- Every position's predecessor. -/
def earlier (u : FVec F S4x4096x5632 .f32) : FVec F S4x4096x5632 .f32 :=
  extractStridedSlice S4x4096x5632 ![0, 0, 0] (pad S4x4097x5632 ![0, 1, 0] ![0, 0, 0] ![0, 0, 0] u (sitofp .f32 (constantI S_ 32 0#32))
    pads_S4x4096x5632_S4x4097x5632_000_100_000 h_S_) slices_S4x4097x5632_S4x4096x5632_0_0_0

/-- Every position's successor. -/
def later (u : FVec F S4x4096x5632 .f32) : FVec F S4x4096x5632 .f32 :=
  extractStridedSlice S4x4096x5632 ![0, 1, 0] (pad S4x4097x5632 ![0, 0, 0] ![0, 1, 0] ![0, 0, 0] u (sitofp .f32 (constantI S_ 32 0#32))
    pads_S4x4096x5632_S4x4097x5632_000_010_000 h_S_) slices_S4x4097x5632_S4x4096x5632_0_1_0

/-- The convolution along the positions. -/
def convs (u : FVec F S4x4096x5632 .f32) (w : FVec F S2x3x5632 .f32) (b : FVec F S2x5632 .f32) : FVec F S4x4096x5632 .f32 :=
  addf (addf (addf
    (mulf (perChannel (shapeCast _ (extractStridedSlice S1x1x5632 ![0, 0, 0] w slices_S2x3x5632_S1x1x5632_0_0_0) shapeCasts_S1x1x5632_S5632)) (earlier u))
    (mulf (perChannel (shapeCast _ (extractStridedSlice S1x1x5632 ![0, 1, 0] w slices_S2x3x5632_S1x1x5632_0_1_0) shapeCasts_S1x1x5632_S5632)) u))
    (mulf (perChannel (shapeCast _ (extractStridedSlice S1x1x5632 ![0, 2, 0] w slices_S2x3x5632_S1x1x5632_0_2_0) shapeCasts_S1x1x5632_S5632)) (later u)))
    (perChannel (shapeCast _ (extractStridedSlice S1x5632 ![0, 0] b slices_S2x5632_S1x5632_0_0) shapeCasts_S1x5632_S5632))

/-- The number one, everywhere. -/
def ones : FVec F S4x4096x2816 .f32 := broadcastInDim S4x4096x2816 ![] bcast_S_S4x4096x2816 (constant S_ .f32 0x3F800000#32)

/-- The first half of the channels. -/
def first (v : FVec F S4x4096x5632 .f32) : FVec F S4x4096x2816 .f32 :=
  extractStridedSlice S4x4096x2816 ![0, 0, 0] v slices_S4x4096x5632_S4x4096x2816_0_0_0

/-- The gated activation. -/
def gates (v : FVec F S4x4096x5632 .f32) : FVec F S4x4096x2816 .f32 :=
  mulf (mulf (first v) (Host.divf ones (addf ones (Host.exp (Host.negf (first v))))))
    (extractStridedSlice S4x4096x2816 ![0, 0, 2816] v slices_S4x4096x5632_S4x4096x2816_0_0_2816)

/-- The down-projection, gated and added to the input. -/
def down (x : FVec F S4x4096x1024 .f32) (a : FVec F S4x1x6144 .f32) (h : FVec F S4x4096x2816 .f32) (w : FVec F S2x2816x1024 .f32) :
    FVec F S4x4096x1024 .f32 :=
  addf x (mulf (spread (extractStridedSlice S4x1x1024 ![0, 0, 5120] a slices_S4x1x6144_S4x1x1024_0_0_5120))
    (Host.dotGeneral dot_S4x4096x2816_S2816x1024_S4x4096x1024_2_0_01_1_n_n none h
      (shapeCast _ (extractStridedSlice S1x2816x1024 ![0, 0, 0] w slices_S2x2816x1024_S1x2816x1024_0_0_0)
        shapeCasts_S1x2816x1024_S2816x1024)))

theorem res_eq (m : (ℓ : Loc nD τ sig) → Buf (Elt F) ℓ) (c : Dev nD) :
    res_main_v67 m c = down (m ((c.tc : Thread nD τ).loc main_arg0)) (mods (m ((c.tc : Thread nD τ).loc main_arg1)))
      (gates (convs (ups (rows (m ((c.tc : Thread nD τ).loc main_arg0)) (mods (m ((c.tc : Thread nD τ).loc main_arg1)))
        (m ((c.tc : Thread nD τ).loc main_arg2))) (m ((c.tc : Thread nD τ).loc main_arg3)))
        (m ((c.tc : Thread nD τ).loc main_arg4)) (m ((c.tc : Thread nD τ).loc main_arg5))))
      (m ((c.tc : Thread nD τ).loc main_arg6)) := by
  unfold res_main_v67; rfl

theorem rows_at (x : FVec Ideal S4x4096x1024 .f32) (a : FVec Ideal S8x6144 .f32) (g : FVec Ideal S2x1024 .f32)
    (b : Fin 4) (P : Fin 4096) (k : Fin 1024) :
    rows x (mods a) g (ix3 b P k) = modulated (fun k => x (ix3 b P k)) (fun k => g (ix2 0 k))
      (fun k => a (ix2 ⟨b.val, by omega⟩ ⟨4096 + k.val, by omega⟩)) (fun k => a (ix2 ⟨b.val, by omega⟩ ⟨3072 + k.val, by omega⟩)) k := by
  unfold modulated
  pointwise [rows, mods, spread]

theorem ups_at (r : FVec Ideal S4x4096x1024 .f32) (w : FVec Ideal S2x1024x5632 .f32) (b : Fin 4) (P : Fin 4096) (n : Fin 5632) :
    ups r w (ix3 b P n) = ∑ k, r (ix3 b P k) * w (ix3 0 k n) := by
  pointwise [ups]

/-- The integer zero, as a float. -/
theorem zero_pad : (FloatOps.sitofp FTy.f32 (0#32) : Ideal .f32) = 0 := by
  change (((0#32).toInt : ℝ) : EReal) = 0
  simp

theorem earlier_at (u : FVec Ideal S4x4096x5632 .f32) (b : Fin 4) (P : Fin 4096) (n : Fin 5632) :
    earlier u (ix3 b P n) = before (fun P => u (ix3 b P n)) P := by
  unfold before
  pointwise [earlier]
  rw [zero_pad]
  by_cases h : P.val = 0
  · simp [h]
  · simp [h, show 1 ≤ P.val by omega, show P.val - 1 < 4096 by omega]

theorem later_at (u : FVec Ideal S4x4096x5632 .f32) (b : Fin 4) (P : Fin 4096) (n : Fin 5632) :
    later u (ix3 b P n) = after (fun P => u (ix3 b P n)) P := by
  unfold after
  pointwise [later]
  rw [zero_pad]
  by_cases h : P.val = 4095
  · simp [h]
  · simp [h, show P.val + 1 < 4096 by omega, Nat.add_comm 1 P.val]

theorem convs_at (u : FVec Ideal S4x4096x5632 .f32) (w : FVec Ideal S2x3x5632 .f32) (b : FVec Ideal S2x5632 .f32)
    (B : Fin 4) (P : Fin 4096) (n : Fin 5632) :
    convs u w b (ix3 B P n) = conv (fun P n => u (ix3 B P n)) (fun a n => w (ix3 0 a n)) (fun n => b (ix2 0 n)) P n := by
  unfold conv
  rw [← earlier_at u B P n, ← later_at u B P n]
  pointwise [convs, perChannel]

theorem gates_at (v : FVec Ideal S4x4096x5632 .f32) (b : Fin 4) (P : Fin 4096) (f : Fin 2816) :
    gates v (ix3 b P f) = gated (fun n => v (ix3 b P n)) f := by
  unfold gated
  pointwise [gates, ones, first]

theorem down_at (x : FVec Ideal S4x4096x1024 .f32) (a : FVec Ideal S8x6144 .f32) (h : FVec Ideal S4x4096x2816 .f32)
    (w : FVec Ideal S2x2816x1024 .f32) (b : Fin 4) (P : Fin 4096) (d : Fin 1024) :
    down x (mods a) h w (ix3 b P d) = x (ix3 b P d) + a (ix2 ⟨b.val, by omega⟩ ⟨5120 + d.val, by omega⟩)
      * ∑ f, h (ix3 b P f) * w (ix3 0 f d) := by
  pointwise [down, mods, spread]

/-- The stages together: the feed-forward of the arguments. -/
theorem all_at (x : FVec Ideal S4x4096x1024 .f32) (a : FVec Ideal S8x6144 .f32) (g : FVec Ideal S2x1024 .f32)
    (wu : FVec Ideal S2x1024x5632 .f32) (cw : FVec Ideal S2x3x5632 .f32) (cb : FVec Ideal S2x5632 .f32)
    (wd : FVec Ideal S2x2816x1024 .f32) (b : Fin 4) (P : Fin 4096) (d : Fin 1024) :
    down x (mods a) (gates (convs (ups (rows x (mods a) g) wu) cw cb)) wd (ix3 b P d)
      = ffn (fun P k => x (ix3 b P k)) (fun k => g (ix2 0 k))
          (fun k => a (ix2 ⟨b.val, by omega⟩ ⟨4096 + k.val, by omega⟩)) (fun k => a (ix2 ⟨b.val, by omega⟩ ⟨3072 + k.val, by omega⟩))
          (fun k => a (ix2 ⟨b.val, by omega⟩ ⟨5120 + k.val, by omega⟩)) (fun k n => wu (ix3 0 k n)) (fun a n => cw (ix3 0 a n))
          (fun n => cb (ix2 0 n)) (fun f d => wd (ix3 0 f d)) P d := by
  rw [down_at]
  simp only [gates_at, convs_at, ups_at, rows_at]
  rfl

end Cert.FfnRefIdeal.Stages

end
-- ==== Proof.FfnClaim.lean ====
/- The feed-forward's kernel and its reference leave the same result. -/
module

public import proofs.«01_k».proof.Proof.FfnFinal
public import proofs.«01_k».proof.Proof.FfnRef

@[expose] public section

set_option maxRecDepth 16384

noncomputable section

namespace Cert.FfnClaim

open Idealize.ShloMosaic Idealize.ShloMosaic.TcCoe Cert.FfnRefIdeal.Stages

/-- The two result arrays, from memories agreeing on the arguments. -/
theorem value (m : (ℓ : Loc Cert.FfnIdeal.nD Cert.FfnIdeal.τ Cert.FfnIdeal.sig) → Buf (Elt Ideal) ℓ)
    (m' : (ℓ : Loc Cert.FfnRefIdeal.nD Cert.FfnRefIdeal.τ Cert.FfnRefIdeal.sig) → Buf (Elt Ideal) ℓ)
    (c : Dev Cert.FfnIdeal.nD)
    (h0 : m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0))
    (h1 : m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1))
    (h2 : m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2))
    (h3 : m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3))
    (h4 : m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4))
    (h5 : m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5))
    (h6 : m' ((c.tc : Thread Cert.FfnRefIdeal.nD Cert.FfnRefIdeal.τ).loc Cert.FfnRefIdeal.main_arg6) = m ((c.tc : Thread Cert.FfnIdeal.nD Cert.FfnIdeal.τ).loc Cert.FfnIdeal.main_arg6)) :
    Cert.FfnRefIdeal.Value.res_main_v67 m' c = (Cert.FfnIdeal.Gen.dats m 0 c).arrAt 9 Cert.FfnIdeal.cfg0.N := by
  rw [Cert.FfnIdeal.Block.final m c, res_eq, h0, h1, h2, h3, h4, h5, h6]
  funext y
  obtain ⟨b, P, d, rfl⟩ : ∃ (b : Fin 4) (P : Fin 4096) (d : Fin 1024), y = ix3 b P d := ⟨_, _, _, eq_ix3 y⟩
  exact all_at _ _ _ _ _ _ _ b P d

end Cert.FfnClaim

end
-- ==== Proof.lean ====
/- The certificate: the claims about the programs, put together. -/
module

public import proofs.«01_k».proof.Defs
public import proofs.«01_k».proof.Proof.Gen.Mla
public import proofs.«01_k».proof.Proof.Gen.Mla.Frame
public import proofs.«01_k».proof.Proof.Gen.MlaIdeal
public import proofs.«01_k».proof.Proof.Gen.MlaIdeal.Frame
public import proofs.«01_k».proof.Proof.Gen.MlaIdeal.Value
public import proofs.«01_k».proof.Proof.Gen.MlaRefIdeal
public import proofs.«01_k».proof.Proof.Gen.MlaRefIdeal.Run
public import proofs.«01_k».proof.Proof.Gen.Gqa
public import proofs.«01_k».proof.Proof.Gen.Gqa.Frame
public import proofs.«01_k».proof.Proof.Gen.GqaIdeal
public import proofs.«01_k».proof.Proof.Gen.GqaIdeal.Frame
public import proofs.«01_k».proof.Proof.Gen.GqaIdeal.Value
public import proofs.«01_k».proof.Proof.Gen.GqaRefIdeal
public import proofs.«01_k».proof.Proof.Gen.GqaRefIdeal.Run
public import proofs.«01_k».proof.Proof.Gen.Inproj
public import proofs.«01_k».proof.Proof.Gen.Inproj.Frame
public import proofs.«01_k».proof.Proof.Gen.InprojIdeal
public import proofs.«01_k».proof.Proof.Gen.InprojIdeal.Frame
public import proofs.«01_k».proof.Proof.Gen.InprojIdeal.Value
public import proofs.«01_k».proof.Proof.Gen.InprojRefIdeal
public import proofs.«01_k».proof.Proof.Gen.InprojRefIdeal.Run
public import proofs.«01_k».proof.Proof.Gen.Merge
public import proofs.«01_k».proof.Proof.Gen.Merge.Frame
public import proofs.«01_k».proof.Proof.Gen.MergeIdeal
public import proofs.«01_k».proof.Proof.Gen.MergeIdeal.Frame
public import proofs.«01_k».proof.Proof.Gen.MergeIdeal.Value
public import proofs.«01_k».proof.Proof.Gen.MergeRefIdeal
public import proofs.«01_k».proof.Proof.Gen.MergeRefIdeal.Run
public import proofs.«01_k».proof.Proof.Gen.Ffn
public import proofs.«01_k».proof.Proof.Gen.Ffn.Frame
public import proofs.«01_k».proof.Proof.Gen.FfnIdeal
public import proofs.«01_k».proof.Proof.Gen.FfnIdeal.Frame
public import proofs.«01_k».proof.Proof.Gen.FfnIdeal.Value
public import proofs.«01_k».proof.Proof.Gen.FfnRefIdeal
public import proofs.«01_k».proof.Proof.Gen.FfnRefIdeal.Run
public import proofs.«01_k».proof.Proof.Gen.Pre_mla_slots
public import proofs.«01_k».proof.Proof.Gen.Pre_gqa_slots
public import proofs.«01_k».proof.Proof.MlaClaim
public import proofs.«01_k».proof.Proof.GqaClaim
public import proofs.«01_k».proof.Proof.InprojClaim
public import proofs.«01_k».proof.Proof.MergeClaim
public import proofs.«01_k».proof.Proof.FfnClaim
public import Idealize.ShloMosaic.Adequacy
public import Idealize.ShloMosaic.Init
public import Idealize.ShloMosaic.Lib.Claim
public import Idealize.ShloMosaic.Lib.Quiescent

@[expose] public section

noncomputable section

namespace Cert.Proof

open Idealize.ShloMosaic Idealize.SL.Sem

/-- The latent attention's idealised kernel and its reference end with equal results. -/
theorem mla_value [Cert.Pre_mla_slots.Facts] : Cert.algebraic_MlaIdeal_MlaRefIdeal_pre_mla_slots := by
  pair_intro
  · run_from Cert.MlaIdeal.Value.run_blocks m g
  · run_from Cert.MlaRefIdeal.Value.run m' g'
    obtain ⟨h0, h1, h2, h3, h4, h5, h6, h7⟩ := hagree c
    exact Cert.MlaClaim.value m m' hpre c h0 h1 h2 h3 h4 h5 h6 h7

/-- The latent attention's reference ends, from every memory. -/
theorem mla_ref_ends : Cert.quiescent_MlaRefIdeal := by
  intro m g _
  exact (θ_run _ _ _).mono (fun r h => ⟨fun c => (h c).2, sem_eq_zero_of_no_sems rfl r.2⟩)
    (Cert.MlaRefIdeal.Value.run m g)

/-- The named constants of the latent attention are what their literals stand for. -/
theorem mla_names : Cert.preserves_Mla_MlaIdeal :=
  ⟨IdealRules.named_const.statement Cert.MlaIdeal.κ "inv_dim" .f32 0x3C2AAAAB#32 _ rfl,
    IdealRules.named_const.statement Cert.MlaIdeal.κ "score_scale" .f32 0x3E16C740#32 _ rfl⟩

/-- The grouped-query attention's idealised kernel and its reference end with equal results. -/
theorem gqa_value [Cert.Pre_gqa_slots.Facts] : Cert.algebraic_GqaIdeal_GqaRefIdeal_pre_gqa_slots := by
  pair_intro
  · run_from Cert.GqaIdeal.Value.run_blocks m g
  · run_from Cert.GqaRefIdeal.Value.run m' g'
    obtain ⟨h0, h1, h2, h3, h4, h5, h6, h7⟩ := hagree c
    exact Cert.GqaClaim.value m m' hpre c h0 h1 h2 h3 h4 h5 h6 h7

/-- The grouped-query attention's reference ends, from every memory. -/
theorem gqa_ref_ends : Cert.quiescent_GqaRefIdeal := by
  intro m g _
  exact (θ_run _ _ _).mono (fun r h => ⟨fun c => (h c).2, sem_eq_zero_of_no_sems rfl r.2⟩)
    (Cert.GqaRefIdeal.Value.run m g)

/-- The named constant of the grouped-query attention is what its literal stands for. -/
theorem gqa_names : Cert.preserves_Gqa_GqaIdeal :=
  IdealRules.named_const.statement Cert.GqaIdeal.κ "score_scale" .f32 0x3E38AA3B#32 _ rfl

/-- The input projection's idealised kernel and its reference end with equal results. -/
theorem inproj_value : Cert.algebraic_InprojIdeal_InprojRefIdeal := by
  pair_intro
  · run_from Cert.InprojIdeal.Value.run_blocks m g
  · refine θ_run_mono (Cert.InprojRefIdeal.Value.run m' g') ?_
    intro r hr c
    obtain ⟨h0, h1, h2, h3, h4, h5, h6, h7, h8, h9, h10, h11, h12, h13, h14, h15⟩ := hagree c
    have e := Cert.InprojClaim.rows_eq m m' c h0 h1 h2 h3 h4 h5 h6 h7 h8 h9 h10 h11 h12 h13 h14 h15
    obtain ⟨r0, r1, r2, r3, r4, r5, r6, rest⟩ := hr c
    exact ⟨r0.trans ((Cert.InprojRefIdeal.Value.val4_main_v164 _).symm.trans (Cert.InprojClaim.km_eq m m' c e)),
      r1.trans ((Cert.InprojRefIdeal.Value.val4_main_v169 _).symm.trans (Cert.InprojClaim.vm_eq m m' c e)),
      r2.trans ((Cert.InprojRefIdeal.Value.val4_main_v177 _).symm.trans (Cert.InprojClaim.kg_eq m m' c e)),
      r3.trans ((Cert.InprojRefIdeal.Value.val4_main_v182 _).symm.trans (Cert.InprojClaim.vg_eq m m' c e)),
      r4.trans ((Cert.InprojRefIdeal.Value.val4_main_v186 _).symm.trans (Cert.InprojClaim.qm_eq m m' c e)),
      r5.trans ((Cert.InprojRefIdeal.Value.val4_main_v189 _).symm.trans (Cert.InprojClaim.qg_eq m m' c e)),
      r6.trans ((Cert.InprojRefIdeal.Value.val4_main_v39 _).symm.trans (Cert.InprojClaim.four_eq m m' c e)), rest⟩

/-- The input projection's reference ends, from every memory. -/
theorem inproj_ref_ends : Cert.quiescent_InprojRefIdeal := by
  intro m g _
  exact (θ_run _ _ _).mono (fun r h => ⟨fun c => (h c).2.2.2.2.2.2.2, sem_eq_zero_of_no_sems rfl r.2⟩)
    (Cert.InprojRefIdeal.Value.run m g)

/-- The named constants of the input projection are what their literals stand for. -/
theorem inproj_names : Cert.preserves_Inproj_InprojIdeal :=
  ⟨IdealRules.named_const.statement Cert.InprojIdeal.κ "inv_dim" .f32 0x3C2AAAAB#32 _ rfl,
    IdealRules.named_const.statement Cert.InprojIdeal.κ "inv_rank" .f32 0x3B2AAAAB#32 _ rfl⟩

/-- The branch merge's idealised kernel and its reference end with equal results. -/
theorem merge_value : Cert.algebraic_MergeIdeal_MergeRefIdeal := by
  pair_intro
  · run_from Cert.MergeIdeal.Value.run_blocks m g
  · run_from Cert.MergeRefIdeal.Value.run m' g'
    obtain ⟨h0, h1, h2, h3, h4, h5, h6, h7, h8, h9, h10⟩ := hagree c
    exact Cert.MergeClaim.value m m' c h0 h1 h2 h3 h4 h5 h6 h7 h8 h9 h10

/-- The branch merge's reference ends, from every memory. -/
theorem merge_ref_ends : Cert.quiescent_MergeRefIdeal := by
  intro m g _
  exact (θ_run _ _ _).mono (fun r h => ⟨fun c => (h c).2, sem_eq_zero_of_no_sems rfl r.2⟩)
    (Cert.MergeRefIdeal.Value.run m g)

/-- The feed-forward's idealised kernel and its reference end with equal results. -/
theorem ffn_value : Cert.algebraic_FfnIdeal_FfnRefIdeal := by
  pair_intro
  · run_from Cert.FfnIdeal.Value.run_blocks m g
  · run_from Cert.FfnRefIdeal.Value.run m' g'
    obtain ⟨h0, h1, h2, h3, h4, h5, h6⟩ := hagree c
    exact Cert.FfnClaim.value m m' c h0 h1 h2 h3 h4 h5 h6

/-- The feed-forward's reference ends, from every memory. -/
theorem ffn_ref_ends : Cert.quiescent_FfnRefIdeal := by
  intro m g _
  exact (θ_run _ _ _).mono (fun r h => ⟨fun c => (h c).2, sem_eq_zero_of_no_sems rfl r.2⟩)
    (Cert.FfnRefIdeal.Value.run m g)

theorem claim : Cert.Claim :=
  ⟨Cert.Mla.Gen.facts, Cert.MlaIdeal.Gen.facts, Cert.MlaRefIdeal.Gen.facts,
    Cert.Gqa.Gen.facts, Cert.GqaIdeal.Gen.facts, Cert.GqaRefIdeal.Gen.facts,
    Cert.Inproj.Gen.facts, Cert.InprojIdeal.Gen.facts, Cert.InprojRefIdeal.Gen.facts,
    Cert.Merge.Gen.facts, Cert.MergeIdeal.Gen.facts, Cert.MergeRefIdeal.Gen.facts,
    Cert.Ffn.Gen.facts, Cert.FfnIdeal.Gen.facts, Cert.FfnRefIdeal.Gen.facts,
    Cert.Pre_mla_slots.Gen.facts, Cert.Pre_gqa_slots.Gen.facts,
    fun m g _ => Cert.Mla.Gen.frame m g, fun m g _ => Cert.MlaIdeal.Gen.frame m g, fun m g _ => Cert.MlaIdeal.Gen.frame m g,
    mla_ref_ends, fun m g _ => mla_ref_ends m g trivial, fun m g _ => Cert.Gqa.Gen.frame m g,
    fun m g _ => Cert.GqaIdeal.Gen.frame m g, fun m g _ => Cert.GqaIdeal.Gen.frame m g, gqa_ref_ends,
    fun m g _ => gqa_ref_ends m g trivial, fun m g _ => Cert.Inproj.Gen.frame m g, fun m g _ => Cert.InprojIdeal.Gen.frame m g,
    inproj_ref_ends, fun m g _ => Cert.Merge.Gen.frame m g, fun m g _ => Cert.MergeIdeal.Gen.frame m g,
    merge_ref_ends, fun m g _ => Cert.Ffn.Gen.frame m g, fun m g _ => Cert.FfnIdeal.Gen.frame m g,
    ffn_ref_ends,
    mla_names, mla_value, gqa_names,
    gqa_value, inproj_names, inproj_value,
    trivial, merge_value, trivial,
    ffn_value⟩

end Cert.Proof

end
